-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v18_0)) (v1 : (c : Dev Cert.Kernel2Ideal.nD) → Buf (Elt Ideal) ((c.tc : Thread Cert.Kernel2Ideal.nD Cert.Kernel2Ideal.τ).loc Cert.Kernel2Ideal.main_v18_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18_0) = v0 c
          ∧ r.2.mem ((c.tc : Thread Cert.Kernel2Ideal.nD Cert.Kernel2Ideal.τ).loc Cert.Kernel2Ideal.main_v18_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_v33) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v19_0)) (v1 : (c : Dev Cert.Kernel3Ideal.nD) → Buf (Elt Ideal) ((c.tc : Thread Cert.Kernel3Ideal.nD Cert.Kernel3Ideal.τ).loc Cert.Kernel3Ideal.main_v19_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19_0) = v0 c
          ∧ r.2.mem ((c.tc : Thread Cert.Kernel3Ideal.nD Cert.Kernel3Ideal.τ).loc Cert.Kernel3Ideal.main_v19_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_v40) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v18_0)) (v1 : (c : Dev Cert.Kernel4Ideal.nD) → Buf (Elt Ideal) ((c.tc : Thread Cert.Kernel4Ideal.nD Cert.Kernel4Ideal.τ).loc Cert.Kernel4Ideal.main_v18_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v18_0) = v0 c
          ∧ r.2.mem ((c.tc : Thread Cert.Kernel4Ideal.nD Cert.Kernel4Ideal.τ).loc Cert.Kernel4Ideal.main_v18_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_v34) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v17)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v17) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v17)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v17) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v18)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v18) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v32) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v18_0)) (v1 : (c : Dev Cert.Kernel8Ideal.nD) → Buf (Elt Ideal) ((c.tc : Thread Cert.Kernel8Ideal.nD Cert.Kernel8Ideal.τ).loc Cert.Kernel8Ideal.main_v18_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v18_0) = v0 c
          ∧ r.2.mem ((c.tc : Thread Cert.Kernel8Ideal.nD Cert.Kernel8Ideal.τ).loc Cert.Kernel8Ideal.main_v18_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v32) = v0 c
          ∧ r.2.mem ((c.tc : Thread Cert.Reference8Ideal.nD Cert.Reference8Ideal.τ).loc Cert.Reference8Ideal.main_v33) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v23_0)) (v1 : (c : Dev Cert.Kernel9Ideal.nD) → Buf (Elt Ideal) ((c.tc : Thread Cert.Kernel9Ideal.nD Cert.Kernel9Ideal.τ).loc Cert.Kernel9Ideal.main_v23_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v23_0) = v0 c
          ∧ r.2.mem ((c.tc : Thread Cert.Kernel9Ideal.nD Cert.Kernel9Ideal.τ).loc Cert.Kernel9Ideal.main_v23_2) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v25) = v0 c
          ∧ r.2.mem ((c.tc : Thread Cert.Reference9Ideal.nD Cert.Reference9Ideal.τ).loc Cert.Reference9Ideal.main_v27) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v19_0)) (v1 : (c : Dev Cert.Kernel10Ideal.nD) → Buf (Elt Ideal) ((c.tc : Thread Cert.Kernel10Ideal.nD Cert.Kernel10Ideal.τ).loc Cert.Kernel10Ideal.main_v19_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v19_0) = v0 c
          ∧ r.2.mem ((c.tc : Thread Cert.Kernel10Ideal.nD Cert.Kernel10Ideal.τ).loc Cert.Kernel10Ideal.main_v19_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v25) = v0 c
          ∧ r.2.mem ((c.tc : Thread Cert.Reference10Ideal.nD Cert.Reference10Ideal.τ).loc Cert.Reference10Ideal.main_v40) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v18_0)) (v1 : (c : Dev Cert.Kernel11Ideal.nD) → Buf (Elt Ideal) ((c.tc : Thread Cert.Kernel11Ideal.nD Cert.Kernel11Ideal.τ).loc Cert.Kernel11Ideal.main_v18_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v18_0) = v0 c
          ∧ r.2.mem ((c.tc : Thread Cert.Kernel11Ideal.nD Cert.Kernel11Ideal.τ).loc Cert.Kernel11Ideal.main_v18_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v32) = v0 c
          ∧ r.2.mem ((c.tc : Thread Cert.Reference11Ideal.nD Cert.Reference11Ideal.τ).loc Cert.Reference11Ideal.main_v33) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v23_0)) (v1 : (c : Dev Cert.Kernel12Ideal.nD) → Buf (Elt Ideal) ((c.tc : Thread Cert.Kernel12Ideal.nD Cert.Kernel12Ideal.τ).loc Cert.Kernel12Ideal.main_v23_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v23_0) = v0 c
          ∧ r.2.mem ((c.tc : Thread Cert.Kernel12Ideal.nD Cert.Kernel12Ideal.τ).loc Cert.Kernel12Ideal.main_v23_2) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v25) = v0 c
          ∧ r.2.mem ((c.tc : Thread Cert.Reference12Ideal.nD Cert.Reference12Ideal.τ).loc Cert.Reference12Ideal.main_v27) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S2x8x16384x128 : Shape := ⟨4, ![2, 8, 16384, 128]⟩
abbrev S2x8x16384 : Shape := ⟨3, ![2, 8, 16384]⟩
abbrev S_ : Shape := ⟨0, ![]⟩

class Facts : Prop where
  bcast_S_S2x8x16384x128 : S_.BroadcastsInDim S2x8x16384x128 (![] : Fin 0 → Fin S2x8x16384x128.rank)
  reducesTo_S2x8x16384x128_S_d0_1_2_3 : S2x8x16384x128.ReducesTo [0, 1, 2, 3] S_
  h_S_ : 0 < S_.numel
  bcast_S_S2x8x16384 : S_.BroadcastsInDim S2x8x16384 (![] : Fin 0 → Fin S2x8x16384.rank)
  reducesTo_S2x8x16384_S_d0_1_2 : S2x8x16384.ReducesTo [0, 1, 2] S_

variable [Facts]

def fn_part1 {F : FTy → Type} [FloatOps F] (main_arg3 : FVec F S2x8x16384 .f32) (main_v12 : IVec S_ 1) (main_v14 : IVec S2x8x16384 1) (main_v15 : FVec F S2x8x16384 .f32) : IVec S_ 1 :=
  let main_v16 : IVec S2x8x16384 1 := cmpf .olt main_arg3 main_v15
  let main_v17 : IVec S2x8x16384 1 := andi main_v14 main_v16
  let main_c_6 : IVec S_ 1 := constantI S_ 1 1#1
  let main_v18 : IVec S_ 1 := (fun x v => Host.reduce IntOp.andi x v reducesTo_S2x8x16384_S_d0_1_2 h_S_) main_v17 main_c_6
  let main_v19 : IVec S_ 1 := andi main_v12 main_v18
  main_v19

def fn {F : FTy → Type} [FloatOps F] (main_arg0 : FVec F S2x8x16384x128 .f32) (main_arg1 : FVec F S2x8x16384x128 .f32) (main_arg2 : FVec F S2x8x16384x128 .f32) (main_arg3 : FVec F S2x8x16384 .f32) : IVec S_ 1 :=
  let main_cst : FVec F S_ .f32 := constant S_ .f32 0xFF800000#32
  let main_v0 : FVec F S2x8x16384x128 .f32 := broadcastInDim S2x8x16384x128 ![] bcast_S_S2x8x16384x128 main_cst
  let main_v1 : IVec S2x8x16384x128 1 := cmpf .ogt main_arg0 main_v0
  let main_cst_0 : FVec F S_ .f32 := constant S_ .f32 0x7F800000#32
  let main_v2 : FVec F S2x8x16384x128 .f32 := broadcastInDim S2x8x16384x128 ![] bcast_S_S2x8x16384x128 main_cst_0
  let main_v3 : IVec S2x8x16384x128 1 := cmpf .olt main_arg0 main_v2
  let main_v4 : IVec S2x8x16384x128 1 := andi main_v1 main_v3
  let main_c : IVec S_ 1 := constantI S_ 1 1#1
  let main_v5 : IVec S_ 1 := (fun x v => Host.reduce IntOp.andi x v reducesTo_S2x8x16384x128_S_d0_1_2_3 h_S_) main_v4 main_c
  let main_cst_1 : FVec F S_ .f32 := constant S_ .f32 0xFF800000#32
  let main_v6 : FVec F S2x8x16384x128 .f32 := broadcastInDim S2x8x16384x128 ![] bcast_S_S2x8x16384x128 main_cst_1
  let main_v7 : IVec S2x8x16384x128 1 := cmpf .ogt main_arg1 main_v6
  let main_cst_2 : FVec F S_ .f32 := constant S_ .f32 0x7F800000#32
  let main_v8 : FVec F S2x8x16384x128 .f32 := broadcastInDim S2x8x16384x128 ![] bcast_S_S2x8x16384x128 main_cst_2
  let main_v9 : IVec S2x8x16384x128 1 := cmpf .olt main_arg1 main_v8
  let main_v10 : IVec S2x8x16384x128 1 := andi main_v7 main_v9
  let main_c_3 : IVec S_ 1 := constantI S_ 1 1#1
  let main_v11 : IVec S_ 1 := (fun x v => Host.reduce IntOp.andi x v reducesTo_S2x8x16384x128_S_d0_1_2_3 h_S_) main_v10 main_c_3
  let main_v12 : IVec S_ 1 := andi main_v5 main_v11
  let main_cst_4 : FVec F S_ .f32 := constant S_ .f32 0xFF800000#32
  let main_v13 : FVec F S2x8x16384 .f32 := broadcastInDim S2x8x16384 ![] bcast_S_S2x8x16384 main_cst_4
  let main_v14 : IVec S2x8x16384 1 := cmpf .ogt main_arg3 main_v13
  let main_cst_5 : FVec F S_ .f32 := constant S_ .f32 0x7F800000#32
  let main_v15 : FVec F S2x8x16384 .f32 := broadcastInDim S2x8x16384 ![] bcast_S_S2x8x16384 main_cst_5
  fn_part1 (F := F) main_arg3 main_v12 main_v14 main_v15
-- ==== Kernel.lean ====
abbrev S2x8x16384x128 : Shape := ⟨4, ![2, 8, 16384, 128]⟩
abbrev S2x8x16384 : Shape := ⟨3, ![2, 8, 16384]⟩
abbrev S_ : Shape := ⟨0, ![]⟩
abbrev S2x8x16384x256 : Shape := ⟨4, ![2, 8, 16384, 256]⟩
abbrev S16x1x16384 : Shape := ⟨3, ![16, 1, 16384]⟩
abbrev S2x16384x1024 : Shape := ⟨3, ![2, 16384, 1024]⟩
abbrev S1x1x4096x128 : Shape := ⟨4, ![1, 1, 4096, 128]⟩
abbrev S1x1x16384x128 : Shape := ⟨4, ![1, 1, 16384, 128]⟩
abbrev S1x1x16384x256 : Shape := ⟨4, ![1, 1, 16384, 256]⟩
abbrev S1x1x16384 : Shape := ⟨3, ![1, 1, 16384]⟩
abbrev S1x4096x128 : Shape := ⟨3, ![1, 4096, 128]⟩
abbrev S4096x128 : Shape := ⟨2, ![4096, 128]⟩
abbrev S4096x256 : Shape := ⟨2, ![4096, 256]⟩
abbrev S1x1x128x128 : Shape := ⟨4, ![1, 1, 128, 128]⟩
abbrev S128x128 : Shape := ⟨2, ![128, 128]⟩
abbrev S1x1x1024x128 : Shape := ⟨4, ![1, 1, 1024, 128]⟩
abbrev S1024x128 : Shape := ⟨2, ![1024, 128]⟩
abbrev S128x1024 : Shape := ⟨2, ![128, 1024]⟩
abbrev S1x1x1024 : Shape := ⟨3, ![1, 1, 1024]⟩
abbrev S1x1024 : Shape := ⟨2, ![1, 1024]⟩
abbrev S128 : Shape := ⟨1, ![128]⟩
abbrev S128x1 : Shape := ⟨2, ![128, 1]⟩
abbrev S1x1x1024x256 : Shape := ⟨4, ![1, 1, 1024, 256]⟩
abbrev S1024x256 : Shape := ⟨2, ![1024, 256]⟩
abbrev S128x256 : Shape := ⟨2, ![128, 256]⟩
abbrev S1x1x128 : Shape := ⟨3, ![1, 1, 128]⟩
abbrev S1x128 : Shape := ⟨2, ![1, 128]⟩
abbrev S1x1x128x256 : Shape := ⟨4, ![1, 1, 128, 256]⟩
abbrev S1x1x256x128 : Shape := ⟨4, ![1, 1, 256, 128]⟩
abbrev S256x128 : Shape := ⟨2, ![256, 128]⟩
abbrev S1x1x256 : Shape := ⟨3, ![1, 1, 256]⟩
abbrev S1x256 : Shape := ⟨2, ![1, 256]⟩
abbrev S1x1x256x256 : Shape := ⟨4, ![1, 1, 256, 256]⟩
abbrev S256x256 : Shape := ⟨2, ![256, 256]⟩
abbrev S1x1x384x128 : Shape := ⟨4, ![1, 1, 384, 128]⟩
abbrev S384x128 : Shape := ⟨2, ![384, 128]⟩
abbrev S128x384 : Shape := ⟨2, ![128, 384]⟩
abbrev S1x1x384 : Shape := ⟨3, ![1, 1, 384]⟩
abbrev S1x384 : Shape := ⟨2, ![1, 384]⟩
abbrev S1x1x384x256 : Shape := ⟨4, ![1, 1, 384, 256]⟩
abbrev S384x256 : Shape := ⟨2, ![384, 256]⟩
abbrev S1x1x512x128 : Shape := ⟨4, ![1, 1, 512, 128]⟩
abbrev S512x128 : Shape := ⟨2, ![512, 128]⟩
abbrev S128x512 : Shape := ⟨2, ![128, 512]⟩
abbrev S1x1x512 : Shape := ⟨3, ![1, 1, 512]⟩
abbrev S1x512 : Shape := ⟨2, ![1, 512]⟩
abbrev S1x1x512x256 : Shape := ⟨4, ![1, 1, 512, 256]⟩
abbrev S512x256 : Shape := ⟨2, ![512, 256]⟩
abbrev S1x1x640x128 : Shape := ⟨4, ![1, 1, 640, 128]⟩
abbrev S640x128 : Shape := ⟨2, ![640, 128]⟩
abbrev S128x640 : Shape := ⟨2, ![128, 640]⟩
abbrev S1x1x640 : Shape := ⟨3, ![1, 1, 640]⟩
abbrev S1x640 : Shape := ⟨2, ![1, 640]⟩
abbrev S1x1x640x256 : Shape := ⟨4, ![1, 1, 640, 256]⟩
abbrev S640x256 : Shape := ⟨2, ![640, 256]⟩
abbrev S1x1x768x128 : Shape := ⟨4, ![1, 1, 768, 128]⟩
abbrev S768x128 : Shape := ⟨2, ![768, 128]⟩
abbrev S128x768 : Shape := ⟨2, ![128, 768]⟩
abbrev S1x1x768 : Shape := ⟨3, ![1, 1, 768]⟩
abbrev S1x768 : Shape := ⟨2, ![1, 768]⟩
abbrev S1x1x768x256 : Shape := ⟨4, ![1, 1, 768, 256]⟩
abbrev S768x256 : Shape := ⟨2, ![768, 256]⟩
abbrev S1x1x896x128 : Shape := ⟨4, ![1, 1, 896, 128]⟩
abbrev S896x128 : Shape := ⟨2, ![896, 128]⟩
abbrev S128x896 : Shape := ⟨2, ![128, 896]⟩
abbrev S1x1x896 : Shape := ⟨3, ![1, 1, 896]⟩
abbrev S1x896 : Shape := ⟨2, ![1, 896]⟩
abbrev S1x1x896x256 : Shape := ⟨4, ![1, 1, 896, 256]⟩
abbrev S896x256 : Shape := ⟨2, ![896, 256]⟩

abbrev nBuf : Space → Nat
  | .hbm => 19
  | .vmem => 12
  | .smem => 0
  | _ => 0

abbrev bufTy : (tb : Table) → Fin (tcTables nBuf tb) → BufTy
  | .hbm, ⟨0, _⟩ => ⟨S2x8x16384x128, .f32⟩
  | .hbm, ⟨1, _⟩ => ⟨S2x8x16384x128, .f32⟩
  | .hbm, ⟨2, _⟩ => ⟨S2x8x16384x128, .f32⟩
  | .hbm, ⟨3, _⟩ => ⟨S2x8x16384, .f32⟩
  | .hbm, ⟨4, _⟩ => ⟨S_, .f32⟩
  | .hbm, ⟨5, _⟩ => ⟨S2x8x16384x128, .f32⟩
  | .hbm, ⟨6, _⟩ => ⟨S2x8x16384x128, .f32⟩
  | .hbm, ⟨7, _⟩ => ⟨S2x8x16384x128, .bf16⟩
  | .hbm, ⟨8, _⟩ => ⟨S2x8x16384x128, .bf16⟩
  | .hbm, ⟨9, _⟩ => ⟨S2x8x16384x128, .bf16⟩
  | .hbm, ⟨10, _⟩ => ⟨S_, .bf16⟩
  | .hbm, ⟨11, _⟩ => ⟨S2x8x16384x128, .bf16⟩
  | .hbm, ⟨12, _⟩ => ⟨S2x8x16384x256, .bf16⟩
  | .hbm, ⟨13, _⟩ => ⟨S_, .f32⟩
  | .hbm, ⟨14, _⟩ => ⟨S_, .f32⟩
  | .hbm, ⟨15, _⟩ => ⟨S2x8x16384, .f32⟩
  | .hbm, ⟨16, _⟩ => ⟨S16x1x16384, .f32⟩
  | .hbm, ⟨17, _⟩ => ⟨S16x1x16384, .f32⟩
  | .hbm, ⟨18, _⟩ => ⟨S2x16384x1024, .bf16⟩
  | .local _ .vmem, ⟨0, _⟩ => ⟨S1x1x4096x128, .bf16⟩
  | .local _ .vmem, ⟨1, _⟩ => ⟨S1x1x4096x128, .bf16⟩
  | .local _ .vmem, ⟨2, _⟩ => ⟨S1x1x16384x128, .bf16⟩
  | .local _ .vmem, ⟨3, _⟩ => ⟨S1x1x16384x128, .bf16⟩
  | .local _ .vmem, ⟨4, _⟩ => ⟨S1x1x16384x256, .bf16⟩
  | .local _ .vmem, ⟨5, _⟩ => ⟨S1x1x16384x256, .bf16⟩
  | .local _ .vmem, ⟨6, _⟩ => ⟨S1x1x16384, .f32⟩
  | .local _ .vmem, ⟨7, _⟩ => ⟨S1x1x16384, .f32⟩
  | .local _ .vmem, ⟨8, _⟩ => ⟨S1x4096x128, .bf16⟩
  | .local _ .vmem, ⟨9, _⟩ => ⟨S1x4096x128, .bf16⟩
  | .local _ .vmem, ⟨10, _⟩ => ⟨S4096x128, .f32⟩
  | .local _ .vmem, ⟨11, _⟩ => ⟨S4096x256, .f32⟩
  | _, _ => ⟨S2x8x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_call0_call0_cst : Ref sig .tc := ⟨.hbm, 13, rfl⟩
abbrev main_call0_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

@[reducible] def k0_t1_loop (i : grid0.Coords) : Scf.Loop 32 :=
  let c0_i32_4 : BitVec 32 := 0#32
  let arg1 : BitVec 32 := BitVec.ofNat 32 (i 1).val
  let c4_i32 : BitVec 32 := 4#32
  let v8 : BitVec 32 := Scalar.muli arg1 c4_i32
  let v9 : BitVec 32 := Scalar.subi v8 c0_i32_4
  let c1_i32 : BitVec 32 := 1#32
  let v11 : BitVec 32 := Scalar.divsi v9 c1_i32
  let v12 : BitVec 32 := Scalar.muli v11 c1_i32
  let v13 : BitVec 32 := Scalar.addi c0_i32_4 v12
  let c1_i32_5 : BitVec 32 := 1#32
  ⟨c0_i32_4, v13, c1_i32_5⟩
def k0_mult1 (i : grid0.Coords) (k0_t1 : Fin (k0_t1_loop i).trips) : BitVec 32 :=
  let c0_i32_4 : BitVec 32 := 0#32
  let c1_i32_5 : BitVec 32 := 1#32
  let arg9 : BitVec 32 := Scf.iv c0_i32_4 c1_i32_5 k0_t1
  let c1024_i32_1859 : BitVec 32 := 1024#32
  let v3153 : BitVec 32 := Scalar.muli arg9 c1024_i32_1859
  v3153
def k0_off1 (i : grid0.Coords) (k0_t1 : Fin (k0_t1_loop i).trips) : Fin 4 → Nat :=
  let c0_1864 : Index := 0#32
  let c0_1865 : Index := 0#32
  let c0_i32_4 : BitVec 32 := 0#32
  let c1_i32_5 : BitVec 32 := 1#32
  let arg9 : BitVec 32 := Scf.iv c0_i32_4 c1_i32_5 k0_t1
  let c1024_i32_1859 : BitVec 32 := 1024#32
  let v3153 : BitVec 32 := Scalar.muli arg9 c1024_i32_1859
  let v3154 : BitVec 32 := v3153
  let v3157 : Index := Scalar.indexCast v3154
  let c0_1866 : Index := 0#32
  ![0, 0, v3157.toNat, 0]
def k0_off2 (i : grid0.Coords) (k0_t1 : Fin (k0_t1_loop i).trips) : Fin 3 → Nat :=
  let c0_1868 : Index := 0#32
  let c0_1869 : Index := 0#32
  let c0_i32_4 : BitVec 32 := 0#32
  let c1_i32_5 : BitVec 32 := 1#32
  let arg9 : BitVec 32 := Scf.iv c0_i32_4 c1_i32_5 k0_t1
  let c1024_i32_1859 : BitVec 32 := 1024#32
  let v3153 : BitVec 32 := Scalar.muli arg9 c1024_i32_1859
  let v3154 : BitVec 32 := v3153
  let v3161 : Index := Scalar.indexCast v3154
  ![0, 0, v3161.toNat]
def k0_off3 (i : grid0.Coords) (k0_t1 : Fin (k0_t1_loop i).trips) : Fin 4 → Nat :=
  let c0_1873 : Index := 0#32
  let c0_1874 : Index := 0#32
  let c0_i32_4 : BitVec 32 := 0#32
  let c1_i32_5 : BitVec 32 := 1#32
  let arg9 : BitVec 32 := Scf.iv c0_i32_4 c1_i32_5 k0_t1
  let c1024_i32_1859 : BitVec 32 := 1024#32
  let v3153 : BitVec 32 := Scalar.muli arg9 c1024_i32_1859
  let v3154 : BitVec 32 := v3153
  let v3177 : Index := Scalar.indexCast v3154
  let c0_1875 : Index := 0#32
  ![0, 0, v3177.toNat, 0]
@[reducible] def k0_t2_loop (i : grid0.Coords) : Scf.Loop 32 :=
  let c0_i32_4 : BitVec 32 := 0#32
  let arg1 : BitVec 32 := BitVec.ofNat 32 (i 1).val
  let c4_i32 : BitVec 32 := 4#32
  let v8 : BitVec 32 := Scalar.muli arg1 c4_i32
  let v9 : BitVec 32 := Scalar.subi v8 c0_i32_4
  let c1_i32 : BitVec 32 := 1#32
  let v11 : BitVec 32 := Scalar.divsi v9 c1_i32
  let v12 : BitVec 32 := Scalar.muli v11 c1_i32
  let v13 : BitVec 32 := Scalar.addi c0_i32_4 v12
  let v10 : BitVec 32 := Scalar.addi c0_i32_4 v9
  let c1_i32_6 : BitVec 32 := 1#32
  ⟨v13, v10, c1_i32_6⟩
def k0_mult2 (i : grid0.Coords) (k0_t2 : Fin (k0_t2_loop i).trips) : BitVec 32 :=
  let c0_i32_4 : BitVec 32 := 0#32
  let arg1 : BitVec 32 := BitVec.ofNat 32 (i 1).val
  let c4_i32 : BitVec 32 := 4#32
  let v8 : BitVec 32 := Scalar.muli arg1 c4_i32
  let v9 : BitVec 32 := Scalar.subi v8 c0_i32_4
  let c1_i32 : BitVec 32 := 1#32
  let v11 : BitVec 32 := Scalar.divsi v9 c1_i32
  let v12 : BitVec 32 := Scalar.muli v11 c1_i32
  let v13 : BitVec 32 := Scalar.addi c0_i32_4 v12
  let c1_i32_6 : BitVec 32 := 1#32
  let arg9 : BitVec 32 := Scf.iv v13 c1_i32_6 k0_t2
  let c1024_i32_1859 : BitVec 32 := 1024#32
  let v3153 : BitVec 32 := Scalar.muli arg9 c1024_i32_1859
  v3153
def k0_off4 (i : grid0.Coords) (k0_t2 : Fin (k0_t2_loop i).trips) : Fin 4 → Nat :=
  let c0_1864 : Index := 0#32
  let c0_1865 : Index := 0#32
  let c0_i32_4 : BitVec 32 := 0#32
  let arg1 : BitVec 32 := BitVec.ofNat 32 (i 1).val
  let c4_i32 : BitVec 32 := 4#32
  let v8 : BitVec 32 := Scalar.muli arg1 c4_i32
  let v9 : BitVec 32 := Scalar.subi v8 c0_i32_4
  let c1_i32 : BitVec 32 := 1#32
  let v11 : BitVec 32 := Scalar.divsi v9 c1_i32
  let v12 : BitVec 32 := Scalar.muli v11 c1_i32
  let v13 : BitVec 32 := Scalar.addi c0_i32_4 v12
  let c1_i32_6 : BitVec 32 := 1#32
  let arg9 : BitVec 32 := Scf.iv v13 c1_i32_6 k0_t2
  let c1024_i32_1859 : BitVec 32 := 1024#32
  let v3153 : BitVec 32 := Scalar.muli arg9 c1024_i32_1859
  let v3154 : BitVec 32 := v3153
  let v3157 : Index := Scalar.indexCast v3154
  let c0_1866 : Index := 0#32
  ![0, 0, v3157.toNat, 0]
def k0_off5 (i : grid0.Coords) (k0_t2 : Fin (k0_t2_loop i).trips) : Fin 3 → Nat :=
  let c0_1868 : Index := 0#32
  let c0_1869 : Index := 0#32
  let c0_i32_4 : BitVec 32 := 0#32
  let arg1 : BitVec 32 := BitVec.ofNat 32 (i 1).val
  let c4_i32 : BitVec 32 := 4#32
  let v8 : BitVec 32 := Scalar.muli arg1 c4_i32
  let v9 : BitVec 32 := Scalar.subi v8 c0_i32_4
  let c1_i32 : BitVec 32 := 1#32
  let v11 : BitVec 32 := Scalar.divsi v9 c1_i32
  let v12 : BitVec 32 := Scalar.muli v11 c1_i32
  let v13 : BitVec 32 := Scalar.addi c0_i32_4 v12
  let c1_i32_6 : BitVec 32 := 1#32
  let arg9 : BitVec 32 := Scf.iv v13 c1_i32_6 k0_t2
  let c1024_i32_1859 : BitVec 32 := 1024#32
  let v3153 : BitVec 32 := Scalar.muli arg9 c1024_i32_1859
  let v3154 : BitVec 32 := v3153
  let v3161 : Index := Scalar.indexCast v3154
  ![0, 0, v3161.toNat]
def k0_off6 (i : grid0.Coords) (k0_t2 : Fin (k0_t2_loop i).trips) : Fin 4 → Nat :=
  let c0_1873 : Index := 0#32
  let c0_1874 : Index := 0#32
  let c0_i32_4 : BitVec 32 := 0#32
  let arg1 : BitVec 32 := BitVec.ofNat 32 (i 1).val
  let c4_i32 : BitVec 32 := 4#32
  let v8 : BitVec 32 := Scalar.muli arg1 c4_i32
  let v9 : BitVec 32 := Scalar.subi v8 c0_i32_4
  let c1_i32 : BitVec 32 := 1#32
  let v11 : BitVec 32 := Scalar.divsi v9 c1_i32
  let v12 : BitVec 32 := Scalar.muli v11 c1_i32
  let v13 : BitVec 32 := Scalar.addi c0_i32_4 v12
  let c1_i32_6 : BitVec 32 := 1#32
  let arg9 : BitVec 32 := Scf.iv v13 c1_i32_6 k0_t2
  let c1024_i32_1859 : BitVec 32 := 1024#32
  let v3153 : BitVec 32 := Scalar.muli arg9 c1024_i32_1859
  let v3154 : BitVec 32 := v3153
  let v3177 : Index := Scalar.indexCast v3154
  let c0_1875 : Index := 0#32
  ![0, 0, v3177.toNat, 0]
def k0_mult3 (i : grid0.Coords) : BitVec 32 :=
  let arg1 : BitVec 32 := BitVec.ofNat 32 (i 1).val
  let c4096_i32 : BitVec 32 := 4096#32
  let v14 : BitVec 32 := Scalar.muli arg1 c4096_i32
  let c0_i32_7 : BitVec 32 := 0#32
  let v15 : BitVec 32 := Scalar.addi v14 c0_i32_7
  v15
def k0_off7 (i : grid0.Coords) (c0_i32_7 : BitVec 32) : Fin 4 → Nat :=
  let c0_12 : Index := 0#32
  let c0_13 : Index := 0#32
  let arg1 : BitVec 32 := BitVec.ofNat 32 (i 1).val
  let c4096_i32 : BitVec 32 := 4096#32
  let v14 : BitVec 32 := Scalar.muli arg1 c4096_i32
  let v15 : BitVec 32 := Scalar.addi v14 c0_i32_7
  let v16 : BitVec 32 := v15
  let v19 : Index := Scalar.indexCast v16
  let c0_14 : Index := 0#32
  ![0, 0, v19.toNat, 0]
def k0_off8 (i : grid0.Coords) (c0_i32_7 : BitVec 32) : Fin 3 → Nat :=
  let c0_16 : Index := 0#32
  let c0_17 : Index := 0#32
  let arg1 : BitVec 32 := BitVec.ofNat 32 (i 1).val
  let c4096_i32 : BitVec 32 := 4096#32
  let v14 : BitVec 32 := Scalar.muli arg1 c4096_i32
  let v15 : BitVec 32 := Scalar.addi v14 c0_i32_7
  let v16 : BitVec 32 := v15
  let v23 : Index := Scalar.indexCast v16
  ![0, 0, v23.toNat]
def k0_off9 (i : grid0.Coords) (c0_i32_7 : BitVec 32) : Fin 4 → Nat :=
  let c0_22 : Index := 0#32
  let c0_23 : Index := 0#32
  let arg1 : BitVec 32 := BitVec.ofNat 32 (i 1).val
  let c4096_i32 : BitVec 32 := 4096#32
  let v14 : BitVec 32 := Scalar.muli arg1 c4096_i32
  let v15 : BitVec 32 := Scalar.addi v14 c0_i32_7
  let v16 : BitVec 32 := v15
  let v43 : Index := Scalar.indexCast v16
  let c0_24 : Index := 0#32
  ![0, 0, v43.toNat, 0]
def k0_off10 (i : grid0.Coords) (c0_i32_7 : BitVec 32) : Fin 4 → Nat :=
  let c0_35 : Index := 0#32
  let c0_36 : Index := 0#32
  let arg1 : BitVec 32 := BitVec.ofNat 32 (i 1).val
  let c4096_i32 : BitVec 32 := 4096#32
  let v14 : BitVec 32 := Scalar.muli arg1 c4096_i32
  let v15 : BitVec 32 := Scalar.addi v14 c0_i32_7
  let v16 : BitVec 32 := v15
  let v59 : Index := Scalar.indexCast v16
  let c0_37 : Index := 0#32
  ![0, 0, v59.toNat, 0]
def k0_off11 (i : grid0.Coords) (c0_i32_7 : BitVec 32) : Fin 3 → Nat :=
  let c0_39 : Index := 0#32
  let c0_40 : Index := 0#32
  let arg1 : BitVec 32 := BitVec.ofNat 32 (i 1).val
  let c4096_i32 : BitVec 32 := 4096#32
  let v14 : BitVec 32 := Scalar.muli arg1 c4096_i32
  let v15 : BitVec 32 := Scalar.addi v14 c0_i32_7
  let v16 : BitVec 32 := v15
  let v63 : Index := Scalar.indexCast v16
  ![0, 0, v63.toNat]
def k0_off12 (i : grid0.Coords) (c0_i32_7 : BitVec 32) : Fin 4 → Nat :=
  let c0_45 : Index := 0#32
  let c0_46 : Index := 0#32
  let arg1 : BitVec 32 := BitVec.ofNat 32 (i 1).val
  let c4096_i32 : BitVec 32 := 4096#32
  let v14 : BitVec 32 := Scalar.muli arg1 c4096_i32
  let v15 : BitVec 32 := Scalar.addi v14 c0_i32_7
  let v16 : BitVec 32 := v15
  let v87 : Index := Scalar.indexCast v16
  let c0_47 : Index := 0#32
  ![0, 0, v87.toNat, 0]
def k0_off13 (i : grid0.Coords) (c0_i32_7 : BitVec 32) : Fin 4 → Nat :=
  let c0_58 : Index := 0#32
  let c0_59 : Index := 0#32
  let arg1 : BitVec 32 := BitVec.ofNat 32 (i 1).val
  let c4096_i32 : BitVec 32 := 4096#32
  let v14 : BitVec 32 := Scalar.muli arg1 c4096_i32
  let v15 : BitVec 32 := Scalar.addi v14 c0_i32_7
  let v16 : BitVec 32 := v15
  let v103 : Index := Scalar.indexCast v16
  let c0_60 : Index := 0#32
  ![0, 0, v103.toNat, 0]
def k0_off14 (i : grid0.Coords) (c0_i32_7 : BitVec 32) : Fin 3 → Nat :=
  let c0_62 : Index := 0#32
  let c0_63 : Index := 0#32
  let arg1 : BitVec 32 := BitVec.ofNat 32 (i 1).val
  let c4096_i32 : BitVec 32 := 4096#32
  let v14 : BitVec 32 := Scalar.muli arg1 c4096_i32
  let v15 : BitVec 32 := Scalar.addi v14 c0_i32_7
  let v16 : BitVec 32 := v15
  let v107 : Index := Scalar.indexCast v16
  ![0, 0, v107.toNat]
def k0_off15 (i : grid0.Coords) (c0_i32_7 : BitVec 32) : Fin 4 → Nat :=
  let c0_68 : Index := 0#32
  let c0_69 : Index := 0#32
  let arg1 : BitVec 32 := BitVec.ofNat 32 (i 1).val
  let c4096_i32 : BitVec 32 := 4096#32
  let v14 : BitVec 32 := Scalar.muli arg1 c4096_i32
  let v15 : BitVec 32 := Scalar.addi v14 c0_i32_7
  let v16 : BitVec 32 := v15
  let v131 : Index := Scalar.indexCast v16
  let c0_70 : Index := 0#32
  ![0, 0, v131.toNat, 0]
def k0_off16 (i : grid0.Coords) (c0_i32_7 : BitVec 32) : Fin 4 → Nat :=
  let c0_81 : Index := 0#32
  let c0_82 : Index := 0#32
  let arg1 : BitVec 32 := BitVec.ofNat 32 (i 1).val
  let c4096_i32 : BitVec 32 := 4096#32
  let v14 : BitVec 32 := Scalar.muli arg1 c4096_i32
  let v15 : BitVec 32 := Scalar.addi v14 c0_i32_7
  let v16 : BitVec 32 := v15
  let v147 : Index := Scalar.indexCast v16
  let c0_83 : Index := 0#32
  ![0, 0, v147.toNat, 0]
def k0_off17 (i : grid0.Coords) (c0_i32_7 : BitVec 32) : Fin 3 → Nat :=
  let c0_85 : Index := 0#32
  let c0_86 : Index := 0#32
  let arg1 : BitVec 32 := BitVec.ofNat 32 (i 1).val
  let c4096_i32 : BitVec 32 := 4096#32
  let v14 : BitVec 32 := Scalar.muli arg1 c4096_i32
  let v15 : BitVec 32 := Scalar.addi v14 c0_i32_7
  let v16 : BitVec 32 := v15
  let v151 : Index := Scalar.indexCast v16
  ![0, 0, v151.toNat]
def k0_off18 (i : grid0.Coords) (c0_i32_7 : BitVec 32) : Fin 4 → Nat :=
  let c0_91 : Index := 0#32
  let c0_92 : Index := 0#32
  let arg1 : BitVec 32 := BitVec.ofNat 32 (i 1).val
  let c4096_i32 : BitVec 32 := 4096#32
  let v14 : BitVec 32 := Scalar.muli arg1 c4096_i32
  let v15 : BitVec 32 := Scalar.addi v14 c0_i32_7
  let v16 : BitVec 32 := v15
  let v175 : Index := Scalar.indexCast v16
  let c0_93 : Index := 0#32
  ![0, 0, v175.toNat, 0]
def k0_off19 (i : grid0.Coords) (c0_i32_7 : BitVec 32) : Fin 4 → Nat :=
  let c0_104 : Index := 0#32
  let c0_105 : Index := 0#32
  let arg1 : BitVec 32 := BitVec.ofNat 32 (i 1).val
  let c4096_i32 : BitVec 32 := 4096#32
  let v14 : BitVec 32 := Scalar.muli arg1 c4096_i32
  let v15 : BitVec 32 := Scalar.addi v14 c0_i32_7
  let v16 : BitVec 32 := v15
  let v191 : Index := Scalar.indexCast v16
  let c0_106 : Index := 0#32
  ![0, 0, v191.toNat, 0]
def k0_off20 (i : grid0.Coords) (c0_i32_7 : BitVec 32) : Fin 3 → Nat :=
  let c0_108 : Index := 0#32
  let c0_109 : Index := 0#32
  let arg1 : BitVec 32 := BitVec.ofNat 32 (i 1).val
  let c4096_i32 : BitVec 32 := 4096#32
  let v14 : BitVec 32 := Scalar.muli arg1 c4096_i32
  let v15 : BitVec 32 := Scalar.addi v14 c0_i32_7
  let v16 : BitVec 32 := v15
  let v195 : Index := Scalar.indexCast v16
  ![0, 0, v195.toNat]
def k0_off21 (i : grid0.Coords) (c0_i32_7 : BitVec 32) : Fin 4 → Nat :=
  let c0_114 : Index := 0#32
  let c0_115 : Index := 0#32
  let arg1 : BitVec 32 := BitVec.ofNat 32 (i 1).val
  let c4096_i32 : BitVec 32 := 4096#32
  let v14 : BitVec 32 := Scalar.muli arg1 c4096_i32
  let v15 : BitVec 32 := Scalar.addi v14 c0_i32_7
  let v16 : BitVec 32 := v15
  let v219 : Index := Scalar.indexCast v16
  let c0_116 : Index := 0#32
  ![0, 0, v219.toNat, 0]
def k0_off22 (i : grid0.Coords) (c0_i32_7 : BitVec 32) : Fin 4 → Nat :=
  let c0_127 : Index := 0#32
  let c0_128 : Index := 0#32
  let arg1 : BitVec 32 := BitVec.ofNat 32 (i 1).val
  let c4096_i32 : BitVec 32 := 4096#32
  let v14 : BitVec 32 := Scalar.muli arg1 c4096_i32
  let v15 : BitVec 32 := Scalar.addi v14 c0_i32_7
  let v16 : BitVec 32 := v15
  let v235 : Index := Scalar.indexCast v16
  let c0_129 : Index := 0#32
  ![0, 0, v235.toNat, 0]
def k0_off23 (i : grid0.Coords) (c0_i32_7 : BitVec 32) : Fin 3 → Nat :=
  let c0_131 : Index := 0#32
  let c0_132 : Index := 0#32
  let arg1 : BitVec 32 := BitVec.ofNat 32 (i 1).val
  let c4096_i32 : BitVec 32 := 4096#32
  let v14 : BitVec 32 := Scalar.muli arg1 c4096_i32
  let v15 : BitVec 32 := Scalar.addi v14 c0_i32_7
  let v16 : BitVec 32 := v15
  let v239 : Index := Scalar.indexCast v16
  ![0, 0, v239.toNat]
def k0_off24 (i : grid0.Coords) (c0_i32_7 : BitVec 32) : Fin 4 → Nat :=
  let c0_137 : Index := 0#32
  let c0_138 : Index := 0#32
  let arg1 : BitVec 32 := BitVec.ofNat 32 (i 1).val
  let c4096_i32 : BitVec 32 := 4096#32
  let v14 : BitVec 32 := Scalar.muli arg1 c4096_i32
  let v15 : BitVec 32 := Scalar.addi v14 c0_i32_7
  let v16 : BitVec 32 := v15
  let v263 : Index := Scalar.indexCast v16
  let c0_139 : Index := 0#32
  ![0, 0, v263.toNat, 0]
def k0_off25 (i : grid0.Coords) (c0_i32_7 : BitVec 32) : Fin 4 → Nat :=
  let c0_150 : Index := 0#32
  let c0_151 : Index := 0#32
  let arg1 : BitVec 32 := BitVec.ofNat 32 (i 1).val
  let c4096_i32 : BitVec 32 := 4096#32
  let v14 : BitVec 32 := Scalar.muli arg1 c4096_i32
  let v15 : BitVec 32 := Scalar.addi v14 c0_i32_7
  let v16 : BitVec 32 := v15
  let v279 : Index := Scalar.indexCast v16
  let c0_152 : Index := 0#32
  ![0, 0, v279.toNat, 0]
def k0_off26 (i : grid0.Coords) (c0_i32_7 : BitVec 32) : Fin 3 → Nat :=
  let c0_154 : Index := 0#32
  let c0_155 : Index := 0#32
  let arg1 : BitVec 32 := BitVec.ofNat 32 (i 1).val
  let c4096_i32 : BitVec 32 := 4096#32
  let v14 : BitVec 32 := Scalar.muli arg1 c4096_i32
  let v15 : BitVec 32 := Scalar.addi v14 c0_i32_7
  let v16 : BitVec 32 := v15
  let v283 : Index := Scalar.indexCast v16
  ![0, 0, v283.toNat]
def k0_off27 (i : grid0.Coords) (c0_i32_7 : BitVec 32) : Fin 4 → Nat :=
  let c0_160 : Index := 0#32
  let c0_161 : Index := 0#32
  let arg1 : BitVec 32 := BitVec.ofNat 32 (i 1).val
  let c4096_i32 : BitVec 32 := 4096#32
  let v14 : BitVec 32 := Scalar.muli arg1 c4096_i32
  let v15 : BitVec 32 := Scalar.addi v14 c0_i32_7
  let v16 : BitVec 32 := v15
  let v307 : Index := Scalar.indexCast v16
  let c0_162 : Index := 0#32
  ![0, 0, v307.toNat, 0]
def k0_off28 (i : grid0.Coords) (c0_i32_7 : BitVec 32) : Fin 4 → Nat :=
  let c0_173 : Index := 0#32
  let c0_174 : Index := 0#32
  let arg1 : BitVec 32 := BitVec.ofNat 32 (i 1).val
  let c4096_i32 : BitVec 32 := 4096#32
  let v14 : BitVec 32 := Scalar.muli arg1 c4096_i32
  let v15 : BitVec 32 := Scalar.addi v14 c0_i32_7
  let v16 : BitVec 32 := v15
  let v323 : Index := Scalar.indexCast v16
  let c0_175 : Index := 0#32
  ![0, 0, v323.toNat, 0]
def k0_off29 (i : grid0.Coords) (c0_i32_7 : BitVec 32) : Fin 3 → Nat :=
  let c0_177 : Index := 0#32
  let c0_178 : Index := 0#32
  let arg1 : BitVec 32 := BitVec.ofNat 32 (i 1).val
  let c4096_i32 : BitVec 32 := 4096#32
  let v14 : BitVec 32 := Scalar.muli arg1 c4096_i32
  let v15 : BitVec 32 := Scalar.addi v14 c0_i32_7
  let v16 : BitVec 32 := v15
  let v327 : Index := Scalar.indexCast v16
  ![0, 0, v327.toNat]
def k0_off30 (i : grid0.Coords) (c0_i32_7 : BitVec 32) : Fin 4 → Nat :=
  let c0_183 : Index := 0#32
  let c0_184 : Index := 0#32
  let arg1 : BitVec 32 := BitVec.ofNat 32 (i 1).val
  let c4096_i32 : BitVec 32 := 4096#32
  let v14 : BitVec 32 := Scalar.muli arg1 c4096_i32
  let v15 : BitVec 32 := Scalar.addi v14 c0_i32_7
  let v16 : BitVec 32 := v15
  let v351 : Index := Scalar.indexCast v16
  let c0_185 : Index := 0#32
  ![0, 0, v351.toNat, 0]
def k0_mult4 (i : grid0.Coords) : BitVec 32 :=
  let arg1 : BitVec 32 := BitVec.ofNat 32 (i 1).val
  let c4096_i32_721 : BitVec 32 := 4096#32
  let v1229 : BitVec 32 := Scalar.muli arg1 c4096_i32_721
  let c1024_i32 : BitVec 32 := 1024#32
  let v1230 : BitVec 32 := Scalar.addi v1229 c1024_i32
  v1230
def k0_mult5 (i : grid0.Coords) : BitVec 32 :=
  let arg1 : BitVec 32 := BitVec.ofNat 32 (i 1).val
  let c4096_i32_1282 : BitVec 32 := 4096#32
  let v2156 : BitVec 32 := Scalar.muli arg1 c4096_i32_1282
  let c2048_i32 : BitVec 32 := 2048#32
  let v2157 : BitVec 32 := Scalar.addi v2156 c2048_i32
  v2157
def k0_mult6 (i : grid0.Coords) : BitVec 32 :=
  let arg1 : BitVec 32 := BitVec.ofNat 32 (i 1).val
  let c4096_i32_1659 : BitVec 32 := 4096#32
  let v2795 : BitVec 32 := Scalar.muli arg1 c4096_i32_1659
  let c3072_i32 : BitVec 32 := 3072#32
  let v2796 : BitVec 32 := Scalar.addi v2795 c3072_i32
  v2796
def cc0_transform_0 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg1.toNat, c0_i32_10.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S1x1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x16384x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S2x8x16384x128 : Shape := ⟨4, ![2, 8, 16384, 128]⟩
abbrev S2x8x16384 : Shape := ⟨3, ![2, 8, 16384]⟩
abbrev S_ : Shape := ⟨0, ![]⟩
abbrev S16384 : Shape := ⟨1, ![16384]⟩
abbrev S2x8x16384x16384 : Shape := ⟨4, ![2, 8, 16384, 16384]⟩
abbrev S2x8x16384x1 : Shape := ⟨4, ![2, 8, 16384, 1]⟩
abbrev S2x8x1x16384 : Shape := ⟨4, ![2, 8, 1, 16384]⟩
abbrev S1x16384 : Shape := ⟨2, ![1, 16384]⟩
abbrev S16384x1 : Shape := ⟨2, ![16384, 1]⟩
abbrev S16384x16384 : Shape := ⟨2, ![16384, 16384]⟩
abbrev S2x16384x8x128 : Shape := ⟨4, ![2, 16384, 8, 128]⟩
abbrev S2x16384x1024 : Shape := ⟨3, ![2, 16384, 1024]⟩

abbrev nBuf : Space → Nat
  | .hbm => 46
  | .vmem => 0
  | .smem => 0
  | _ => 0

abbrev bufTy : (tb : Table) → Fin (tcTables nBuf tb) → BufTy
  | .hbm, ⟨0, _⟩ => ⟨S2x8x16384x128, .f32⟩
  | .hbm, ⟨1, _⟩ => ⟨S2x8x16384x128, .f32⟩
  | .hbm, ⟨2, _⟩ => ⟨S2x8x16384x128, .f32⟩
  | .hbm, ⟨3, _⟩ => ⟨S2x8x16384, .f32⟩
  | .hbm, ⟨4, _⟩ => ⟨S_, .f32⟩
  | .hbm, ⟨5, _⟩ => ⟨S_, .f32⟩
  | .hbm, ⟨6, _⟩ => ⟨S2x8x16384, .f32⟩
  | .hbm, ⟨7, _⟩ => ⟨S16384, .i32⟩
  | .hbm, ⟨8, _⟩ => ⟨S2x8x16384x16384, .f32⟩
  | .hbm, ⟨9, _⟩ => ⟨S_, .f32⟩
  | .hbm, ⟨10, _⟩ => ⟨S2x8x16384x16384, .f32⟩
  | .hbm, ⟨11, _⟩ => ⟨S2x8x16384x16384, .f32⟩
  | .hbm, ⟨12, _⟩ => ⟨S2x8x16384x1, .f32⟩
  | .hbm, ⟨13, _⟩ => ⟨S2x8x1x16384, .f32⟩
  | .hbm, ⟨14, _⟩ => ⟨S2x8x16384x16384, .f32⟩
  | .hbm, ⟨15, _⟩ => ⟨S2x8x16384x16384, .f32⟩
  | .hbm, ⟨16, _⟩ => ⟨S2x8x16384x16384, .f32⟩
  | .hbm, ⟨17, _⟩ => ⟨S2x8x16384x16384, .f32⟩
  | .hbm, ⟨18, _⟩ => ⟨S1x16384, .i32⟩
  | .hbm, ⟨19, _⟩ => ⟨S16384x1, .i32⟩
  | .hbm, ⟨20, _⟩ => ⟨S16384x16384, .i32⟩
  | .hbm, ⟨21, _⟩ => ⟨S16384x16384, .i32⟩
  | .hbm, ⟨22, _⟩ => ⟨S16384x16384, .i1⟩
  | .hbm, ⟨23, _⟩ => ⟨S_, .f32⟩
  | .hbm, ⟨24, _⟩ => ⟨S_, .f32⟩
  | .hbm, ⟨25, _⟩ => ⟨S2x8x16384x16384, .i1⟩
  | .hbm, ⟨26, _⟩ => ⟨S2x8x16384x16384, .f32⟩
  | .hbm, ⟨27, _⟩ => ⟨S2x8x16384x16384, .f32⟩
  | .hbm, ⟨28, _⟩ => ⟨S_, .f32⟩
  | .hbm, ⟨29, _⟩ => ⟨S2x8x16384, .f32⟩
  | .hbm, ⟨30, _⟩ => ⟨S_, .f32⟩
  | .hbm, ⟨31, _⟩ => ⟨S2x8x16384, .f32⟩
  | .hbm, ⟨32, _⟩ => ⟨S2x8x16384, .f32⟩
  | .hbm, ⟨33, _⟩ => ⟨S2x8x16384x1, .f32⟩
  | .hbm, ⟨34, _⟩ => ⟨S2x8x16384x16384, .f32⟩
  | .hbm, ⟨35, _⟩ => ⟨S2x8x16384x16384, .f32⟩
  | .hbm, ⟨36, _⟩ => ⟨S2x8x16384x16384, .f32⟩
  | .hbm, ⟨37, _⟩ => ⟨S_, .f32⟩
  | .hbm, ⟨38, _⟩ => ⟨S2x8x16384, .f32⟩
  | .hbm, ⟨39, _⟩ => ⟨S2x8x16384x1, .f32⟩
  | .hbm, ⟨40, _⟩ => ⟨S2x8x16384x16384, .f32⟩
  | .hbm, ⟨41, _⟩ => ⟨S2x8x16384x16384, .f32⟩
  | .hbm, ⟨42, _⟩ => ⟨S2x8x16384x128, .f32⟩
  | .hbm, ⟨43, _⟩ => ⟨S2x16384x8x128, .f32⟩
  | .hbm, ⟨44, _⟩ => ⟨S2x16384x1024, .f32⟩
  | .hbm, ⟨45, _⟩ => ⟨S2x16384x1024, .bf16⟩
  | _, _ => ⟨S2x8x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_cst : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Kernel2.lean ====
abbrev S2x16384x2048 : Shape := ⟨3, ![2, 16384, 2048]⟩
abbrev S2048 : Shape := ⟨1, ![2048]⟩
abbrev S2048x8192 : Shape := ⟨2, ![2048, 8192]⟩
abbrev S8192x2048 : Shape := ⟨2, ![8192, 2048]⟩
abbrev S32768x2048 : Shape := ⟨2, ![32768, 2048]⟩
abbrev S1x2048 : Shape := ⟨2, ![1, 2048]⟩
abbrev S_ : Shape := ⟨0, ![]⟩
abbrev S32768 : Shape := ⟨1, ![32768]⟩
abbrev S32768x1 : Shape := ⟨2, ![32768, 1]⟩
abbrev S512x2048 : Shape := ⟨2, ![512, 2048]⟩
abbrev S2048x1024 : Shape := ⟨2, ![2048, 1024]⟩
abbrev S1024x2048 : Shape := ⟨2, ![1024, 2048]⟩
abbrev S512x1024 : Shape := ⟨2, ![512, 1024]⟩
abbrev S512 : Shape := ⟨1, ![512]⟩
abbrev S512x1 : Shape := ⟨2, ![512, 1]⟩

abbrev nBuf : Space → Nat
  | .hbm => 28
  | .vmem => 14
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048, .f32⟩
  | .hbm, ⟨3, _⟩ => ⟨S2048x8192, .f32⟩
  | .hbm, ⟨4, _⟩ => ⟨S8192x2048, .f32⟩
  | .hbm, ⟨5, _⟩ => ⟨S32768x2048, .f32⟩
  | .hbm, ⟨6, _⟩ => ⟨S1x2048, .f32⟩
  | .hbm, ⟨7, _⟩ => ⟨S32768x2048, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S32768x2048, .f32⟩
  | .hbm, ⟨22, _⟩ => ⟨S32768x2048, .bf16⟩
  | .hbm, ⟨23, _⟩ => ⟨S2048x8192, .bf16⟩
  | .hbm, ⟨24, _⟩ => ⟨S8192x2048, .bf16⟩
  | .hbm, ⟨25, _⟩ => ⟨S1x2048, .f32⟩
  | .hbm, ⟨26, _⟩ => ⟨S32768x2048, .f32⟩
  | .hbm, ⟨27, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S512x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![64, 8], ![false, false]⟩

def k0_cond2 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_12 : BitVec 32 := 0#32
  let v22 : BitVec 1 := Scalar.cmpi .ne v21 c0_i32_12
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S2x16384x2048 : Shape := ⟨3, ![2, 16384, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x8192 : Shape := ⟨3, ![2, 16384, 8192]⟩
abbrev S32768x2048 : Shape := ⟨2, ![32768, 2048]⟩

abbrev nBuf : Space → Nat
  | .hbm => 47
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048, .f32⟩
  | .hbm, ⟨3, _⟩ => ⟨S2048x8192, .f32⟩
  | .hbm, ⟨4, _⟩ => ⟨S8192x2048, .f32⟩
  | .hbm, ⟨5, _⟩ => ⟨S2x16384x2048, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x2048, .f32⟩
  | .hbm, ⟨17, _⟩ => ⟨S2x16384x2048, .f32⟩
  | .hbm, ⟨18, _⟩ => ⟨S1x1x2048, .f32⟩
  | .hbm, ⟨19, _⟩ => ⟨S2x16384x2048, .f32⟩
  | .hbm, ⟨20, _⟩ => ⟨S2x16384x2048, .f32⟩
  | .hbm, ⟨21, _⟩ => ⟨S2x16384x8192, .f32⟩
  | .hbm, ⟨22, _⟩ => ⟨S_, .f32⟩
  | .hbm, ⟨23, _⟩ => ⟨S2x16384x8192, .f32⟩
  | .hbm, ⟨24, _⟩ => ⟨S2x16384x8192, .f32⟩
  | .hbm, ⟨25, _⟩ => ⟨S2x16384x8192, .f32⟩
  | .hbm, ⟨26, _⟩ => ⟨S2x16384x2048, .f32⟩
  | .hbm, ⟨27, _⟩ => ⟨S2x16384x2048, .f32⟩
  | .hbm, ⟨28, _⟩ => ⟨S32768x2048, .f32⟩
  | .hbm, ⟨29, _⟩ => ⟨S2x16384x2048, .f32⟩
  | .hbm, ⟨30, _⟩ => ⟨S_, .f32⟩
  | .hbm, ⟨31, _⟩ => ⟨S2x16384, .f32⟩
  | .hbm, ⟨32, _⟩ => ⟨S2x16384x1, .f32⟩
  | .hbm, ⟨33, _⟩ => ⟨S_, .f32⟩
  | .hbm, ⟨34, _⟩ => ⟨S2x16384x1, .f32⟩
  | .hbm, ⟨35, _⟩ => ⟨S2x16384x1, .f32⟩
  | .hbm, ⟨36, _⟩ => ⟨S_, .f32⟩
  | .hbm, ⟨37, _⟩ => ⟨S2x16384x1, .f32⟩
  | .hbm, ⟨38, _⟩ => ⟨S2x16384x1, .f32⟩
  | .hbm, ⟨39, _⟩ => ⟨S2x16384x1, .f32⟩
  | .hbm, ⟨40, _⟩ => ⟨S2x16384x2048, .f32⟩
  | .hbm, ⟨41, _⟩ => ⟨S2x16384x2048, .f32⟩
  | .hbm, ⟨42, _⟩ => ⟨S1x1x2048, .f32⟩
  | .hbm, ⟨43, _⟩ => ⟨S2x16384x2048, .f32⟩
  | .hbm, ⟨44, _⟩ => ⟨S2x16384x2048, .f32⟩
  | .hbm, ⟨45, _⟩ => ⟨S32768x2048, .f32⟩
  | .hbm, ⟨46, _⟩ => ⟨S32768x2048, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Kernel3.lean ====
abbrev S2x16384x2048 : Shape := ⟨3, ![2, 16384, 2048]⟩
abbrev S4x2x16384x256 : Shape := ⟨4, ![4, 2, 16384, 256]⟩
abbrev S2048 : Shape := ⟨1, ![2048]⟩
abbrev S2048x2048 : Shape := ⟨2, ![2048, 2048]⟩
abbrev S256x2048 : Shape := ⟨2, ![256, 2048]⟩
abbrev S32768x2048 : Shape := ⟨2, ![32768, 2048]⟩
abbrev S1x2048 : Shape := ⟨2, ![1, 2048]⟩
abbrev S_ : Shape := ⟨0, ![]⟩
abbrev S32768 : Shape := ⟨1, ![32768]⟩
abbrev S32768x1 : Shape := ⟨2, ![32768, 1]⟩
abbrev S4x32768x256 : Shape := ⟨3, ![4, 32768, 256]⟩
abbrev S512x2048 : Shape := ⟨2, ![512, 2048]⟩
abbrev S1x512x256 : Shape := ⟨3, ![1, 512, 256]⟩
abbrev S512x256 : Shape := ⟨2, ![512, 256]⟩
abbrev S512 : Shape := ⟨1, ![512]⟩
abbrev S512x1 : Shape := ⟨2, ![512, 1]⟩

abbrev nBuf : Space → Nat
  | .hbm => 30
  | .vmem => 13
  | .smem => 0
  | _ => 0

abbrev bufTy : (tb : Table) → Fin (tcTables nBuf tb) → BufTy
  | .hbm, ⟨0, _⟩ => ⟨S2x16384x2048, .f32⟩
  | .hbm, ⟨1, _⟩ => ⟨S4x2x16384x256, .f32⟩
  | .hbm, ⟨2, _⟩ => ⟨S2048, .f32⟩
  | .hbm, ⟨3, _⟩ => ⟨S2048, .f32⟩
  | .hbm, ⟨4, _⟩ => ⟨S2048x2048, .f32⟩
  | .hbm, ⟨5, _⟩ => ⟨S256x2048, .f32⟩
  | .hbm, ⟨6, _⟩ => ⟨S32768x2048, .f32⟩
  | .hbm, ⟨7, _⟩ => ⟨S1x2048, .f32⟩
  | .hbm, ⟨8, _⟩ => ⟨S32768x2048, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x2048, .f32⟩
  | .hbm, ⟨20, _⟩ => ⟨S32768x2048, .f32⟩
  | .hbm, ⟨21, _⟩ => ⟨S32768x2048, .f32⟩
  | .hbm, ⟨22, _⟩ => ⟨S32768x2048, .f32⟩
  | .hbm, ⟨23, _⟩ => ⟨S32768x2048, .bf16⟩
  | .hbm, ⟨24, _⟩ => ⟨S4x32768x256, .f32⟩
  | .hbm, ⟨25, _⟩ => ⟨S2048x2048, .bf16⟩
  | .hbm, ⟨26, _⟩ => ⟨S256x2048, .bf16⟩
  | .hbm, ⟨27, _⟩ => ⟨S1x2048, .f32⟩
  | .hbm, ⟨28, _⟩ => ⟨S32768x2048, .f32⟩
  | .hbm, ⟨29, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x512x256, .f32⟩
  | .local _ .vmem, ⟨5, _⟩ => ⟨S1x512x256, .f32⟩
  | .local _ .vmem, ⟨6, _⟩ => ⟨S2048x2048, .bf16⟩
  | .local _ .vmem, ⟨7, _⟩ => ⟨S256x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel3Ideal.lean ====
abbrev S2x16384x2048 : Shape := ⟨3, ![2, 16384, 2048]⟩
abbrev S4x2x16384x256 : Shape := ⟨4, ![4, 2, 16384, 256]⟩
abbrev S2048 : Shape := ⟨1, ![2048]⟩
abbrev S2048x2048 : Shape := ⟨2, ![2048, 2048]⟩
abbrev S256x2048 : Shape := ⟨2, ![256, 2048]⟩
abbrev S32768x2048 : Shape := ⟨2, ![32768, 2048]⟩
abbrev S1x2048 : Shape := ⟨2, ![1, 2048]⟩
abbrev S_ : Shape := ⟨0, ![]⟩
abbrev S32768 : Shape := ⟨1, ![32768]⟩
abbrev S32768x1 : Shape := ⟨2, ![32768, 1]⟩
abbrev S4x32768x256 : Shape := ⟨3, ![4, 32768, 256]⟩
abbrev S512x2048 : Shape := ⟨2, ![512, 2048]⟩
abbrev S1x512x256 : Shape := ⟨3, ![1, 512, 256]⟩
abbrev S512x256 : Shape := ⟨2, ![512, 256]⟩
abbrev S512 : Shape := ⟨1, ![512]⟩
abbrev S512x1 : Shape := ⟨2, ![512, 1]⟩

abbrev nBuf : Space → Nat
  | .hbm => 30
  | .vmem => 13
  | .smem => 0
  | _ => 0

abbrev bufTy : (tb : Table) → Fin (tcTables nBuf tb) → BufTy
  | .hbm, ⟨0, _⟩ => ⟨S2x16384x2048, .f32⟩
  | .hbm, ⟨1, _⟩ => ⟨S4x2x16384x256, .f32⟩
  | .hbm, ⟨2, _⟩ => ⟨S2048, .f32⟩
  | .hbm, ⟨3, _⟩ => ⟨S2048, .f32⟩
  | .hbm, ⟨4, _⟩ => ⟨S2048x2048, .f32⟩
  | .hbm, ⟨5, _⟩ => ⟨S256x2048, .f32⟩
  | .hbm, ⟨6, _⟩ => ⟨S32768x2048, .f32⟩
  | .hbm, ⟨7, _⟩ => ⟨S1x2048, .f32⟩
  | .hbm, ⟨8, _⟩ => ⟨S32768x2048, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x2048, .f32⟩
  | .hbm, ⟨20, _⟩ => ⟨S32768x2048, .f32⟩
  | .hbm, ⟨21, _⟩ => ⟨S32768x2048, .f32⟩
  | .hbm, ⟨22, _⟩ => ⟨S32768x2048, .f32⟩
  | .hbm, ⟨23, _⟩ => ⟨S32768x2048, .bf16⟩
  | .hbm, ⟨24, _⟩ => ⟨S4x32768x256, .f32⟩
  | .hbm, ⟨25, _⟩ => ⟨S2048x2048, .bf16⟩
  | .hbm, ⟨26, _⟩ => ⟨S256x2048, .bf16⟩
  | .hbm, ⟨27, _⟩ => ⟨S1x2048, .f32⟩
  | .hbm, ⟨28, _⟩ => ⟨S32768x2048, .f32⟩
  | .hbm, ⟨29, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x512x256, .f32⟩
  | .local _ .vmem, ⟨5, _⟩ => ⟨S1x512x256, .f32⟩
  | .local _ .vmem, ⟨6, _⟩ => ⟨S2048x2048, .bf16⟩
  | .local _ .vmem, ⟨7, _⟩ => ⟨S256x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S2x16384x2048 : Shape := ⟨3, ![2, 16384, 2048]⟩
abbrev S4x2x16384x256 : Shape := ⟨4, ![4, 2, 16384, 256]⟩
abbrev S2048 : Shape := ⟨1, ![2048]⟩
abbrev S2048x2048 : Shape := ⟨2, ![2048, 2048]⟩
abbrev S256x2048 : Shape := ⟨2, ![256, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S1x2x16384x256 : Shape := ⟨4, ![1, 2, 16384, 256]⟩
abbrev S2x16384x256 : Shape := ⟨3, ![2, 16384, 256]⟩
abbrev S32768x2048 : Shape := ⟨2, ![32768, 2048]⟩

abbrev nBuf : Space → Nat
  | .hbm => 55
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S4x2x16384x256, .f32⟩
  | .hbm, ⟨2, _⟩ => ⟨S2048, .f32⟩
  | .hbm, ⟨3, _⟩ => ⟨S2048, .f32⟩
  | .hbm, ⟨4, _⟩ => ⟨S2048x2048, .f32⟩
  | .hbm, ⟨5, _⟩ => ⟨S256x2048, .f32⟩
  | .hbm, ⟨6, _⟩ => ⟨S2x16384x2048, .f32⟩
  | .hbm, ⟨7, _⟩ => ⟨S_, .f32⟩
  | .hbm, ⟨8, _⟩ => ⟨S2x16384, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S2x16384x1, .f32⟩
  | .hbm, ⟨17, _⟩ => ⟨S2x16384x2048, .f32⟩
  | .hbm, ⟨18, _⟩ => ⟨S2x16384x2048, .f32⟩
  | .hbm, ⟨19, _⟩ => ⟨S1x1x2048, .f32⟩
  | .hbm, ⟨20, _⟩ => ⟨S2x16384x2048, .f32⟩
  | .hbm, ⟨21, _⟩ => ⟨S2x16384x2048, .f32⟩
  | .hbm, ⟨22, _⟩ => ⟨S2x16384x2048, .f32⟩
  | .hbm, ⟨23, _⟩ => ⟨S2x16384x2048, .f32⟩
  | .hbm, ⟨24, _⟩ => ⟨S2x16384x2048, .f32⟩
  | .hbm, ⟨25, _⟩ => ⟨S_, .f32⟩
  | .hbm, ⟨26, _⟩ => ⟨S2x16384x2048, .f32⟩
  | .hbm, ⟨27, _⟩ => ⟨S2x16384x2048, .f32⟩
  | .hbm, ⟨28, _⟩ => ⟨S_, .f32⟩
  | .hbm, ⟨29, _⟩ => ⟨S2x16384x2048, .f32⟩
  | .hbm, ⟨30, _⟩ => ⟨S2x16384x2048, .f32⟩
  | .hbm, ⟨31, _⟩ => ⟨S1x2x16384x256, .f32⟩
  | .hbm, ⟨32, _⟩ => ⟨S2x16384x256, .f32⟩
  | .hbm, ⟨33, _⟩ => ⟨S2x16384x2048, .f32⟩
  | .hbm, ⟨34, _⟩ => ⟨S2x16384x2048, .f32⟩
  | .hbm, ⟨35, _⟩ => ⟨S2x16384x2048, .f32⟩
  | .hbm, ⟨36, _⟩ => ⟨S32768x2048, .f32⟩
  | .hbm, ⟨37, _⟩ => ⟨S2x16384x2048, .f32⟩
  | .hbm, ⟨38, _⟩ => ⟨S_, .f32⟩
  | .hbm, ⟨39, _⟩ => ⟨S2x16384, .f32⟩
  | .hbm, ⟨40, _⟩ => ⟨S2x16384x1, .f32⟩
  | .hbm, ⟨41, _⟩ => ⟨S_, .f32⟩
  | .hbm, ⟨42, _⟩ => ⟨S2x16384x1, .f32⟩
  | .hbm, ⟨43, _⟩ => ⟨S2x16384x1, .f32⟩
  | .hbm, ⟨44, _⟩ => ⟨S_, .f32⟩
  | .hbm, ⟨45, _⟩ => ⟨S2x16384x1, .f32⟩
  | .hbm, ⟨46, _⟩ => ⟨S2x16384x1, .f32⟩
  | .hbm, ⟨47, _⟩ => ⟨S2x16384x1, .f32⟩
  | .hbm, ⟨48, _⟩ => ⟨S2x16384x2048, .f32⟩
  | .hbm, ⟨49, _⟩ => ⟨S2x16384x2048, .f32⟩
  | .hbm, ⟨50, _⟩ => ⟨S1x1x2048, .f32⟩
  | .hbm, ⟨51, _⟩ => ⟨S2x16384x2048, .f32⟩
  | .hbm, ⟨52, _⟩ => ⟨S2x16384x2048, .f32⟩
  | .hbm, ⟨53, _⟩ => ⟨S32768x2048, .f32⟩
  | .hbm, ⟨54, _⟩ => ⟨S32768x2048, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel4.lean ====
abbrev S2x16384x2048 : Shape := ⟨3, ![2, 16384, 2048]⟩
abbrev S2x16384x1024 : Shape := ⟨3, ![2, 16384, 1024]⟩
abbrev S1024x2048 : Shape := ⟨2, ![1024, 2048]⟩
abbrev S2048x2048 : Shape := ⟨2, ![2048, 2048]⟩
abbrev S2048 : Shape := ⟨1, ![2048]⟩
abbrev S2x16384x4096 : Shape := ⟨3, ![2, 16384, 4096]⟩
abbrev S32768x4096 : Shape := ⟨2, ![32768, 4096]⟩
abbrev S_ : Shape := ⟨0, ![]⟩
abbrev S1x2048 : Shape := ⟨2, ![1, 2048]⟩
abbrev S32768x2048 : Shape := ⟨2, ![32768, 2048]⟩
abbrev S32768x1024 : Shape := ⟨2, ![32768, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 31
  | .vmem => 18
  | .smem => 0
  | _ => 0

abbrev bufTy : (tb : Table) → Fin (tcTables nBuf tb) → BufTy
  | .hbm, ⟨0, _⟩ => ⟨S2x16384x2048, .f32⟩
  | .hbm, ⟨1, _⟩ => ⟨S2x16384x1024, .f32⟩
  | .hbm, ⟨2, _⟩ => ⟨S2x16384x1024, .f32⟩
  | .hbm, ⟨3, _⟩ => ⟨S2x16384x2048, .f32⟩
  | .hbm, ⟨4, _⟩ => ⟨S2x16384x2048, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S2048, .f32⟩
  | .hbm, ⟨9, _⟩ => ⟨S2x16384x4096, .f32⟩
  | .hbm, ⟨10, _⟩ => ⟨S32768x4096, .f32⟩
  | .hbm, ⟨11, _⟩ => ⟨S32768x4096, .f32⟩
  | .hbm, ⟨12, _⟩ => ⟨S32768x4096, .f32⟩
  | .hbm, ⟨13, _⟩ => ⟨S_, .f32⟩
  | .hbm, ⟨14, _⟩ => ⟨S32768x4096, .f32⟩
  | .hbm, ⟨15, _⟩ => ⟨S32768x4096, .f32⟩
  | .hbm, ⟨16, _⟩ => ⟨S_, .f32⟩
  | .hbm, ⟨17, _⟩ => ⟨S32768x4096, .f32⟩
  | .hbm, ⟨18, _⟩ => ⟨S32768x4096, .f32⟩
  | .hbm, ⟨19, _⟩ => ⟨S32768x4096, .bf16⟩
  | .hbm, ⟨20, _⟩ => ⟨S1024x2048, .bf16⟩
  | .hbm, ⟨21, _⟩ => ⟨S1024x2048, .bf16⟩
  | .hbm, ⟨22, _⟩ => ⟨S2048x2048, .bf16⟩
  | .hbm, ⟨23, _⟩ => ⟨S1x2048, .f32⟩
  | .hbm, ⟨24, _⟩ => ⟨S32768x2048, .f32⟩
  | .hbm, ⟨25, _⟩ => ⟨S32768x1024, .f32⟩
  | .hbm, ⟨26, _⟩ => ⟨S32768x1024, .bf16⟩
  | .hbm, ⟨27, _⟩ => ⟨S32768x1024, .f32⟩
  | .hbm, ⟨28, _⟩ => ⟨S32768x1024, .bf16⟩
  | .hbm, ⟨29, _⟩ => ⟨S32768x2048, .f32⟩
  | .hbm, ⟨30, _⟩ => ⟨S32768x2048, .bf16⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .bf16⟩
  | .local _ .vmem, ⟨17, _⟩ => ⟨S256x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S2x16384x2048 : Shape := ⟨3, ![2, 16384, 2048]⟩
abbrev S2x16384x1024 : Shape := ⟨3, ![2, 16384, 1024]⟩
abbrev S1024x2048 : Shape := ⟨2, ![1024, 2048]⟩
abbrev S2048x2048 : Shape := ⟨2, ![2048, 2048]⟩
abbrev S2048 : Shape := ⟨1, ![2048]⟩
abbrev S_ : Shape := ⟨0, ![]⟩
abbrev S32768x2048 : Shape := ⟨2, ![32768, 2048]⟩
abbrev S2x16384 : Shape := ⟨2, ![2, 16384]⟩
abbrev S2x16384x1 : Shape := ⟨3, ![2, 16384, 1]⟩
abbrev S1x1x2048 : Shape := ⟨3, ![1, 1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x16384x1024, .f32⟩
  | .hbm, ⟨2, _⟩ => ⟨S2x16384x1024, .f32⟩
  | .hbm, ⟨3, _⟩ => ⟨S2x16384x2048, .f32⟩
  | .hbm, ⟨4, _⟩ => ⟨S2x16384x2048, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S2048, .f32⟩
  | .hbm, ⟨9, _⟩ => ⟨S2x16384x2048, .f32⟩
  | .hbm, ⟨10, _⟩ => ⟨S2x16384x2048, .f32⟩
  | .hbm, ⟨11, _⟩ => ⟨S_, .f32⟩
  | .hbm, ⟨12, _⟩ => ⟨S2x16384x2048, .f32⟩
  | .hbm, ⟨13, _⟩ => ⟨S2x16384x2048, .f32⟩
  | .hbm, ⟨14, _⟩ => ⟨S_, .f32⟩
  | .hbm, ⟨15, _⟩ => ⟨S2x16384x2048, .f32⟩
  | .hbm, ⟨16, _⟩ => ⟨S2x16384x2048, .f32⟩
  | .hbm, ⟨17, _⟩ => ⟨S2x16384x2048, .f32⟩
  | .hbm, ⟨18, _⟩ => ⟨S2x16384x2048, .f32⟩
  | .hbm, ⟨19, _⟩ => ⟨S2x16384x2048, .f32⟩
  | .hbm, ⟨20, _⟩ => ⟨S2x16384x2048, .f32⟩
  | .hbm, ⟨21, _⟩ => ⟨S_, .f32⟩
  | .hbm, ⟨22, _⟩ => ⟨S2x16384x2048, .f32⟩
  | .hbm, ⟨23, _⟩ => ⟨S2x16384x2048, .f32⟩
  | .hbm, ⟨24, _⟩ => ⟨S_, .f32⟩
  | .hbm, ⟨25, _⟩ => ⟨S2x16384x2048, .f32⟩
  | .hbm, ⟨26, _⟩ => ⟨S2x16384x2048, .f32⟩
  | .hbm, ⟨27, _⟩ => ⟨S2x16384x2048, .f32⟩
  | .hbm, ⟨28, _⟩ => ⟨S2x16384x2048, .f32⟩
  | .hbm, ⟨29, _⟩ => ⟨S2x16384x2048, .f32⟩
  | .hbm, ⟨30, _⟩ => ⟨S2x16384x2048, .f32⟩
  | .hbm, ⟨31, _⟩ => ⟨S2x16384x2048, .f32⟩
  | .hbm, ⟨32, _⟩ => ⟨S32768x2048, .f32⟩
  | .hbm, ⟨33, _⟩ => ⟨S2x16384x2048, .f32⟩
  | .hbm, ⟨34, _⟩ => ⟨S_, .f32⟩
  | .hbm, ⟨35, _⟩ => ⟨S2x16384, .f32⟩
  | .hbm, ⟨36, _⟩ => ⟨S2x16384x1, .f32⟩
  | .hbm, ⟨37, _⟩ => ⟨S_, .f32⟩
  | .hbm, ⟨38, _⟩ => ⟨S2x16384x1, .f32⟩
  | .hbm, ⟨39, _⟩ => ⟨S2x16384x1, .f32⟩
  | .hbm, ⟨40, _⟩ => ⟨S_, .f32⟩
  | .hbm, ⟨41, _⟩ => ⟨S2x16384x1, .f32⟩
  | .hbm, ⟨42, _⟩ => ⟨S2x16384x1, .f32⟩
  | .hbm, ⟨43, _⟩ => ⟨S2x16384x1, .f32⟩
  | .hbm, ⟨44, _⟩ => ⟨S2x16384x2048, .f32⟩
  | .hbm, ⟨45, _⟩ => ⟨S2x16384x2048, .f32⟩
  | .hbm, ⟨46, _⟩ => ⟨S1x1x2048, .f32⟩
  | .hbm, ⟨47, _⟩ => ⟨S2x16384x2048, .f32⟩
  | .hbm, ⟨48, _⟩ => ⟨S2x16384x2048, .f32⟩
  | .hbm, ⟨49, _⟩ => ⟨S32768x2048, .f32⟩
  | .hbm, ⟨50, _⟩ => ⟨S32768x2048, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== Kernel5.lean ====
abbrev S2x16384x2048 : Shape := ⟨3, ![2, 16384, 2048]⟩
abbrev S2048 : Shape := ⟨1, ![2048]⟩
abbrev S2048x9224 : Shape := ⟨2, ![2048, 9224]⟩
abbrev S32768x2048 : Shape := ⟨2, ![32768, 2048]⟩
abbrev S1x2048 : Shape := ⟨2, ![1, 2048]⟩
abbrev S_ : Shape := ⟨0, ![]⟩
abbrev S32768 : Shape := ⟨1, ![32768]⟩
abbrev S32768x1 : Shape := ⟨2, ![32768, 1]⟩
abbrev S2048x4096 : Shape := ⟨2, ![2048, 4096]⟩
abbrev S32768x4096 : Shape := ⟨2, ![32768, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 24
  | .vmem => 6
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x9224, .f32⟩
  | .hbm, ⟨3, _⟩ => ⟨S32768x2048, .f32⟩
  | .hbm, ⟨4, _⟩ => ⟨S1x2048, .f32⟩
  | .hbm, ⟨5, _⟩ => ⟨S32768x2048, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S32768x2048, .f32⟩
  | .hbm, ⟨20, _⟩ => ⟨S32768x2048, .bf16⟩
  | .hbm, ⟨21, _⟩ => ⟨S2048x4096, .f32⟩
  | .hbm, ⟨22, _⟩ => ⟨S2048x4096, .bf16⟩
  | .hbm, ⟨23, _⟩ => ⟨S32768x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S2x16384x2048 : Shape := ⟨3, ![2, 16384, 2048]⟩
abbrev S2048 : Shape := ⟨1, ![2048]⟩
abbrev S2048x9224 : Shape := ⟨2, ![2048, 9224]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x9224 : Shape := ⟨3, ![2, 16384, 9224]⟩
abbrev S2x16384x4096 : Shape := ⟨3, ![2, 16384, 4096]⟩
abbrev S32768x4096 : Shape := ⟨2, ![32768, 4096]⟩

abbrev nBuf : Space → Nat
  | .hbm => 31
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x9224, .f32⟩
  | .hbm, ⟨3, _⟩ => ⟨S2x16384x2048, .f32⟩
  | .hbm, ⟨4, _⟩ => ⟨S_, .f32⟩
  | .hbm, ⟨5, _⟩ => ⟨S2x16384, .f32⟩
  | .hbm, ⟨6, _⟩ => ⟨S2x16384x1, .f32⟩
  | .hbm, ⟨7, _⟩ => ⟨S_, .f32⟩
  | .hbm, ⟨8, _⟩ => ⟨S2x16384x1, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S2x16384x1, .f32⟩
  | .hbm, ⟨14, _⟩ => ⟨S2x16384x2048, .f32⟩
  | .hbm, ⟨15, _⟩ => ⟨S2x16384x2048, .f32⟩
  | .hbm, ⟨16, _⟩ => ⟨S1x1x2048, .f32⟩
  | .hbm, ⟨17, _⟩ => ⟨S2x16384x2048, .f32⟩
  | .hbm, ⟨18, _⟩ => ⟨S2x16384x2048, .f32⟩
  | .hbm, ⟨19, _⟩ => ⟨S2x16384x9224, .f32⟩
  | .hbm, ⟨20, _⟩ => ⟨S2x16384x4096, .f32⟩
  | .hbm, ⟨21, _⟩ => ⟨S2x16384x4096, .f32⟩
  | .hbm, ⟨22, _⟩ => ⟨S2x16384x4096, .f32⟩
  | .hbm, ⟨23, _⟩ => ⟨S_, .f32⟩
  | .hbm, ⟨24, _⟩ => ⟨S2x16384x4096, .f32⟩
  | .hbm, ⟨25, _⟩ => ⟨S2x16384x4096, .f32⟩
  | .hbm, ⟨26, _⟩ => ⟨S_, .f32⟩
  | .hbm, ⟨27, _⟩ => ⟨S2x16384x4096, .f32⟩
  | .hbm, ⟨28, _⟩ => ⟨S2x16384x4096, .f32⟩
  | .hbm, ⟨29, _⟩ => ⟨S32768x4096, .f32⟩
  | .hbm, ⟨30, _⟩ => ⟨S32768x4096, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel6.lean ====
abbrev S2x16384x2048 : Shape := ⟨3, ![2, 16384, 2048]⟩
abbrev S2048 : Shape := ⟨1, ![2048]⟩
abbrev S2048x9224 : Shape := ⟨2, ![2048, 9224]⟩
abbrev S32768x2048 : Shape := ⟨2, ![32768, 2048]⟩
abbrev S1x2048 : Shape := ⟨2, ![1, 2048]⟩
abbrev S_ : Shape := ⟨0, ![]⟩
abbrev S32768 : Shape := ⟨1, ![32768]⟩
abbrev S32768x1 : Shape := ⟨2, ![32768, 1]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 24
  | .vmem => 6
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x9224, .f32⟩
  | .hbm, ⟨3, _⟩ => ⟨S32768x2048, .f32⟩
  | .hbm, ⟨4, _⟩ => ⟨S1x2048, .f32⟩
  | .hbm, ⟨5, _⟩ => ⟨S32768x2048, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S32768x2048, .f32⟩
  | .hbm, ⟨20, _⟩ => ⟨S32768x2048, .bf16⟩
  | .hbm, ⟨21, _⟩ => ⟨S2048x2048, .f32⟩
  | .hbm, ⟨22, _⟩ => ⟨S2048x2048, .bf16⟩
  | .hbm, ⟨23, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2x16384x2048 : Shape := ⟨3, ![2, 16384, 2048]⟩
abbrev S2048 : Shape := ⟨1, ![2048]⟩
abbrev S2048x9224 : Shape := ⟨2, ![2048, 9224]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x9224 : Shape := ⟨3, ![2, 16384, 9224]⟩
abbrev S32768x2048 : Shape := ⟨2, ![32768, 2048]⟩

abbrev nBuf : Space → Nat
  | .hbm => 22
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x9224, .f32⟩
  | .hbm, ⟨3, _⟩ => ⟨S2x16384x2048, .f32⟩
  | .hbm, ⟨4, _⟩ => ⟨S_, .f32⟩
  | .hbm, ⟨5, _⟩ => ⟨S2x16384, .f32⟩
  | .hbm, ⟨6, _⟩ => ⟨S2x16384x1, .f32⟩
  | .hbm, ⟨7, _⟩ => ⟨S_, .f32⟩
  | .hbm, ⟨8, _⟩ => ⟨S2x16384x1, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S2x16384x1, .f32⟩
  | .hbm, ⟨14, _⟩ => ⟨S2x16384x2048, .f32⟩
  | .hbm, ⟨15, _⟩ => ⟨S2x16384x2048, .f32⟩
  | .hbm, ⟨16, _⟩ => ⟨S1x1x2048, .f32⟩
  | .hbm, ⟨17, _⟩ => ⟨S2x16384x2048, .f32⟩
  | .hbm, ⟨18, _⟩ => ⟨S2x16384x2048, .f32⟩
  | .hbm, ⟨19, _⟩ => ⟨S2x16384x9224, .f32⟩
  | .hbm, ⟨20, _⟩ => ⟨S2x16384x2048, .f32⟩
  | .hbm, ⟨21, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel7.lean ====
abbrev S2x16384x2048 : Shape := ⟨3, ![2, 16384, 2048]⟩
abbrev S2048 : Shape := ⟨1, ![2048]⟩
abbrev S2048x9224 : Shape := ⟨2, ![2048, 9224]⟩
abbrev S128 : Shape := ⟨1, ![128]⟩
abbrev S32768x2048 : Shape := ⟨2, ![32768, 2048]⟩
abbrev S1x2048 : Shape := ⟨2, ![1, 2048]⟩
abbrev S_ : Shape := ⟨0, ![]⟩
abbrev S32768 : Shape := ⟨1, ![32768]⟩
abbrev S32768x1 : Shape := ⟨2, ![32768, 1]⟩
abbrev S2048x1024 : Shape := ⟨2, ![2048, 1024]⟩
abbrev S1x128 : Shape := ⟨2, ![1, 128]⟩
abbrev S2x8x16384x128 : Shape := ⟨4, ![2, 8, 16384, 128]⟩
abbrev S1024x2048 : Shape := ⟨2, ![1024, 2048]⟩
abbrev S1x8x1024x128 : Shape := ⟨4, ![1, 8, 1024, 128]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩
abbrev S1x1x1024x128 : Shape := ⟨4, ![1, 1, 1024, 128]⟩

abbrev nBuf : Space → Nat
  | .hbm => 26
  | .vmem => 6
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x9224, .f32⟩
  | .hbm, ⟨3, _⟩ => ⟨S128, .f32⟩
  | .hbm, ⟨4, _⟩ => ⟨S32768x2048, .f32⟩
  | .hbm, ⟨5, _⟩ => ⟨S1x2048, .f32⟩
  | .hbm, ⟨6, _⟩ => ⟨S32768x2048, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x2048, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S32768x2048, .bf16⟩
  | .hbm, ⟨22, _⟩ => ⟨S2048x1024, .f32⟩
  | .hbm, ⟨23, _⟩ => ⟨S2048x1024, .bf16⟩
  | .hbm, ⟨24, _⟩ => ⟨S1x128, .f32⟩
  | .hbm, ⟨25, _⟩ => ⟨S2x8x16384x128, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1x128, .f32⟩
  | .local _ .vmem, ⟨4, _⟩ => ⟨S1x8x1024x128, .bf16⟩
  | .local _ .vmem, ⟨5, _⟩ => ⟨S1x8x1024x128, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S2x16384x2048 : Shape := ⟨3, ![2, 16384, 2048]⟩
abbrev S2048 : Shape := ⟨1, ![2048]⟩
abbrev S2048x9224 : Shape := ⟨2, ![2048, 9224]⟩
abbrev S128 : Shape := ⟨1, ![128]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x9224 : Shape := ⟨3, ![2, 16384, 9224]⟩
abbrev S2x16384x1024 : Shape := ⟨3, ![2, 16384, 1024]⟩
abbrev S2x16384x8x128 : Shape := ⟨4, ![2, 16384, 8, 128]⟩
abbrev S2x8x16384x128 : Shape := ⟨4, ![2, 8, 16384, 128]⟩
abbrev S2x8x16384 : Shape := ⟨3, ![2, 8, 16384]⟩
abbrev S2x8x16384x1 : Shape := ⟨4, ![2, 8, 16384, 1]⟩
abbrev S1x1x1x128 : Shape := ⟨4, ![1, 1, 1, 128]⟩

abbrev nBuf : Space → Nat
  | .hbm => 44
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x9224, .f32⟩
  | .hbm, ⟨3, _⟩ => ⟨S128, .f32⟩
  | .hbm, ⟨4, _⟩ => ⟨S2x16384x2048, .f32⟩
  | .hbm, ⟨5, _⟩ => ⟨S_, .f32⟩
  | .hbm, ⟨6, _⟩ => ⟨S2x16384, .f32⟩
  | .hbm, ⟨7, _⟩ => ⟨S2x16384x1, .f32⟩
  | .hbm, ⟨8, _⟩ => ⟨S_, .f32⟩
  | .hbm, ⟨9, _⟩ => ⟨S2x16384x1, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S2x16384x1, .f32⟩
  | .hbm, ⟨15, _⟩ => ⟨S2x16384x2048, .f32⟩
  | .hbm, ⟨16, _⟩ => ⟨S2x16384x2048, .f32⟩
  | .hbm, ⟨17, _⟩ => ⟨S1x1x2048, .f32⟩
  | .hbm, ⟨18, _⟩ => ⟨S2x16384x2048, .f32⟩
  | .hbm, ⟨19, _⟩ => ⟨S2x16384x2048, .f32⟩
  | .hbm, ⟨20, _⟩ => ⟨S2x16384x9224, .f32⟩
  | .hbm, ⟨21, _⟩ => ⟨S2x16384x1024, .f32⟩
  | .hbm, ⟨22, _⟩ => ⟨S2x16384x8x128, .f32⟩
  | .hbm, ⟨23, _⟩ => ⟨S2x8x16384x128, .f32⟩
  | .hbm, ⟨24, _⟩ => ⟨S2x8x16384x128, .f32⟩
  | .hbm, ⟨25, _⟩ => ⟨S_, .f32⟩
  | .hbm, ⟨26, _⟩ => ⟨S2x8x16384, .f32⟩
  | .hbm, ⟨27, _⟩ => ⟨S2x8x16384x1, .f32⟩
  | .hbm, ⟨28, _⟩ => ⟨S_, .f32⟩
  | .hbm, ⟨29, _⟩ => ⟨S2x8x16384x1, .f32⟩
  | .hbm, ⟨30, _⟩ => ⟨S2x8x16384x1, .f32⟩
  | .hbm, ⟨31, _⟩ => ⟨S_, .f32⟩
  | .hbm, ⟨32, _⟩ => ⟨S2x8x16384x1, .f32⟩
  | .hbm, ⟨33, _⟩ => ⟨S2x8x16384x1, .f32⟩
  | .hbm, ⟨34, _⟩ => ⟨S2x8x16384x1, .f32⟩
  | .hbm, ⟨35, _⟩ => ⟨S2x8x16384x128, .f32⟩
  | .hbm, ⟨36, _⟩ => ⟨S2x8x16384x128, .f32⟩
  | .hbm, ⟨37, _⟩ => ⟨S1x1x1x128, .f32⟩
  | .hbm, ⟨38, _⟩ => ⟨S2x8x16384x128, .f32⟩
  | .hbm, ⟨39, _⟩ => ⟨S2x8x16384x128, .f32⟩
  | .hbm, ⟨40, _⟩ => ⟨S_, .f32⟩
  | .hbm, ⟨41, _⟩ => ⟨S2x8x16384x128, .f32⟩
  | .hbm, ⟨42, _⟩ => ⟨S2x8x16384x128, .f32⟩
  | .hbm, ⟨43, _⟩ => ⟨S2x8x16384x128, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel8.lean ====
abbrev S2x16384x2048 : Shape := ⟨3, ![2, 16384, 2048]⟩
abbrev S2048 : Shape := ⟨1, ![2048]⟩
abbrev S2048x9224 : Shape := ⟨2, ![2048, 9224]⟩
abbrev S128 : Shape := ⟨1, ![128]⟩
abbrev S4x2x8x16384x128 : Shape := ⟨5, ![4, 2, 8, 16384, 128]⟩
abbrev S32768x2048 : Shape := ⟨2, ![32768, 2048]⟩
abbrev S1x2048 : Shape := ⟨2, ![1, 2048]⟩
abbrev S_ : Shape := ⟨0, ![]⟩
abbrev S32768 : Shape := ⟨1, ![32768]⟩
abbrev S32768x1 : Shape := ⟨2, ![32768, 1]⟩
abbrev S2048x1024 : Shape := ⟨2, ![2048, 1024]⟩
abbrev S1x128 : Shape := ⟨2, ![1, 128]⟩
abbrev S2x8x16384x128 : Shape := ⟨4, ![2, 8, 16384, 128]⟩
abbrev S1024x2048 : Shape := ⟨2, ![1024, 2048]⟩
abbrev S1x1x8x1024x128 : Shape := ⟨5, ![1, 1, 8, 1024, 128]⟩
abbrev S1x8x1024x128 : Shape := ⟨4, ![1, 8, 1024, 128]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩
abbrev S1x1x1x1024x128 : Shape := ⟨5, ![1, 1, 1, 1024, 128]⟩
abbrev S1x1x1024x128 : Shape := ⟨4, ![1, 1, 1024, 128]⟩

abbrev nBuf : Space → Nat
  | .hbm => 28
  | .vmem => 8
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x9224, .f32⟩
  | .hbm, ⟨3, _⟩ => ⟨S128, .f32⟩
  | .hbm, ⟨4, _⟩ => ⟨S4x2x8x16384x128, .f32⟩
  | .hbm, ⟨5, _⟩ => ⟨S32768x2048, .f32⟩
  | .hbm, ⟨6, _⟩ => ⟨S1x2048, .f32⟩
  | .hbm, ⟨7, _⟩ => ⟨S32768x2048, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S32768x2048, .f32⟩
  | .hbm, ⟨22, _⟩ => ⟨S32768x2048, .bf16⟩
  | .hbm, ⟨23, _⟩ => ⟨S2048x1024, .f32⟩
  | .hbm, ⟨24, _⟩ => ⟨S2048x1024, .bf16⟩
  | .hbm, ⟨25, _⟩ => ⟨S1x128, .f32⟩
  | .hbm, ⟨26, _⟩ => ⟨S4x2x8x16384x128, .f32⟩
  | .hbm, ⟨27, _⟩ => ⟨S2x8x16384x128, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1x128, .f32⟩
  | .local _ .vmem, ⟨4, _⟩ => ⟨S1x1x8x1024x128, .f32⟩
  | .local _ .vmem, ⟨5, _⟩ => ⟨S1x1x8x1024x128, .f32⟩
  | .local _ .vmem, ⟨6, _⟩ => ⟨S1x8x1024x128, .bf16⟩
  | .local _ .vmem, ⟨7, _⟩ => ⟨S1x8x1024x128, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let c0_i32_10 : BitVec 32 := 0#32
  let c0_i32_11 : BitVec 32 := 0#32
  let c0_i32_12 : BitVec 32 := 0#32
  ![c3_i32.toNat, v16.toNat, c0_i32_10.toNat, v26.toNat, c0_i32_11.toNat]

def cc0_transform_5 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x8x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel8Ideal.lean ====
abbrev S2x16384x2048 : Shape := ⟨3, ![2, 16384, 2048]⟩
abbrev S2048 : Shape := ⟨1, ![2048]⟩
abbrev S2048x9224 : Shape := ⟨2, ![2048, 9224]⟩
abbrev S128 : Shape := ⟨1, ![128]⟩
abbrev S4x2x8x16384x128 : Shape := ⟨5, ![4, 2, 8, 16384, 128]⟩
abbrev S32768x2048 : Shape := ⟨2, ![32768, 2048]⟩
abbrev S1x2048 : Shape := ⟨2, ![1, 2048]⟩
abbrev S_ : Shape := ⟨0, ![]⟩
abbrev S32768 : Shape := ⟨1, ![32768]⟩
abbrev S32768x1 : Shape := ⟨2, ![32768, 1]⟩
abbrev S2048x1024 : Shape := ⟨2, ![2048, 1024]⟩
abbrev S1x128 : Shape := ⟨2, ![1, 128]⟩
abbrev S2x8x16384x128 : Shape := ⟨4, ![2, 8, 16384, 128]⟩
abbrev S1024x2048 : Shape := ⟨2, ![1024, 2048]⟩
abbrev S1x1x8x1024x128 : Shape := ⟨5, ![1, 1, 8, 1024, 128]⟩
abbrev S1x8x1024x128 : Shape := ⟨4, ![1, 8, 1024, 128]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩
abbrev S1x1x1x1024x128 : Shape := ⟨5, ![1, 1, 1, 1024, 128]⟩
abbrev S1x1x1024x128 : Shape := ⟨4, ![1, 1, 1024, 128]⟩

abbrev nBuf : Space → Nat
  | .hbm => 28
  | .vmem => 8
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x9224, .f32⟩
  | .hbm, ⟨3, _⟩ => ⟨S128, .f32⟩
  | .hbm, ⟨4, _⟩ => ⟨S4x2x8x16384x128, .f32⟩
  | .hbm, ⟨5, _⟩ => ⟨S32768x2048, .f32⟩
  | .hbm, ⟨6, _⟩ => ⟨S1x2048, .f32⟩
  | .hbm, ⟨7, _⟩ => ⟨S32768x2048, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S32768x2048, .f32⟩
  | .hbm, ⟨22, _⟩ => ⟨S32768x2048, .bf16⟩
  | .hbm, ⟨23, _⟩ => ⟨S2048x1024, .f32⟩
  | .hbm, ⟨24, _⟩ => ⟨S2048x1024, .bf16⟩
  | .hbm, ⟨25, _⟩ => ⟨S1x128, .f32⟩
  | .hbm, ⟨26, _⟩ => ⟨S4x2x8x16384x128, .f32⟩
  | .hbm, ⟨27, _⟩ => ⟨S2x8x16384x128, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1x128, .f32⟩
  | .local _ .vmem, ⟨4, _⟩ => ⟨S1x1x8x1024x128, .f32⟩
  | .local _ .vmem, ⟨5, _⟩ => ⟨S1x1x8x1024x128, .f32⟩
  | .local _ .vmem, ⟨6, _⟩ => ⟨S1x8x1024x128, .bf16⟩
  | .local _ .vmem, ⟨7, _⟩ => ⟨S1x8x1024x128, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let c0_i32_10 : BitVec 32 := 0#32
  let c0_i32_11 : BitVec 32 := 0#32
  let c0_i32_12 : BitVec 32 := 0#32
  ![c3_i32.toNat, v16.toNat, c0_i32_10.toNat, v26.toNat, c0_i32_11.toNat]

def cc0_transform_5 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x8x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S2x16384x2048 : Shape := ⟨3, ![2, 16384, 2048]⟩
abbrev S2048 : Shape := ⟨1, ![2048]⟩
abbrev S2048x9224 : Shape := ⟨2, ![2048, 9224]⟩
abbrev S128 : Shape := ⟨1, ![128]⟩
abbrev S4x2x8x16384x128 : Shape := ⟨5, ![4, 2, 8, 16384, 128]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x9224 : Shape := ⟨3, ![2, 16384, 9224]⟩
abbrev S2x16384x1024 : Shape := ⟨3, ![2, 16384, 1024]⟩
abbrev S2x16384x8x128 : Shape := ⟨4, ![2, 16384, 8, 128]⟩
abbrev S2x8x16384x128 : Shape := ⟨4, ![2, 8, 16384, 128]⟩
abbrev S2x8x16384 : Shape := ⟨3, ![2, 8, 16384]⟩
abbrev S2x8x16384x1 : Shape := ⟨4, ![2, 8, 16384, 1]⟩
abbrev S1x1x1x128 : Shape := ⟨4, ![1, 1, 1, 128]⟩
abbrev S3x2x8x16384x128 : Shape := ⟨5, ![3, 2, 8, 16384, 128]⟩
abbrev S1x2x8x16384x128 : Shape := ⟨5, ![1, 2, 8, 16384, 128]⟩

abbrev nBuf : Space → Nat
  | .hbm => 45
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x9224, .f32⟩
  | .hbm, ⟨3, _⟩ => ⟨S128, .f32⟩
  | .hbm, ⟨4, _⟩ => ⟨S4x2x8x16384x128, .f32⟩
  | .hbm, ⟨5, _⟩ => ⟨S2x16384x2048, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x2048, .f32⟩
  | .hbm, ⟨17, _⟩ => ⟨S2x16384x2048, .f32⟩
  | .hbm, ⟨18, _⟩ => ⟨S1x1x2048, .f32⟩
  | .hbm, ⟨19, _⟩ => ⟨S2x16384x2048, .f32⟩
  | .hbm, ⟨20, _⟩ => ⟨S2x16384x2048, .f32⟩
  | .hbm, ⟨21, _⟩ => ⟨S2x16384x9224, .f32⟩
  | .hbm, ⟨22, _⟩ => ⟨S2x16384x1024, .f32⟩
  | .hbm, ⟨23, _⟩ => ⟨S2x16384x8x128, .f32⟩
  | .hbm, ⟨24, _⟩ => ⟨S2x8x16384x128, .f32⟩
  | .hbm, ⟨25, _⟩ => ⟨S2x8x16384x128, .f32⟩
  | .hbm, ⟨26, _⟩ => ⟨S_, .f32⟩
  | .hbm, ⟨27, _⟩ => ⟨S2x8x16384, .f32⟩
  | .hbm, ⟨28, _⟩ => ⟨S2x8x16384x1, .f32⟩
  | .hbm, ⟨29, _⟩ => ⟨S_, .f32⟩
  | .hbm, ⟨30, _⟩ => ⟨S2x8x16384x1, .f32⟩
  | .hbm, ⟨31, _⟩ => ⟨S2x8x16384x1, .f32⟩
  | .hbm, ⟨32, _⟩ => ⟨S_, .f32⟩
  | .hbm, ⟨33, _⟩ => ⟨S2x8x16384x1, .f32⟩
  | .hbm, ⟨34, _⟩ => ⟨S2x8x16384x1, .f32⟩
  | .hbm, ⟨35, _⟩ => ⟨S2x8x16384x1, .f32⟩
  | .hbm, ⟨36, _⟩ => ⟨S2x8x16384x128, .f32⟩
  | .hbm, ⟨37, _⟩ => ⟨S2x8x16384x128, .f32⟩
  | .hbm, ⟨38, _⟩ => ⟨S1x1x1x128, .f32⟩
  | .hbm, ⟨39, _⟩ => ⟨S2x8x16384x128, .f32⟩
  | .hbm, ⟨40, _⟩ => ⟨S2x8x16384x128, .f32⟩
  | .hbm, ⟨41, _⟩ => ⟨S3x2x8x16384x128, .f32⟩
  | .hbm, ⟨42, _⟩ => ⟨S1x2x8x16384x128, .f32⟩
  | .hbm, ⟨43, _⟩ => ⟨S4x2x8x16384x128, .f32⟩
  | .hbm, ⟨44, _⟩ => ⟨S2x8x16384x128, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel9.lean ====
abbrev S2x16384x2048 : Shape := ⟨3, ![2, 16384, 2048]⟩
abbrev S2048 : Shape := ⟨1, ![2048]⟩
abbrev S2048x9224 : Shape := ⟨2, ![2048, 9224]⟩
abbrev S8 : Shape := ⟨1, ![8]⟩
abbrev S4x2x8x16384x128 : Shape := ⟨5, ![4, 2, 8, 16384, 128]⟩
abbrev S32768x2048 : Shape := ⟨2, ![32768, 2048]⟩
abbrev S1x2048 : Shape := ⟨2, ![1, 2048]⟩
abbrev S_ : Shape := ⟨0, ![]⟩
abbrev S32768 : Shape := ⟨1, ![32768]⟩
abbrev S32768x1 : Shape := ⟨2, ![32768, 1]⟩
abbrev S2048x8 : Shape := ⟨2, ![2048, 8]⟩
abbrev S8x2048 : Shape := ⟨2, ![8, 2048]⟩
abbrev S16x2048 : Shape := ⟨2, ![16, 2048]⟩
abbrev S16 : Shape := ⟨1, ![16]⟩
abbrev S16x1 : Shape := ⟨2, ![16, 1]⟩
abbrev S2048x1024 : Shape := ⟨2, ![2048, 1024]⟩
abbrev S2x8x16384x256 : Shape := ⟨4, ![2, 8, 16384, 256]⟩
abbrev S16x32768 : Shape := ⟨2, ![16, 32768]⟩
abbrev S1024x2048 : Shape := ⟨2, ![1024, 2048]⟩
abbrev S1x1x8x1024x128 : Shape := ⟨5, ![1, 1, 8, 1024, 128]⟩
abbrev S1x8x1024x256 : Shape := ⟨4, ![1, 8, 1024, 256]⟩
abbrev S16x1024 : Shape := ⟨2, ![16, 1024]⟩
abbrev S1024x1024 : Shape := ⟨2, ![1024, 1024]⟩
abbrev S1024x128 : Shape := ⟨2, ![1024, 128]⟩
abbrev S1x1x1x1024x128 : Shape := ⟨5, ![1, 1, 1, 1024, 128]⟩
abbrev S1x1x1024x128 : Shape := ⟨4, ![1, 1, 1024, 128]⟩

abbrev nBuf : Space → Nat
  | .hbm => 38
  | .vmem => 11
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x9224, .f32⟩
  | .hbm, ⟨3, _⟩ => ⟨S8, .f32⟩
  | .hbm, ⟨4, _⟩ => ⟨S4x2x8x16384x128, .f32⟩
  | .hbm, ⟨5, _⟩ => ⟨S32768x2048, .f32⟩
  | .hbm, ⟨6, _⟩ => ⟨S1x2048, .f32⟩
  | .hbm, ⟨7, _⟩ => ⟨S32768x2048, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S32768x2048, .f32⟩
  | .hbm, ⟨22, _⟩ => ⟨S32768x2048, .bf16⟩
  | .hbm, ⟨23, _⟩ => ⟨S2048x8, .f32⟩
  | .hbm, ⟨24, _⟩ => ⟨S8x2048, .f32⟩
  | .hbm, ⟨25, _⟩ => ⟨S_, .i32⟩
  | .hbm, ⟨26, _⟩ => ⟨S_, .f32⟩
  | .hbm, ⟨27, _⟩ => ⟨S16x2048, .f32⟩
  | .hbm, ⟨28, _⟩ => ⟨S16x2048, .bf16⟩
  | .hbm, ⟨29, _⟩ => ⟨S_, .i32⟩
  | .hbm, ⟨30, _⟩ => ⟨S_, .f32⟩
  | .hbm, ⟨31, _⟩ => ⟨S16, .f32⟩
  | .hbm, ⟨32, _⟩ => ⟨S16x1, .f32⟩
  | .hbm, ⟨33, _⟩ => ⟨S2048x1024, .f32⟩
  | .hbm, ⟨34, _⟩ => ⟨S2048x1024, .bf16⟩
  | .hbm, ⟨35, _⟩ => ⟨S4x2x8x16384x128, .f32⟩
  | .hbm, ⟨36, _⟩ => ⟨S2x8x16384x256, .bf16⟩
  | .hbm, ⟨37, _⟩ => ⟨S16x32768, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S16x2048, .bf16⟩
  | .local _ .vmem, ⟨4, _⟩ => ⟨S16x1, .f32⟩
  | .local _ .vmem, ⟨5, _⟩ => ⟨S1x1x8x1024x128, .f32⟩
  | .local _ .vmem, ⟨6, _⟩ => ⟨S1x1x8x1024x128, .f32⟩
  | .local _ .vmem, ⟨7, _⟩ => ⟨S1x8x1024x256, .bf16⟩
  | .local _ .vmem, ⟨8, _⟩ => ⟨S1x8x1024x256, .bf16⟩
  | .local _ .vmem, ⟨9, _⟩ => ⟨S16x1024, .f32⟩
  | .local _ .vmem, ⟨10, _⟩ => ⟨S16x1024, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_call0_v0 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_call1_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23_0 : Ref sig .tc := ⟨.hbm, 35, rfl⟩
abbrev main_v23_1 : Ref sig .tc := ⟨.hbm, 36, rfl⟩
abbrev main_v23_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let c0_i32_10 : BitVec 32 := 0#32
  let c0_i32_11 : BitVec 32 := 0#32
  let c0_i32_12 : BitVec 32 := 0#32
  ![c3_i32.toNat, v16.toNat, c0_i32_10.toNat, v26.toNat, c0_i32_11.toNat]

def cc0_transform_6 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x8x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel9Ideal.lean ====
abbrev S2x16384x2048 : Shape := ⟨3, ![2, 16384, 2048]⟩
abbrev S2048 : Shape := ⟨1, ![2048]⟩
abbrev S2048x9224 : Shape := ⟨2, ![2048, 9224]⟩
abbrev S8 : Shape := ⟨1, ![8]⟩
abbrev S4x2x8x16384x128 : Shape := ⟨5, ![4, 2, 8, 16384, 128]⟩
abbrev S32768x2048 : Shape := ⟨2, ![32768, 2048]⟩
abbrev S1x2048 : Shape := ⟨2, ![1, 2048]⟩
abbrev S_ : Shape := ⟨0, ![]⟩
abbrev S32768 : Shape := ⟨1, ![32768]⟩
abbrev S32768x1 : Shape := ⟨2, ![32768, 1]⟩
abbrev S2048x8 : Shape := ⟨2, ![2048, 8]⟩
abbrev S8x2048 : Shape := ⟨2, ![8, 2048]⟩
abbrev S16x2048 : Shape := ⟨2, ![16, 2048]⟩
abbrev S16 : Shape := ⟨1, ![16]⟩
abbrev S16x1 : Shape := ⟨2, ![16, 1]⟩
abbrev S2048x1024 : Shape := ⟨2, ![2048, 1024]⟩
abbrev S2x8x16384x256 : Shape := ⟨4, ![2, 8, 16384, 256]⟩
abbrev S16x32768 : Shape := ⟨2, ![16, 32768]⟩
abbrev S1024x2048 : Shape := ⟨2, ![1024, 2048]⟩
abbrev S1x1x8x1024x128 : Shape := ⟨5, ![1, 1, 8, 1024, 128]⟩
abbrev S1x8x1024x256 : Shape := ⟨4, ![1, 8, 1024, 256]⟩
abbrev S16x1024 : Shape := ⟨2, ![16, 1024]⟩
abbrev S1024x1024 : Shape := ⟨2, ![1024, 1024]⟩
abbrev S1024x128 : Shape := ⟨2, ![1024, 128]⟩
abbrev S1x1x1x1024x128 : Shape := ⟨5, ![1, 1, 1, 1024, 128]⟩
abbrev S1x1x1024x128 : Shape := ⟨4, ![1, 1, 1024, 128]⟩

abbrev nBuf : Space → Nat
  | .hbm => 38
  | .vmem => 11
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x9224, .f32⟩
  | .hbm, ⟨3, _⟩ => ⟨S8, .f32⟩
  | .hbm, ⟨4, _⟩ => ⟨S4x2x8x16384x128, .f32⟩
  | .hbm, ⟨5, _⟩ => ⟨S32768x2048, .f32⟩
  | .hbm, ⟨6, _⟩ => ⟨S1x2048, .f32⟩
  | .hbm, ⟨7, _⟩ => ⟨S32768x2048, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S32768x2048, .f32⟩
  | .hbm, ⟨22, _⟩ => ⟨S32768x2048, .bf16⟩
  | .hbm, ⟨23, _⟩ => ⟨S2048x8, .f32⟩
  | .hbm, ⟨24, _⟩ => ⟨S8x2048, .f32⟩
  | .hbm, ⟨25, _⟩ => ⟨S_, .i32⟩
  | .hbm, ⟨26, _⟩ => ⟨S_, .f32⟩
  | .hbm, ⟨27, _⟩ => ⟨S16x2048, .f32⟩
  | .hbm, ⟨28, _⟩ => ⟨S16x2048, .bf16⟩
  | .hbm, ⟨29, _⟩ => ⟨S_, .i32⟩
  | .hbm, ⟨30, _⟩ => ⟨S_, .f32⟩
  | .hbm, ⟨31, _⟩ => ⟨S16, .f32⟩
  | .hbm, ⟨32, _⟩ => ⟨S16x1, .f32⟩
  | .hbm, ⟨33, _⟩ => ⟨S2048x1024, .f32⟩
  | .hbm, ⟨34, _⟩ => ⟨S2048x1024, .bf16⟩
  | .hbm, ⟨35, _⟩ => ⟨S4x2x8x16384x128, .f32⟩
  | .hbm, ⟨36, _⟩ => ⟨S2x8x16384x256, .bf16⟩
  | .hbm, ⟨37, _⟩ => ⟨S16x32768, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S16x2048, .bf16⟩
  | .local _ .vmem, ⟨4, _⟩ => ⟨S16x1, .f32⟩
  | .local _ .vmem, ⟨5, _⟩ => ⟨S1x1x8x1024x128, .f32⟩
  | .local _ .vmem, ⟨6, _⟩ => ⟨S1x1x8x1024x128, .f32⟩
  | .local _ .vmem, ⟨7, _⟩ => ⟨S1x8x1024x256, .bf16⟩
  | .local _ .vmem, ⟨8, _⟩ => ⟨S1x8x1024x256, .bf16⟩
  | .local _ .vmem, ⟨9, _⟩ => ⟨S16x1024, .f32⟩
  | .local _ .vmem, ⟨10, _⟩ => ⟨S16x1024, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_call0_v0 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_call1_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23_0 : Ref sig .tc := ⟨.hbm, 35, rfl⟩
abbrev main_v23_1 : Ref sig .tc := ⟨.hbm, 36, rfl⟩
abbrev main_v23_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let c0_i32_10 : BitVec 32 := 0#32
  let c0_i32_11 : BitVec 32 := 0#32
  let c0_i32_12 : BitVec 32 := 0#32
  ![c3_i32.toNat, v16.toNat, c0_i32_10.toNat, v26.toNat, c0_i32_11.toNat]

def cc0_transform_6 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x8x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S2x16384x2048 : Shape := ⟨3, ![2, 16384, 2048]⟩
abbrev S2048 : Shape := ⟨1, ![2048]⟩
abbrev S2048x9224 : Shape := ⟨2, ![2048, 9224]⟩
abbrev S8 : Shape := ⟨1, ![8]⟩
abbrev S4x2x8x16384x128 : Shape := ⟨5, ![4, 2, 8, 16384, 128]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x9224 : Shape := ⟨3, ![2, 16384, 9224]⟩
abbrev S2x16384x1024 : Shape := ⟨3, ![2, 16384, 1024]⟩
abbrev S2x16384x8x128 : Shape := ⟨4, ![2, 16384, 8, 128]⟩
abbrev S2x8x16384x128 : Shape := ⟨4, ![2, 8, 16384, 128]⟩
abbrev S2x16384x8 : Shape := ⟨3, ![2, 16384, 8]⟩
abbrev S1x1x8 : Shape := ⟨3, ![1, 1, 8]⟩
abbrev S8x2x16384 : Shape := ⟨3, ![8, 2, 16384]⟩
abbrev S8x32768 : Shape := ⟨2, ![8, 32768]⟩
abbrev S3x2x8x16384x128 : Shape := ⟨5, ![3, 2, 8, 16384, 128]⟩
abbrev S1x2x8x16384x128 : Shape := ⟨5, ![1, 2, 8, 16384, 128]⟩
abbrev S16x32768 : Shape := ⟨2, ![16, 32768]⟩

abbrev nBuf : Space → Nat
  | .hbm => 53
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x9224, .f32⟩
  | .hbm, ⟨3, _⟩ => ⟨S8, .f32⟩
  | .hbm, ⟨4, _⟩ => ⟨S4x2x8x16384x128, .f32⟩
  | .hbm, ⟨5, _⟩ => ⟨S2x16384x2048, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x2048, .f32⟩
  | .hbm, ⟨17, _⟩ => ⟨S2x16384x2048, .f32⟩
  | .hbm, ⟨18, _⟩ => ⟨S1x1x2048, .f32⟩
  | .hbm, ⟨19, _⟩ => ⟨S2x16384x2048, .f32⟩
  | .hbm, ⟨20, _⟩ => ⟨S2x16384x2048, .f32⟩
  | .hbm, ⟨21, _⟩ => ⟨S2x16384x9224, .f32⟩
  | .hbm, ⟨22, _⟩ => ⟨S2x16384x1024, .f32⟩
  | .hbm, ⟨23, _⟩ => ⟨S2x16384x8x128, .f32⟩
  | .hbm, ⟨24, _⟩ => ⟨S2x8x16384x128, .f32⟩
  | .hbm, ⟨25, _⟩ => ⟨S2x16384x8, .f32⟩
  | .hbm, ⟨26, _⟩ => ⟨S1x1x8, .f32⟩
  | .hbm, ⟨27, _⟩ => ⟨S2x16384x8, .f32⟩
  | .hbm, ⟨28, _⟩ => ⟨S2x16384x8, .f32⟩
  | .hbm, ⟨29, _⟩ => ⟨S8x2x16384, .f32⟩
  | .hbm, ⟨30, _⟩ => ⟨S8x32768, .f32⟩
  | .hbm, ⟨31, _⟩ => ⟨S3x2x8x16384x128, .f32⟩
  | .hbm, ⟨32, _⟩ => ⟨S1x2x8x16384x128, .f32⟩
  | .hbm, ⟨33, _⟩ => ⟨S4x2x8x16384x128, .f32⟩
  | .hbm, ⟨34, _⟩ => ⟨S_, .i32⟩
  | .hbm, ⟨35, _⟩ => ⟨S_, .f32⟩
  | .hbm, ⟨36, _⟩ => ⟨S16x32768, .f32⟩
  | .hbm, ⟨37, _⟩ => ⟨S16x32768, .f32⟩
  | .hbm, ⟨38, _⟩ => ⟨S_, .f32⟩
  | .hbm, ⟨39, _⟩ => ⟨S16x32768, .f32⟩
  | .hbm, ⟨40, _⟩ => ⟨S16x32768, .f32⟩
  | .hbm, ⟨41, _⟩ => ⟨S16x32768, .f32⟩
  | .hbm, ⟨42, _⟩ => ⟨S16x32768, .f32⟩
  | .hbm, ⟨43, _⟩ => ⟨S16x32768, .i1⟩
  | .hbm, ⟨44, _⟩ => ⟨S16x32768, .f32⟩
  | .hbm, ⟨45, _⟩ => ⟨S16x32768, .f32⟩
  | .hbm, ⟨46, _⟩ => ⟨S16x32768, .f32⟩
  | .hbm, ⟨47, _⟩ => ⟨S16x32768, .f32⟩
  | .hbm, ⟨48, _⟩ => ⟨S16x32768, .f32⟩
  | .hbm, ⟨49, _⟩ => ⟨S16x32768, .f32⟩
  | .hbm, ⟨50, _⟩ => ⟨S16x32768, .f32⟩
  | .hbm, ⟨51, _⟩ => ⟨S16x32768, .f32⟩
  | .hbm, ⟨52, _⟩ => ⟨S16x32768, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c : Ref sig .tc := ⟨.hbm, 34, rfl⟩
abbrev main_call0_v0 : Ref sig .tc := ⟨.hbm, 35, rfl⟩
abbrev main_v26 : Ref sig .tc := ⟨.hbm, 36, rfl⟩
abbrev main_call1_v0 : Ref sig .tc := ⟨.hbm, 37, rfl⟩
abbrev main_call1_call0_cst : Ref sig .tc := ⟨.hbm, 38, rfl⟩
abbrev main_call1_call0_v0 : Ref sig .tc := ⟨.hbm, 39, rfl⟩
abbrev main_call1_call0_v1 : Ref sig .tc := ⟨.hbm, 40, rfl⟩
abbrev main_call1_call0_v2 : Ref sig .tc := ⟨.hbm, 41, rfl⟩
abbrev main_call1_call0_v3 : Ref sig .tc := ⟨.hbm, 42, rfl⟩
abbrev main_call1_call0_v4 : Ref sig .tc := ⟨.hbm, 43, rfl⟩
abbrev main_call1_call0_v5 : Ref sig .tc := ⟨.hbm, 44, rfl⟩
abbrev main_call1_call0_v6 : Ref sig .tc := ⟨.hbm, 45, rfl⟩
abbrev main_call1_call0_v7 : Ref sig .tc := ⟨.hbm, 46, rfl⟩
abbrev main_call1_call0_v8 : Ref sig .tc := ⟨.hbm, 47, rfl⟩
abbrev main_call1_call0_v9 : Ref sig .tc := ⟨.hbm, 48, rfl⟩
abbrev main_call1_call0_v10 : Ref sig .tc := ⟨.hbm, 49, rfl⟩
abbrev main_call1_call0_v11 : Ref sig .tc := ⟨.hbm, 50, rfl⟩
abbrev main_call1_v1 : Ref sig .tc := ⟨.hbm, 51, rfl⟩
abbrev main_v27 : Ref sig .tc := ⟨.hbm, 52, rfl⟩

abbrev nD : Nat := 1
abbrev τ : Topo := Topo.v7x

variable {F : FTy → Type} [FloatOps F]
-- ==== Kernel10.lean ====
abbrev S32x16x2048 : Shape := ⟨3, ![32, 16, 2048]⟩
abbrev S4x32x16x256 : Shape := ⟨4, ![4, 32, 16, 256]⟩
abbrev S2048 : Shape := ⟨1, ![2048]⟩
abbrev S2048x2048 : Shape := ⟨2, ![2048, 2048]⟩
abbrev S256x2048 : Shape := ⟨2, ![256, 2048]⟩
abbrev S512x2048 : Shape := ⟨2, ![512, 2048]⟩
abbrev S1x2048 : Shape := ⟨2, ![1, 2048]⟩
abbrev S_ : Shape := ⟨0, ![]⟩
abbrev S512 : Shape := ⟨1, ![512]⟩
abbrev S512x1 : Shape := ⟨2, ![512, 1]⟩
abbrev S4x512x256 : Shape := ⟨3, ![4, 512, 256]⟩
abbrev S1x512x256 : Shape := ⟨3, ![1, 512, 256]⟩
abbrev S512x256 : Shape := ⟨2, ![512, 256]⟩

abbrev nBuf : Space → Nat
  | .hbm => 30
  | .vmem => 8
  | .smem => 0
  | _ => 0

abbrev bufTy : (tb : Table) → Fin (tcTables nBuf tb) → BufTy
  | .hbm, ⟨0, _⟩ => ⟨S32x16x2048, .f32⟩
  | .hbm, ⟨1, _⟩ => ⟨S4x32x16x256, .f32⟩
  | .hbm, ⟨2, _⟩ => ⟨S2048, .f32⟩
  | .hbm, ⟨3, _⟩ => ⟨S2048, .f32⟩
  | .hbm, ⟨4, _⟩ => ⟨S2048x2048, .f32⟩
  | .hbm, ⟨5, _⟩ => ⟨S256x2048, .f32⟩
  | .hbm, ⟨6, _⟩ => ⟨S512x2048, .f32⟩
  | .hbm, ⟨7, _⟩ => ⟨S1x2048, .f32⟩
  | .hbm, ⟨8, _⟩ => ⟨S512x2048, .f32⟩
  | .hbm, ⟨9, _⟩ => ⟨S_, .f32⟩
  | .hbm, ⟨10, _⟩ => ⟨S512, .f32⟩
  | .hbm, ⟨11, _⟩ => ⟨S512x1, .f32⟩
  | .hbm, ⟨12, _⟩ => ⟨S_, .f32⟩
  | .hbm, ⟨13, _⟩ => ⟨S512x1, .f32⟩
  | .hbm, ⟨14, _⟩ => ⟨S512x1, .f32⟩
  | .hbm, ⟨15, _⟩ => ⟨S_, .f32⟩
  | .hbm, ⟨16, _⟩ => ⟨S512x1, .f32⟩
  | .hbm, ⟨17, _⟩ => ⟨S512x1, .f32⟩
  | .hbm, ⟨18, _⟩ => ⟨S512x1, .f32⟩
  | .hbm, ⟨19, _⟩ => ⟨S512x2048, .f32⟩
  | .hbm, ⟨20, _⟩ => ⟨S512x2048, .f32⟩
  | .hbm, ⟨21, _⟩ => ⟨S512x2048, .f32⟩
  | .hbm, ⟨22, _⟩ => ⟨S512x2048, .f32⟩
  | .hbm, ⟨23, _⟩ => ⟨S512x2048, .bf16⟩
  | .hbm, ⟨24, _⟩ => ⟨S4x512x256, .f32⟩
  | .hbm, ⟨25, _⟩ => ⟨S2048x2048, .bf16⟩
  | .hbm, ⟨26, _⟩ => ⟨S256x2048, .bf16⟩
  | .hbm, ⟨27, _⟩ => ⟨S1x2048, .f32⟩
  | .hbm, ⟨28, _⟩ => ⟨S512x2048, .f32⟩
  | .hbm, ⟨29, _⟩ => ⟨S512x2048, .bf16⟩
  | .local _ .vmem, ⟨0, _⟩ => ⟨S512x2048, .bf16⟩
  | .local _ .vmem, ⟨1, _⟩ => ⟨S512x2048, .f32⟩
  | .local _ .vmem, ⟨2, _⟩ => ⟨S1x512x256, .f32⟩
  | .local _ .vmem, ⟨3, _⟩ => ⟨S2048x2048, .bf16⟩
  | .local _ .vmem, ⟨4, _⟩ => ⟨S256x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .bf16⟩
  | _, _ => ⟨S32x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference10Ideal.lean ====
abbrev S32x16x2048 : Shape := ⟨3, ![32, 16, 2048]⟩
abbrev S4x32x16x256 : Shape := ⟨4, ![4, 32, 16, 256]⟩
abbrev S2048 : Shape := ⟨1, ![2048]⟩
abbrev S2048x2048 : Shape := ⟨2, ![2048, 2048]⟩
abbrev S256x2048 : Shape := ⟨2, ![256, 2048]⟩
abbrev S_ : Shape := ⟨0, ![]⟩
abbrev S32x16 : Shape := ⟨2, ![32, 16]⟩
abbrev S32x16x1 : Shape := ⟨3, ![32, 16, 1]⟩
abbrev S1x1x2048 : Shape := ⟨3, ![1, 1, 2048]⟩
abbrev S1x32x16x256 : Shape := ⟨4, ![1, 32, 16, 256]⟩
abbrev S32x16x256 : Shape := ⟨3, ![32, 16, 256]⟩
abbrev S512x2048 : Shape := ⟨2, ![512, 2048]⟩

abbrev nBuf : Space → Nat
  | .hbm => 55
  | .vmem => 0
  | .smem => 0
  | _ => 0

abbrev bufTy : (tb : Table) → Fin (tcTables nBuf tb) → BufTy
  | .hbm, ⟨0, _⟩ => ⟨S32x16x2048, .f32⟩
  | .hbm, ⟨1, _⟩ => ⟨S4x32x16x256, .f32⟩
  | .hbm, ⟨2, _⟩ => ⟨S2048, .f32⟩
  | .hbm, ⟨3, _⟩ => ⟨S2048, .f32⟩
  | .hbm, ⟨4, _⟩ => ⟨S2048x2048, .f32⟩
  | .hbm, ⟨5, _⟩ => ⟨S256x2048, .f32⟩
  | .hbm, ⟨6, _⟩ => ⟨S32x16x2048, .f32⟩
  | .hbm, ⟨7, _⟩ => ⟨S_, .f32⟩
  | .hbm, ⟨8, _⟩ => ⟨S32x16, .f32⟩
  | .hbm, ⟨9, _⟩ => ⟨S32x16x1, .f32⟩
  | .hbm, ⟨10, _⟩ => ⟨S_, .f32⟩
  | .hbm, ⟨11, _⟩ => ⟨S32x16x1, .f32⟩
  | .hbm, ⟨12, _⟩ => ⟨S32x16x1, .f32⟩
  | .hbm, ⟨13, _⟩ => ⟨S_, .f32⟩
  | .hbm, ⟨14, _⟩ => ⟨S32x16x1, .f32⟩
  | .hbm, ⟨15, _⟩ => ⟨S32x16x1, .f32⟩
  | .hbm, ⟨16, _⟩ => ⟨S32x16x1, .f32⟩
  | .hbm, ⟨17, _⟩ => ⟨S32x16x2048, .f32⟩
  | .hbm, ⟨18, _⟩ => ⟨S32x16x2048, .f32⟩
  | .hbm, ⟨19, _⟩ => ⟨S1x1x2048, .f32⟩
  | .hbm, ⟨20, _⟩ => ⟨S32x16x2048, .f32⟩
  | .hbm, ⟨21, _⟩ => ⟨S32x16x2048, .f32⟩
  | .hbm, ⟨22, _⟩ => ⟨S32x16x2048, .f32⟩
  | .hbm, ⟨23, _⟩ => ⟨S32x16x2048, .f32⟩
  | .hbm, ⟨24, _⟩ => ⟨S32x16x2048, .f32⟩
  | .hbm, ⟨25, _⟩ => ⟨S_, .f32⟩
  | .hbm, ⟨26, _⟩ => ⟨S32x16x2048, .f32⟩
  | .hbm, ⟨27, _⟩ => ⟨S32x16x2048, .f32⟩
  | .hbm, ⟨28, _⟩ => ⟨S_, .f32⟩
  | .hbm, ⟨29, _⟩ => ⟨S32x16x2048, .f32⟩
  | .hbm, ⟨30, _⟩ => ⟨S32x16x2048, .f32⟩
  | .hbm, ⟨31, _⟩ => ⟨S1x32x16x256, .f32⟩
  | .hbm, ⟨32, _⟩ => ⟨S32x16x256, .f32⟩
  | .hbm, ⟨33, _⟩ => ⟨S32x16x2048, .f32⟩
  | .hbm, ⟨34, _⟩ => ⟨S32x16x2048, .f32⟩
  | .hbm, ⟨35, _⟩ => ⟨S32x16x2048, .f32⟩
  | .hbm, ⟨36, _⟩ => ⟨S512x2048, .f32⟩
  | .hbm, ⟨37, _⟩ => ⟨S32x16x2048, .f32⟩
  | .hbm, ⟨38, _⟩ => ⟨S_, .f32⟩
  | .hbm, ⟨39, _⟩ => ⟨S32x16, .f32⟩
  | .hbm, ⟨40, _⟩ => ⟨S32x16x1, .f32⟩
  | .hbm, ⟨41, _⟩ => ⟨S_, .f32⟩
  | .hbm, ⟨42, _⟩ => ⟨S32x16x1, .f32⟩
  | .hbm, ⟨43, _⟩ => ⟨S32x16x1, .f32⟩
  | .hbm, ⟨44, _⟩ => ⟨S_, .f32⟩
  | .hbm, ⟨45, _⟩ => ⟨S32x16x1, .f32⟩
  | .hbm, ⟨46, _⟩ => ⟨S32x16x1, .f32⟩
  | .hbm, ⟨47, _⟩ => ⟨S32x16x1, .f32⟩
  | .hbm, ⟨48, _⟩ => ⟨S32x16x2048, .f32⟩
  | .hbm, ⟨49, _⟩ => ⟨S32x16x2048, .f32⟩
  | .hbm, ⟨50, _⟩ => ⟨S1x1x2048, .f32⟩
  | .hbm, ⟨51, _⟩ => ⟨S32x16x2048, .f32⟩
  | .hbm, ⟨52, _⟩ => ⟨S32x16x2048, .f32⟩
  | .hbm, ⟨53, _⟩ => ⟨S512x2048, .f32⟩
  | .hbm, ⟨54, _⟩ => ⟨S512x2048, .bf16⟩
  | _, _ => ⟨S32x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel11.lean ====
abbrev S32x16x2048 : Shape := ⟨3, ![32, 16, 2048]⟩
abbrev S2048 : Shape := ⟨1, ![2048]⟩
abbrev S2048x9224 : Shape := ⟨2, ![2048, 9224]⟩
abbrev S128 : Shape := ⟨1, ![128]⟩
abbrev S4x32x8x16x128 : Shape := ⟨5, ![4, 32, 8, 16, 128]⟩
abbrev S512x2048 : Shape := ⟨2, ![512, 2048]⟩
abbrev S1x2048 : Shape := ⟨2, ![1, 2048]⟩
abbrev S_ : Shape := ⟨0, ![]⟩
abbrev S512 : Shape := ⟨1, ![512]⟩
abbrev S512x1 : Shape := ⟨2, ![512, 1]⟩
abbrev S2048x1024 : Shape := ⟨2, ![2048, 1024]⟩
abbrev S1x128 : Shape := ⟨2, ![1, 128]⟩
abbrev S32x8x16x128 : Shape := ⟨4, ![32, 8, 16, 128]⟩
abbrev S1x32x8x16x128 : Shape := ⟨5, ![1, 32, 8, 16, 128]⟩
abbrev S512x1024 : Shape := ⟨2, ![512, 1024]⟩
abbrev S512x128 : Shape := ⟨2, ![512, 128]⟩
abbrev S16x128 : Shape := ⟨2, ![16, 128]⟩
abbrev S1x1x1x16x128 : Shape := ⟨5, ![1, 1, 1, 16, 128]⟩
abbrev S1x1x16x128 : Shape := ⟨4, ![1, 1, 16, 128]⟩

abbrev nBuf : Space → Nat
  | .hbm => 28
  | .vmem => 5
  | .smem => 0
  | _ => 0

abbrev bufTy : (tb : Table) → Fin (tcTables nBuf tb) → BufTy
  | .hbm, ⟨0, _⟩ => ⟨S32x16x2048, .f32⟩
  | .hbm, ⟨1, _⟩ => ⟨S2048, .f32⟩
  | .hbm, ⟨2, _⟩ => ⟨S2048x9224, .f32⟩
  | .hbm, ⟨3, _⟩ => ⟨S128, .f32⟩
  | .hbm, ⟨4, _⟩ => ⟨S4x32x8x16x128, .f32⟩
  | .hbm, ⟨5, _⟩ => ⟨S512x2048, .f32⟩
  | .hbm, ⟨6, _⟩ => ⟨S1x2048, .f32⟩
  | .hbm, ⟨7, _⟩ => ⟨S512x2048, .f32⟩
  | .hbm, ⟨8, _⟩ => ⟨S_, .f32⟩
  | .hbm, ⟨9, _⟩ => ⟨S512, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S_, .f32⟩
  | .hbm, ⟨15, _⟩ => ⟨S512x1, .f32⟩
  | .hbm, ⟨16, _⟩ => ⟨S512x1, .f32⟩
  | .hbm, ⟨17, _⟩ => ⟨S512x1, .f32⟩
  | .hbm, ⟨18, _⟩ => ⟨S512x2048, .f32⟩
  | .hbm, ⟨19, _⟩ => ⟨S512x2048, .f32⟩
  | .hbm, ⟨20, _⟩ => ⟨S512x2048, .f32⟩
  | .hbm, ⟨21, _⟩ => ⟨S512x2048, .f32⟩
  | .hbm, ⟨22, _⟩ => ⟨S512x2048, .bf16⟩
  | .hbm, ⟨23, _⟩ => ⟨S2048x1024, .f32⟩
  | .hbm, ⟨24, _⟩ => ⟨S2048x1024, .bf16⟩
  | .hbm, ⟨25, _⟩ => ⟨S1x128, .f32⟩
  | .hbm, ⟨26, _⟩ => ⟨S4x32x8x16x128, .f32⟩
  | .hbm, ⟨27, _⟩ => ⟨S32x8x16x128, .bf16⟩
  | .local _ .vmem, ⟨0, _⟩ => ⟨S512x2048, .bf16⟩
  | .local _ .vmem, ⟨1, _⟩ => ⟨S2048x1024, .bf16⟩
  | .local _ .vmem, ⟨2, _⟩ => ⟨S1x128, .f32⟩
  | .local _ .vmem, ⟨3, _⟩ => ⟨S1x32x8x16x128, .f32⟩
  | .local _ .vmem, ⟨4, _⟩ => ⟨S32x8x16x128, .bf16⟩
  | _, _ => ⟨S32x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 5 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let c0_i32_11 : BitVec 32 := 0#32
  let c0_i32_12 : BitVec 32 := 0#32
  let c0_i32_13 : BitVec 32 := 0#32
  ![c3_i32.toNat, v16.toNat, c0_i32_11.toNat, v26.toNat, c0_i32_12.toNat]

def cc0_transform_5 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, v26.toNat, c0_i32_12.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32x8x16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x8x16x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference11Ideal.lean ====
abbrev S32x16x2048 : Shape := ⟨3, ![32, 16, 2048]⟩
abbrev S2048 : Shape := ⟨1, ![2048]⟩
abbrev S2048x9224 : Shape := ⟨2, ![2048, 9224]⟩
abbrev S128 : Shape := ⟨1, ![128]⟩
abbrev S4x32x8x16x128 : Shape := ⟨5, ![4, 32, 8, 16, 128]⟩
abbrev S_ : Shape := ⟨0, ![]⟩
abbrev S32x16 : Shape := ⟨2, ![32, 16]⟩
abbrev S32x16x1 : Shape := ⟨3, ![32, 16, 1]⟩
abbrev S1x1x2048 : Shape := ⟨3, ![1, 1, 2048]⟩
abbrev S32x16x9224 : Shape := ⟨3, ![32, 16, 9224]⟩
abbrev S32x16x1024 : Shape := ⟨3, ![32, 16, 1024]⟩
abbrev S32x16x8x128 : Shape := ⟨4, ![32, 16, 8, 128]⟩
abbrev S32x8x16x128 : Shape := ⟨4, ![32, 8, 16, 128]⟩
abbrev S32x8x16 : Shape := ⟨3, ![32, 8, 16]⟩
abbrev S32x8x16x1 : Shape := ⟨4, ![32, 8, 16, 1]⟩
abbrev S1x1x1x128 : Shape := ⟨4, ![1, 1, 1, 128]⟩
abbrev S3x32x8x16x128 : Shape := ⟨5, ![3, 32, 8, 16, 128]⟩
abbrev S1x32x8x16x128 : Shape := ⟨5, ![1, 32, 8, 16, 128]⟩

abbrev nBuf : Space → Nat
  | .hbm => 45
  | .vmem => 0
  | .smem => 0
  | _ => 0

abbrev bufTy : (tb : Table) → Fin (tcTables nBuf tb) → BufTy
  | .hbm, ⟨0, _⟩ => ⟨S32x16x2048, .f32⟩
  | .hbm, ⟨1, _⟩ => ⟨S2048, .f32⟩
  | .hbm, ⟨2, _⟩ => ⟨S2048x9224, .f32⟩
  | .hbm, ⟨3, _⟩ => ⟨S128, .f32⟩
  | .hbm, ⟨4, _⟩ => ⟨S4x32x8x16x128, .f32⟩
  | .hbm, ⟨5, _⟩ => ⟨S32x16x2048, .f32⟩
  | .hbm, ⟨6, _⟩ => ⟨S_, .f32⟩
  | .hbm, ⟨7, _⟩ => ⟨S32x16, .f32⟩
  | .hbm, ⟨8, _⟩ => ⟨S32x16x1, .f32⟩
  | .hbm, ⟨9, _⟩ => ⟨S_, .f32⟩
  | .hbm, ⟨10, _⟩ => ⟨S32x16x1, .f32⟩
  | .hbm, ⟨11, _⟩ => ⟨S32x16x1, .f32⟩
  | .hbm, ⟨12, _⟩ => ⟨S_, .f32⟩
  | .hbm, ⟨13, _⟩ => ⟨S32x16x1, .f32⟩
  | .hbm, ⟨14, _⟩ => ⟨S32x16x1, .f32⟩
  | .hbm, ⟨15, _⟩ => ⟨S32x16x1, .f32⟩
  | .hbm, ⟨16, _⟩ => ⟨S32x16x2048, .f32⟩
  | .hbm, ⟨17, _⟩ => ⟨S32x16x2048, .f32⟩
  | .hbm, ⟨18, _⟩ => ⟨S1x1x2048, .f32⟩
  | .hbm, ⟨19, _⟩ => ⟨S32x16x2048, .f32⟩
  | .hbm, ⟨20, _⟩ => ⟨S32x16x2048, .f32⟩
  | .hbm, ⟨21, _⟩ => ⟨S32x16x9224, .f32⟩
  | .hbm, ⟨22, _⟩ => ⟨S32x16x1024, .f32⟩
  | .hbm, ⟨23, _⟩ => ⟨S32x16x8x128, .f32⟩
  | .hbm, ⟨24, _⟩ => ⟨S32x8x16x128, .f32⟩
  | .hbm, ⟨25, _⟩ => ⟨S32x8x16x128, .f32⟩
  | .hbm, ⟨26, _⟩ => ⟨S_, .f32⟩
  | .hbm, ⟨27, _⟩ => ⟨S32x8x16, .f32⟩
  | .hbm, ⟨28, _⟩ => ⟨S32x8x16x1, .f32⟩
  | .hbm, ⟨29, _⟩ => ⟨S_, .f32⟩
  | .hbm, ⟨30, _⟩ => ⟨S32x8x16x1, .f32⟩
  | .hbm, ⟨31, _⟩ => ⟨S32x8x16x1, .f32⟩
  | .hbm, ⟨32, _⟩ => ⟨S_, .f32⟩
  | .hbm, ⟨33, _⟩ => ⟨S32x8x16x1, .f32⟩
  | .hbm, ⟨34, _⟩ => ⟨S32x8x16x1, .f32⟩
  | .hbm, ⟨35, _⟩ => ⟨S32x8x16x1, .f32⟩
  | .hbm, ⟨36, _⟩ => ⟨S32x8x16x128, .f32⟩
  | .hbm, ⟨37, _⟩ => ⟨S32x8x16x128, .f32⟩
  | .hbm, ⟨38, _⟩ => ⟨S1x1x1x128, .f32⟩
  | .hbm, ⟨39, _⟩ => ⟨S32x8x16x128, .f32⟩
  | .hbm, ⟨40, _⟩ => ⟨S32x8x16x128, .f32⟩
  | .hbm, ⟨41, _⟩ => ⟨S3x32x8x16x128, .f32⟩
  | .hbm, ⟨42, _⟩ => ⟨S1x32x8x16x128, .f32⟩
  | .hbm, ⟨43, _⟩ => ⟨S4x32x8x16x128, .f32⟩
  | .hbm, ⟨44, _⟩ => ⟨S32x8x16x128, .bf16⟩
  | _, _ => ⟨S32x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel12.lean ====
abbrev S32x16x2048 : Shape := ⟨3, ![32, 16, 2048]⟩
abbrev S2048 : Shape := ⟨1, ![2048]⟩
abbrev S2048x9224 : Shape := ⟨2, ![2048, 9224]⟩
abbrev S8 : Shape := ⟨1, ![8]⟩
abbrev S4x32x8x16x128 : Shape := ⟨5, ![4, 32, 8, 16, 128]⟩
abbrev S512x2048 : Shape := ⟨2, ![512, 2048]⟩
abbrev S1x2048 : Shape := ⟨2, ![1, 2048]⟩
abbrev S_ : Shape := ⟨0, ![]⟩
abbrev S512 : Shape := ⟨1, ![512]⟩
abbrev S512x1 : Shape := ⟨2, ![512, 1]⟩
abbrev S2048x8 : Shape := ⟨2, ![2048, 8]⟩
abbrev S8x2048 : Shape := ⟨2, ![8, 2048]⟩
abbrev S16x2048 : Shape := ⟨2, ![16, 2048]⟩
abbrev S16 : Shape := ⟨1, ![16]⟩
abbrev S16x1 : Shape := ⟨2, ![16, 1]⟩
abbrev S2048x1024 : Shape := ⟨2, ![2048, 1024]⟩
abbrev S32x8x16x256 : Shape := ⟨4, ![32, 8, 16, 256]⟩
abbrev S16x512 : Shape := ⟨2, ![16, 512]⟩
abbrev S1x32x8x16x128 : Shape := ⟨5, ![1, 32, 8, 16, 128]⟩
abbrev S512x1024 : Shape := ⟨2, ![512, 1024]⟩
abbrev S16x128 : Shape := ⟨2, ![16, 128]⟩
abbrev S512x128 : Shape := ⟨2, ![512, 128]⟩
abbrev S1x1x1x16x128 : Shape := ⟨5, ![1, 1, 1, 16, 128]⟩
abbrev S1x1x16x128 : Shape := ⟨4, ![1, 1, 16, 128]⟩

abbrev nBuf : Space → Nat
  | .hbm => 38
  | .vmem => 7
  | .smem => 0
  | _ => 0

abbrev bufTy : (tb : Table) → Fin (tcTables nBuf tb) → BufTy
  | .hbm, ⟨0, _⟩ => ⟨S32x16x2048, .f32⟩
  | .hbm, ⟨1, _⟩ => ⟨S2048, .f32⟩
  | .hbm, ⟨2, _⟩ => ⟨S2048x9224, .f32⟩
  | .hbm, ⟨3, _⟩ => ⟨S8, .f32⟩
  | .hbm, ⟨4, _⟩ => ⟨S4x32x8x16x128, .f32⟩
  | .hbm, ⟨5, _⟩ => ⟨S512x2048, .f32⟩
  | .hbm, ⟨6, _⟩ => ⟨S1x2048, .f32⟩
  | .hbm, ⟨7, _⟩ => ⟨S512x2048, .f32⟩
  | .hbm, ⟨8, _⟩ => ⟨S_, .f32⟩
  | .hbm, ⟨9, _⟩ => ⟨S512, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S_, .f32⟩
  | .hbm, ⟨15, _⟩ => ⟨S512x1, .f32⟩
  | .hbm, ⟨16, _⟩ => ⟨S512x1, .f32⟩
  | .hbm, ⟨17, _⟩ => ⟨S512x1, .f32⟩
  | .hbm, ⟨18, _⟩ => ⟨S512x2048, .f32⟩
  | .hbm, ⟨19, _⟩ => ⟨S512x2048, .f32⟩
  | .hbm, ⟨20, _⟩ => ⟨S512x2048, .f32⟩
  | .hbm, ⟨21, _⟩ => ⟨S512x2048, .f32⟩
  | .hbm, ⟨22, _⟩ => ⟨S512x2048, .bf16⟩
  | .hbm, ⟨23, _⟩ => ⟨S2048x8, .f32⟩
  | .hbm, ⟨24, _⟩ => ⟨S8x2048, .f32⟩
  | .hbm, ⟨25, _⟩ => ⟨S_, .i32⟩
  | .hbm, ⟨26, _⟩ => ⟨S_, .f32⟩
  | .hbm, ⟨27, _⟩ => ⟨S16x2048, .f32⟩
  | .hbm, ⟨28, _⟩ => ⟨S16x2048, .bf16⟩
  | .hbm, ⟨29, _⟩ => ⟨S_, .i32⟩
  | .hbm, ⟨30, _⟩ => ⟨S_, .f32⟩
  | .hbm, ⟨31, _⟩ => ⟨S16, .f32⟩
  | .hbm, ⟨32, _⟩ => ⟨S16x1, .f32⟩
  | .hbm, ⟨33, _⟩ => ⟨S2048x1024, .f32⟩
  | .hbm, ⟨34, _⟩ => ⟨S2048x1024, .bf16⟩
  | .hbm, ⟨35, _⟩ => ⟨S4x32x8x16x128, .f32⟩
  | .hbm, ⟨36, _⟩ => ⟨S32x8x16x256, .bf16⟩
  | .hbm, ⟨37, _⟩ => ⟨S16x512, .f32⟩
  | .local _ .vmem, ⟨0, _⟩ => ⟨S512x2048, .bf16⟩
  | .local _ .vmem, ⟨1, _⟩ => ⟨S2048x1024, .bf16⟩
  | .local _ .vmem, ⟨2, _⟩ => ⟨S16x2048, .bf16⟩
  | .local _ .vmem, ⟨3, _⟩ => ⟨S16x1, .f32⟩
  | .local _ .vmem, ⟨4, _⟩ => ⟨S1x32x8x16x128, .f32⟩
  | .local _ .vmem, ⟨5, _⟩ => ⟨S32x8x16x256, .bf16⟩
  | .local _ .vmem, ⟨6, _⟩ => ⟨S16x512, .f32⟩
  | _, _ => ⟨S32x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_call0_v0 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_call1_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23_0 : Ref sig .tc := ⟨.hbm, 35, rfl⟩
abbrev main_v23_1 : Ref sig .tc := ⟨.hbm, 36, rfl⟩
abbrev main_v23_2 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let c0_i32_11 : BitVec 32 := 0#32
  let c0_i32_12 : BitVec 32 := 0#32
  let c0_i32_13 : BitVec 32 := 0#32
  ![c3_i32.toNat, v16.toNat, c0_i32_11.toNat, v26.toNat, c0_i32_12.toNat]

def cc0_transform_6 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, v26.toNat, c0_i32_12.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32x8x16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x8x16x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference12Ideal.lean ====
abbrev S32x16x2048 : Shape := ⟨3, ![32, 16, 2048]⟩
abbrev S2048 : Shape := ⟨1, ![2048]⟩
abbrev S2048x9224 : Shape := ⟨2, ![2048, 9224]⟩
abbrev S8 : Shape := ⟨1, ![8]⟩
abbrev S4x32x8x16x128 : Shape := ⟨5, ![4, 32, 8, 16, 128]⟩
abbrev S_ : Shape := ⟨0, ![]⟩
abbrev S32x16 : Shape := ⟨2, ![32, 16]⟩
abbrev S32x16x1 : Shape := ⟨3, ![32, 16, 1]⟩
abbrev S1x1x2048 : Shape := ⟨3, ![1, 1, 2048]⟩
abbrev S32x16x9224 : Shape := ⟨3, ![32, 16, 9224]⟩
abbrev S32x16x1024 : Shape := ⟨3, ![32, 16, 1024]⟩
abbrev S32x16x8x128 : Shape := ⟨4, ![32, 16, 8, 128]⟩
abbrev S32x8x16x128 : Shape := ⟨4, ![32, 8, 16, 128]⟩
abbrev S32x16x8 : Shape := ⟨3, ![32, 16, 8]⟩
abbrev S1x1x8 : Shape := ⟨3, ![1, 1, 8]⟩
abbrev S8x32x16 : Shape := ⟨3, ![8, 32, 16]⟩
abbrev S8x512 : Shape := ⟨2, ![8, 512]⟩
abbrev S3x32x8x16x128 : Shape := ⟨5, ![3, 32, 8, 16, 128]⟩
abbrev S1x32x8x16x128 : Shape := ⟨5, ![1, 32, 8, 16, 128]⟩
abbrev S16x512 : Shape := ⟨2, ![16, 512]⟩

abbrev nBuf : Space → Nat
  | .hbm => 53
  | .vmem => 0
  | .smem => 0
  | _ => 0

abbrev bufTy : (tb : Table) → Fin (tcTables nBuf tb) → BufTy
  | .hbm, ⟨0, _⟩ => ⟨S32x16x2048, .f32⟩
  | .hbm, ⟨1, _⟩ => ⟨S2048, .f32⟩
  | .hbm, ⟨2, _⟩ => ⟨S2048x9224, .f32⟩
  | .hbm, ⟨3, _⟩ => ⟨S8, .f32⟩
  | .hbm, ⟨4, _⟩ => ⟨S4x32x8x16x128, .f32⟩
  | .hbm, ⟨5, _⟩ => ⟨S32x16x2048, .f32⟩
  | .hbm, ⟨6, _⟩ => ⟨S_, .f32⟩
  | .hbm, ⟨7, _⟩ => ⟨S32x16, .f32⟩
  | .hbm, ⟨8, _⟩ => ⟨S32x16x1, .f32⟩
  | .hbm, ⟨9, _⟩ => ⟨S_, .f32⟩
  | .hbm, ⟨10, _⟩ => ⟨S32x16x1, .f32⟩
  | .hbm, ⟨11, _⟩ => ⟨S32x16x1, .f32⟩
  | .hbm, ⟨12, _⟩ => ⟨S_, .f32⟩
  | .hbm, ⟨13, _⟩ => ⟨S32x16x1, .f32⟩
  | .hbm, ⟨14, _⟩ => ⟨S32x16x1, .f32⟩
  | .hbm, ⟨15, _⟩ => ⟨S32x16x1, .f32⟩
  | .hbm, ⟨16, _⟩ => ⟨S32x16x2048, .f32⟩
  | .hbm, ⟨17, _⟩ => ⟨S32x16x2048, .f32⟩
  | .hbm, ⟨18, _⟩ => ⟨S1x1x2048, .f32⟩
  | .hbm, ⟨19, _⟩ => ⟨S32x16x2048, .f32⟩
  | .hbm, ⟨20, _⟩ => ⟨S32x16x2048, .f32⟩
  | .hbm, ⟨21, _⟩ => ⟨S32x16x9224, .f32⟩
  | .hbm, ⟨22, _⟩ => ⟨S32x16x1024, .f32⟩
  | .hbm, ⟨23, _⟩ => ⟨S32x16x8x128, .f32⟩
  | .hbm, ⟨24, _⟩ => ⟨S32x8x16x128, .f32⟩
  | .hbm, ⟨25, _⟩ => ⟨S32x16x8, .f32⟩
  | .hbm, ⟨26, _⟩ => ⟨S1x1x8, .f32⟩
  | .hbm, ⟨27, _⟩ => ⟨S32x16x8, .f32⟩
  | .hbm, ⟨28, _⟩ => ⟨S32x16x8, .f32⟩
  | .hbm, ⟨29, _⟩ => ⟨S8x32x16, .f32⟩
  | .hbm, ⟨30, _⟩ => ⟨S8x512, .f32⟩
  | .hbm, ⟨31, _⟩ => ⟨S3x32x8x16x128, .f32⟩
  | .hbm, ⟨32, _⟩ => ⟨S1x32x8x16x128, .f32⟩
  | .hbm, ⟨33, _⟩ => ⟨S4x32x8x16x128, .f32⟩
  | .hbm, ⟨34, _⟩ => ⟨S_, .i32⟩
  | .hbm, ⟨35, _⟩ => ⟨S_, .f32⟩
  | .hbm, ⟨36, _⟩ => ⟨S16x512, .f32⟩
  | .hbm, ⟨37, _⟩ => ⟨S16x512, .f32⟩
  | .hbm, ⟨38, _⟩ => ⟨S_, .f32⟩
  | .hbm, ⟨39, _⟩ => ⟨S16x512, .f32⟩
  | .hbm, ⟨40, _⟩ => ⟨S16x512, .f32⟩
  | .hbm, ⟨41, _⟩ => ⟨S16x512, .f32⟩
  | .hbm, ⟨42, _⟩ => ⟨S16x512, .f32⟩
  | .hbm, ⟨43, _⟩ => ⟨S16x512, .i1⟩
  | .hbm, ⟨44, _⟩ => ⟨S16x512, .f32⟩
  | .hbm, ⟨45, _⟩ => ⟨S16x512, .f32⟩
  | .hbm, ⟨46, _⟩ => ⟨S16x512, .f32⟩
  | .hbm, ⟨47, _⟩ => ⟨S16x512, .f32⟩
  | .hbm, ⟨48, _⟩ => ⟨S16x512, .f32⟩
  | .hbm, ⟨49, _⟩ => ⟨S16x512, .f32⟩
  | .hbm, ⟨50, _⟩ => ⟨S16x512, .f32⟩
  | .hbm, ⟨51, _⟩ => ⟨S16x512, .f32⟩
  | .hbm, ⟨52, _⟩ => ⟨S16x512, .f32⟩
  | _, _ => ⟨S32x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c : Ref sig .tc := ⟨.hbm, 34, rfl⟩
abbrev main_call0_v0 : Ref sig .tc := ⟨.hbm, 35, rfl⟩
abbrev main_v26 : Ref sig .tc := ⟨.hbm, 36, rfl⟩
abbrev main_call1_v0 : Ref sig .tc := ⟨.hbm, 37, rfl⟩
abbrev main_call1_call0_cst : Ref sig .tc := ⟨.hbm, 38, rfl⟩
abbrev main_call1_call0_v0 : Ref sig .tc := ⟨.hbm, 39, rfl⟩
abbrev main_call1_call0_v1 : Ref sig .tc := ⟨.hbm, 40, rfl⟩
abbrev main_call1_call0_v2 : Ref sig .tc := ⟨.hbm, 41, rfl⟩
abbrev main_call1_call0_v3 : Ref sig .tc := ⟨.hbm, 42, rfl⟩
abbrev main_call1_call0_v4 : Ref sig .tc := ⟨.hbm, 43, rfl⟩
abbrev main_call1_call0_v5 : Ref sig .tc := ⟨.hbm, 44, rfl⟩
abbrev main_call1_call0_v6 : Ref sig .tc := ⟨.hbm, 45, rfl⟩
abbrev main_call1_call0_v7 : Ref sig .tc := ⟨.hbm, 46, rfl⟩
abbrev main_call1_call0_v8 : Ref sig .tc := ⟨.hbm, 47, rfl⟩
abbrev main_call1_call0_v9 : Ref sig .tc := ⟨.hbm, 48, rfl⟩
abbrev main_call1_call0_v10 : Ref sig .tc := ⟨.hbm, 49, rfl⟩
abbrev main_call1_call0_v11 : Ref sig .tc := ⟨.hbm, 50, rfl⟩
abbrev main_call1_v1 : Ref sig .tc := ⟨.hbm, 51, rfl⟩
abbrev main_v27 : Ref sig .tc := ⟨.hbm, 52, rfl⟩

abbrev nD : Nat := 1
abbrev τ : Topo := Topo.v7x

variable {F : FTy → Type} [FloatOps F]
-- ==== Proof.Softmax.lean ====
/-
  The online softmax over the extended reals, away from any program: a row of attention that has taken the first `n`
  keys holds the running maximum of their scores and, per output column, the sum of the values under the weights
  `exp (score − maximum)`. One more chunk of keys rescales what is held; the quotient of two columns at the end is the
  softmax-weighted sum.
-/
module

public import Idealize.ShloMosaic.PureOps.Ideal
public import Mathlib.Data.EReal.Operations
public import Mathlib.Algebra.BigOperators.Intervals

@[expose] public section

noncomputable section

namespace Cert.Attn

open Idealize.ShloMosaic

/-- What one row of the attention holds after its first `n` keys: `m` is the largest of their scores `T`, and `a d` the
    sum of their values `V · d` under the weights `exp (T − m)`. -/
structure Row {ι : Type} (T : ℕ → EReal) (V : ℕ → ι → EReal) (n : ℕ) (m : EReal) (a : ι → EReal) : Prop where
  max : m = (Finset.range n).sup T
  acc : ∀ d, a d = ∑ k ∈ Finset.range n, Ideal.exp (T k - m) * V k d

/-- No key taken yet: the maximum is `⊥` and every sum is zero. -/
theorem Row.zero {ι : Type} (T : ℕ → EReal) (V : ℕ → ι → EReal) : Row T V 0 ⊥ (fun _ => 0) :=
  ⟨by simp, fun d => by simp⟩

/-- `exp` is never negative. -/
theorem exp_nonneg (x : EReal) : 0 ≤ Ideal.exp x := by
  induction x with
  | bot => simp
  | top => simp
  | coe r => rw [Ideal.exp_coe]; exact_mod_cast (Real.exp_pos r).le

/-- `exp (m − m') ` is finite where `m ≤ m' < ⊤`. -/
theorem exp_sub_ne_top {m m' : EReal} (h : m ≤ m') (h' : m' ≠ ⊤) : Ideal.exp (m - m') ≠ ⊤ := by
  induction m with
  | bot => simp [EReal.bot_sub]
  | top => exact absurd (top_le_iff.mp h) h'
  | coe r =>
    induction m' with
    | bot => exact absurd (le_bot_iff.mp h) (EReal.coe_ne_bot r)
    | top => exact absurd rfl h'
    | coe s => rw [← EReal.coe_sub, Ideal.exp_coe]; exact EReal.coe_ne_top _

/-- Rescaling a weight from the maximum `m` to a later maximum `m'`. -/
theorem exp_rescale {t m m' : EReal} (h : t ≤ m) (hm : m ≤ m') (h' : m' ≠ ⊤) :
    Ideal.exp (m - m') * Ideal.exp (t - m) = Ideal.exp (t - m') := by
  induction t with
  | bot => simp [EReal.bot_sub]
  | top => exact absurd (top_le_iff.mp (h.trans hm)) h'
  | coe t =>
    induction m with
    | bot => exact absurd (le_bot_iff.mp h) (EReal.coe_ne_bot t)
    | top => exact absurd (top_le_iff.mp hm) h'
    | coe m =>
      induction m' with
      | bot => exact absurd (le_bot_iff.mp hm) (EReal.coe_ne_bot m)
      | top => exact absurd rfl h'
      | coe m' =>
        rw [← EReal.coe_sub, ← EReal.coe_sub, ← EReal.coe_sub, Ideal.exp_coe, Ideal.exp_coe, Ideal.exp_coe,
          ← EReal.coe_mul, ← Real.exp_add]
        congr 2; ring

/-- The embedding of the reals takes a finite sum to the sum. -/
theorem coe_sum {κ : Type} (s : Finset κ) (f : κ → ℝ) : ((∑ k ∈ s, f k : ℝ) : EReal) = ∑ k ∈ s, (f k : EReal) := by
  classical
  induction s using Finset.induction_on with
  | empty => simp
  | insert k s hk ih => rw [Finset.sum_insert hk, Finset.sum_insert hk, EReal.coe_add, ih]

/-- A finite, nonnegative factor distributes over a finite sum of extended reals. -/
theorem mul_sum_of_nonneg {κ : Type} (c : EReal) (h0 : 0 ≤ c) (ht : c ≠ ⊤) (s : Finset κ) (f : κ → EReal) :
    c * ∑ k ∈ s, f k = ∑ k ∈ s, c * f k := by
  classical
  induction s using Finset.induction_on with
  | empty => simp
  | insert k s hk ih => rw [Finset.sum_insert hk, Finset.sum_insert hk, EReal.left_distrib_of_nonneg_of_ne_top h0 ht, ih]

/-- The supremum over the first `n + w` naturals splits at `n`. -/
theorem sup_range_add (T : ℕ → EReal) (n w : ℕ) :
    (Finset.range (n + w)).sup T = Max.max ((Finset.range n).sup T) ((Finset.range w).sup fun c => T (n + c)) := by
  apply le_antisymm
  · refine Finset.sup_le fun k hk => ?_
    rw [Finset.mem_range] at hk
    by_cases h : k < n
    · exact le_max_of_le_left (Finset.le_sup (f := T) (Finset.mem_range.mpr h))
    · refine le_max_of_le_right ?_
      have e : n + (k - n) = k := by omega
      have := Finset.le_sup (f := fun c => T (n + c)) (Finset.mem_range.mpr (show k - n < w by omega))
      simpa only [e] using this
  · refine max_le (Finset.sup_le fun k hk => ?_) (Finset.sup_le fun k hk => ?_)
    · rw [Finset.mem_range] at hk; exact Finset.le_sup (f := T) (Finset.mem_range.mpr (by omega))
    · rw [Finset.mem_range] at hk; exact Finset.le_sup (f := T) (Finset.mem_range.mpr (by omega))

/-- A supremum of finitely many scores below `⊤` is below `⊤`. -/
theorem sup_ne_top (T : ℕ → EReal) (hT : ∀ k, T k ≠ ⊤) (n : ℕ) : (Finset.range n).sup T ≠ ⊤ := by
  refine ne_of_lt ((Finset.sup_lt_iff (by simp)).mpr fun k _ => lt_top_iff_ne_top.mpr (hT k))

/-- **One chunk of `w` keys** taken by a row: the new maximum, the held sums rescaled by `exp (m − m')`, the chunk's
    own weighted values added. -/
theorem Row.step {ι : Type} {T : ℕ → EReal} {V : ℕ → ι → EReal} {n : ℕ} {m : EReal} {a : ι → EReal}
    (h : Row T V n m a) (hT : ∀ k, T k ≠ ⊤) (w : ℕ) {m' : EReal} {a' : ι → EReal}
    (hm : m' = Max.max m ((Finset.range w).sup fun c => T (n + c)))
    (ha : ∀ d, a' d = Ideal.exp (m - m') * a d + ∑ c ∈ Finset.range w, Ideal.exp (T (n + c) - m') * V (n + c) d) :
    Row T V (n + w) m' a' := by
  have hm' : m' = (Finset.range (n + w)).sup T := by rw [hm, sup_range_add, h.max]
  have hle : m ≤ m' := by rw [hm]; exact le_max_left _ _
  have hne : m' ≠ ⊤ := by rw [hm']; exact sup_ne_top T hT _
  refine ⟨hm', fun d => ?_⟩
  rw [ha d, h.acc d, mul_sum_of_nonneg _ (exp_nonneg _) (exp_sub_ne_top hle hne), Finset.sum_range_add]
  congr 1
  refine Finset.sum_congr rfl fun k hk => ?_
  rw [← mul_assoc, exp_rescale (by rw [h.max]; exact Finset.le_sup hk) hle hne]

/-- A maximum of scores below `⊤`, one of them above `⊥`, is a real. -/
theorem Row.max_real {ι : Type} {T : ℕ → EReal} {V : ℕ → ι → EReal} {n : ℕ} {m : EReal} {a : ι → EReal}
    (h : Row T V n m a) (hT : ∀ k, T k ≠ ⊤) {k₀ : ℕ} (hk : k₀ < n) (h₀ : T k₀ ≠ ⊥) : ∃ r : ℝ, m = r := by
  have ht : m ≠ ⊤ := by rw [h.max]; exact sup_ne_top T hT _
  have hb : m ≠ ⊥ := by
    intro e
    have := Finset.le_sup (f := T) (Finset.mem_range.mpr hk)
    rw [← h.max, e, le_bot_iff] at this
    exact h₀ this
  exact ⟨m.toReal, (EReal.coe_toReal ht hb).symm⟩

/-- A weight `exp (T − m)` under a real maximum `m`, of a score below `⊤`, is a nonnegative real. -/
theorem weight_real {t : EReal} (ht : t ≠ ⊤) (r : ℝ) : ∃ p : ℝ, 0 ≤ p ∧ Ideal.exp (t - r) = p := by
  induction t with
  | bot => exact ⟨0, le_rfl, by simp [EReal.bot_sub]⟩
  | top => exact absurd rfl ht
  | coe t => exact ⟨Real.exp (t - r), (Real.exp_pos _).le, by rw [← EReal.coe_sub, Ideal.exp_coe]⟩

/-- **The quotient at the end.** Where column `d₀` sums the weights alone, the column `d` over it is the sum of the values
    under the softmax's weights, each divided by the sum of all. -/
theorem Row.quot {ι : Type} {T : ℕ → EReal} {V : ℕ → ι → EReal} {n : ℕ} {m : EReal} {a : ι → EReal}
    (h : Row T V n m a) (hT : ∀ k, T k ≠ ⊤) {k₀ : ℕ} (hk : k₀ < n) (h₀ : T k₀ ≠ ⊥) (d₀ : ι) (h1 : ∀ k < n, V k d₀ = 1)
    (d : ι) :
    Ideal.div (a d) (a d₀)
      = ∑ k ∈ Finset.range n,
          Ideal.div (Ideal.exp (T k - m)) (∑ l ∈ Finset.range n, Ideal.exp (T l - m)) * V k d := by
  obtain ⟨r, rfl⟩ := h.max_real hT hk h₀
  have hp : ∀ k, ∃ p : ℝ, 0 ≤ p ∧ Ideal.exp (T k - r) = p := fun k => weight_real (hT k) r
  choose p hp0 hp using hp
  have hL : a d₀ = ((∑ k ∈ Finset.range n, p k : ℝ) : EReal) := by
    rw [h.acc d₀, coe_sum]
    exact Finset.sum_congr rfl fun k hk => by rw [h1 k (Finset.mem_range.mp hk), mul_one, hp]
  have hpos : 0 < ∑ k ∈ Finset.range n, p k := by
    refine Finset.sum_pos' (fun k _ => hp0 k) ⟨k₀, Finset.mem_range.mpr hk, ?_⟩
    obtain ⟨t, ht⟩ : ∃ t : ℝ, T k₀ = t := ⟨(T k₀).toReal, (EReal.coe_toReal (hT k₀) h₀).symm⟩
    have e := hp k₀
    rw [ht, ← EReal.coe_sub, Ideal.exp_coe] at e
    rw [← EReal.coe_eq_coe_iff.mp e]; exact Real.exp_pos _
  have hL' : (∑ l ∈ Finset.range n, Ideal.exp (T l - r)) = ((∑ k ∈ Finset.range n, p k : ℝ) : EReal) := by
    rw [coe_sum]; exact Finset.sum_congr rfl fun k _ => hp k
  have hinv : (0 : EReal) ≤ ((1 / (∑ k ∈ Finset.range n, p k) : ℝ) : EReal) := by
    exact_mod_cast (one_div_pos.mpr hpos).le
  rw [hL', hL, Ideal.div_coe hpos.ne', h.acc d, mul_comm, mul_sum_of_nonneg _ hinv (EReal.coe_ne_top _)]
  refine Finset.sum_congr rfl fun k _ => ?_
  rw [Ideal.div_coe hpos.ne', ← mul_assoc, mul_comm (Ideal.exp _)]

/-- **The online row against the softmax over all the keys.** The row took the keys below `n`; the scores of the keys from
    `n` to `N` are `⊥` (masked); `U` are the same scores shifted by a real `c`. Then the quotient of the columns `d` and
    `d₀` is the sum over all `N` keys of the values under the softmax of `U`. -/
theorem Row.softmax {ι : Type} {T : ℕ → EReal} {V : ℕ → ι → EReal} {n : ℕ} {m : EReal} {a : ι → EReal}
    (h : Row T V n m a) (hT : ∀ k, T k ≠ ⊤) {k₀ : ℕ} (hk : k₀ < n) (h₀ : T k₀ ≠ ⊥) (d₀ : ι) (h1 : ∀ k < n, V k d₀ = 1)
    {N : ℕ} (hN : n ≤ N) (hbot : ∀ k, n ≤ k → T k = ⊥) (c : ℝ) {U : ℕ → EReal} (hU : ∀ k < N, U k = T k + c) (d : ι) :
    Ideal.div (a d) (a d₀)
      = ∑ k ∈ Finset.range N,
          Ideal.div (Ideal.exp (U k - (Finset.range N).sup U))
            (∑ l ∈ Finset.range N, Ideal.exp (U l - (Finset.range N).sup U)) * V k d := by
  rw [h.quot hT hk h₀ d₀ h1 d]
  obtain ⟨r, hr⟩ := h.max_real hT hk h₀
  have hsup : (Finset.range N).sup U = ((r + c : ℝ) : EReal) := by
    rw [EReal.coe_add, ← hr, h.max]
    apply le_antisymm
    · refine Finset.sup_le fun k hk => ?_
      rw [Finset.mem_range] at hk
      rw [hU k hk]
      by_cases hkn : k < n
      · exact add_le_add_left (Finset.le_sup (f := T) (Finset.mem_range.mpr hkn)) _
      · rw [hbot k (by omega), EReal.bot_add]; exact bot_le
    · obtain ⟨j, hj, e⟩ := Finset.exists_mem_eq_sup (Finset.range n) ⟨k₀, Finset.mem_range.mpr hk⟩ T
      rw [e]
      rw [Finset.mem_range] at hj
      rw [← hU j (by omega)]
      exact Finset.le_sup (f := U) (Finset.mem_range.mpr (by omega))
  have hexp : ∀ k < N, Ideal.exp (U k - (Finset.range N).sup U) = Ideal.exp (T k - m) := by
    intro k hk
    rw [hsup, hU k hk, hr]
    rcases eq_or_ne (T k) ⊥ with hb | hb
    · rw [hb, EReal.bot_add, EReal.bot_sub, EReal.bot_sub]
    · obtain ⟨t, ht⟩ : ∃ t : ℝ, T k = t := ⟨(T k).toReal, (EReal.coe_toReal (hT k) hb).symm⟩
      rw [ht, ← EReal.coe_add, ← EReal.coe_sub, ← EReal.coe_sub]; congr 2; ring
  have hzero : ∀ k, n ≤ k → Ideal.exp (T k - m) = 0 := fun k hk => by
    rw [hbot k hk, EReal.bot_sub, Ideal.exp_bot]
  have hsub : Finset.range n ⊆ Finset.range N := Finset.range_subset_range.mpr hN
  have hL : (∑ l ∈ Finset.range N, Ideal.exp (U l - (Finset.range N).sup U)) = ∑ l ∈ Finset.range n, Ideal.exp (T l - m) := by
    rw [Finset.sum_congr rfl fun k hk => hexp k (Finset.mem_range.mp hk)]
    exact (Finset.sum_subset hsub fun k _ hk => hzero k (by simpa using hk)).symm
  rw [hL]
  have hLpos : ∃ L : ℝ, 0 < L ∧ (∑ l ∈ Finset.range n, Ideal.exp (T l - m)) = (L : EReal) := by
    have hp : ∀ k, ∃ p : ℝ, 0 ≤ p ∧ Ideal.exp (T k - m) = p := fun k => by rw [hr]; exact weight_real (hT k) r
    choose p hp0 hp using hp
    refine ⟨∑ k ∈ Finset.range n, p k, Finset.sum_pos' (fun k _ => hp0 k) ⟨k₀, Finset.mem_range.mpr hk, ?_⟩, ?_⟩
    · obtain ⟨t, ht⟩ : ∃ t : ℝ, T k₀ = t := ⟨(T k₀).toReal, (EReal.coe_toReal (hT k₀) h₀).symm⟩
      have e := hp k₀
      rw [ht, hr, ← EReal.coe_sub, Ideal.exp_coe] at e
      rw [← EReal.coe_eq_coe_iff.mp e]; exact Real.exp_pos _
    · rw [coe_sum]; exact Finset.sum_congr rfl fun k _ => hp k
  obtain ⟨L, hLp, hLe⟩ := hLpos
  rw [hLe]
  rw [Finset.sum_subset hsub fun k _ hk => by
    rw [hzero k (by simpa using hk), Ideal.div_coe hLp.ne', zero_mul, zero_mul]]
  exact Finset.sum_congr rfl fun k hk => by rw [hexp k (Finset.mem_range.mp hk)]

end Cert.Attn
-- ==== Proof.Chunk.lean ====
/-
  One chunk of the prompt attention's body: 128 queries against `w` keys. The chunk's scores, the new running maxima, the
  rescaled accumulator, as the printed body computes them, for any number of keys; then what each is at the ideal
  values, entry by entry, and that a chunk takes a row from its first `n` keys to its first `n + w` (`Row`).
-/
module

public import proofs.«01_k».proof.Proof.Softmax
public import proofs.«01_k».proof.Proof.Gen.KernelIdeal.Skeleton
public import Idealize.ShloMosaic.PureOps.Ideal.Laws
public import Idealize.ShloMosaic.Lib.MatmulPlain
public import Idealize.ShloMosaic.Lib.Pipeline.Value
public import Idealize.ShloMosaic.Lib.ValueIdx
public import Idealize.ShloMosaic.Lib.ValueLayout
public import Idealize.ShloMosaic.Lib.ValueLayoutCasts
public import Idealize.ShloMosaic.Lib.Pointwise
public import Idealize.ShloMosaic.Lib.WordCmp

@[expose] public section

set_option maxRecDepth 16384

noncomputable section

namespace Cert.Attn

open Idealize.ShloMosaic hiding ix1 ix2 ix3 ix4
open Idealize.ShloMosaic.ValueIdx Cert.KernelIdeal

variable {F : FTy → Type} [FloatOps F]

/-- The scores of 128 queries against `w` keys: the product of the two, plus each key's negated cumulative log-forget gate. -/
def scores (w : ℕ) (q : Vec F S1x1x128x128 .bf16) (k : Vec F ⟨4, ![1, 1, w, 128]⟩ .bf16) (c : Vec F ⟨3, ![1, 1, w]⟩ .f32)
    (hq : S1x1x128x128.ShapeCasts S128x128) (hk : (⟨4, ![1, 1, w, 128]⟩ : Shape).ShapeCasts ⟨2, ![w, 128]⟩)
    (hc : (⟨3, ![1, 1, w]⟩ : Shape).ShapeCasts ⟨2, ![1, w]⟩) (hb : (⟨2, ![1, w]⟩ : Shape).Broadcasts ⟨2, ![128, w]⟩) :
    FVec F ⟨2, ![128, w]⟩ .f32 :=
  addf (matmul (DotDims.transposedRhs 128 128 w) none (shapeCast S128x128 q hq) (shapeCast ⟨2, ![w, 128]⟩ k hk)
    (constant ⟨2, ![128, w]⟩ .f32 0x00000000#32)) (broadcastTo ⟨2, ![128, w]⟩ (shapeCast ⟨2, ![1, w]⟩ c hc) hb)

/-- The causal mask of a square of 128 queries and 128 keys on the diagonal. -/
def diag (s : FVec F S128x128 .f32) (h0 : S128x128.Iotas .tc 32 [0]) (h1 : S128x128.Iotas .tc 32 [1]) : FVec F S128x128 .f32 :=
  select (cmpi .sle (iota .tc S128x128 32 [1] h1) (iota .tc S128x128 32 [0] h0)) s
    (broadcast S128x128 (Scalar.ofBits (F := F) .f32 0xFF800000#32))

/-- The causal mask of a chunk whose last 128 keys lie on the diagonal, the `u` keys before them below it. -/
def diagLast (u w : ℕ) (s : FVec F ⟨2, ![128, w]⟩ .f32) (h0 : S128x128.Iotas .tc 32 [0]) (h1 : S128x128.Iotas .tc 32 [1])
    (hl : (⟨2, ![128, w]⟩ : Shape).Slices ![0, 0] ⟨2, ![128, u]⟩) (hr : (⟨2, ![128, w]⟩ : Shape).Slices ![0, u] S128x128)
    (hc : Shape.Concatenates [⟨2, ![128, u]⟩, S128x128] ⟨2, ![128, w]⟩ 1) : FVec F ⟨2, ![128, w]⟩ .f32 :=
  concatenate ⟨2, ![128, w]⟩ 1 [⟨⟨2, ![128, u]⟩, extractStridedSlice ⟨2, ![128, u]⟩ ![0, 0] s hl⟩,
    ⟨S128x128, diag (extractStridedSlice S128x128 ![0, u] s hr) h0 h1⟩] hc

/-- The running maxima, one per query and repeated along the 128 lanes, after a chunk of scores `s`. -/
def maxNew (w : ℕ) (s : FVec F ⟨2, ![128, w]⟩ .f32) (m : FVec F S128x128 .f32) (hr : (⟨2, ![128, w]⟩ : Shape).Reduces [1] S128)
    (hc : S128.ShapeCasts S128x1) (hb : S128x1.Broadcasts S128x128) : FVec F S128x128 .f32 :=
  maximumf m (broadcastTo S128x128
    (shapeCast S128x1 (multiReduction .maximumf [1] S128 s 0xFF800000#32 hr (.inl rfl) rfl) hc) hb)

/-- `N` squares of 128 side by side are `128 · N` wide. -/
theorem concat_rep (N w : ℕ) (h2 : 2 ≤ N) (hw : N * 128 = w) :
    Shape.Concatenates (List.replicate N S128x128) ⟨2, ![128, w]⟩ 1 := by
  refine ⟨by simpa using h2, fun s hs => ?_, ?_⟩
  · rw [List.eq_of_mem_replicate hs]
    exact ⟨rfl, fun b hb => by
      match b with
      | ⟨0, _⟩ => rfl
      | ⟨1, _⟩ => exact absurd rfl hb⟩
  · rw [List.map_replicate, List.sum_replicate]
    exact hw

/-- The maxima repeated to the width of a chunk of `N · 128` keys. -/
def tileOf (N w : ℕ) (m : FVec F S128x128 .f32) (h : Shape.Concatenates (List.replicate N S128x128) ⟨2, ![128, w]⟩ 1) :
    FVec F ⟨2, ![128, w]⟩ .f32 :=
  concatenate ⟨2, ![128, w]⟩ 1 (List.replicate N ⟨S128x128, m⟩) (by simpa only [List.map_replicate] using h)

/-- The accumulator after a chunk: what it held rescaled to the new maxima `m'` (`mt` those at the chunk's width), plus the
    chunk's weights times its values. -/
def accNew (w : ℕ) (s mt : FVec F ⟨2, ![128, w]⟩ .f32) (m m' : FVec F S128x128 .f32) (v : Vec F ⟨4, ![1, 1, w, 256]⟩ .bf16)
    (a : FVec F S128x256 .f32) (ht : FTy.bf16.bits < FTy.f32.bits) (hv : (⟨4, ![1, 1, w, 256]⟩ : Shape).ShapeCasts ⟨2, ![w, 256]⟩)
    (hc : Shape.Concatenates [S128x128, S128x128] S128x256 1) : FVec F S128x256 .f32 :=
  addf (mulf (concatenate S128x256 1 [⟨S128x128, exp (subf m m')⟩, ⟨S128x128, exp (subf m m')⟩] hc) a)
    (matmul (DotDims.plain 128 w 256) none (truncf .bf16 (exp (subf s mt)) ht) (shapeCast ⟨2, ![w, 256]⟩ v hv)
      (constant S128x256 .f32 0x00000000#32))

/-! ### At the ideal values, entry by entry -/

/-- The word `0x00000000` is zero. -/
theorem zero_word : Ideal.ofBits .f32 0x00000000#32 = 0 := by
  simp [Ideal.ofBits, Ideal.ieee]

/-- The word `0xFF800000` is `⊥`. -/
theorem neg_inf_word : Ideal.ofBits .f32 0xFF800000#32 = ⊥ := by
  simp [Ideal.ofBits, Ideal.ieee]

/-- A `[1, 1, a, b]` array read as `[a, b]`. -/
theorem shapeCast_11ab {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 0 0 i j) :=
  congrArg x (reshapeEquiv_ix2_11ab _ i j)

/-- A `[1, 1, a]` array read as `[1, a]`. -/
theorem shapeCast_11a {α : Type} {a : ℕ} (x : (⟨3, ![1, 1, a]⟩ : Shape).Idx → α)
    (h : (⟨3, ![1, 1, a]⟩ : Shape).ShapeCasts ⟨2, ![1, a]⟩) (i : Fin a) :
    shapeCast ⟨2, ![1, a]⟩ x h (ix2 0 i) = x (ix3 0 0 i) :=
  shapeCast_1ab_ab_apply x h 0 i

theorem scores_apply (w : ℕ) (q : Vec Ideal S1x1x128x128 .bf16) (k : Vec Ideal ⟨4, ![1, 1, w, 128]⟩ .bf16)
    (c : Vec Ideal ⟨3, ![1, 1, w]⟩ .f32) (hq) (hk) (hc) (hb) (r : Fin 128) (j : Fin w) :
    scores (F := Ideal) w q k c hq hk hc hb (ix2 r j)
      = (∑ d : Fin 128, q (ix4 0 0 r d) * k (ix4 0 0 j d) : EReal) + c (ix3 0 0 j) := by
  show FloatOps.matmul (F := Ideal) (DotDims.transposedRhs 128 128 w) none (shapeCast S128x128 q hq) (shapeCast ⟨2, ![w, 128]⟩ k hk)
      (constant ⟨2, ![128, w]⟩ .f32 0x00000000#32) (ix2 r j)
    + broadcastTo ⟨2, ![128, w]⟩ (shapeCast ⟨2, ![1, w]⟩ c hc) hb (ix2 r j) = _
  rw [Ideal.matmul_transposedRhs_apply, broadcastTo_1b_ab_apply, shapeCast_11a, constant_apply, zero_word, zero_add]
  congr 1
  exact Finset.sum_congr rfl fun d _ => by
    rw [show shapeCast S128x128 q hq (ix2 r d) = q (ix4 0 0 r d) from shapeCast_11ab q hq r d, shapeCast_11ab k hk j d]

theorem diag_apply (s : FVec Ideal S128x128 .f32) (h0) (h1) (r j : Fin 128) :
    diag (F := Ideal) s h0 h1 (ix2 r j) = if j ≤ r then s (ix2 r j) else (⊥ : EReal) := by
  have hc : (cmpi .sle (iota .tc S128x128 32 [1] h1) (iota .tc S128x128 32 [0] h0)) (ix2 r j) = if j ≤ r then 1#1 else 0#1 := by
    show IntOp.cmpi .sle (BitVec.ofNat 32 (0 * 128 + j.val)) (BitVec.ofNat 32 (0 * 128 + r.val)) = _
    rw [WordCmp.cmpi_sle_ofNat (by norm_num; omega) (by norm_num; omega)]
    by_cases h : j ≤ r
    · rw [if_pos h, decide_eq_true (by rw [Fin.le_def] at h; omega)]; rfl
    · rw [if_neg h, decide_eq_false (by rw [Fin.le_def] at h; omega)]; rfl
  show (if (cmpi .sle (iota .tc S128x128 32 [1] h1) (iota .tc S128x128 32 [0] h0)) (ix2 r j) = 1#1 then s (ix2 r j)
    else Ideal.ofBits .f32 0xFF800000#32) = _
  rw [hc, neg_inf_word]
  by_cases h : j ≤ r <;> simp [h]

theorem diagLast_apply (u w : ℕ) (s : FVec Ideal ⟨2, ![128, w]⟩ .f32) (h0) (h1) (hl) (hr) (hc) (huw : u + 128 = w) (r : Fin 128)
    (j : Fin w) :
    diagLast (F := Ideal) u w s h0 h1 hl hr hc (ix2 r j) = if j.val ≤ u + r.val then s (ix2 r j) else (⊥ : EReal) := by
  unfold diagLast
  by_cases h : j.val < u
  · rw [concatenate_pair_apply_left 1 _ _ hc (ix2 r j) rfl (ix2 r ⟨j.val, h⟩) (fun b => by
      match b with
      | ⟨0, _⟩ => rfl
      | ⟨1, _⟩ => rfl)]
    rw [if_pos (by omega)]
    exact congrArg s (funext fun a => Fin.ext (by
      match a with
      | ⟨0, _⟩ => exact Nat.zero_add _
      | ⟨1, _⟩ => exact Nat.zero_add _))
  · have hj := j.isLt
    rw [concatenate_pair_apply_right 1 _ _ hc (ix2 r j) rfl rfl (ix2 r ⟨j.val - u, by omega⟩) (fun b hb => by
      match b with
      | ⟨0, _⟩ => rfl
      | ⟨1, _⟩ => exact absurd rfl hb) (by show j.val - u + u = j.val; omega)]
    rw [diag_apply]
    have e : ((⟨j.val - u, by omega⟩ : Fin 128) ≤ r) ↔ j.val ≤ u + r.val := by rw [Fin.le_def]; show j.val - u ≤ r.val ↔ _; omega
    simp only [e]
    split
    · exact congrArg s (funext fun a => Fin.ext (by
        match a with
        | ⟨0, _⟩ => exact Nat.zero_add _
        | ⟨1, _⟩ => show u + (j.val - u) = j.val; omega))
    · rfl

theorem fold_max_eq_sup {n : ℕ} (f : Fin n → EReal) : (Finset.univ : Finset (Fin n)).fold max ⊥ f = Finset.univ.sup f := rfl

theorem maxNew_apply (w : ℕ) (s : FVec Ideal ⟨2, ![128, w]⟩ .f32) (m : FVec Ideal S128x128 .f32) (hr) (hc) (hb) (r l : Fin 128) :
    maxNew (F := Ideal) w s m hr hc hb (ix2 r l)
      = max (m (ix2 r l) : EReal) ((Finset.univ : Finset (Fin w)).sup fun j => s (ix2 r j)) := by
  show max (m (ix2 r l) : EReal) (broadcastTo S128x128
    (shapeCast S128x1 (multiReduction (F := Ideal) .maximumf [1] S128 s 0xFF800000#32 hr (.inl rfl) rfl) hc) hb (ix2 r l)) = _
  congr 1
  rw [broadcastTo_apply _ hb (ix2 r l) (ix2 r (0 : Fin 1)) (fun a => by
    match a with
    | ⟨0, _⟩ => rfl
    | ⟨1, _⟩ => rfl)]
  rw [show shapeCast S128x1 (multiReduction (F := Ideal) .maximumf [1] S128 s 0xFF800000#32 hr (.inl rfl) rfl) hc (ix2 r (0 : Fin 1))
    = multiReduction (F := Ideal) .maximumf [1] S128 s 0xFF800000#32 hr (.inl rfl) rfl (ix1 r) from shapeCast_a_a1_apply _ hc r 0]
  refine (Ideal.multiReduction_maximumf_single (a := (1 : Fin 2)) s _ hr _ _ (ix1 r)).trans ?_
  rw [Ideal.ofBits_def, neg_inf_word]
  show (Finset.univ : Finset (Fin w)).sup _ = _
  refine Finset.sup_congr rfl fun j _ => ?_
  exact congrArg s (funext fun a => Fin.ext (by
    match a with
    | ⟨0, _⟩ => rfl
    | ⟨1, _⟩ => rfl))

theorem tileOf_apply (N w : ℕ) (m : FVec Ideal S128x128 .f32) (h) (r : Fin 128) (j : Fin w) :
    tileOf (F := Ideal) N w m h (ix2 r j) = m (ix2 r ⟨j.val % 128, Nat.mod_lt _ (by norm_num)⟩) := by
  unfold tileOf
  exact concatenate_replicate_apply (t := ⟨2, ![128, w]⟩) 1 N m _ rfl (ix2 r j) (ix2 r ⟨j.val % 128, Nat.mod_lt _ (by norm_num)⟩) rfl (fun b hb => by
    match b with
    | ⟨0, _⟩ => rfl
    | ⟨1, _⟩ => exact absurd rfl hb)

theorem accNew_apply (w : ℕ) (s mt : FVec Ideal ⟨2, ![128, w]⟩ .f32) (m m' : FVec Ideal S128x128 .f32)
    (v : Vec Ideal ⟨4, ![1, 1, w, 256]⟩ .bf16) (a : FVec Ideal S128x256 .f32) (ht) (hv) (hc) (r : Fin 128) (d : Fin 256) :
    accNew (F := Ideal) w s mt m m' v a ht hv hc (ix2 r d)
      = Ideal.exp ((m (ix2 r ⟨d.val % 128, Nat.mod_lt _ (by norm_num)⟩) : EReal) - m' (ix2 r ⟨d.val % 128, Nat.mod_lt _ (by norm_num)⟩))
          * a (ix2 r d)
        + ∑ j : Fin w, Ideal.exp ((s (ix2 r j) : EReal) - mt (ix2 r j)) * v (ix4 0 0 j d) := by
  show (concatenate S128x256 1 [⟨S128x128, exp (F := Ideal) (subf m m')⟩, ⟨S128x128, exp (F := Ideal) (subf m m')⟩] hc (ix2 r d) : EReal)
      * a (ix2 r d)
    + FloatOps.matmul (F := Ideal) (DotDims.plain 128 w 256) none (truncf .bf16 (exp (F := Ideal) (subf s mt)) ht)
      (shapeCast ⟨2, ![w, 256]⟩ v hv) (constant S128x256 .f32 0x00000000#32) (ix2 r d) = _
  rw [Ideal.matmul_plain_apply, constant_apply, zero_word, zero_add]
  congr 1
  · congr 1
    exact concatenate_replicate_apply 1 2 (exp (F := Ideal) (subf m m')) hc rfl (ix2 r d)
      (ix2 r ⟨d.val % 128, Nat.mod_lt _ (by norm_num)⟩) rfl (fun b hb => by
        match b with
        | ⟨0, _⟩ => rfl
        | ⟨1, _⟩ => exact absurd rfl hb)
  · exact Finset.sum_congr rfl fun j _ => by rw [shapeCast_11ab v hv j d]; rfl

/-- **A chunk takes each of its 128 rows from `n` keys to `n + w`.** -/
theorem chunk_row (w n : ℕ) (T : ℕ → EReal) (V : ℕ → Fin 256 → EReal) (hT : ∀ k, T k ≠ ⊤) (r : Fin 128)
    (s mt : FVec Ideal ⟨2, ![128, w]⟩ .f32) (m m' : FVec Ideal S128x128 .f32) (v : Vec Ideal ⟨4, ![1, 1, w, 256]⟩ .bf16)
    (a : FVec Ideal S128x256 .f32) (hr) (hc1) (hb) (ht) (hv) (hc)
    (hm' : m' = maxNew (F := Ideal) w s m hr hc1 hb)
    (hs : ∀ j : Fin w, (s (ix2 r j) : EReal) = T (n + j.val))
    (hmt : ∀ j : Fin w, ∃ l, (mt (ix2 r j) : EReal) = m' (ix2 r l))
    (hV : ∀ (j : Fin w) (d : Fin 256), (v (ix4 0 0 j d) : EReal) = V (n + j.val) d)
    (hrow : ∀ l, Row T V n (m (ix2 r l)) (fun d => a (ix2 r d))) (l : Fin 128) :
    Row T V (n + w) (m' (ix2 r l)) (fun d => accNew (F := Ideal) w s mt m m' v a ht hv hc (ix2 r d)) := by
  have hmax : ∀ l, (m' (ix2 r l) : EReal) = max (m (ix2 r l)) ((Finset.range w).sup fun c => T (n + c)) := by
    intro l
    rw [hm', maxNew_apply]
    congr 1
    simp only [hs]
    apply le_antisymm
    · exact Finset.sup_le fun j _ => Finset.le_sup (f := fun c => T (n + c)) (Finset.mem_range.mpr j.isLt)
    · refine Finset.sup_le fun c hc => ?_
      exact Finset.le_sup (f := fun j : Fin w => T (n + j.val)) (Finset.mem_univ (⟨c, Finset.mem_range.mp hc⟩ : Fin w))
  have hlane : ∀ l l', (m (ix2 r l) : EReal) = m (ix2 r l') := fun l l' => (hrow l).max.trans (hrow l').max.symm
  have hlane' : ∀ l l', (m' (ix2 r l) : EReal) = m' (ix2 r l') := fun l l' => by rw [hmax l, hmax l', hlane l l']
  refine (hrow l).step hT w (hmax l) fun d => ?_
  rw [accNew_apply, hlane _ l, hlane' _ l, Finset.sum_range]
  congr 1
  refine Finset.sum_congr rfl fun j _ => ?_
  obtain ⟨l', e⟩ := hmt j
  rw [hs, hV, e, hlane' l' l]

end Cert.Attn
-- ==== Proof.Reference.lean ====
/-
  What the reference computes: entry (b, s, 128 h + d) of its result is the sum of the values of head h under the softmax of
  the scores of query s.
-/
module

public import proofs.«01_k».proof.Proof.Chunk
public import proofs.«01_k».proof.Proof.Gen.ReferenceIdeal.Read
@[expose] public section

set_option maxRecDepth 65536

noncomputable section

namespace Cert.Attn.Ref

open Idealize.ShloMosaic hiding ix1 ix2 ix3 ix4
open Idealize.ShloMosaic.ValueIdx Cert.ReferenceIdeal Cert.ReferenceIdeal.Gen Cert.ReferenceIdeal.Read

/-- The scale of the scores: the value of the literal in both programs. -/
def scale : EReal := Ideal.ofBits .f32 0x3DB504F3#32

variable (x0 x1 x2 : FVec Ideal S2x8x16384x128 .f32) (x3 : FVec Ideal S2x8x16384 .f32)

/-- The running sum of the log-forget gates. -/
def cum : FVec Ideal S2x8x16384 .f32 := val_main_v0 (F := Ideal) x3

/-- The score of key `k` for query `s` of head `h` of batch `b`: `⊥` where the key comes after the query. -/
def logit (b : Fin 2) (h : Fin 8) (s : Fin 16384) (k : ℕ) : EReal :=
  if hk : k < 16384 then
    if k ≤ s.val then
      (∑ d : Fin 128, x0 (ix4 b h s d) * x1 (ix4 b h ⟨k, hk⟩ d)) * scale
        + (cum x3 (ix3 b h s) - cum x3 (ix3 b h ⟨k, hk⟩))
    else ⊥
  else ⊥

/-- A supremum over the numbers below `n` is one over the indices below `n`. -/
theorem sup_range_fin {n : ℕ} (f : ℕ → EReal) :
    (Finset.range n).sup f = Finset.univ.sup fun k : Fin n => f k.val := by
  apply le_antisymm
  · exact Finset.sup_le fun k hk => Finset.le_sup (f := fun k : Fin n => f k.val) (Finset.mem_univ ⟨k, Finset.mem_range.mp hk⟩)
  · exact Finset.sup_le fun k _ => Finset.le_sup (f := f) (Finset.mem_range.mpr k.isLt)

/-- The words of the comparison of two positions. -/
theorem sle_ofNat (a b : ℕ) (ha : a < 16384) (hb : b < 16384) :
    IntOp.cmpi .sle (BitVec.ofNat 32 a) (BitVec.ofNat 32 b) = if a ≤ b then 1#1 else 0#1 := by
  rw [WordCmp.cmpi_sle_ofNat (by norm_num; omega) (by norm_num; omega)]
  by_cases h : a ≤ b <;> simp [h]

/-- The mask: a key is kept where it does not come after the query. -/
theorem mask_apply (b : Fin 2) (h : Fin 8) (s k : Fin 16384) :
    val_main_call1_v1 (F := Ideal) (ix4 b h s k) = if k.val ≤ s.val then 1#1 else 0#1 := by
  rw [val_main_call1_v1_apply, val_main_v15_apply, val_main_v13_apply, val_main_v14_apply]
  rw [val_main_v11_apply, val_main_v12_apply, val_main_v1_apply, val_main_v1_apply]
  exact sle_ofNat k.val s.val k.isLt s.isLt

/-- The scores before the mask. -/
theorem v10_apply (b : Fin 2) (h : Fin 8) (s k : Fin 16384) :
    val_main_v10 (F := Ideal) x0 x1 x3 (ix4 b h s k)
      = (∑ d : Fin 128, x0 (ix4 b h s d) * x1 (ix4 b h k d)) * scale
        + (cum x3 (ix3 b h s) - cum x3 (ix3 b h k)) := by
  rw [val_main_v10_apply, val_main_v4_apply, val_main_v2_apply, val_main_v3_apply, val_main_cst_apply, val_main_v9_apply,
    val_main_v7_apply, val_main_v8_apply, val_main_v5_apply, val_main_v6_apply]
  refine congrArg₂ (· + ·) (congrArg (· * scale) (Finset.sum_congr rfl fun d _ => congrArg₂ (· * ·) (congrArg x0 ?_) (congrArg x1 ?_)))
    (congrArg₂ (· - ·) (congrArg (cum x3) ?_) (congrArg (cum x3) ?_)) <;>
  · funext a
    fin_cases a <;> rfl

/-- The masked scores. -/
theorem v16_apply (b : Fin 2) (h : Fin 8) (s k : Fin 16384) :
    val_main_v16 (F := Ideal) x0 x1 x3 (ix4 b h s k) = logit x0 x1 x3 b h s k.val := by
  rw [val_main_v16_apply, mask_apply, v10_apply, val_main_call1_v2_apply, val_main_call1_v0_apply, val_main_cst_0_apply]
  unfold logit Scalar.select
  rw [dif_pos k.isLt]
  by_cases hks : k.val ≤ s.val
  · rw [if_pos hks, if_pos hks]
    exact if_pos rfl
  · rw [if_neg hks, if_neg hks]
    refine (if_neg (by decide)).trans ?_
    exact neg_inf_word

/-- The greatest score of a query. -/
theorem v19_apply (b : Fin 2) (h : Fin 8) (s : Fin 16384) :
    val_main_v19 (F := Ideal) x0 x1 x3 (ix3 b h s) = (Finset.range 16384).sup (logit x0 x1 x3 b h s) := by
  rw [val_main_v19_apply, val_main_v18_apply, val_main_cst_2_apply, sup_range_fin]
  unfold val_main_v17
  generalize hy : val_main_v16 (F := Ideal) x0 x1 x3 = y
  have e := Host.reduce_eq_fold_single (FloatOps.maximumf (F := Ideal) (φ := .f32)) y (val_main_cst_1 (F := Ideal))
    reducesTo_S2x8x16384x16384_S2x8x16384_d3 (by decide) h_S_ (ix3 b h s)
  rw [e]
  refine (congrArg (fun w => max w _) neg_inf_word).trans ?_
  refine (max_eq_right bot_le).trans ?_
  rw [val_main_cst_1_apply]
  refine (congrArg (fun w => Finset.fold _ w _ _) neg_inf_word).trans ?_
  refine Eq.trans ?_ (fold_max_eq_sup (n := 16384) fun k => logit x0 x1 x3 b h s k.val)
  refine congrArg (fun f => (Finset.univ : Finset (Fin 16384)).fold max ⊥ f) (funext fun k => ?_)
  refine Eq.trans ?_ ((congrFun hy _).symm.trans (v16_apply x0 x1 x3 b h s k))
  refine congrArg y (funext fun a => Fin.ext ?_)
  match a with
  | ⟨0, _⟩ => rfl
  | ⟨1, _⟩ => rfl
  | ⟨2, _⟩ => rfl
  | ⟨3, _⟩ => rfl

/-- The weight of a key before it is divided by the sum of them. -/
theorem v23_apply (b : Fin 2) (h : Fin 8) (s k : Fin 16384) :
    val_main_v23 (F := Ideal) x0 x1 x3 (ix4 b h s k)
      = Ideal.exp (logit x0 x1 x3 b h s k.val - (Finset.range 16384).sup (logit x0 x1 x3 b h s)) := by
  rw [val_main_v23_apply, val_main_v22_apply, v16_apply, val_main_v21_apply, val_main_v20_apply]
  have e : (idx_main_v20 (idx_main_v21 (ix4 b h s k))) = (ix3 b h s : S2x8x16384.Idx) := by
    funext a; fin_cases a <;> rfl
  rw [e, v19_apply]
  rfl

/-- The sum of the weights. -/
theorem v24_apply (b : Fin 2) (h : Fin 8) (s : Fin 16384) :
    val_main_v24 (F := Ideal) x0 x1 x3 (ix3 b h s)
      = ∑ k ∈ Finset.range 16384, Ideal.exp (logit x0 x1 x3 b h s k - (Finset.range 16384).sup (logit x0 x1 x3 b h s)) := by
  rw [val_main_v24_apply, val_main_cst_3_apply, Finset.sum_range]
  refine (congrArg (· + _) zero_word).trans ((zero_add _).trans (Finset.sum_congr rfl fun k _ => ?_))
  rw [← v23_apply]
  refine congrArg _ ?_
  funext a; fin_cases a <;> rfl

/-- The value of head `h` that key `k` carries in lane `d`. -/
def val (b : Fin 2) (h : Fin 8) (d : Fin 128) (k : ℕ) : EReal := if hk : k < 16384 then x2 (ix4 b h ⟨k, hk⟩ d) else 0

/-- An entry of the result. -/
theorem result_apply (b : Fin 2) (h : Fin 8) (s : Fin 16384) (d : Fin 128) :
    val_main_v31 (F := Ideal) x0 x1 x2 x3 (ix3 b s ⟨h.val * 128 + d.val, by have := h.isLt; have := d.isLt; omega⟩)
      = ∑ k ∈ Finset.range 16384,
          Ideal.div (Ideal.exp (logit x0 x1 x3 b h s k - (Finset.range 16384).sup (logit x0 x1 x3 b h s)))
            (∑ l ∈ Finset.range 16384, Ideal.exp (logit x0 x1 x3 b h s l - (Finset.range 16384).sup (logit x0 x1 x3 b h s)))
          * val x2 b h d k := by
  rw [val_main_v31_apply, val_main_v30_apply, val_main_v29_apply, val_main_v28_apply, Finset.sum_range]
  refine Finset.sum_congr rfl fun k _ => ?_
  have hb := b.isLt; have hh := h.isLt; have hs := s.isLt; have hd := d.isLt
  have e : idx_main_v29 (idx_main_v30 (ix3 b s ⟨h.val * 128 + d.val, by omega⟩)) = (ix4 b h s d : S2x8x16384x128.Idx) := by
    funext a
    match a with
    | ⟨0, _⟩ => exact Fin.ext (show ((b.val * 16384 + s.val) * 1024 + (h.val * 128 + d.val)) / 16777216 = b.val by omega)
    | ⟨1, _⟩ => exact Fin.ext (show ((b.val * 16384 + s.val) * 1024 + (h.val * 128 + d.val)) / 128 % 8 = h.val by omega)
    | ⟨2, _⟩ => exact Fin.ext (show ((b.val * 16384 + s.val) * 1024 + (h.val * 128 + d.val)) / 1024 % 16384 = s.val by omega)
    | ⟨3, _⟩ => exact Fin.ext (show ((b.val * 16384 + s.val) * 1024 + (h.val * 128 + d.val)) % 128 = d.val by omega)
  rw [e]
  have e1 : lidx_main_v28 (ix4 b h s d) k = (ix4 b h s k : S2x8x16384x16384.Idx) := by
    funext a; fin_cases a <;> rfl
  have e2 : ridx_main_v28 (ix4 b h s d) k = (ix4 b h k d : S2x8x16384x128.Idx) := by
    funext a; fin_cases a <;> rfl
  rw [e1, e2, val_main_v27_apply, v23_apply, val_main_v26_apply, val_main_v25_apply]
  have e3 : idx_main_v25 (idx_main_v26 (ix4 b h s k)) = (ix3 b h s : S2x8x16384.Idx) := by
    funext a; fin_cases a <;> rfl
  rw [e3, v24_apply]
  unfold val
  rw [dif_pos k.isLt]
  rfl

end Cert.Attn.Ref

end
-- ==== Proof.Operands.lean ====
/-
  The arrays that the attention call reads: what the host code before the call leaves in them.
-/
module

public import proofs.«01_k».proof.Proof.Reference
public import proofs.«01_k».proof.Proof.Gen.KernelIdeal.Value
public import Idealize.ShloMosaic.Lib.Pipeline.ValueKit
@[expose] public section

set_option maxRecDepth 65536

noncomputable section

namespace Cert.Attn

open Idealize.ShloMosaic hiding ix1 ix2 ix3 ix4
open Idealize.ShloMosaic.TcCoe
open Idealize.ShloMosaic.ValueIdx Cert.KernelIdeal Cert.KernelIdeal.Gen

variable (m : (ℓ : Loc nD τ sig) → Buf (Elt Ideal) ℓ) (c : Dev nD)

/-- The queries, keys, values and log-forget gates that the program is given. -/
abbrev queries : FVec Ideal S2x8x16384x128 .f32 := m ((c : Thread nD τ).loc main_arg0)
abbrev keys : FVec Ideal S2x8x16384x128 .f32 := m ((c : Thread nD τ).loc main_arg1)
abbrev values : FVec Ideal S2x8x16384x128 .f32 := m ((c : Thread nD τ).loc main_arg2)
abbrev gates : FVec Ideal S2x8x16384 .f32 := m ((c : Thread nD τ).loc main_arg3)

/-- The first operand: the queries times the scale. -/
theorem V_q (i : S2x8x16384x128.Idx) : V m c main_v2 i = queries m c i * Ref.scale := by
  have e : V m c main_v2 = truncf .bf16 (mulf (queries m c) (broadcastInDim S2x8x16384x128 ![] bcast_S_S2x8x16384x128
      (constant (F := Ideal) S_ .f32 0x3DB504F3#32))) bitsLt_bf16_f32 := by
    entry_read
    try rfl
  rw [e]
  rfl

/-- The second: the keys. -/
theorem V_k (i : S2x8x16384x128.Idx) : V m c main_v3 i = keys m c i := by
  have e : V m c main_v3 = truncf .bf16 (keys m c) bitsLt_bf16_f32 := by
    entry_read
    try rfl
  rw [e]
  rfl

/-- The third: the values beside as many columns of ones. -/
theorem V_v : V m c main_v6 = concatenate S2x8x16384x256 3 [⟨S2x8x16384x128, truncf .bf16 (values m c) bitsLt_bf16_f32⟩,
      ⟨S2x8x16384x128, broadcastInDim S2x8x16384x128 ![] bcast_S_S2x8x16384x128 (constant (F := Ideal) S_ .bf16 0x3F80#16)⟩]
      concatenates_S2x8x16384x128_S2x8x16384x128_S2x8x16384x256_d3 := by
  entry_read
  try rfl

/-- The fourth: minus the running sums of the gates, a row for each head of each batch. -/
theorem V_c : V m c main_v9 = Host.negf (shapeCast S16x1x16384 (Ref.cum (gates m c)) shapeCasts_S2x8x16384_S16x1x16384) := by
  entry_read
  try rfl

end Cert.Attn

end
-- ==== Proof.Finite.lean ====
/-
  Arrays of real numbers: their running sums are real, and the scale may be taken out of a sum of products.
-/
module

public import proofs.«01_k».proof.Proof.Reference
@[expose] public section

set_option maxRecDepth 65536

noncomputable section

namespace Cert.Attn

open Idealize.ShloMosaic hiding ix1 ix2 ix3 ix4
open Idealize.ShloMosaic.ValueIdx

/-- A left fold that adds real numbers to a real number is real. -/
theorem foldl_real {α : Type} (f : α → EReal) (hf : ∀ a, ∃ r : ℝ, f a = r) :
    ∀ (l : List α) (z : EReal), (∃ r : ℝ, z = r) → ∃ r : ℝ, l.foldl (fun a n => a + f n) z = r
  | [], z, hz => hz
  | a :: l, z, ⟨r, hr⟩ => by
    obtain ⟨p, hp⟩ := hf a
    exact foldl_real f hf l (z + f a) ⟨r + p, by rw [hr, hp, EReal.coe_add]⟩

/-- The windowed sums of real numbers are real. -/
theorem window_real {s t : Shape} (window strides lo hi : Fin s.rank → Nat) (h : s.ReduceWindows window strides lo hi t)
    (x : s.Idx → EReal) (hx : ∀ i, ∃ r : ℝ, x i = r) (z : EReal) (hz : ∃ r : ℝ, z = r) (j : t.Idx) :
    ∃ r : ℝ, Ideal.hostReduceWindowAdd window strides lo hi h x z j = r := by
  unfold Ideal.hostReduceWindowAdd Host.reduceWindow
  dsimp only
  refine foldl_real (fun n => _) (fun n => ?_) _ z hz
  split
  · exact hx _
  · exact hz

/-- The running sums of real gates are real. -/
theorem cum_real (x : FVec Ideal Cert.ReferenceIdeal.S2x8x16384 .f32) (hx : ∀ i, ∃ r : ℝ, x i = (r : EReal))
    (j : Cert.ReferenceIdeal.S2x8x16384.Idx) : ∃ r : ℝ, Ref.cum x j = (r : EReal) := by
  unfold Ref.cum Cert.ReferenceIdeal.Read.val_main_v0 Host.reduceWindowAdd
  rw [Ideal.hostReduceWindowAdd_def]
  refine window_real _ _ _ _ _ x hx _ ⟨0, ?_⟩ j
  exact zero_word

/-- The scale is a real number. -/
theorem scale_real : ∃ r : ℝ, Ref.scale = (r : EReal) := by
  unfold Ref.scale
  simp only [Ideal.ofBits, Ideal.ieee]
  norm_num
  exact ⟨_, rfl⟩

/-- The 16-bit word of one. -/
theorem one_word : Ideal.ofBits .bf16 0x3F80#16 = 1 := by
  simp [Ideal.ofBits, Ideal.ieee, -EReal.coe_mul]; norm_num

/-- The sum of products whose left factors are scaled: real, and the scale times the sum of products. -/
theorem sum_scaled {n : ℕ} (a b : Fin n → EReal) (ha : ∀ d, ∃ r : ℝ, a d = r) (hb : ∀ d, ∃ r : ℝ, b d = r) (z : EReal)
    (hz : ∃ r : ℝ, z = r) : ∃ p : ℝ, (∑ d, (a d * z) * b d) = (p : EReal) ∧ (∑ d, a d * b d) * z = (p : EReal) := by
  choose f hf using ha
  choose g hg using hb
  obtain ⟨r, rfl⟩ := hz
  refine ⟨∑ d, f d * r * g d, ?_, ?_⟩
  · rw [coe_sum]
    refine Finset.sum_congr rfl fun d _ => ?_
    rw [hf, hg, EReal.coe_mul, EReal.coe_mul]
  · have : ∑ d, a d * b d = ((∑ d, f d * g d : ℝ) : EReal) := by
      rw [coe_sum]
      refine Finset.sum_congr rfl fun d _ => ?_
      rw [hf, hg, EReal.coe_mul]
    rw [this, ← EReal.coe_mul, Finset.sum_mul]
    congr 1
    exact Finset.sum_congr rfl fun d _ => by ring

end Cert.Attn

end
-- ==== Proof.Step.lean ====
/-
  The state of the prompt attention's two running buffers while one block of 4096 queries is worked through, and what one
  chunk of the body does to it. The buffers hold, per query, the running maximum and the accumulator (`Row`); a chunk
  rewrites the 128 rows it is about and leaves every other row as it was.
-/
module

public import proofs.«01_k».proof.Proof.Chunk
public import Idealize.ShloMosaic.Lib.Writes
public import Idealize.ShloMosaic.Lib.Exec.Geometry
public import Idealize.ShloMosaic.Lib.Pipeline.FrameBody

@[expose] public section

set_option maxRecDepth 16384

noncomputable section

namespace Cert.Attn

open Idealize.ShloMosaic hiding ix1 ix2 ix3 ix4
open Idealize.ShloMosaic.ValueIdx Cert.KernelIdeal

/-- The masked score of key `k` for row `r` of the `i`-th block of 4096 queries: the product of the query with the key plus
    the key's negated cumulative gate where the key is not after the query, `⊥` where it is (and outside the arrays). -/
def score (x0 : Vec Ideal S1x1x4096x128 .bf16) (x1 : Vec Ideal S1x1x16384x128 .bf16) (x3 : Vec Ideal S1x1x16384 .f32)
    (i r k : ℕ) : EReal :=
  if h : r < 4096 ∧ k < 16384 then
    if k ≤ 4096 * i + r then
      (∑ d : Fin 128, (x0 (ix4 0 0 ⟨r, h.1⟩ d) : EReal) * x1 (ix4 0 0 ⟨k, h.2⟩ d)) + x3 (ix3 0 0 ⟨k, h.2⟩)
    else ⊥
  else ⊥

/-- The value of key `k` in column `d`. -/
def value (x2 : Vec Ideal S1x1x16384x256 .bf16) (k : ℕ) (d : Fin 256) : EReal :=
  if h : k < 16384 then x2 (ix4 0 0 ⟨k, h⟩ d) else 0

section

variable (x0 : Vec Ideal S1x1x4096x128 .bf16) (x1 : Vec Ideal S1x1x16384x128 .bf16) (x2 : Vec Ideal S1x1x16384x256 .bf16)
  (x3 : Vec Ideal S1x1x16384 .f32) (i : ℕ)

/-- The two buffers hold every row of the block after its first `K b` keys, `b` the row's group of 128. -/
def Inv (K : ℕ → ℕ) (M : S4096x128.Idx → EReal) (A : S4096x256.Idx → EReal) : Prop :=
  ∀ (r : Fin 4096) (l : Fin 128),
    Row (score x0 x1 x3 i r.val) (value x2) (K (r.val / 128)) (M (ix2 r l)) (fun d => A (ix2 r d))

variable {x0 x1 x2 x3 i}

theorem Inv.congr {K K' : ℕ → ℕ} {M : S4096x128.Idx → EReal} {A : S4096x256.Idx → EReal} (h : Inv x0 x1 x2 x3 i K M A)
    (e : ∀ b < 32, K b = K' b) : Inv x0 x1 x2 x3 i K' M A := fun r l => by
  have := h r l
  rwa [e _ (by have := r.isLt; omega)] at this

/-- A load at a unit-stride rectangle, of an element named coordinate by coordinate. -/
theorem readAt_unit {κ : Kind} {sp : Space} {s : Shape} {e : EltTy} (v : View sig κ sp s e) (off size : Fin s.rank → ℕ)
    (inb : ∀ a, off a + size a ≤ s.size a) (f : v.ty.Contents (Elt Ideal))
    (x : (Rect.unit off size inb).toLoadRect.shape.Idx) (y : s.Idx) (h : ∀ a, (y a).val = off a + (x a).val) :
    v.readAt (Elt Ideal) (Rect.unit off size inb).toLoadRect f x = v.read (Elt Ideal) f y := by
  rw [View.readAt_apply]
  congr 1
  funext a
  refine Fin.ext ?_
  rw [h a]
  show off a + 1 * (x a).val = _
  rw [Nat.one_mul]

/-- **The writes of one chunk**: 128 rows from row `128 · j` on, in both buffers. -/
theorem Inv.write {κ : Kind} {sp : Space} {v7 : View sig κ sp S4096x128 .f32} {v8 : View sig κ sp S4096x256 .f32}
    {f7 : v7.ty.Contents (Elt Ideal)} {f8 : v8.ty.Contents (Elt Ideal)}
    {L7 : List (View.Piece (Elt Ideal) S4096x128 .f32)} {L8 : List (View.Piece (Elt Ideal) S4096x256 .f32)} {K K' : ℕ → ℕ}
    (h : Inv x0 x1 x2 x3 i K (v7.read (Elt Ideal) (v7.writes (Elt Ideal) f7 L7)) (v8.read (Elt Ideal) (v8.writes (Elt Ideal) f8 L8)))
    (j : ℕ) (hj : j < 32) (inb7 : ∀ a, ![128 * j, 0] a + S128x128.size a ≤ S4096x128.size a)
    (inb8 : ∀ a, ![128 * j, 0] a + S128x256.size a ≤ S4096x256.size a) (P7 : S128x128.Idx → EReal) (P8 : S128x256.Idx → EReal)
    (hP : ∀ a l : Fin 128, Row (score x0 x1 x3 i (128 * j + a.val)) (value x2) (K' j) (P7 (ix2 a l)) (fun d => P8 (ix2 a d)))
    (hK : ∀ b, b ≠ j → K' b = K b) :
    Inv x0 x1 x2 x3 i K'
      (v7.read (Elt Ideal) (v7.writes (Elt Ideal) f7 (⟨Rect.unit ![128 * j, 0] S128x128.size inb7, P7⟩ :: L7)))
      (v8.read (Elt Ideal) (v8.writes (Elt Ideal) f8 (⟨Rect.unit ![128 * j, 0] S128x256.size inb8, P8⟩ :: L8))) := by
  intro r l
  by_cases hr : r.val / 128 = j
  · have ha : r.val - 128 * j < 128 := by omega
    have e7 : v7.read (Elt Ideal) (v7.writes (Elt Ideal) f7 (⟨Rect.unit ![128 * j, 0] S128x128.size inb7, P7⟩ :: L7)) (ix2 r l)
        = P7 (ix2 ⟨r.val - 128 * j, ha⟩ l) :=
      View.read_writes_cons_hit_of_coords _ _ _ _ _ _ _ (fun a => by
        match a with
        | ⟨0, _⟩ => show r.val = 128 * j + 1 * (r.val - 128 * j); omega
        | ⟨1, _⟩ => show l.val = 0 + 1 * l.val; omega)
    have e8 : ∀ d : Fin 256, v8.read (Elt Ideal) (v8.writes (Elt Ideal) f8 (⟨Rect.unit ![128 * j, 0] S128x256.size inb8, P8⟩ :: L8)) (ix2 r d)
        = P8 (ix2 ⟨r.val - 128 * j, ha⟩ d) := fun d =>
      View.read_writes_cons_hit_of_coords _ _ _ _ _ _ _ (fun a => by
        match a with
        | ⟨0, _⟩ => show r.val = 128 * j + 1 * (r.val - 128 * j); omega
        | ⟨1, _⟩ => show d.val = 0 + 1 * d.val; omega)
    have := hP ⟨r.val - 128 * j, ha⟩ l
    rw [e7, hr]
    simp only [e8]
    have er : 128 * j + (r.val - 128 * j) = r.val := by omega
    simpa only [er] using this
  · have hd : r.val < 128 * j ∨ 128 * j + 128 ≤ r.val := by omega
    have e7 : v7.read (Elt Ideal) (v7.writes (Elt Ideal) f7 (⟨Rect.unit ![128 * j, 0] S128x128.size inb7, P7⟩ :: L7)) (ix2 r l)
        = v7.read (Elt Ideal) (v7.writes (Elt Ideal) f7 L7) (ix2 r l) :=
      View.read_writes_cons_miss_of_axis _ _ _ _ _ (0 : Fin 2) (128 * j) 128 rfl rfl rfl hd
    have e8 : ∀ d : Fin 256, v8.read (Elt Ideal) (v8.writes (Elt Ideal) f8 (⟨Rect.unit ![128 * j, 0] S128x256.size inb8, P8⟩ :: L8)) (ix2 r d)
        = v8.read (Elt Ideal) (v8.writes (Elt Ideal) f8 L8) (ix2 r d) := fun d =>
      View.read_writes_cons_miss_of_axis _ _ _ _ _ (0 : Fin 2) (128 * j) 128 rfl rfl rfl hd
    rw [e7, hK _ hr]
    simp only [e8]
    exact h r l

/-- A chunk's scores are the block's scores where no key of it is masked. -/
theorem scores_eq (w n j : ℕ) (hj : j < 32) (hn : n + w ≤ 16384) (q : Vec Ideal S1x1x128x128 .bf16)
    (k : Vec Ideal ⟨4, ![1, 1, w, 128]⟩ .bf16) (c : Vec Ideal ⟨3, ![1, 1, w]⟩ .f32) (hq) (hk) (hc) (hb)
    (eq : ∀ a d : Fin 128, q (ix4 0 0 a d) = x0 (ix4 0 0 ⟨128 * j + a.val, by have := a.isLt; omega⟩ d))
    (ek : ∀ (b : Fin w) (d : Fin 128), k (ix4 0 0 b d) = x1 (ix4 0 0 ⟨n + b.val, by have := b.isLt; omega⟩ d))
    (ec : ∀ b : Fin w, c (ix3 0 0 b) = x3 (ix3 0 0 ⟨n + b.val, by have := b.isLt; omega⟩))
    (a : Fin 128) (b : Fin w) (hle : n + b.val ≤ 4096 * i + (128 * j + a.val)) :
    scores (F := Ideal) w q k c hq hk hc hb (ix2 a b) = score x0 x1 x3 i (128 * j + a.val) (n + b.val) := by
  have := a.isLt
  have := b.isLt
  rw [scores_apply, score, dif_pos ⟨by omega, by omega⟩, if_pos hle, ec]
  congr 1
  exact Finset.sum_congr rfl fun d _ => by rw [eq, ek]

/-- A key after the query scores `⊥`. -/
theorem score_masked {r k : ℕ} (h : ¬ k ≤ 4096 * i + r) : score x0 x1 x3 i r k = ⊥ := by
  unfold score
  split_ifs <;> rfl

/-- A score is that of the unmasked formula below `⊤` wherever that formula is. -/
theorem score_ne_top
    (h : ∀ (r : Fin 4096) (k : Fin 16384),
      (∑ d : Fin 128, (x0 (ix4 0 0 r d) : EReal) * x1 (ix4 0 0 k d)) + x3 (ix3 0 0 k) ≠ ⊤) (r k : ℕ) :
    score x0 x1 x3 i r k ≠ ⊤ := by
  unfold score
  split
  · split
    · exact h _ _
    · exact bot_ne_top
  · exact bot_ne_top

/-- **One chunk of the body**, at any number `w` of keys from key `n` on, for the rows of group `j`: its scores `s` are the
    block's, its maxima `mt` at the chunk's width are repetitions of the new maxima, and what it reads of the two buffers
    is what they hold. -/
theorem Inv.chunk {κ : Kind} {sp : Space} {v7 : View sig κ sp S4096x128 .f32} {v8 : View sig κ sp S4096x256 .f32}
    {f7 : v7.ty.Contents (Elt Ideal)} {f8 : v8.ty.Contents (Elt Ideal)}
    {L7 : List (View.Piece (Elt Ideal) S4096x128 .f32)} {L8 : List (View.Piece (Elt Ideal) S4096x256 .f32)} {K K' : ℕ → ℕ}
    (h : Inv x0 x1 x2 x3 i K (v7.read (Elt Ideal) (v7.writes (Elt Ideal) f7 L7)) (v8.read (Elt Ideal) (v8.writes (Elt Ideal) f8 L8)))
    (hT : ∀ r k, score x0 x1 x3 i r k ≠ ⊤)
    (j : ℕ) (hj : j < 32) (inb7 : ∀ a, ![128 * j, 0] a + S128x128.size a ≤ S4096x128.size a)
    (inb8 : ∀ a, ![128 * j, 0] a + S128x256.size a ≤ S4096x256.size a) (w n : ℕ) (hn : n + w ≤ 16384)
    (s mt : FVec Ideal ⟨2, ![128, w]⟩ .f32) (m m' : FVec Ideal S128x128 .f32) (v : Vec Ideal ⟨4, ![1, 1, w, 256]⟩ .bf16)
    (a : FVec Ideal S128x256 .f32) (hr) (hc1) (hb) (ht) (hv) (hc) (hs7 : S128x128.ShapeCasts S128x128)
    (hs8 : S128x256.ShapeCasts S128x256)
    (hKj : K j = n) (hKj' : K' j = n + w) (hK : ∀ b, b ≠ j → K' b = K b)
    (hm' : m' = maxNew (F := Ideal) w s m hr hc1 hb)
    (hs : ∀ (b : Fin 128) (c : Fin w), (s (ix2 b c) : EReal) = score x0 x1 x3 i (128 * j + b.val) (n + c.val))
    (hmt : ∀ (b : Fin 128) (c : Fin w), ∃ l, (mt (ix2 b c) : EReal) = m' (ix2 b l))
    (hV : ∀ (c : Fin w) (d : Fin 256), v (ix4 0 0 c d) = x2 (ix4 0 0 ⟨n + c.val, by have := c.isLt; omega⟩ d))
    (em : ∀ b l : Fin 128, m (ix2 b l) = v7.read (Elt Ideal) (v7.writes (Elt Ideal) f7 L7) (ix2 ⟨128 * j + b.val, by have := b.isLt; omega⟩ l))
    (ea : ∀ (b : Fin 128) (d : Fin 256), a (ix2 b d) = v8.read (Elt Ideal) (v8.writes (Elt Ideal) f8 L8) (ix2 ⟨128 * j + b.val, by have := b.isLt; omega⟩ d)) :
    Inv x0 x1 x2 x3 i K'
      (v7.read (Elt Ideal) (v7.writes (Elt Ideal) f7
        (⟨Rect.unit ![128 * j, 0] S128x128.size inb7, shapeCast S128x128 m' hs7⟩ :: L7)))
      (v8.read (Elt Ideal) (v8.writes (Elt Ideal) f8
        (⟨Rect.unit ![128 * j, 0] S128x256.size inb8,
          shapeCast S128x256 (accNew (F := Ideal) w s mt m m' v a ht hv hc) hs8⟩ :: L8))) := by
  refine h.write j hj inb7 inb8 _ _ (fun b l => ?_) hK
  have e7 : ∀ l, shapeCast S128x128 m' hs7 (ix2 b l) = m' (ix2 b l) := fun l => shapeCast_apply m' hs7 _ _ rfl
  have e8 : ∀ d, shapeCast S128x256 (accNew (F := Ideal) w s mt m m' v a ht hv hc) hs8 (ix2 b d)
      = accNew (F := Ideal) w s mt m m' v a ht hv hc (ix2 b d) := fun d => shapeCast_apply _ hs8 _ _ rfl
  rw [hKj', e7]
  simp only [e8]
  refine chunk_row w n _ _ (hT _) b s mt m m' v a hr hc1 hb ht hv hc hm' (fun c => hs b c) (fun c => hmt b c) (fun c d => ?_)
    (fun l' => ?_) l
  · rw [hV, value, dif_pos]
  · have := h ⟨128 * j + b.val, by have := b.isLt; omega⟩ l'
    rw [show (128 * j + b.val) / 128 = j by have := b.isLt; omega, hKj, ← em] at this
    simpa only [ea] using this

end

end Cert.Attn
-- ==== Proof.Tail.lean ====
/-
  The last 4096 keys of a block of 4096 queries, the ones the causal mask cuts: four phases of 1024 keys, each going through
  the groups of 128 queries that still see keys of the phase. In a phase the first eight groups meet the diagonal (their
  last 128 keys are masked), the later ones see all of its 1024 keys.
-/
module

public import proofs.«01_k».proof.Proof.Step
public import proofs.«01_k».proof.Proof.Gen.KernelIdeal.Frame.RunA

@[expose] public section

set_option maxRecDepth 16384

noncomputable section

namespace Cert.Attn

open Idealize.ShloMosaic hiding ix1 ix2 ix3 ix4
open Idealize.ShloMosaic.ValueIdx Cert.KernelIdeal Cert.KernelIdeal.Gen

/-- The first key of phase `p` of the block `i` of 4096 queries, as the body computes it. -/
abbrev keyWord (i : grid0.Coords) (p : ℕ) : BitVec 32 :=
  Scalar.indexCast (Scalar.addi (Scalar.muli (BitVec.ofNat 32 (i 1).val) 4096#32) (BitVec.ofNat 32 (1024 * p)))

theorem keyWord_toNat (i : grid0.Coords) (p : ℕ) (hp : p < 4) : (keyWord i p).toNat = 4096 * (i 1).val + 1024 * p := by
  have hi : (i 1).val < 4 := (i 1).isLt
  show ((BitVec.ofNat 32 (i 1).val * 4096#32) + BitVec.ofNat 32 (1024 * p)).toNat = _
  rw [BitVec.toNat_add, BitVec.toNat_mul, BitVec.toNat_ofNat, BitVec.toNat_ofNat, BitVec.toNat_ofNat]
  omega

/-- How many keys a group `b` of 128 queries has taken once phase `p` has been through the groups below `j`. -/
def taken (i p j b : ℕ) : ℕ :=
  4096 * i + if b < j then min (128 * (b + 1)) (1024 * (p + 1)) else min (128 * (b + 1)) (1024 * p)

section

/-! ### Evidence on shapes, for a chunk of any width -/

theorem ev_q : S1x1x128x128.ShapeCasts S128x128 := by decide
theorem ev_k {w : ℕ} : (⟨4, ![1, 1, w, 128]⟩ : Shape).ShapeCasts ⟨2, ![w, 128]⟩ := by
  simp [Shape.ShapeCasts, Shape.numel, Fin.prod_univ_succ]
theorem ev_c {w : ℕ} : (⟨3, ![1, 1, w]⟩ : Shape).ShapeCasts ⟨2, ![1, w]⟩ := by
  simp [Shape.ShapeCasts, Shape.numel, Fin.prod_univ_succ]
theorem ev_v {w : ℕ} : (⟨4, ![1, 1, w, 256]⟩ : Shape).ShapeCasts ⟨2, ![w, 256]⟩ := by
  simp [Shape.ShapeCasts, Shape.numel, Fin.prod_univ_succ]
theorem ev_b {w : ℕ} : (⟨2, ![1, w]⟩ : Shape).Broadcasts ⟨2, ![128, w]⟩ :=
  ⟨le_refl 2, fun a => by
    match a with
    | ⟨0, _⟩ => exact .inl rfl
    | ⟨1, _⟩ => exact .inr fun _ => rfl⟩
theorem ev_r {w : ℕ} : (⟨2, ![128, w]⟩ : Shape).Reduces [1] S128 :=
  ⟨rfl, Nat.one_pos, fun b => by
    match b with
    | ⟨0, _⟩ => rfl⟩
theorem ev_l {u w : ℕ} (h : u ≤ w) : (⟨2, ![128, w]⟩ : Shape).Slices ![0, 0] ⟨2, ![128, u]⟩ :=
  ⟨rfl, fun a => by
    match a with
    | ⟨0, _⟩ => exact le_refl 128
    | ⟨1, _⟩ => exact (Nat.zero_add u).trans_le h⟩
theorem ev_rr {u w : ℕ} (h : u + 128 ≤ w) : (⟨2, ![128, w]⟩ : Shape).Slices ![0, u] S128x128 :=
  ⟨rfl, fun a => by
    match a with
    | ⟨0, _⟩ => exact le_refl 128
    | ⟨1, _⟩ => exact h⟩
theorem ev_cd {u w : ℕ} (h : u + 128 = w) : Shape.Concatenates [⟨2, ![128, u]⟩, S128x128] ⟨2, ![128, w]⟩ 1 :=
  ⟨le_refl 2, fun s hs => by
    rcases List.mem_cons.mp hs with rfl | hs
    · exact ⟨rfl, fun b hb => by
        match b with
        | ⟨0, _⟩ => rfl
        | ⟨1, _⟩ => exact absurd rfl hb⟩
    · rw [List.mem_singleton.mp hs]
      exact ⟨rfl, fun b hb => by
        match b with
        | ⟨0, _⟩ => rfl
        | ⟨1, _⟩ => exact absurd rfl hb⟩, h⟩
theorem ev_cc : Shape.Concatenates [S128x128, S128x128] S128x256 1 := by decide
theorem ev_c1 : S128.ShapeCasts S128x1 := by decide
theorem ev_b1 : S128x1.Broadcasts S128x128 := by decide
theorem ev_h0 : S128x128.Iotas .tc 32 [0] := by decide
theorem ev_h1 : S128x128.Iotas .tc 32 [1] := by decide
theorem ev_t : FTy.bf16.bits < FTy.f32.bits := by decide
theorem ev_s7 : S128x128.ShapeCasts S128x128 := by decide
theorem ev_s8 : S128x256.ShapeCasts S128x256 := by decide

variable (i : grid0.Coords) (arg2 : Memref sig .tc .vmem S1x1x4096x128 .bf16) (harg2 : arg2.IsWhole)
  (arg3 : Memref sig .tc .vmem S1x1x16384x128 .bf16) (harg3 : arg3.IsWhole)
  (arg4 : Memref sig .tc .vmem S1x1x16384x256 .bf16) (harg4 : arg4.IsWhole)
  (arg5 : Memref sig .tc .vmem S1x1x16384 .f32) (harg5 : arg5.IsWhole)
  (arg7 : Memref sig .tc .vmem S4096x128 .f32) (arg8 : Memref sig .tc .vmem S4096x256 .f32)
  (x0 : Vec Ideal S1x1x4096x128 .bf16) (x1 : Vec Ideal S1x1x16384x128 .bf16) (x2 : Vec Ideal S1x1x16384x256 .bf16)
  (x3 : Vec Ideal S1x1x16384 .f32)

/-- The 128 queries of group `j`. -/
abbrev ldQ (j : ℕ) (iq : ∀ a, ![0, 0, 128 * j, 0] a + S1x1x128x128.size a ≤ S1x1x4096x128.size a) : Vec Ideal S1x1x128x128 .bf16 :=
  View.readAt (Elt Ideal) arg2.view (Rect.unit (s := S1x1x4096x128) ![0, 0, 128 * j, 0] S1x1x128x128.size iq).toLoadRect (harg2.unread x0)

/-- `w` keys from key `n` on. -/
abbrev ldK (w n : ℕ) (ik : ∀ a, ![0, 0, n, 0] a + (⟨4, ![1, 1, w, 128]⟩ : Shape).size a ≤ S1x1x16384x128.size a) :
    Vec Ideal ⟨4, ![1, 1, w, 128]⟩ .bf16 :=
  View.readAt (Elt Ideal) arg3.view (Rect.unit (s := S1x1x16384x128) ![0, 0, n, 0] (⟨4, ![1, 1, w, 128]⟩ : Shape).size ik).toLoadRect (harg3.unread x1)

/-- Their values. -/
abbrev ldV (w n : ℕ) (iv : ∀ a, ![0, 0, n, 0] a + (⟨4, ![1, 1, w, 256]⟩ : Shape).size a ≤ S1x1x16384x256.size a) :
    Vec Ideal ⟨4, ![1, 1, w, 256]⟩ .bf16 :=
  View.readAt (Elt Ideal) arg4.view (Rect.unit (s := S1x1x16384x256) ![0, 0, n, 0] (⟨4, ![1, 1, w, 256]⟩ : Shape).size iv).toLoadRect (harg4.unread x2)

/-- Their negated cumulative gates. -/
abbrev ldC (w n : ℕ) (ic : ∀ a, ![0, 0, n] a + (⟨3, ![1, 1, w]⟩ : Shape).size a ≤ S1x1x16384.size a) :
    Vec Ideal ⟨3, ![1, 1, w]⟩ .f32 :=
  View.readAt (Elt Ideal) arg5.view (Rect.unit (s := S1x1x16384) ![0, 0, n] (⟨3, ![1, 1, w]⟩ : Shape).size ic).toLoadRect (harg5.unread x3)

/-- The running maxima of group `j`, of the buffer's contents after the writes `L`. -/
abbrev ldM (L : List (View.Piece (Elt Ideal) S4096x128 .f32)) (j : ℕ)
    (i7 : ∀ a, ![128 * j, 0] a + S128x128.size a ≤ S4096x128.size a) : FVec Ideal S128x128 .f32 :=
  arg7.view.readCov L (Rect.unit (s := S4096x128) ![128 * j, 0] S128x128.size i7).toLoadRect

/-- The accumulator of group `j`, of the buffer's contents after the writes `L`. -/
abbrev ldA (L : List (View.Piece (Elt Ideal) S4096x256 .f32)) (j : ℕ)
    (i8 : ∀ a, ![128 * j, 0] a + S128x256.size a ≤ S4096x256.size a) : FVec Ideal S128x256 .f32 :=
  arg8.view.readCov L (Rect.unit (s := S4096x256) ![128 * j, 0] S128x256.size i8).toLoadRect

theorem ldQ_apply (j : ℕ) (hj : j < 32) (iq) (a d : Fin 128) :
    ldQ arg2 harg2 x0 j iq (ix4 0 0 a d) = x0 (ix4 0 0 ⟨128 * j + a.val, by have := a.isLt; omega⟩ d) := by
  rw [ldQ, readAt_unit (y := ix4 0 0 ⟨128 * j + a.val, by have := a.isLt; omega⟩ d), harg2.read_unread]
  intro b
  match b with
  | ⟨0, _⟩ => rfl
  | ⟨1, _⟩ => rfl
  | ⟨2, _⟩ => rfl
  | ⟨3, _⟩ => exact (Nat.zero_add _).symm

theorem ldK_apply (w n : ℕ) (hn : n + w ≤ 16384) (ik) (a : Fin w) (d : Fin 128) :
    ldK arg3 harg3 x1 w n ik (ix4 0 0 a d) = x1 (ix4 0 0 ⟨n + a.val, by have := a.isLt; omega⟩ d) := by
  rw [ldK, readAt_unit (y := ix4 0 0 ⟨n + a.val, by have := a.isLt; omega⟩ d), harg3.read_unread]
  intro b
  match b with
  | ⟨0, _⟩ => rfl
  | ⟨1, _⟩ => rfl
  | ⟨2, _⟩ => rfl
  | ⟨3, _⟩ => exact (Nat.zero_add _).symm

theorem ldV_apply (w n : ℕ) (hn : n + w ≤ 16384) (iv) (a : Fin w) (d : Fin 256) :
    ldV arg4 harg4 x2 w n iv (ix4 0 0 a d) = x2 (ix4 0 0 ⟨n + a.val, by have := a.isLt; omega⟩ d) := by
  rw [ldV, readAt_unit (y := ix4 0 0 ⟨n + a.val, by have := a.isLt; omega⟩ d), harg4.read_unread]
  intro b
  match b with
  | ⟨0, _⟩ => rfl
  | ⟨1, _⟩ => rfl
  | ⟨2, _⟩ => rfl
  | ⟨3, _⟩ => exact (Nat.zero_add _).symm

theorem ldC_apply (w n : ℕ) (hn : n + w ≤ 16384) (ic) (a : Fin w) :
    ldC arg5 harg5 x3 w n ic (ix3 0 0 a) = x3 (ix3 0 0 ⟨n + a.val, by have := a.isLt; omega⟩) := by
  rw [ldC, readAt_unit (y := ix3 0 0 ⟨n + a.val, by have := a.isLt; omega⟩), harg5.read_unread]
  intro b
  match b with
  | ⟨0, _⟩ => rfl
  | ⟨1, _⟩ => rfl
  | ⟨2, _⟩ => rfl

theorem ldM_apply (L) (j : ℕ) (hj : j < 32) (i7) (b l : Fin 128) :
    ldM arg7 L j i7 (ix2 b l) = arg7.view.read (Elt Ideal) (arg7.view.writes (Elt Ideal) arg7.view.junk L)
      (ix2 ⟨128 * j + b.val, by have := b.isLt; omega⟩ l) :=
  readAt_unit _ _ _ _ _ _ _ (fun a => by
    match a with
    | ⟨0, _⟩ => rfl
    | ⟨1, _⟩ => exact (Nat.zero_add _).symm)

theorem ldA_apply (L) (j : ℕ) (hj : j < 32) (i8) (b : Fin 128) (d : Fin 256) :
    ldA arg8 L j i8 (ix2 b d) = arg8.view.read (Elt Ideal) (arg8.view.writes (Elt Ideal) arg8.view.junk L)
      (ix2 ⟨128 * j + b.val, by have := b.isLt; omega⟩ d) :=
  readAt_unit _ _ _ _ _ _ _ (fun a => by
    match a with
    | ⟨0, _⟩ => rfl
    | ⟨1, _⟩ => exact (Nat.zero_add _).symm)

/-- The two buffers after phase `p` has been through the groups below `j`, as the writes done so far leave them. -/
def Held (p j : ℕ) (L7 : List (View.Piece (Elt Ideal) S4096x128 .f32)) (L8 : List (View.Piece (Elt Ideal) S4096x256 .f32)) : Prop :=
  Inv x0 x1 x2 x3 (i 1).val (taken (i 1).val p j)
    (arg7.view.read (Elt Ideal) (arg7.view.writes (Elt Ideal) arg7.view.junk L7))
    (arg8.view.read (Elt Ideal) (arg8.view.writes (Elt Ideal) arg8.view.junk L8))

variable {arg7 arg8} {L7 : List (View.Piece (Elt Ideal) S4096x128 .f32)} {L8 : List (View.Piece (Elt Ideal) S4096x256 .f32)}
  (hT : ∀ r k, score x0 x1 x3 (i 1).val r k ≠ ⊤)
include hT

/-- A group past the diagonal takes all 1024 keys of the phase. -/
theorem tail_full (p j : ℕ) (hp : p < 4 := by omega) (hj : 8 * p + 8 ≤ j := by omega) (hj' : j < 32 := by omega)
    {i7 i7' i8 i8' iq ik ic iv hq hk hc hb hr hc1 hb1 ht hv hcc hs7 hs8}
    (h : Held i arg7 arg8 x0 x1 x2 x3 p j L7 L8) :
    Held i arg7 arg8 x0 x1 x2 x3 p (j + 1)
      (⟨Rect.unit ![128 * j, 0] S128x128.size i7, shapeCast S128x128
        (maxNew (F := Ideal) 1024 (scores (F := Ideal) 1024 (ldQ arg2 harg2 x0 j iq) (ldK arg3 harg3 x1 1024 (keyWord i p).toNat ik)
          (ldC arg5 harg5 x3 1024 (keyWord i p).toNat ic) hq hk hc hb) (ldM arg7 L7 j i7') hr hc1 hb1) hs7⟩ :: L7)
      (⟨Rect.unit ![128 * j, 0] S128x256.size i8, shapeCast S128x256
        (accNew (F := Ideal) 1024 (scores (F := Ideal) 1024 (ldQ arg2 harg2 x0 j iq) (ldK arg3 harg3 x1 1024 (keyWord i p).toNat ik)
            (ldC arg5 harg5 x3 1024 (keyWord i p).toNat ic) hq hk hc hb)
          (tileOf (F := Ideal) 8 1024 (maxNew (F := Ideal) 1024 (scores (F := Ideal) 1024 (ldQ arg2 harg2 x0 j iq)
            (ldK arg3 harg3 x1 1024 (keyWord i p).toNat ik) (ldC arg5 harg5 x3 1024 (keyWord i p).toNat ic) hq hk hc hb)
            (ldM arg7 L7 j i7') hr hc1 hb1) (concat_rep 8 1024 (by omega) (by omega)))
          (ldM arg7 L7 j i7')
          (maxNew (F := Ideal) 1024 (scores (F := Ideal) 1024 (ldQ arg2 harg2 x0 j iq)
            (ldK arg3 harg3 x1 1024 (keyWord i p).toNat ik) (ldC arg5 harg5 x3 1024 (keyWord i p).toNat ic) hq hk hc hb)
            (ldM arg7 L7 j i7') hr hc1 hb1)
          (ldV arg4 harg4 x2 1024 (keyWord i p).toNat iv) (ldA arg8 L8 j i8') ht hv hcc) hs8⟩ :: L8) := by
  have hi : (i 1).val < 4 := (i 1).isLt
  have hw := keyWord_toNat i p hp
  generalize (keyWord i p).toNat = n at *
  refine Inv.chunk h hT j hj' i7 i8 1024 n (by omega) _ _ _ _ _ _ hr hc1 hb1 ht hv hcc hs7 hs8 (by unfold taken; split <;> omega)
    (by unfold taken; rw [if_pos (by omega)]; omega) (fun b hb => by unfold taken; split <;> split <;> omega) rfl (fun b c => ?_)
    (fun b c => ⟨_, tileOf_apply 8 1024 _ (concat_rep 8 1024 (by omega) (by omega)) b c⟩) (fun c d => ldV_apply arg4 harg4 x2 1024 n (by omega) iv c d)
    (fun b l => ldM_apply arg7 L7 j hj' i7' b l) (fun b d => ldA_apply arg8 L8 j hj' i8' b d)
  exact scores_eq 1024 n j hj' (by omega) _ _ _ hq hk hc hb (ldQ_apply arg2 harg2 x0 j hj' iq)
    (ldK_apply arg3 harg3 x1 1024 n (by omega) ik) (ldC_apply arg5 harg5 x3 1024 n (by omega) ic) b c
    (by have := c.isLt; omega)

/-- The group whose diagonal square is the first of the phase takes those 128 keys, masked. -/
theorem tail_first (p j : ℕ) (hp : p < 4 := by omega) (hj : j = 8 * p := by omega)
    {i7 i7' i8 i8' iq ik ic iv hq hk hc hb h0 h1 hr hc1 hb1 ht hv hcc hs7 hs8}
    (h : Held i arg7 arg8 x0 x1 x2 x3 p j L7 L8) :
    Held i arg7 arg8 x0 x1 x2 x3 p (j + 1)
      (⟨Rect.unit ![128 * j, 0] S128x128.size i7, shapeCast S128x128
        (maxNew (F := Ideal) 128 (diag (F := Ideal) (scores (F := Ideal) 128 (ldQ arg2 harg2 x0 j iq)
          (ldK arg3 harg3 x1 128 (keyWord i p).toNat ik)
          (ldC arg5 harg5 x3 128 (keyWord i p).toNat ic) hq hk hc hb) h0 h1) (ldM arg7 L7 j i7') hr hc1 hb1) hs7⟩ :: L7)
      (⟨Rect.unit ![128 * j, 0] S128x256.size i8, shapeCast S128x256
        (accNew (F := Ideal) 128 (diag (F := Ideal) (scores (F := Ideal) 128 (ldQ arg2 harg2 x0 j iq)
            (ldK arg3 harg3 x1 128 (keyWord i p).toNat ik)
            (ldC arg5 harg5 x3 128 (keyWord i p).toNat ic) hq hk hc hb) h0 h1)
          (maxNew (F := Ideal) 128 (diag (F := Ideal) (scores (F := Ideal) 128 (ldQ arg2 harg2 x0 j iq)
            (ldK arg3 harg3 x1 128 (keyWord i p).toNat ik) (ldC arg5 harg5 x3 128 (keyWord i p).toNat ic) hq hk hc hb) h0 h1)
            (ldM arg7 L7 j i7') hr hc1 hb1)
          (ldM arg7 L7 j i7')
          (maxNew (F := Ideal) 128 (diag (F := Ideal) (scores (F := Ideal) 128 (ldQ arg2 harg2 x0 j iq)
            (ldK arg3 harg3 x1 128 (keyWord i p).toNat ik) (ldC arg5 harg5 x3 128 (keyWord i p).toNat ic) hq hk hc hb) h0 h1)
            (ldM arg7 L7 j i7') hr hc1 hb1)
          (ldV arg4 harg4 x2 128 (keyWord i p).toNat iv) (ldA arg8 L8 j i8') ht hv hcc) hs8⟩ :: L8) := by
  have hi : (i 1).val < 4 := (i 1).isLt
  have hw := keyWord_toNat i p hp
  generalize (keyWord i p).toNat = n at *
  have hj' : j < 32 := by omega
  refine Inv.chunk h hT j hj' i7 i8 128 n (by omega) _ _ _ _ _ _ hr hc1 hb1 ht hv hcc hs7 hs8 (by unfold taken; split <;> omega)
    (by unfold taken; rw [if_pos (by omega)]; omega) (fun b hb => by unfold taken; split <;> split <;> omega) rfl (fun b c => ?_)
    (fun b c => ⟨c, rfl⟩) (fun c d => ldV_apply arg4 harg4 x2 128 n (by omega) iv c d)
    (fun b l => ldM_apply arg7 L7 j hj' i7' b l) (fun b d => ldA_apply arg8 L8 j hj' i8' b d)
  refine (diag_apply _ h0 h1 b c).trans ?_
  split
  · next hle =>
    rw [Fin.le_def] at hle
    exact scores_eq 128 n j hj' (by omega) _ _ _ hq hk hc hb (ldQ_apply arg2 harg2 x0 j hj' iq)
      (ldK_apply arg3 harg3 x1 128 n (by omega) ik) (ldC_apply arg5 harg5 x3 128 n (by omega) ic) b c (by omega)
  · next hle =>
    rw [Fin.le_def] at hle
    exact (score_masked (by omega)).symm

/-- A later group on the phase's diagonal takes the keys before its diagonal square, and the square's, masked. -/
theorem tail_diag (p j t : ℕ) (hp : p < 4 := by omega) (ht1 : t < 7 := by omega) (hj : j = 8 * p + (t + 1) := by omega)
    {i7 i7' i8 i8' iq ik ic iv hq hk hc hb h0 h1 hl hrr hcd hr hc1 hb1 ht hv hcc hs7 hs8}
    (h : Held i arg7 arg8 x0 x1 x2 x3 p j L7 L8) :
    Held i arg7 arg8 x0 x1 x2 x3 p (j + 1)
      (⟨Rect.unit ![128 * j, 0] S128x128.size i7, shapeCast S128x128
        (maxNew (F := Ideal) (128 * (t + 2)) (diagLast (F := Ideal) (128 * (t + 1)) (128 * (t + 2)) (scores (F := Ideal) (128 * (t + 2))
          (ldQ arg2 harg2 x0 j iq) (ldK arg3 harg3 x1 (128 * (t + 2)) (keyWord i p).toNat ik)
          (ldC arg5 harg5 x3 (128 * (t + 2)) (keyWord i p).toNat ic) hq hk hc hb) h0 h1 hl hrr hcd) (ldM arg7 L7 j i7') hr hc1 hb1)
          hs7⟩ :: L7)
      (⟨Rect.unit ![128 * j, 0] S128x256.size i8, shapeCast S128x256
        (accNew (F := Ideal) (128 * (t + 2)) (diagLast (F := Ideal) (128 * (t + 1)) (128 * (t + 2)) (scores (F := Ideal) (128 * (t + 2))
            (ldQ arg2 harg2 x0 j iq) (ldK arg3 harg3 x1 (128 * (t + 2)) (keyWord i p).toNat ik)
            (ldC arg5 harg5 x3 (128 * (t + 2)) (keyWord i p).toNat ic) hq hk hc hb) h0 h1 hl hrr hcd)
          (tileOf (F := Ideal) (t + 2) (128 * (t + 2)) (maxNew (F := Ideal) (128 * (t + 2)) (diagLast (F := Ideal) (128 * (t + 1)) (128 * (t + 2))
            (scores (F := Ideal) (128 * (t + 2)) (ldQ arg2 harg2 x0 j iq) (ldK arg3 harg3 x1 (128 * (t + 2)) (keyWord i p).toNat ik)
            (ldC arg5 harg5 x3 (128 * (t + 2)) (keyWord i p).toNat ic) hq hk hc hb) h0 h1 hl hrr hcd) (ldM arg7 L7 j i7') hr hc1 hb1) (concat_rep (t + 2) (128 * (t + 2)) (by omega) (by omega)))
          (ldM arg7 L7 j i7')
          (maxNew (F := Ideal) (128 * (t + 2)) (diagLast (F := Ideal) (128 * (t + 1)) (128 * (t + 2)) (scores (F := Ideal) (128 * (t + 2))
            (ldQ arg2 harg2 x0 j iq) (ldK arg3 harg3 x1 (128 * (t + 2)) (keyWord i p).toNat ik)
            (ldC arg5 harg5 x3 (128 * (t + 2)) (keyWord i p).toNat ic) hq hk hc hb) h0 h1 hl hrr hcd) (ldM arg7 L7 j i7') hr hc1 hb1)
          (ldV arg4 harg4 x2 (128 * (t + 2)) (keyWord i p).toNat iv) (ldA arg8 L8 j i8') ht hv hcc) hs8⟩ :: L8) := by
  have hi : (i 1).val < 4 := (i 1).isLt
  have hw := keyWord_toNat i p hp
  generalize (keyWord i p).toNat = n at *
  have hj' : j < 32 := by omega
  refine Inv.chunk h hT j hj' i7 i8 (128 * (t + 2)) n (by omega) _ _ _ _ _ _ hr hc1 hb1 ht hv hcc hs7 hs8
    (by unfold taken; split <;> omega)
    (by unfold taken; rw [if_pos (by omega)]; omega) (fun b hb => by unfold taken; split <;> split <;> omega) rfl (fun b c => ?_)
    (fun b c => ⟨_, tileOf_apply (t + 2) (128 * (t + 2)) _ (concat_rep (t + 2) (128 * (t + 2)) (by omega) (by omega)) b c⟩)
    (fun c d => ldV_apply arg4 harg4 x2 (128 * (t + 2)) n (by omega) iv c d)
    (fun b l => ldM_apply arg7 L7 j hj' i7' b l) (fun b d => ldA_apply arg8 L8 j hj' i8' b d)
  refine (diagLast_apply (128 * (t + 1)) (128 * (t + 2)) _ h0 h1 hl hrr hcd (by omega) b c).trans ?_
  split
  · next hle =>
    exact scores_eq (128 * (t + 2)) n j hj' (by omega) _ _ _ hq hk hc hb (ldQ_apply arg2 harg2 x0 j hj' iq)
      (ldK_apply arg3 harg3 x1 (128 * (t + 2)) n (by omega) ik) (ldC_apply arg5 harg5 x3 (128 * (t + 2)) n (by omega) ic) b c (by omega)
  · next hle => exact (score_masked (by omega)).symm

omit hT in
/-- The end of a phase is the start of the next. -/
theorem next_phase (p : ℕ) (hp : p < 3) (h : Held i arg7 arg8 x0 x1 x2 x3 p 32 L7 L8) :
    Held i arg7 arg8 x0 x1 x2 x3 (p + 1) (8 * (p + 1)) L7 L8 :=
  Inv.congr h fun b hb => by unfold taken; split <;> split <;> omega

end

end Cert.Attn
-- ==== Proof.Phases.lean ====
/-
  The 80 chunks of the last 4096 keys, as the body's run names the two buffers after each: every chunk is one of the three
  kinds of `Tail`, so a phase takes the buffers through its groups of queries, and the four phases one after the other to
  every key that any query of the block sees.
-/
module

public import proofs.«01_k».proof.Proof.Tail
@[expose] public section

set_option maxRecDepth 65536

noncomputable section

namespace Cert.Attn

open Idealize.ShloMosaic hiding ix1 ix2 ix3 ix4
open Idealize.ShloMosaic.ValueIdx Cert.KernelIdeal Cert.KernelIdeal.Gen
variable (c : Dev nD) (i : grid0.Coords) (arg2 : Memref sig .tc .vmem S1x1x4096x128 .bf16) (harg2 : arg2.IsWhole)
  (arg3 : Memref sig .tc .vmem S1x1x16384x128 .bf16) (harg3 : arg3.IsWhole)
  (arg4 : Memref sig .tc .vmem S1x1x16384x256 .bf16) (harg4 : arg4.IsWhole)
  (arg5 : Memref sig .tc .vmem S1x1x16384 .f32) (harg5 : arg5.IsWhole)
  (arg6 : Memref sig .tc .vmem S1x4096x128 .bf16) (harg6 : arg6.IsWhole)
  (arg7 : Memref sig .tc .vmem S4096x128 .f32) (harg7 : arg7.IsWhole) (arg8 : Memref sig .tc .vmem S4096x256 .f32) (harg8 : arg8.IsWhole)
  (x0 : Vec Ideal S1x1x4096x128 .bf16) (x1 : Vec Ideal S1x1x16384x128 .bf16) (x2 : Vec Ideal S1x1x16384x256 .bf16)
  (x3 : Vec Ideal S1x1x16384 .f32)
  (hT : ∀ r k, score x0 x1 x3 (i 1).val r k ≠ ⊤)
include hT

/-- Phase 0, from its first chunk on. -/
theorem phase0 (h : Held i arg7 arg8 x0 x1 x2 x3 0 1
      (kernelRun0_A.sl.HS0_1_1 c i arg2 harg2 arg3 harg3 arg4 harg4 arg5 harg5 arg6 harg6 arg7 harg7 arg8 harg8 x0 x1 x2 x3)
      (kernelRun0_A.sl.HS1_1_1 c i arg2 harg2 arg3 harg3 arg4 harg4 arg5 harg5 arg6 harg6 arg7 harg7 arg8 harg8 x0 x1 x2 x3)) :
    Held i arg7 arg8 x0 x1 x2 x3 0 32
      (kernelRun0_A.sl.HS0_32 c i arg2 harg2 arg3 harg3 arg4 harg4 arg5 harg5 arg6 harg6 arg7 harg7 arg8 harg8 x0 x1 x2 x3)
      (kernelRun0_A.sl.HS1_32 c i arg2 harg2 arg3 harg3 arg4 harg4 arg5 harg5 arg6 harg6 arg7 harg7 arg8 harg8 x0 x1 x2 x3) := by
  refine tail_full i arg2 harg2 arg3 harg3 arg4 harg4 arg5 harg5 x0 x1 x2 x3 hT 0 31 (hb := ev_b) (hcc := ev_cc) (by omega) (by omega) (by omega) ?_
  refine tail_full i arg2 harg2 arg3 harg3 arg4 harg4 arg5 harg5 x0 x1 x2 x3 hT 0 30 (hb := ev_b) (hcc := ev_cc) (by omega) (by omega) (by omega) ?_
  refine tail_full i arg2 harg2 arg3 harg3 arg4 harg4 arg5 harg5 x0 x1 x2 x3 hT 0 29 (hb := ev_b) (hcc := ev_cc) (by omega) (by omega) (by omega) ?_
  refine tail_full i arg2 harg2 arg3 harg3 arg4 harg4 arg5 harg5 x0 x1 x2 x3 hT 0 28 (hb := ev_b) (hcc := ev_cc) (by omega) (by omega) (by omega) ?_
  refine tail_full i arg2 harg2 arg3 harg3 arg4 harg4 arg5 harg5 x0 x1 x2 x3 hT 0 27 (hb := ev_b) (hcc := ev_cc) (by omega) (by omega) (by omega) ?_
  refine tail_full i arg2 harg2 arg3 harg3 arg4 harg4 arg5 harg5 x0 x1 x2 x3 hT 0 26 (hb := ev_b) (hcc := ev_cc) (by omega) (by omega) (by omega) ?_
  refine tail_full i arg2 harg2 arg3 harg3 arg4 harg4 arg5 harg5 x0 x1 x2 x3 hT 0 25 (hb := ev_b) (hcc := ev_cc) (by omega) (by omega) (by omega) ?_
  refine tail_full i arg2 harg2 arg3 harg3 arg4 harg4 arg5 harg5 x0 x1 x2 x3 hT 0 24 (hb := ev_b) (hcc := ev_cc) (by omega) (by omega) (by omega) ?_
  refine tail_full i arg2 harg2 arg3 harg3 arg4 harg4 arg5 harg5 x0 x1 x2 x3 hT 0 23 (hb := ev_b) (hcc := ev_cc) (by omega) (by omega) (by omega) ?_
  refine tail_full i arg2 harg2 arg3 harg3 arg4 harg4 arg5 harg5 x0 x1 x2 x3 hT 0 22 (hb := ev_b) (hcc := ev_cc) (by omega) (by omega) (by omega) ?_
  refine tail_full i arg2 harg2 arg3 harg3 arg4 harg4 arg5 harg5 x0 x1 x2 x3 hT 0 21 (hb := ev_b) (hcc := ev_cc) (by omega) (by omega) (by omega) ?_
  refine tail_full i arg2 harg2 arg3 harg3 arg4 harg4 arg5 harg5 x0 x1 x2 x3 hT 0 20 (hb := ev_b) (hcc := ev_cc) (by omega) (by omega) (by omega) ?_
  refine tail_full i arg2 harg2 arg3 harg3 arg4 harg4 arg5 harg5 x0 x1 x2 x3 hT 0 19 (hb := ev_b) (hcc := ev_cc) (by omega) (by omega) (by omega) ?_
  refine tail_full i arg2 harg2 arg3 harg3 arg4 harg4 arg5 harg5 x0 x1 x2 x3 hT 0 18 (hb := ev_b) (hcc := ev_cc) (by omega) (by omega) (by omega) ?_
  refine tail_full i arg2 harg2 arg3 harg3 arg4 harg4 arg5 harg5 x0 x1 x2 x3 hT 0 17 (hb := ev_b) (hcc := ev_cc) (by omega) (by omega) (by omega) ?_
  refine tail_full i arg2 harg2 arg3 harg3 arg4 harg4 arg5 harg5 x0 x1 x2 x3 hT 0 16 (hb := ev_b) (hcc := ev_cc) (by omega) (by omega) (by omega) ?_
  refine tail_full i arg2 harg2 arg3 harg3 arg4 harg4 arg5 harg5 x0 x1 x2 x3 hT 0 15 (hb := ev_b) (hcc := ev_cc) (by omega) (by omega) (by omega) ?_
  refine tail_full i arg2 harg2 arg3 harg3 arg4 harg4 arg5 harg5 x0 x1 x2 x3 hT 0 14 (hb := ev_b) (hcc := ev_cc) (by omega) (by omega) (by omega) ?_
  refine tail_full i arg2 harg2 arg3 harg3 arg4 harg4 arg5 harg5 x0 x1 x2 x3 hT 0 13 (hb := ev_b) (hcc := ev_cc) (by omega) (by omega) (by omega) ?_
  refine tail_full i arg2 harg2 arg3 harg3 arg4 harg4 arg5 harg5 x0 x1 x2 x3 hT 0 12 (hb := ev_b) (hcc := ev_cc) (by omega) (by omega) (by omega) ?_
  refine tail_full i arg2 harg2 arg3 harg3 arg4 harg4 arg5 harg5 x0 x1 x2 x3 hT 0 11 (hb := ev_b) (hcc := ev_cc) (by omega) (by omega) (by omega) ?_
  refine tail_full i arg2 harg2 arg3 harg3 arg4 harg4 arg5 harg5 x0 x1 x2 x3 hT 0 10 (hb := ev_b) (hcc := ev_cc) (by omega) (by omega) (by omega) ?_
  refine tail_full i arg2 harg2 arg3 harg3 arg4 harg4 arg5 harg5 x0 x1 x2 x3 hT 0 9 (hb := ev_b) (hcc := ev_cc) (by omega) (by omega) (by omega) ?_
  refine tail_full i arg2 harg2 arg3 harg3 arg4 harg4 arg5 harg5 x0 x1 x2 x3 hT 0 8 (hb := ev_b) (hcc := ev_cc) (by omega) (by omega) (by omega) ?_
  refine tail_diag i arg2 harg2 arg3 harg3 arg4 harg4 arg5 harg5 x0 x1 x2 x3 hT 0 7 6 (hcc := ev_cc) (hcd := ev_cd (by omega)) (hrr := ev_rr (by omega)) (by omega) (by omega) (by omega) ?_
  refine tail_diag i arg2 harg2 arg3 harg3 arg4 harg4 arg5 harg5 x0 x1 x2 x3 hT 0 6 5 (hcc := ev_cc) (hcd := ev_cd (by omega)) (hrr := ev_rr (by omega)) (by omega) (by omega) (by omega) ?_
  unfold kernelRun0_A.sl.HS0_6 kernelRun0_A.sl.HS1_6 kernelRun0_A.sl.r_11 kernelRun0_A.sl.r_10 k0_pay385 k0_pay384 k0_pay383 k0_pay382 k0_pay381
  refine tail_diag i arg2 harg2 arg3 harg3 arg4 harg4 arg5 harg5 x0 x1 x2 x3 hT 0 5 4 (hcc := ev_cc) (hcd := ev_cd (by omega)) (hrr := ev_rr (by omega)) (by omega) (by omega) (by omega) ?_
  refine tail_diag i arg2 harg2 arg3 harg3 arg4 harg4 arg5 harg5 x0 x1 x2 x3 hT 0 4 3 (hcc := ev_cc) (hcd := ev_cd (by omega)) (hrr := ev_rr (by omega)) (by omega) (by omega) (by omega) ?_
  refine tail_diag i arg2 harg2 arg3 harg3 arg4 harg4 arg5 harg5 x0 x1 x2 x3 hT 0 3 2 (hcc := ev_cc) (hcd := ev_cd (by omega)) (hrr := ev_rr (by omega)) (by omega) (by omega) (by omega) ?_
  refine tail_diag i arg2 harg2 arg3 harg3 arg4 harg4 arg5 harg5 x0 x1 x2 x3 hT 0 2 1 (hcc := ev_cc) (hcd := ev_cd (by omega)) (hrr := ev_rr (by omega)) (by omega) (by omega) (by omega) ?_
  refine tail_diag i arg2 harg2 arg3 harg3 arg4 harg4 arg5 harg5 x0 x1 x2 x3 hT 0 1 0 (hcc := ev_cc) (hcd := ev_cd (by omega)) (hrr := ev_rr (by omega)) (by omega) (by omega) (by omega) ?_
  exact h

/-- Phase 1. -/
theorem phase1 (h : Held i arg7 arg8 x0 x1 x2 x3 1 8
      (kernelRun0_A.sl.HS0_32 c i arg2 harg2 arg3 harg3 arg4 harg4 arg5 harg5 arg6 harg6 arg7 harg7 arg8 harg8 x0 x1 x2 x3)
      (kernelRun0_A.sl.HS1_32 c i arg2 harg2 arg3 harg3 arg4 harg4 arg5 harg5 arg6 harg6 arg7 harg7 arg8 harg8 x0 x1 x2 x3)) :
    Held i arg7 arg8 x0 x1 x2 x3 1 32
      (kernelRun0_A.sl.HS0_56 c i arg2 harg2 arg3 harg3 arg4 harg4 arg5 harg5 arg6 harg6 arg7 harg7 arg8 harg8 x0 x1 x2 x3)
      (kernelRun0_A.sl.HS1_56 c i arg2 harg2 arg3 harg3 arg4 harg4 arg5 harg5 arg6 harg6 arg7 harg7 arg8 harg8 x0 x1 x2 x3) := by
  refine tail_full i arg2 harg2 arg3 harg3 arg4 harg4 arg5 harg5 x0 x1 x2 x3 hT 1 31 (hb := ev_b) (hcc := ev_cc) (by omega) (by omega) (by omega) ?_
  refine tail_full i arg2 harg2 arg3 harg3 arg4 harg4 arg5 harg5 x0 x1 x2 x3 hT 1 30 (hb := ev_b) (hcc := ev_cc) (by omega) (by omega) (by omega) ?_
  refine tail_full i arg2 harg2 arg3 harg3 arg4 harg4 arg5 harg5 x0 x1 x2 x3 hT 1 29 (hb := ev_b) (hcc := ev_cc) (by omega) (by omega) (by omega) ?_
  refine tail_full i arg2 harg2 arg3 harg3 arg4 harg4 arg5 harg5 x0 x1 x2 x3 hT 1 28 (hb := ev_b) (hcc := ev_cc) (by omega) (by omega) (by omega) ?_
  refine tail_full i arg2 harg2 arg3 harg3 arg4 harg4 arg5 harg5 x0 x1 x2 x3 hT 1 27 (hb := ev_b) (hcc := ev_cc) (by omega) (by omega) (by omega) ?_
  refine tail_full i arg2 harg2 arg3 harg3 arg4 harg4 arg5 harg5 x0 x1 x2 x3 hT 1 26 (hb := ev_b) (hcc := ev_cc) (by omega) (by omega) (by omega) ?_
  refine tail_full i arg2 harg2 arg3 harg3 arg4 harg4 arg5 harg5 x0 x1 x2 x3 hT 1 25 (hb := ev_b) (hcc := ev_cc) (by omega) (by omega) (by omega) ?_
  refine tail_full i arg2 harg2 arg3 harg3 arg4 harg4 arg5 harg5 x0 x1 x2 x3 hT 1 24 (hb := ev_b) (hcc := ev_cc) (by omega) (by omega) (by omega) ?_
  refine tail_full i arg2 harg2 arg3 harg3 arg4 harg4 arg5 harg5 x0 x1 x2 x3 hT 1 23 (hb := ev_b) (hcc := ev_cc) (by omega) (by omega) (by omega) ?_
  refine tail_full i arg2 harg2 arg3 harg3 arg4 harg4 arg5 harg5 x0 x1 x2 x3 hT 1 22 (hb := ev_b) (hcc := ev_cc) (by omega) (by omega) (by omega) ?_
  refine tail_full i arg2 harg2 arg3 harg3 arg4 harg4 arg5 harg5 x0 x1 x2 x3 hT 1 21 (hb := ev_b) (hcc := ev_cc) (by omega) (by omega) (by omega) ?_
  refine tail_full i arg2 harg2 arg3 harg3 arg4 harg4 arg5 harg5 x0 x1 x2 x3 hT 1 20 (hb := ev_b) (hcc := ev_cc) (by omega) (by omega) (by omega) ?_
  refine tail_full i arg2 harg2 arg3 harg3 arg4 harg4 arg5 harg5 x0 x1 x2 x3 hT 1 19 (hb := ev_b) (hcc := ev_cc) (by omega) (by omega) (by omega) ?_
  refine tail_full i arg2 harg2 arg3 harg3 arg4 harg4 arg5 harg5 x0 x1 x2 x3 hT 1 18 (hb := ev_b) (hcc := ev_cc) (by omega) (by omega) (by omega) ?_
  refine tail_full i arg2 harg2 arg3 harg3 arg4 harg4 arg5 harg5 x0 x1 x2 x3 hT 1 17 (hb := ev_b) (hcc := ev_cc) (by omega) (by omega) (by omega) ?_
  refine tail_full i arg2 harg2 arg3 harg3 arg4 harg4 arg5 harg5 x0 x1 x2 x3 hT 1 16 (hb := ev_b) (hcc := ev_cc) (by omega) (by omega) (by omega) ?_
  refine tail_diag i arg2 harg2 arg3 harg3 arg4 harg4 arg5 harg5 x0 x1 x2 x3 hT 1 15 6 (hcc := ev_cc) (hcd := ev_cd (by omega)) (hrr := ev_rr (by omega)) (by omega) (by omega) (by omega) ?_
  refine tail_diag i arg2 harg2 arg3 harg3 arg4 harg4 arg5 harg5 x0 x1 x2 x3 hT 1 14 5 (hcc := ev_cc) (hcd := ev_cd (by omega)) (hrr := ev_rr (by omega)) (by omega) (by omega) (by omega) ?_
  refine tail_diag i arg2 harg2 arg3 harg3 arg4 harg4 arg5 harg5 x0 x1 x2 x3 hT 1 13 4 (hcc := ev_cc) (hcd := ev_cd (by omega)) (hrr := ev_rr (by omega)) (by omega) (by omega) (by omega) ?_
  refine tail_diag i arg2 harg2 arg3 harg3 arg4 harg4 arg5 harg5 x0 x1 x2 x3 hT 1 12 3 (hcc := ev_cc) (hcd := ev_cd (by omega)) (hrr := ev_rr (by omega)) (by omega) (by omega) (by omega) ?_
  refine tail_diag i arg2 harg2 arg3 harg3 arg4 harg4 arg5 harg5 x0 x1 x2 x3 hT 1 11 2 (hcc := ev_cc) (hcd := ev_cd (by omega)) (hrr := ev_rr (by omega)) (by omega) (by omega) (by omega) ?_
  refine tail_diag i arg2 harg2 arg3 harg3 arg4 harg4 arg5 harg5 x0 x1 x2 x3 hT 1 10 1 (hcc := ev_cc) (hcd := ev_cd (by omega)) (hrr := ev_rr (by omega)) (by omega) (by omega) (by omega) ?_
  refine tail_diag i arg2 harg2 arg3 harg3 arg4 harg4 arg5 harg5 x0 x1 x2 x3 hT 1 9 0 (hcc := ev_cc) (hcd := ev_cd (by omega)) (hrr := ev_rr (by omega)) (by omega) (by omega) (by omega) ?_
  refine tail_first i arg2 harg2 arg3 harg3 arg4 harg4 arg5 harg5 x0 x1 x2 x3 hT 1 8 (hb := ev_b) (hcc := ev_cc) (by omega) (by omega) ?_
  exact h

/-- Phase 2. -/
theorem phase2 (h : Held i arg7 arg8 x0 x1 x2 x3 2 16
      (kernelRun0_A.sl.HS0_56 c i arg2 harg2 arg3 harg3 arg4 harg4 arg5 harg5 arg6 harg6 arg7 harg7 arg8 harg8 x0 x1 x2 x3)
      (kernelRun0_A.sl.HS1_56 c i arg2 harg2 arg3 harg3 arg4 harg4 arg5 harg5 arg6 harg6 arg7 harg7 arg8 harg8 x0 x1 x2 x3)) :
    Held i arg7 arg8 x0 x1 x2 x3 2 32
      (kernelRun0_A.sl.HS0_72 c i arg2 harg2 arg3 harg3 arg4 harg4 arg5 harg5 arg6 harg6 arg7 harg7 arg8 harg8 x0 x1 x2 x3)
      (kernelRun0_A.sl.HS1_72 c i arg2 harg2 arg3 harg3 arg4 harg4 arg5 harg5 arg6 harg6 arg7 harg7 arg8 harg8 x0 x1 x2 x3) := by
  refine tail_full i arg2 harg2 arg3 harg3 arg4 harg4 arg5 harg5 x0 x1 x2 x3 hT 2 31 (hb := ev_b) (hcc := ev_cc) (by omega) (by omega) (by omega) ?_
  refine tail_full i arg2 harg2 arg3 harg3 arg4 harg4 arg5 harg5 x0 x1 x2 x3 hT 2 30 (hb := ev_b) (hcc := ev_cc) (by omega) (by omega) (by omega) ?_
  refine tail_full i arg2 harg2 arg3 harg3 arg4 harg4 arg5 harg5 x0 x1 x2 x3 hT 2 29 (hb := ev_b) (hcc := ev_cc) (by omega) (by omega) (by omega) ?_
  refine tail_full i arg2 harg2 arg3 harg3 arg4 harg4 arg5 harg5 x0 x1 x2 x3 hT 2 28 (hb := ev_b) (hcc := ev_cc) (by omega) (by omega) (by omega) ?_
  refine tail_full i arg2 harg2 arg3 harg3 arg4 harg4 arg5 harg5 x0 x1 x2 x3 hT 2 27 (hb := ev_b) (hcc := ev_cc) (by omega) (by omega) (by omega) ?_
  refine tail_full i arg2 harg2 arg3 harg3 arg4 harg4 arg5 harg5 x0 x1 x2 x3 hT 2 26 (hb := ev_b) (hcc := ev_cc) (by omega) (by omega) (by omega) ?_
  refine tail_full i arg2 harg2 arg3 harg3 arg4 harg4 arg5 harg5 x0 x1 x2 x3 hT 2 25 (hb := ev_b) (hcc := ev_cc) (by omega) (by omega) (by omega) ?_
  refine tail_full i arg2 harg2 arg3 harg3 arg4 harg4 arg5 harg5 x0 x1 x2 x3 hT 2 24 (hb := ev_b) (hcc := ev_cc) (by omega) (by omega) (by omega) ?_
  refine tail_diag i arg2 harg2 arg3 harg3 arg4 harg4 arg5 harg5 x0 x1 x2 x3 hT 2 23 6 (hcc := ev_cc) (hcd := ev_cd (by omega)) (hrr := ev_rr (by omega)) (by omega) (by omega) (by omega) ?_
  refine tail_diag i arg2 harg2 arg3 harg3 arg4 harg4 arg5 harg5 x0 x1 x2 x3 hT 2 22 5 (hcc := ev_cc) (hcd := ev_cd (by omega)) (hrr := ev_rr (by omega)) (by omega) (by omega) (by omega) ?_
  refine tail_diag i arg2 harg2 arg3 harg3 arg4 harg4 arg5 harg5 x0 x1 x2 x3 hT 2 21 4 (hcc := ev_cc) (hcd := ev_cd (by omega)) (hrr := ev_rr (by omega)) (by omega) (by omega) (by omega) ?_
  refine tail_diag i arg2 harg2 arg3 harg3 arg4 harg4 arg5 harg5 x0 x1 x2 x3 hT 2 20 3 (hcc := ev_cc) (hcd := ev_cd (by omega)) (hrr := ev_rr (by omega)) (by omega) (by omega) (by omega) ?_
  unfold kernelRun0_A.sl.HS0_60 kernelRun0_A.sl.HS1_60 kernelRun0_A.sl.r_97 kernelRun0_A.sl.r_96 k0_pay656 k0_pay655 k0_pay654 k0_pay653 k0_pay652
  refine tail_diag i arg2 harg2 arg3 harg3 arg4 harg4 arg5 harg5 x0 x1 x2 x3 hT 2 19 2 (hcc := ev_cc) (hcd := ev_cd (by omega)) (hrr := ev_rr (by omega)) (by omega) (by omega) (by omega) ?_
  refine tail_diag i arg2 harg2 arg3 harg3 arg4 harg4 arg5 harg5 x0 x1 x2 x3 hT 2 18 1 (hcc := ev_cc) (hcd := ev_cd (by omega)) (hrr := ev_rr (by omega)) (by omega) (by omega) (by omega) ?_
  refine tail_diag i arg2 harg2 arg3 harg3 arg4 harg4 arg5 harg5 x0 x1 x2 x3 hT 2 17 0 (hcc := ev_cc) (hcd := ev_cd (by omega)) (hrr := ev_rr (by omega)) (by omega) (by omega) (by omega) ?_
  refine tail_first i arg2 harg2 arg3 harg3 arg4 harg4 arg5 harg5 x0 x1 x2 x3 hT 2 16 (hb := ev_b) (hcc := ev_cc) (by omega) (by omega) ?_
  exact h

/-- Phase 3, but for its last chunk. -/
theorem phase3 (h : Held i arg7 arg8 x0 x1 x2 x3 3 24
      (kernelRun0_A.sl.HS0_72 c i arg2 harg2 arg3 harg3 arg4 harg4 arg5 harg5 arg6 harg6 arg7 harg7 arg8 harg8 x0 x1 x2 x3)
      (kernelRun0_A.sl.HS1_72 c i arg2 harg2 arg3 harg3 arg4 harg4 arg5 harg5 arg6 harg6 arg7 harg7 arg8 harg8 x0 x1 x2 x3)) :
    Held i arg7 arg8 x0 x1 x2 x3 3 31
      (kernelRun0_A.sl.HS0_79 c i arg2 harg2 arg3 harg3 arg4 harg4 arg5 harg5 arg6 harg6 arg7 harg7 arg8 harg8 x0 x1 x2 x3)
      (kernelRun0_A.sl.HS1_79 c i arg2 harg2 arg3 harg3 arg4 harg4 arg5 harg5 arg6 harg6 arg7 harg7 arg8 harg8 x0 x1 x2 x3) := by
  unfold kernelRun0_A.sl.HS0_79 kernelRun0_A.sl.HS1_79 kernelRun0_A.sl.r_147 kernelRun0_A.sl.r_146 k0_pay767 k0_pay766 k0_pay765 k0_pay764 k0_pay763
  refine tail_diag i arg2 harg2 arg3 harg3 arg4 harg4 arg5 harg5 x0 x1 x2 x3 hT 3 30 5 (hcc := ev_cc) (hcd := ev_cd (by omega)) (hrr := ev_rr (by omega)) (by omega) (by omega) (by omega) ?_
  refine tail_diag i arg2 harg2 arg3 harg3 arg4 harg4 arg5 harg5 x0 x1 x2 x3 hT 3 29 4 (hcc := ev_cc) (hcd := ev_cd (by omega)) (hrr := ev_rr (by omega)) (by omega) (by omega) (by omega) ?_
  refine tail_diag i arg2 harg2 arg3 harg3 arg4 harg4 arg5 harg5 x0 x1 x2 x3 hT 3 28 3 (hcc := ev_cc) (hcd := ev_cd (by omega)) (hrr := ev_rr (by omega)) (by omega) (by omega) (by omega) ?_
  refine tail_diag i arg2 harg2 arg3 harg3 arg4 harg4 arg5 harg5 x0 x1 x2 x3 hT 3 27 2 (hcc := ev_cc) (hcd := ev_cd (by omega)) (hrr := ev_rr (by omega)) (by omega) (by omega) (by omega) ?_
  refine tail_diag i arg2 harg2 arg3 harg3 arg4 harg4 arg5 harg5 x0 x1 x2 x3 hT 3 26 1 (hcc := ev_cc) (hcd := ev_cd (by omega)) (hrr := ev_rr (by omega)) (by omega) (by omega) (by omega) ?_
  refine tail_diag i arg2 harg2 arg3 harg3 arg4 harg4 arg5 harg5 x0 x1 x2 x3 hT 3 25 0 (hcc := ev_cc) (hcd := ev_cd (by omega)) (hrr := ev_rr (by omega)) (by omega) (by omega) (by omega) ?_
  refine tail_first i arg2 harg2 arg3 harg3 arg4 harg4 arg5 harg5 x0 x1 x2 x3 hT 3 24 (hb := ev_b) (hcc := ev_cc) (by omega) (by omega) ?_
  exact h

/-- The last chunk of all: what it leaves of the maxima is not read again. -/
theorem last_chunk (h : Held i arg7 arg8 x0 x1 x2 x3 3 31
      (kernelRun0_A.sl.HS0_79 c i arg2 harg2 arg3 harg3 arg4 harg4 arg5 harg5 arg6 harg6 arg7 harg7 arg8 harg8 x0 x1 x2 x3)
      (kernelRun0_A.sl.HS1_79 c i arg2 harg2 arg3 harg3 arg4 harg4 arg5 harg5 arg6 harg6 arg7 harg7 arg8 harg8 x0 x1 x2 x3)) :
    ∃ L7, Held i arg7 arg8 x0 x1 x2 x3 3 32 L7
      (kernelRun0_A.sl.HS1_80 c i arg2 harg2 arg3 harg3 arg4 harg4 arg5 harg5 arg6 harg6 arg7 harg7 arg8 harg8 x0 x1 x2 x3) :=
  ⟨_, tail_diag i arg2 harg2 arg3 harg3 arg4 harg4 arg5 harg5 x0 x1 x2 x3 hT 3 31 6
    (i7 := inb_S4096x128_S128x128_3968_0) (hs7 := ev_s7) (hrr := ev_rr (by omega))
    (by omega) (by omega) (by omega) h⟩

/-- The four phases: from the first chunk of the first to the last chunk of the last. -/
theorem phases (h : Held i arg7 arg8 x0 x1 x2 x3 0 1
      (kernelRun0_A.sl.HS0_1_1 c i arg2 harg2 arg3 harg3 arg4 harg4 arg5 harg5 arg6 harg6 arg7 harg7 arg8 harg8 x0 x1 x2 x3)
      (kernelRun0_A.sl.HS1_1_1 c i arg2 harg2 arg3 harg3 arg4 harg4 arg5 harg5 arg6 harg6 arg7 harg7 arg8 harg8 x0 x1 x2 x3)) :
    ∃ L7, Held i arg7 arg8 x0 x1 x2 x3 3 32 L7
      (kernelRun0_A.sl.HS1_80 c i arg2 harg2 arg3 harg3 arg4 harg4 arg5 harg5 arg6 harg6 arg7 harg7 arg8 harg8 x0 x1 x2 x3) :=
  last_chunk c i arg2 harg2 arg3 harg3 arg4 harg4 arg5 harg5 arg6 harg6 arg7 harg7 arg8 harg8 x0 x1 x2 x3 hT (phase3 c i arg2 harg2 arg3 harg3 arg4 harg4 arg5 harg5 arg6 harg6 arg7 harg7 arg8 harg8 x0 x1 x2 x3 hT (next_phase i x0 x1 x2 x3 2 (by omega)
    (phase2 c i arg2 harg2 arg3 harg3 arg4 harg4 arg5 harg5 arg6 harg6 arg7 harg7 arg8 harg8 x0 x1 x2 x3 hT (next_phase i x0 x1 x2 x3 1 (by omega)
      (phase1 c i arg2 harg2 arg3 harg3 arg4 harg4 arg5 harg5 arg6 harg6 arg7 harg7 arg8 harg8 x0 x1 x2 x3 hT (next_phase i x0 x1 x2 x3 0 (by omega)
        (phase0 c i arg2 harg2 arg3 harg3 arg4 harg4 arg5 harg5 arg6 harg6 arg7 harg7 arg8 harg8 x0 x1 x2 x3 hT h)))))))

end Cert.Attn
-- ==== Proof.Loop.lean ====
/-
  The loop over the key blocks of 1024 keys that every query of the block sees in full: one trip takes each of the 32 groups
  of 128 queries through one such block, and `4 · i` trips bring all of them to key `4096 · i`.
-/
module

public import proofs.«01_k».proof.Proof.Phases
@[expose] public section

set_option maxRecDepth 65536

noncomputable section

namespace Cert.Attn

open Idealize.ShloMosaic hiding ix1 ix2 ix3 ix4
open Idealize.ShloMosaic.ValueIdx Cert.KernelIdeal Cert.KernelIdeal.Gen

/-- The first key of block `k`, as the body computes it. -/
abbrev blockWord (k : ℕ) : BitVec 32 :=
  Scalar.indexCast (Scalar.muli (Scf.iv 0#32 1#32 k) 1024#32)

theorem blockWord_toNat (k : ℕ) (hk : k < 16) : (blockWord k).toNat = 1024 * k := by
  have : ∀ k : Fin 16, (blockWord k.val).toNat = 1024 * k.val := by decide
  exact this ⟨k, hk⟩

variable (c : Dev nD) (i : grid0.Coords) (arg2 : Memref sig .tc .vmem S1x1x4096x128 .bf16) (harg2 : arg2.IsWhole)
  (arg3 : Memref sig .tc .vmem S1x1x16384x128 .bf16) (harg3 : arg3.IsWhole)
  (arg4 : Memref sig .tc .vmem S1x1x16384x256 .bf16) (harg4 : arg4.IsWhole)
  (arg5 : Memref sig .tc .vmem S1x1x16384 .f32) (harg5 : arg5.IsWhole)
  (arg6 : Memref sig .tc .vmem S1x4096x128 .bf16) (harg6 : arg6.IsWhole)
  (arg7 : Memref sig .tc .vmem S4096x128 .f32) (harg7 : arg7.IsWhole) (arg8 : Memref sig .tc .vmem S4096x256 .f32) (harg8 : arg8.IsWhole)
  (x0 : Vec Ideal S1x1x4096x128 .bf16) (x1 : Vec Ideal S1x1x16384x128 .bf16) (x2 : Vec Ideal S1x1x16384x256 .bf16)
  (x3 : Vec Ideal S1x1x16384 .f32)

/-- The two buffers while a trip over the keys from `n` on is at group `j`, the trip having begun at the contents `f7`, `f8`:
    the groups below `j` have taken the trip's keys too, and the rows from group `j` on are as the trip found them. -/
structure Mid (n j : ℕ) (f7 : arg7.view.ty.Contents (Elt Ideal)) (f8 : arg8.view.ty.Contents (Elt Ideal))
    (L7 : List (View.Piece (Elt Ideal) S4096x128 .f32)) (L8 : List (View.Piece (Elt Ideal) S4096x256 .f32)) : Prop where
  inv : Inv x0 x1 x2 x3 (i 1).val (fun b => if b < j then n + 1024 else n)
    (arg7.view.read (Elt Ideal) (arg7.view.writes (Elt Ideal) f7 L7))
    (arg8.view.read (Elt Ideal) (arg8.view.writes (Elt Ideal) f8 L8))
  max : ∀ (r : Fin 4096) (l : Fin 128), 128 * j ≤ r.val →
    arg7.view.read (Elt Ideal) (arg7.view.writes (Elt Ideal) f7 L7) (ix2 r l) = arg7.view.read (Elt Ideal) f7 (ix2 r l)
  acc : ∀ (r : Fin 4096) (d : Fin 256), 128 * j ≤ r.val →
    arg8.view.read (Elt Ideal) (arg8.view.writes (Elt Ideal) f8 L8) (ix2 r d) = arg8.view.read (Elt Ideal) f8 (ix2 r d)

/-- The running maxima of group `j` in the contents `f`. -/
abbrev atM (f : arg7.view.ty.Contents (Elt Ideal)) (j : ℕ)
    (i7 : ∀ a, ![128 * j, 0] a + S128x128.size a ≤ S4096x128.size a) : FVec Ideal S128x128 .f32 :=
  View.readAt (Elt Ideal) arg7.view (Rect.unit (s := S4096x128) ![128 * j, 0] S128x128.size i7).toLoadRect f

/-- The accumulator of group `j` in the contents `f`. -/
abbrev atA (f : arg8.view.ty.Contents (Elt Ideal)) (j : ℕ)
    (i8 : ∀ a, ![128 * j, 0] a + S128x256.size a ≤ S4096x256.size a) : FVec Ideal S128x256 .f32 :=
  View.readAt (Elt Ideal) arg8.view (Rect.unit (s := S4096x256) ![128 * j, 0] S128x256.size i8).toLoadRect f

variable {arg7 arg8} {L7 : List (View.Piece (Elt Ideal) S4096x128 .f32)} {L8 : List (View.Piece (Elt Ideal) S4096x256 .f32)}
  {f7 : arg7.view.ty.Contents (Elt Ideal)} {f8 : arg8.view.ty.Contents (Elt Ideal)}
  (hT : ∀ r k, score x0 x1 x3 (i 1).val r k ≠ ⊤)
include hT

/-- One chunk of a trip: group `j` takes the 1024 keys from `n` on. -/
theorem loop_chunk (k j : ℕ) (hk : k < 16) (hkv : 1024 * k + 1024 ≤ 4096 * (i 1).val) (hj : j < 32)
    {i7 i7' i8 i8' iq ik ic iv hq hk' hc hb hr hc1 hb1 ht hv hcc hs7 hs8}
    (h : Mid i arg7 arg8 x0 x1 x2 x3 (1024 * k) j f7 f8 L7 L8) :
    Mid i arg7 arg8 x0 x1 x2 x3 (1024 * k) (j + 1) f7 f8
      (⟨Rect.unit ![128 * j, 0] S128x128.size i7, shapeCast S128x128
        (maxNew (F := Ideal) 1024 (scores (F := Ideal) 1024 (ldQ arg2 harg2 x0 j iq) (ldK arg3 harg3 x1 1024 (blockWord k).toNat ik)
          (ldC arg5 harg5 x3 1024 (blockWord k).toNat ic) hq hk' hc hb) (atM arg7 f7 j i7') hr hc1 hb1) hs7⟩ :: L7)
      (⟨Rect.unit ![128 * j, 0] S128x256.size i8, shapeCast S128x256
        (accNew (F := Ideal) 1024 (scores (F := Ideal) 1024 (ldQ arg2 harg2 x0 j iq) (ldK arg3 harg3 x1 1024 (blockWord k).toNat ik)
            (ldC arg5 harg5 x3 1024 (blockWord k).toNat ic) hq hk' hc hb)
          (tileOf (F := Ideal) 8 1024 (maxNew (F := Ideal) 1024 (scores (F := Ideal) 1024 (ldQ arg2 harg2 x0 j iq)
            (ldK arg3 harg3 x1 1024 (blockWord k).toNat ik) (ldC arg5 harg5 x3 1024 (blockWord k).toNat ic) hq hk' hc hb)
            (atM arg7 f7 j i7') hr hc1 hb1) (concat_rep 8 1024 (by omega) (by omega)))
          (atM arg7 f7 j i7')
          (maxNew (F := Ideal) 1024 (scores (F := Ideal) 1024 (ldQ arg2 harg2 x0 j iq)
            (ldK arg3 harg3 x1 1024 (blockWord k).toNat ik) (ldC arg5 harg5 x3 1024 (blockWord k).toNat ic) hq hk' hc hb)
            (atM arg7 f7 j i7') hr hc1 hb1)
          (ldV arg4 harg4 x2 1024 (blockWord k).toNat iv) (atA arg8 f8 j i8') ht hv hcc) hs8⟩ :: L8) := by
  have hi : (i 1).val < 4 := (i 1).isLt
  have hw := blockWord_toNat k hk
  generalize (blockWord k).toNat = n at *
  subst hw
  have em : ∀ b l : Fin 128, atM arg7 f7 j i7' (ix2 b l) = arg7.view.read (Elt Ideal) (arg7.view.writes (Elt Ideal) f7 L7)
      (ix2 ⟨128 * j + b.val, by have := b.isLt; omega⟩ l) := fun b l => by
    rw [h.max _ _ (Nat.le_add_right _ _)]
    exact readAt_unit _ _ _ _ _ _ _ (fun a => by
      match a with
      | ⟨0, _⟩ => rfl
      | ⟨1, _⟩ => exact (Nat.zero_add _).symm)
  have ea : ∀ (b : Fin 128) (d : Fin 256), atA arg8 f8 j i8' (ix2 b d) = arg8.view.read (Elt Ideal) (arg8.view.writes (Elt Ideal) f8 L8)
      (ix2 ⟨128 * j + b.val, by have := b.isLt; omega⟩ d) := fun b d => by
    rw [h.acc _ _ (Nat.le_add_right _ _)]
    exact readAt_unit _ _ _ _ _ _ _ (fun a => by
      match a with
      | ⟨0, _⟩ => rfl
      | ⟨1, _⟩ => exact (Nat.zero_add _).symm)
  refine ⟨Inv.chunk h.inv hT j hj i7 i8 1024 (1024 * k) (by omega) _ _ _ _ _ _ hr hc1 hb1 ht hv hcc hs7 hs8
    (by simp) (by simp) (fun b hb => ?_) rfl (fun b c => ?_)
    (fun b c => ⟨_, tileOf_apply 8 1024 _ (concat_rep 8 1024 (by omega) (by omega)) b c⟩)
    (fun c d => ldV_apply arg4 harg4 x2 1024 (1024 * k) (by omega) iv c d) em ea, fun r l hr => ?_, fun r d hr => ?_⟩
  · show (if b < j + 1 then _ else _) = (if b < j then _ else _)
    split <;> split <;> omega
  · exact scores_eq 1024 (1024 * k) j hj (by omega) _ _ _ hq hk' hc hb (ldQ_apply arg2 harg2 x0 j hj iq)
      (ldK_apply arg3 harg3 x1 1024 (1024 * k) (by omega) ik) (ldC_apply arg5 harg5 x3 1024 (1024 * k) (by omega) ic) b c
      (by have := c.isLt; omega)
  · rw [View.read_writes_cons_miss_of_axis _ _ _ _ _ (0 : Fin 2) (128 * j) 128 rfl rfl rfl
      (show r.val < 128 * j ∨ 128 * j + 128 ≤ r.val by omega)]
    exact h.max r l (by omega)
  · rw [View.read_writes_cons_miss_of_axis _ _ _ _ _ (0 : Fin 2) (128 * j) 128 rfl rfl rfl
      (show r.val < 128 * j ∨ 128 * j + 128 ≤ r.val by omega)]
    exact h.acc r d (by omega)

/-- **One trip** over the keys from `1024 · k` on, group by group. -/
theorem trip (k : Fin (k0_t1_loop i).trips) (hk : k.val < 16) (hkv : 1024 * k.val + 1024 ≤ 4096 * (i 1).val)
    (h : Mid i arg7 arg8 x0 x1 x2 x3 (1024 * k.val) 0 f7 f8 [] []) :
    Mid i arg7 arg8 x0 x1 x2 x3 (1024 * k.val) 32 f7 f8
      (trip_k0_t1 (F := Ideal) Variants.none c none i arg2 harg2 arg3 harg3 arg4 harg4 arg5 harg5 arg6 harg6 arg7 harg7 arg8 harg8
        (harg2.unread x0) (harg3.unread x1) (harg4.unread x2) (harg5.unread x3) k |>.1 f7 f8)
      (trip_k0_t1 (F := Ideal) Variants.none c none i arg2 harg2 arg3 harg3 arg4 harg4 arg5 harg5 arg6 harg6 arg7 harg7 arg8 harg8
        (harg2.unread x0) (harg3.unread x1) (harg4.unread x2) (harg5.unread x3) k |>.2.1 f7 f8) := by
  unfold trip_k0_t1
  dsimp only
  refine loop_chunk i arg2 harg2 arg3 harg3 arg4 harg4 arg5 harg5 x0 x1 x2 x3 hT k.val 31 (hb := ev_b) (hcc := ev_cc) hk hkv (by omega) ?_
  unfold trip_k0_t1.sl.r_79 trip_k0_t1.sl.r_78 k0_pay172 k0_pay171 k0_pay170 k0_pay169 k0_pay168
  refine loop_chunk i arg2 harg2 arg3 harg3 arg4 harg4 arg5 harg5 x0 x1 x2 x3 hT k.val 30 (hb := ev_b) (hcc := ev_cc) hk hkv (by omega) ?_
  unfold trip_k0_t1.sl.r_77 trip_k0_t1.sl.r_76 k0_pay167 k0_pay166 k0_pay165 k0_pay164 k0_pay163
  refine loop_chunk i arg2 harg2 arg3 harg3 arg4 harg4 arg5 harg5 x0 x1 x2 x3 hT k.val 29 (hb := ev_b) (hcc := ev_cc) hk hkv (by omega) ?_
  unfold trip_k0_t1.sl.r_75 trip_k0_t1.sl.r_74 k0_pay162 k0_pay161 k0_pay160 k0_pay159 k0_pay158
  refine loop_chunk i arg2 harg2 arg3 harg3 arg4 harg4 arg5 harg5 x0 x1 x2 x3 hT k.val 28 (hb := ev_b) (hcc := ev_cc) hk hkv (by omega) ?_
  refine loop_chunk i arg2 harg2 arg3 harg3 arg4 harg4 arg5 harg5 x0 x1 x2 x3 hT k.val 27 (hb := ev_b) (hcc := ev_cc) hk hkv (by omega) ?_
  refine loop_chunk i arg2 harg2 arg3 harg3 arg4 harg4 arg5 harg5 x0 x1 x2 x3 hT k.val 26 (hb := ev_b) (hcc := ev_cc) hk hkv (by omega) ?_
  refine loop_chunk i arg2 harg2 arg3 harg3 arg4 harg4 arg5 harg5 x0 x1 x2 x3 hT k.val 25 (hb := ev_b) (hcc := ev_cc) hk hkv (by omega) ?_
  refine loop_chunk i arg2 harg2 arg3 harg3 arg4 harg4 arg5 harg5 x0 x1 x2 x3 hT k.val 24 (hb := ev_b) (hcc := ev_cc) hk hkv (by omega) ?_
  refine loop_chunk i arg2 harg2 arg3 harg3 arg4 harg4 arg5 harg5 x0 x1 x2 x3 hT k.val 23 (hb := ev_b) (hcc := ev_cc) hk hkv (by omega) ?_
  refine loop_chunk i arg2 harg2 arg3 harg3 arg4 harg4 arg5 harg5 x0 x1 x2 x3 hT k.val 22 (hb := ev_b) (hcc := ev_cc) hk hkv (by omega) ?_
  refine loop_chunk i arg2 harg2 arg3 harg3 arg4 harg4 arg5 harg5 x0 x1 x2 x3 hT k.val 21 (hb := ev_b) (hcc := ev_cc) hk hkv (by omega) ?_
  refine loop_chunk i arg2 harg2 arg3 harg3 arg4 harg4 arg5 harg5 x0 x1 x2 x3 hT k.val 20 (hb := ev_b) (hcc := ev_cc) hk hkv (by omega) ?_
  refine loop_chunk i arg2 harg2 arg3 harg3 arg4 harg4 arg5 harg5 x0 x1 x2 x3 hT k.val 19 (hb := ev_b) (hcc := ev_cc) hk hkv (by omega) ?_
  refine loop_chunk i arg2 harg2 arg3 harg3 arg4 harg4 arg5 harg5 x0 x1 x2 x3 hT k.val 18 (hb := ev_b) (hcc := ev_cc) hk hkv (by omega) ?_
  refine loop_chunk i arg2 harg2 arg3 harg3 arg4 harg4 arg5 harg5 x0 x1 x2 x3 hT k.val 17 (hb := ev_b) (hcc := ev_cc) hk hkv (by omega) ?_
  refine loop_chunk i arg2 harg2 arg3 harg3 arg4 harg4 arg5 harg5 x0 x1 x2 x3 hT k.val 16 (hb := ev_b) (hcc := ev_cc) hk hkv (by omega) ?_
  refine loop_chunk i arg2 harg2 arg3 harg3 arg4 harg4 arg5 harg5 x0 x1 x2 x3 hT k.val 15 (hb := ev_b) (hcc := ev_cc) hk hkv (by omega) ?_
  refine loop_chunk i arg2 harg2 arg3 harg3 arg4 harg4 arg5 harg5 x0 x1 x2 x3 hT k.val 14 (hb := ev_b) (hcc := ev_cc) hk hkv (by omega) ?_
  refine loop_chunk i arg2 harg2 arg3 harg3 arg4 harg4 arg5 harg5 x0 x1 x2 x3 hT k.val 13 (hb := ev_b) (hcc := ev_cc) hk hkv (by omega) ?_
  refine loop_chunk i arg2 harg2 arg3 harg3 arg4 harg4 arg5 harg5 x0 x1 x2 x3 hT k.val 12 (hb := ev_b) (hcc := ev_cc) hk hkv (by omega) ?_
  refine loop_chunk i arg2 harg2 arg3 harg3 arg4 harg4 arg5 harg5 x0 x1 x2 x3 hT k.val 11 (hb := ev_b) (hcc := ev_cc) hk hkv (by omega) ?_
  refine loop_chunk i arg2 harg2 arg3 harg3 arg4 harg4 arg5 harg5 x0 x1 x2 x3 hT k.val 10 (hb := ev_b) (hcc := ev_cc) hk hkv (by omega) ?_
  refine loop_chunk i arg2 harg2 arg3 harg3 arg4 harg4 arg5 harg5 x0 x1 x2 x3 hT k.val 9 (hb := ev_b) (hcc := ev_cc) hk hkv (by omega) ?_
  refine loop_chunk i arg2 harg2 arg3 harg3 arg4 harg4 arg5 harg5 x0 x1 x2 x3 hT k.val 8 (hb := ev_b) (hcc := ev_cc) hk hkv (by omega) ?_
  refine loop_chunk i arg2 harg2 arg3 harg3 arg4 harg4 arg5 harg5 x0 x1 x2 x3 hT k.val 7 (hb := ev_b) (hcc := ev_cc) hk hkv (by omega) ?_
  refine loop_chunk i arg2 harg2 arg3 harg3 arg4 harg4 arg5 harg5 x0 x1 x2 x3 hT k.val 6 (hb := ev_b) (hcc := ev_cc) hk hkv (by omega) ?_
  refine loop_chunk i arg2 harg2 arg3 harg3 arg4 harg4 arg5 harg5 x0 x1 x2 x3 hT k.val 5 (hb := ev_b) (hcc := ev_cc) hk hkv (by omega) ?_
  refine loop_chunk i arg2 harg2 arg3 harg3 arg4 harg4 arg5 harg5 x0 x1 x2 x3 hT k.val 4 (hb := ev_b) (hcc := ev_cc) hk hkv (by omega) ?_
  refine loop_chunk i arg2 harg2 arg3 harg3 arg4 harg4 arg5 harg5 x0 x1 x2 x3 hT k.val 3 (hb := ev_b) (hcc := ev_cc) hk hkv (by omega) ?_
  refine loop_chunk i arg2 harg2 arg3 harg3 arg4 harg4 arg5 harg5 x0 x1 x2 x3 hT k.val 2 (hb := ev_b) (hcc := ev_cc) hk hkv (by omega) ?_
  refine loop_chunk i arg2 harg2 arg3 harg3 arg4 harg4 arg5 harg5 x0 x1 x2 x3 hT k.val 1 (hb := ev_b) (hcc := ev_cc) hk hkv (by omega) ?_
  refine loop_chunk i arg2 harg2 arg3 harg3 arg4 harg4 arg5 harg5 x0 x1 x2 x3 hT k.val 0 (hb := ev_b) (hcc := ev_cc) hk hkv (by omega) ?_
  exact h

end Cert.Attn
-- ==== Proof.Start.lean ====
/-
  From the fill of the two buffers to the first chunk of the last 4096 keys: the fill is a row state of no key, the loop over
  the full key blocks brings every query to key `4096 · i`, and the second loop of the body makes no trip.
-/
module

public import proofs.«01_k».proof.Proof.Loop
@[expose] public section

set_option maxRecDepth 65536

noncomputable section

namespace Cert.Attn

open Idealize.ShloMosaic hiding ix1 ix2 ix3 ix4
open Idealize.ShloMosaic.ValueIdx Cert.KernelIdeal Cert.KernelIdeal.Gen

/-- The loop over full key blocks makes `4 · i` trips. -/
theorem trips_full (i : grid0.Coords) :
    Scf.trips (k0_t1_loop i).lb (k0_t1_loop i).ub (k0_t1_loop i).st = 4 * (i 1).val := by
  have : ∀ n : Fin 4, Scf.trips 0#32 (Scalar.addi 0#32 (Scalar.muli (Scalar.divsi (Scalar.subi (Scalar.muli (BitVec.ofNat 32 n.val) 4#32) 0#32) 1#32) 1#32)) 1#32
      = 4 * n.val := by decide
  exact this ⟨(i 1).val, (i 1).isLt⟩

/-- The loop after it makes none. -/
theorem trips_rest (i : grid0.Coords) :
    Scf.trips (k0_t2_loop i).lb (k0_t2_loop i).ub (k0_t2_loop i).st = 0 := by
  have : ∀ n : Fin 4, Scf.trips
      (Scalar.addi 0#32 (Scalar.muli (Scalar.divsi (Scalar.subi (Scalar.muli (BitVec.ofNat 32 n.val) 4#32) 0#32) 1#32) 1#32))
      (Scalar.addi 0#32 (Scalar.subi (Scalar.muli (BitVec.ofNat 32 n.val) 4#32) 0#32)) 1#32 = 0 := by decide
  exact this ⟨(i 1).val, (i 1).isLt⟩

variable (c : Dev nD) (i : grid0.Coords) (arg2 : Memref sig .tc .vmem S1x1x4096x128 .bf16) (harg2 : arg2.IsWhole)
  (arg3 : Memref sig .tc .vmem S1x1x16384x128 .bf16) (harg3 : arg3.IsWhole)
  (arg4 : Memref sig .tc .vmem S1x1x16384x256 .bf16) (harg4 : arg4.IsWhole)
  (arg5 : Memref sig .tc .vmem S1x1x16384 .f32) (harg5 : arg5.IsWhole)
  (arg6 : Memref sig .tc .vmem S1x4096x128 .bf16) (harg6 : arg6.IsWhole)
  (arg7 : Memref sig .tc .vmem S4096x128 .f32) (harg7 : arg7.IsWhole) (arg8 : Memref sig .tc .vmem S4096x256 .f32) (harg8 : arg8.IsWhole)
  (x0 : Vec Ideal S1x1x4096x128 .bf16) (x1 : Vec Ideal S1x1x16384x128 .bf16) (x2 : Vec Ideal S1x1x16384x256 .bf16)
  (x3 : Vec Ideal S1x1x16384 .f32)

/-- The contents of the running maxima after the fill. -/
abbrev fillM : arg7.view.ty.Contents (Elt Ideal) :=
  arg7.view.writes (Elt Ideal) arg7.view.junk kernelRun0_A.sl.HS0_1
/-- The contents of the accumulator after the fill. -/
abbrev fillA : arg8.view.ty.Contents (Elt Ideal) :=
  arg8.view.writes (Elt Ideal) arg8.view.junk kernelRun0_A.sl.HS1_1

/-- After the fill no query has taken a key. -/
theorem filled : Inv x0 x1 x2 x3 (i 1).val (fun _ => 0) (arg7.view.read (Elt Ideal) (fillM arg7)) (arg8.view.read (Elt Ideal) (fillA arg8)) := by
  intro r l
  have e7 : arg7.view.read (Elt Ideal) (fillM arg7) (ix2 r l) = (⊥ : EReal) := by
    refine (View.read_writes_cons_hit_of_coords _ _ _ _ _ (ix2 r l) (ix2 r l) (fun a => ?_)).trans ?_
    · match a with
      | ⟨0, _⟩ => show r.val = 0 + 1 * r.val; omega
      | ⟨1, _⟩ => show l.val = 0 + 1 * l.val; omega
    · exact (shapeCast_apply (broadcast S4096x128 (Scalar.ofBits (F := Ideal) .f32 0xFF800000#32)) shapeCasts_S4096x128_S4096x128 (ix2 r l) (ix2 r l) rfl).trans neg_inf_word
  have e8 : ∀ d, arg8.view.read (Elt Ideal) (fillA arg8) (ix2 r d) = (0 : EReal) := fun d => by
    refine (View.read_writes_cons_hit_of_coords _ _ _ _ _ (ix2 r d) (ix2 r d) (fun a => ?_)).trans ?_
    · match a with
      | ⟨0, _⟩ => show r.val = 0 + 1 * r.val; omega
      | ⟨1, _⟩ => show d.val = 0 + 1 * d.val; omega
    · exact (shapeCast_apply (broadcast S4096x256 (Scalar.ofBits (F := Ideal) .f32 0x00000000#32)) shapeCasts_S4096x256_S4096x256 (ix2 r d) (ix2 r d) rfl).trans zero_word
  rw [e7]
  simp only [e8]
  exact Row.zero _ _

variable (hT : ∀ r k, score x0 x1 x3 (i 1).val r k ≠ ⊤)
include hT

/-- **The loop**: after `n` trips every query has taken the first `1024 · n` keys. -/
theorem loop (n : ℕ) (hn : n ≤ 4 * (i 1).val) :
    Inv x0 x1 x2 x3 (i 1).val (fun _ => 1024 * n)
      (arg7.view.read (Elt Ideal) (arg7.view.writes (Elt Ideal) (fillM arg7)
        (pb_k0_t1 (F := Ideal) Variants.none c none i arg2 harg2 arg3 harg3 arg4 harg4 arg5 harg5 arg6 harg6 arg7 harg7 arg8 harg8
          (harg2.unread x0) (harg3.unread x1) (harg4.unread x2) (harg5.unread x3) (fillM arg7) (fillA arg8) n).1))
      (arg8.view.read (Elt Ideal) (arg8.view.writes (Elt Ideal) (fillA arg8)
        (pb_k0_t1 (F := Ideal) Variants.none c none i arg2 harg2 arg3 harg3 arg4 harg4 arg5 harg5 arg6 harg6 arg7 harg7 arg8 harg8
          (harg2.unread x0) (harg3.unread x1) (harg4.unread x2) (harg5.unread x3) (fillM arg7) (fillA arg8) n).2)) := by
  have hi : (i 1).val < 4 := (i 1).isLt
  induction n with
  | zero =>
    rw [pb_k0_t1.eq_1]
    exact filled i arg7 arg8 x0 x1 x2 x3
  | succ n ih =>
    have hlt : n < (k0_t1_loop i).trips := (Nat.lt_of_succ_le hn).trans_eq (trips_full i).symm
    rw [pb_k0_t1_succ (F := Ideal) Variants.none c none i arg2 harg2 arg3 harg3 arg4 harg4 arg5 harg5 arg6 harg6 arg7 harg7 arg8 harg8
      _ _ _ _ _ _ ⟨n, hlt⟩]
    dsimp only
    rw [View.writes_append, View.writes_append]
    have ih := ih (by omega)
    have t := (trip c i arg2 harg2 arg3 harg3 arg4 harg4 arg5 harg5 arg6 harg6 harg7 harg8 x0 x1 x2 x3 hT ⟨n, hlt⟩ (by show n < 16; omega)
      (by show 1024 * n + 1024 ≤ _; omega) ⟨ih.congr fun b _ => by simp, fun _ _ _ => rfl, fun _ _ _ => rfl⟩).inv
    exact t.congr fun b hb => by
      show (if b < 32 then 1024 * n + 1024 else 1024 * n) = 1024 * (n + 1)
      rw [if_pos hb]; omega

/-- Before the last 4096 keys: the second loop adds nothing, and every query has taken the keys below `4096 · i`. -/
theorem before_tail (n7 n8 : ℕ) (t7 t8 : ℕ) (h7 : n7 = 0) (h8 : n8 = 0) (ht7 : t7 = 4 * (i 1).val) (ht8 : t8 = 4 * (i 1).val) (v : BitVec 32)
    (X2 X3 X4 X5 G7 G8) :
    Held i arg7 arg8 x0 x1 x2 x3 0 0
      ((pb_k0_t2 (F := Ideal) Variants.none c none i arg2 harg2 arg3 harg3 arg4 harg4 arg5 harg5 arg6 harg6 arg7 harg7 arg8 harg8 v
        X2 X3 X4 X5 G7 G8 n7).1 ++ ((pb_k0_t1 (F := Ideal) Variants.none c none i arg2 harg2 arg3 harg3 arg4 harg4 arg5 harg5 arg6 harg6
          arg7 harg7 arg8 harg8 (harg2.unread x0) (harg3.unread x1) (harg4.unread x2) (harg5.unread x3) (fillM arg7) (fillA arg8) t7).1
          ++ kernelRun0_A.sl.HS0_1))
      ((pb_k0_t2 (F := Ideal) Variants.none c none i arg2 harg2 arg3 harg3 arg4 harg4 arg5 harg5 arg6 harg6 arg7 harg7 arg8 harg8 v
        X2 X3 X4 X5 G7 G8 n8).2 ++ ((pb_k0_t1 (F := Ideal) Variants.none c none i arg2 harg2 arg3 harg3 arg4 harg4 arg5 harg5 arg6 harg6
          arg7 harg7 arg8 harg8 (harg2.unread x0) (harg3.unread x1) (harg4.unread x2) (harg5.unread x3) (fillM arg7) (fillA arg8) t8).2
          ++ kernelRun0_A.sl.HS1_1)) := by
  subst h7 h8 ht7 ht8
  rw [pb_k0_t2.eq_1, List.nil_append, List.nil_append]
  unfold Held
  rw [View.writes_append, View.writes_append]
  exact (loop c i arg2 harg2 arg3 harg3 arg4 harg4 arg5 harg5 arg6 harg6 arg7 harg7 arg8 harg8 x0 x1 x2 x3 hT _ le_rfl).congr
    fun b _ => by unfold taken; simp; omega

/-- The first chunk of the last 4096 keys. -/
theorem first_chunk : Held i arg7 arg8 x0 x1 x2 x3 0 1
      (kernelRun0_A.sl.HS0_1_1 c i arg2 harg2 arg3 harg3 arg4 harg4 arg5 harg5 arg6 harg6 arg7 harg7 arg8 harg8 x0 x1 x2 x3)
      (kernelRun0_A.sl.HS1_1_1 c i arg2 harg2 arg3 harg3 arg4 harg4 arg5 harg5 arg6 harg6 arg7 harg7 arg8 harg8 x0 x1 x2 x3) := by
  refine tail_first i arg2 harg2 arg3 harg3 arg4 harg4 arg5 harg5 x0 x1 x2 x3 hT 0 0 (hb := ev_b) (hcc := ev_cc) (by omega) (by omega) ?_
  exact before_tail c i arg2 harg2 arg3 harg3 arg4 harg4 arg5 harg5 arg6 harg6 arg7 harg7 arg8 harg8 x0 x1 x2 x3 hT _ _ _ _
    (trips_rest i) (trips_rest i) (trips_full i) (trips_full i) _ _ _ _ _ _ _

/-- **The body's accumulator at the end** holds, for every query, the row state over the keys it sees. -/
theorem body_acc : ∃ L7, Held i arg7 arg8 x0 x1 x2 x3 3 32 L7
      (kernelRun0_A.sl.HS1_80 c i arg2 harg2 arg3 harg3 arg4 harg4 arg5 harg5 arg6 harg6 arg7 harg7 arg8 harg8 x0 x1 x2 x3) :=
  phases c i arg2 harg2 arg3 harg3 arg4 harg4 arg5 harg5 arg6 harg6 arg7 harg7 arg8 harg8 x0 x1 x2 x3 hT
    (first_chunk c i arg2 harg2 arg3 harg3 arg4 harg4 arg5 harg5 arg6 harg6 arg7 harg7 arg8 harg8 x0 x1 x2 x3 hT)

end Cert.Attn
-- ==== Proof.Block.lean ====
/-
  What one run of the body leaves in its output block: for every query of the block, the values of all the keys under the
  softmax of the query's scores.
-/
module

public import proofs.«01_k».proof.Proof.Start
public import proofs.«01_k».proof.Proof.Gen.KernelIdeal.Value
@[expose] public section

set_option maxRecDepth 65536

noncomputable section

namespace Cert.Attn

open Idealize.ShloMosaic hiding ix1 ix2 ix3 ix4
open Idealize.ShloMosaic.ValueIdx Cert.KernelIdeal Cert.KernelIdeal.Gen

variable (c : Dev nD) (i : grid0.Coords) (arg2 : Memref sig .tc .vmem S1x1x4096x128 .bf16) (harg2 : arg2.IsWhole)
  (arg3 : Memref sig .tc .vmem S1x1x16384x128 .bf16) (harg3 : arg3.IsWhole)
  (arg4 : Memref sig .tc .vmem S1x1x16384x256 .bf16) (harg4 : arg4.IsWhole)
  (arg5 : Memref sig .tc .vmem S1x1x16384 .f32) (harg5 : arg5.IsWhole)
  (arg6 : Memref sig .tc .vmem S1x4096x128 .bf16) (harg6 : arg6.IsWhole)
  (arg7 : Memref sig .tc .vmem S4096x128 .f32) (harg7 : arg7.IsWhole) (arg8 : Memref sig .tc .vmem S4096x256 .f32) (harg8 : arg8.IsWhole)
  (x0 : Vec Ideal S1x1x4096x128 .bf16) (x1 : Vec Ideal S1x1x16384x128 .bf16) (x2 : Vec Ideal S1x1x16384x256 .bf16)
  (x3 : Vec Ideal S1x1x16384 .f32)

/-- The quotient the body stores, entry by entry. -/
theorem pay_apply (u v : FVec Ideal S4096x128 .f32) (r : Fin 4096) (d : Fin 128) :
    k0_pay3 (F := Ideal) u v (ix3 0 r d) = Ideal.div (u (ix2 r d)) (v (ix2 r d)) :=
  (shapeCast_apply (truncf .bf16 (divf u v) bitsLt_bf16_f32) shapeCasts_S4096x128_S1x4096x128 (ix3 0 r d) (ix2 r d) (by
    rw [Shape.rowMajor_val_two, Shape.rowMajor_val_three]
    show r.val * 128 + d.val = (0 * 4096 + r.val) * 128 + d.val
    omega)).trans rfl

/-- The output block in terms of the accumulator: column `d` over column `128 + d`. -/
theorem out_apply (r : Fin 4096) (d : Fin 128) :
    out0_A_4 (F := Ideal) c i arg2 harg2 arg3 harg3 arg4 harg4 arg5 harg5 arg6 harg6 arg7 harg7 arg8 harg8 x0 x1 x2 x3 (ix3 0 r d)
      = Ideal.div
        (arg8.view.read (Elt Ideal) (arg8.view.writes (Elt Ideal) arg8.view.junk
          (kernelRun0_A.sl.HS1_80 c i arg2 harg2 arg3 harg3 arg4 harg4 arg5 harg5 arg6 harg6 arg7 harg7 arg8 harg8 x0 x1 x2 x3))
          (ix2 r ⟨d.val, by have := d.isLt; omega⟩))
        (arg8.view.read (Elt Ideal) (arg8.view.writes (Elt Ideal) arg8.view.junk
          (kernelRun0_A.sl.HS1_80 c i arg2 harg2 arg3 harg3 arg4 harg4 arg5 harg5 arg6 harg6 arg7 harg7 arg8 harg8 x0 x1 x2 x3))
          (ix2 r ⟨128 + d.val, by have := d.isLt; omega⟩)) := by
  unfold out0_A_4 kernelRun0_A
  dsimp only
  refine (View.read_writes_cons_hit_of_coords _ _ _ _ _ (ix3 0 r d) (ix3 0 r d) (fun a => ?_)).trans ?_
  · match a with
    | ⟨0, _⟩ => rfl
    | ⟨1, _⟩ => show r.val = 0 + 1 * r.val; omega
    | ⟨2, _⟩ => show d.val = 0 + 1 * d.val; omega
  unfold kernelRun0_A.sl.v3146 kernelRun0_A.sl.v3147
  refine (pay_apply _ _ r d).trans ?_
  generalize kernelRun0_A.sl.HS1_80 c i arg2 harg2 arg3 harg3 arg4 harg4 arg5 harg5 arg6 harg6 arg7 harg7 arg8 harg8 x0 x1 x2 x3 = L
  congr 1
  · refine readAt_unit _ _ _ _ _ _ _ (fun a => ?_)
    match a with
    | ⟨0, _⟩ => exact (Nat.zero_add _).symm
    | ⟨1, _⟩ => exact (Nat.zero_add _).symm
  · refine readAt_unit _ _ _ _ _ _ _ (fun a => ?_)
    match a with
    | ⟨0, _⟩ => exact (Nat.zero_add _).symm
    | ⟨1, _⟩ => rfl

/-- **The output block**: row `r` is the values of all 16384 keys under the softmax of any scores `U` that are the row's
    masked scores shifted by a real number. -/
theorem block_out (hT : ∀ r k, score x0 x1 x3 (i 1).val r k ≠ ⊤)
    (hone : ∀ (k : Fin 16384) (l : Fin 128), x2 (ix4 0 0 k ⟨128 + l.val, by have := l.isLt; omega⟩) = (1 : EReal))
    (r : Fin 4096) (d : Fin 128) {k₀ : ℕ} (hk : k₀ ≤ 4096 * (i 1).val + r.val) (h₀ : score x0 x1 x3 (i 1).val r k₀ ≠ ⊥)
    (s : ℝ) {U : ℕ → EReal} (hU : ∀ k < 16384, U k = score x0 x1 x3 (i 1).val r k + s) :
    out0_A_4 (F := Ideal) c i arg2 harg2 arg3 harg3 arg4 harg4 arg5 harg5 arg6 harg6 arg7 harg7 arg8 harg8 x0 x1 x2 x3 (ix3 0 r d)
      = ∑ k ∈ Finset.range 16384,
          Ideal.div (Ideal.exp (U k - (Finset.range 16384).sup U))
            (∑ l ∈ Finset.range 16384, Ideal.exp (U l - (Finset.range 16384).sup U)) * value x2 k ⟨d.val, by have := d.isLt; omega⟩ := by
  have hi : (i 1).val < 4 := (i 1).isLt
  have hr := r.isLt
  obtain ⟨L7, h⟩ := body_acc c i arg2 harg2 arg3 harg3 arg4 harg4 arg5 harg5 arg6 harg6 arg7 harg7 arg8 harg8 x0 x1 x2 x3 hT
  rw [out_apply]
  have hrow := h r 0
  have hn : taken (i 1).val 3 32 (r.val / 128) = 4096 * (i 1).val + 128 * (r.val / 128 + 1) := by
    unfold taken; rw [if_pos (by omega)]; omega
  rw [hn] at hrow
  refine hrow.softmax (hT r) (k₀ := k₀) (by omega) h₀ ⟨128 + d.val, by have := d.isLt; omega⟩ (fun k hk => ?_) (N := 16384) (by omega)
    (fun k hk => score_masked (by omega)) s hU ⟨d.val, by have := d.isLt; omega⟩
  unfold value
  rw [dif_pos (show k < 16384 by omega)]
  exact hone ⟨k, by omega⟩ d

end Cert.Attn
-- ==== Proof.Array.lean ====
/-
  The array that the attention call leaves: at every entry it is the entry of the reference's result, when the queries, the
  keys and the gates are real numbers.
-/
module

public import proofs.«01_k».proof.Proof.Operands
public import proofs.«01_k».proof.Proof.Finite
public import proofs.«01_k».proof.Proof.Block
@[expose] public section

set_option maxRecDepth 65536

noncomputable section

namespace Cert.Attn

open Idealize.ShloMosaic hiding ix1 ix2 ix3 ix4
open Idealize.ShloMosaic.TcCoe
open Idealize.ShloMosaic.ValueIdx Cert.KernelIdeal Cert.KernelIdeal.Gen

variable (m : (ℓ : Loc nD τ sig) → Buf (Elt Ideal) ℓ) (c : Dev nD)

/-! ### Where the blocks lie -/

theorem index0 : ∀ t : Fin cfg0.N, win0_0.index t
    = ![(grid0.coords t 0).val / 8, (grid0.coords t 0).val % 8, (grid0.coords t 1).val, 0] :=
  (by decide +kernel : ∀ t : Fin grid0.N, _)
theorem index1 : ∀ t : Fin cfg0.N, win0_1.index t = ![(grid0.coords t 0).val / 8, (grid0.coords t 0).val % 8, 0, 0] :=
  (by decide +kernel : ∀ t : Fin grid0.N, _)
theorem index2 : ∀ t : Fin cfg0.N, win0_2.index t = ![(grid0.coords t 0).val / 8, (grid0.coords t 0).val % 8, 0, 0] :=
  (by decide +kernel : ∀ t : Fin grid0.N, _)
theorem index3 : ∀ t : Fin cfg0.N, win0_3.index t = ![(grid0.coords t 0).val, 0, 0] :=
  (by decide +kernel : ∀ t : Fin grid0.N, _)
theorem index4 : ∀ t : Fin cfg0.N, win0_4.index t
    = ![(grid0.coords t 0).val / 8, (grid0.coords t 1).val, (grid0.coords t 0).val % 8] :=
  (by decide +kernel : ∀ t : Fin grid0.N, _)

/-- The batch and the head of a grid point, and the array row of a row of its block. -/
def batch (t : Fin cfg0.N) : Fin 2 := ⟨(grid0.coords t 0).val / 8, by have : (grid0.coords t 0).val < 16 := (grid0.coords t 0).isLt; omega⟩
def head (t : Fin cfg0.N) : Fin 8 := ⟨(grid0.coords t 0).val % 8, by omega⟩
def row (t : Fin cfg0.N) (r : Fin 4096) : Fin 16384 :=
  ⟨4096 * (grid0.coords t 1).val + r.val, by have : (grid0.coords t 1).val < 4 := (grid0.coords t 1).isLt; have := r.isLt; omega⟩

/-- The blocks of a grid point: queries, keys, values beside ones, minus the running sums. -/
abbrev B0 (t : Fin cfg0.N) : Vec Ideal S1x1x4096x128 .bf16 := iblk m c 0 t
abbrev B1 (t : Fin cfg0.N) : Vec Ideal S1x1x16384x128 .bf16 := iblk m c 1 t
abbrev B2 (t : Fin cfg0.N) : Vec Ideal S1x1x16384x256 .bf16 := iblk m c 2 t
abbrev B3 (t : Fin cfg0.N) : Vec Ideal S1x1x16384 .f32 := iblk m c 3 t

/-- The block of queries. -/
theorem block_q (t : Fin cfg0.N) (r : Fin 4096) (d : Fin 128) :
    iblk m c 0 t (ix4 0 0 r d) = queries m c (ix4 (batch t) (head t) (row t r) d) * Ref.scale := by
  refine Eq.trans ?_ (V_q m c _)
  unfold iblk
  refine congrArg (V m c main_v2) ?_
  funext a
  refine Fin.ext ?_
  blk_simp [index0 t]
  match a with
  | ⟨0, _⟩ => show _ * 1 + 0 = _; simp [batch]
  | ⟨1, _⟩ => show _ * 1 + 0 = _; simp [head]
  | ⟨2, _⟩ => show _ * 4096 + r.val = 4096 * _ + r.val; simp [mul_comm]
  | ⟨3, _⟩ => show 0 * 128 + d.val = d.val; omega

/-- The block of keys: all the keys of the head. -/
theorem block_k (t : Fin cfg0.N) (k : Fin 16384) (d : Fin 128) :
    iblk m c 1 t (ix4 0 0 k d) = keys m c (ix4 (batch t) (head t) k d) := by
  refine Eq.trans ?_ (V_k m c _)
  unfold iblk
  refine congrArg (V m c main_v3) ?_
  funext a
  refine Fin.ext ?_
  blk_simp [index1 t]
  match a with
  | ⟨0, _⟩ => show _ * 1 + 0 = _; simp [batch]
  | ⟨1, _⟩ => show _ * 1 + 0 = _; simp [head]
  | ⟨2, _⟩ => show 0 * 16384 + k.val = k.val; omega
  | ⟨3, _⟩ => show 0 * 128 + d.val = d.val; omega

/-- An entry of the block of values and ones is an entry of that array. -/
theorem block_v (t : Fin cfg0.N) (k : Fin 16384) (d : Fin 256) :
    iblk m c 2 t (ix4 0 0 k d) = V m c main_v6 (ix4 (batch t) (head t) k d : S2x8x16384x256.Idx) := by
  unfold iblk
  refine congrArg (V m c main_v6) ?_
  funext a
  refine Fin.ext ?_
  blk_simp [index2 t]
  match a with
  | ⟨0, _⟩ => show _ * 1 + 0 = _; simp [batch]
  | ⟨1, _⟩ => show _ * 1 + 0 = _; simp [head]
  | ⟨2, _⟩ => show 0 * 16384 + k.val = k.val; omega
  | ⟨3, _⟩ => show 0 * 256 + d.val = d.val; omega

/-- Its first 128 columns are the values, -/
theorem block_value (t : Fin cfg0.N) (k : Fin 16384) (d : Fin 128) :
    iblk m c 2 t (ix4 0 0 k ⟨d.val, by have := d.isLt; omega⟩) = values m c (ix4 (batch t) (head t) k d) := by
  rw [block_v, V_v]
  refine (concatenate_pair_apply_left (t := S2x8x16384x256) (s₁ := S2x8x16384x128) (s₂ := S2x8x16384x128) (3 : Fin 4)
    (truncf .bf16 (values m c) bitsLt_bf16_f32)
    (broadcastInDim S2x8x16384x128 ![] bcast_S_S2x8x16384x128 (constant (F := Ideal) S_ .bf16 0x3F80#16)) _ _ rfl (ix4 (batch t) (head t) k d : S2x8x16384x128.Idx) (fun b => ?_)).trans rfl
  match b with
  | ⟨0, _⟩ => rfl
  | ⟨1, _⟩ => rfl
  | ⟨2, _⟩ => rfl
  | ⟨3, _⟩ => rfl

/-- and its last 128 columns are ones. -/
theorem block_one (t : Fin cfg0.N) (k : Fin 16384) (l : Fin 128) :
    iblk m c 2 t (ix4 0 0 k ⟨128 + l.val, by have := l.isLt; omega⟩) = (1 : EReal) := by
  rw [block_v, V_v]
  refine (concatenate_pair_apply_right (t := S2x8x16384x256) (s₁ := S2x8x16384x128) (s₂ := S2x8x16384x128) (3 : Fin 4)
    (truncf .bf16 (values m c) bitsLt_bf16_f32)
    (broadcastInDim S2x8x16384x128 ![] bcast_S_S2x8x16384x128 (constant (F := Ideal) S_ .bf16 0x3F80#16)) _ _ rfl rfl (ix4 (batch t) (head t) k l : S2x8x16384x128.Idx) (fun b hb => ?_) ?_).trans one_word
  · match b with
    | ⟨0, _⟩ => rfl
    | ⟨1, _⟩ => rfl
    | ⟨2, _⟩ => rfl
    | ⟨3, _⟩ => exact absurd rfl hb
  · show l.val + 128 = 128 + l.val; omega

/-- The block of minus the running sums. -/
theorem block_c (t : Fin cfg0.N) (k : Fin 16384) :
    iblk m c 3 t (ix3 0 0 k) = -(Ref.cum (gates m c) (ix3 (batch t) (head t) k) : EReal) := by
  have e : iblk m c 3 t (ix3 0 0 k) = V m c main_v9 (ix3 (grid0.coords t 0) 0 k : S16x1x16384.Idx) := by
    unfold iblk
    refine congrArg (V m c main_v9) ?_
    funext a
    refine Fin.ext ?_
    blk_simp [index3 t]
    match a with
    | ⟨0, _⟩ => show _ * 1 + 0 = _; simp
    | ⟨1, _⟩ => rfl
    | ⟨2, _⟩ => show 0 * 16384 + k.val = k.val; omega
  rw [e, V_c]
  refine congrArg (fun w : EReal => -w) ?_
  refine shapeCast_apply (Ref.cum (gates m c)) _ _ (ix3 (batch t) (head t) k) ?_
  rw [Shape.rowMajor_val_three, Shape.rowMajor_val_three]
  have : (grid0.coords t 0).val < 16 := (grid0.coords t 0).isLt
  show ((grid0.coords t 0).val / 8 * 8 + (grid0.coords t 0).val % 8) * 16384 + k.val = ((grid0.coords t 0).val * 1 + 0) * 16384 + k.val
  omega

/-! ### The scores of a block and the reference's -/

variable (hq : ∀ i, ∃ r : ℝ, queries m c i = (r : EReal)) (hk : ∀ i, ∃ r : ℝ, keys m c i = (r : EReal))
  (hg : ∀ i, ∃ r : ℝ, gates m c i = (r : EReal))

include hq hk hg

omit hq hk hg in
theorem shift (p s g : ℝ) : (p : EReal) + ((s : EReal) - (g : EReal)) = (p : EReal) + -(g : EReal) + (s : EReal) := by
  rw [← EReal.coe_sub, ← EReal.coe_neg, ← EReal.coe_add, ← EReal.coe_add, ← EReal.coe_add]
  congr 1
  ring

/-- The parts of a score before the mask are real numbers, the same in both programs. -/
theorem parts (t : Fin cfg0.N) (r : Fin 4096) (k : Fin 16384) :
    ∃ p g : ℝ, (∑ d : Fin 128, (B0 m c t (ix4 0 0 r d) : EReal) * B1 m c t (ix4 0 0 k d)) = (p : EReal)
      ∧ B3 m c t (ix3 0 0 k) = -(g : EReal)
      ∧ (∑ d : Fin 128, (queries m c (ix4 (batch t) (head t) (row t r) d) : EReal) * keys m c (ix4 (batch t) (head t) k d)) * Ref.scale
        = (p : EReal)
      ∧ Ref.cum (gates m c) (ix3 (batch t) (head t) k) = (g : EReal) := by
  obtain ⟨p, hp, hp'⟩ := sum_scaled (fun d : Fin 128 => queries m c (ix4 (batch t) (head t) (row t r) d))
    (fun d => keys m c (ix4 (batch t) (head t) k d)) (fun d => hq _) (fun d => hk _) Ref.scale scale_real
  obtain ⟨g, hg'⟩ := cum_real (gates m c) hg (ix3 (batch t) (head t) k)
  refine ⟨p, g, ?_, ?_, hp', hg'⟩
  · rw [← hp]
    exact Finset.sum_congr rfl fun d _ => congrArg₂ (fun a b : EReal => a * b) (block_q m c t r d) (block_k m c t k d)
  · exact (block_c m c t k).trans (congrArg (fun w : EReal => -w) hg')

/-- A score before the mask is a real number. -/
theorem score_real (t : Fin cfg0.N) (r : Fin 4096) (k : Fin 16384) :
    ∃ p : ℝ, (∑ d : Fin 128, (B0 m c t (ix4 0 0 r d) : EReal) * B1 m c t (ix4 0 0 k d)) + B3 m c t (ix3 0 0 k) = (p : EReal) := by
  obtain ⟨p, g, h0, h3, -, -⟩ := parts m c hq hk hg t r k
  refine ⟨p + -g, ?_⟩
  rw [h0, h3, EReal.coe_add, EReal.coe_neg]

/-- The reference's score is the block's plus the running sum of the gates at the query. -/
theorem logit_eq (t : Fin cfg0.N) (r : Fin 4096) (k : ℕ) (hk' : k < 16384) {s : ℝ}
    (hs : Ref.cum (gates m c) (ix3 (batch t) (head t) (row t r)) = (s : EReal)) :
    Ref.logit (queries m c) (keys m c) (gates m c) (batch t) (head t) (row t r) k
      = score (B0 m c t) (B1 m c t) (B3 m c t) (grid0.coords t 1).val r.val k + (s : EReal) := by
  unfold Ref.logit score
  rw [dif_pos hk', dif_pos ⟨r.isLt, hk'⟩]
  by_cases h : k ≤ (row t r).val
  · rw [if_pos h, if_pos (show k ≤ 4096 * (grid0.coords t 1).val + r.val from h)]
    obtain ⟨p, g, h0, h3, h4, h5⟩ := parts m c hq hk hg t r ⟨k, hk'⟩
    rw [h4, h5, hs, h0, h3]
    exact shift p s g
  · rw [if_neg h, if_neg (show ¬k ≤ 4096 * (grid0.coords t 1).val + r.val from h), EReal.bot_add]

/-- What the body leaves at a grid point is the reference's result there. -/
theorem point (t : Fin cfg0.N) (r : Fin 4096) (d : Fin 128) :
    out0_A_4 (F := Ideal) c (grid0.coords t) (ms0_0 t) (hs0_0 t) (ms0_1 t) (hs0_1 t) (ms0_2 t) (hs0_2 t) (ms0_3 t) (hs0_3 t)
        (ms0_4 t) (hs0_4 t) scM0_0 (Memref.isWhole_whole _) scM0_1 (Memref.isWhole_whole _)
        (iblk m c 0 t) (iblk m c 1 t) (iblk m c 2 t) (iblk m c 3 t) (ix3 0 r d)
      = Cert.ReferenceIdeal.Read.val_main_v31 (F := Ideal) (queries m c) (keys m c) (values m c) (gates m c)
        (ix3 (batch t) (row t r) ⟨(head t).val * 128 + d.val, by have := (head t).isLt; have := d.isLt; omega⟩) := by
  obtain ⟨s, hs⟩ := cum_real (gates m c) hg (ix3 (batch t) (head t) (row t r))
  have hr := r.isLt
  have hrow := (row t r).isLt
  rw [Ref.result_apply]
  refine (block_out c (grid0.coords t) (ms0_0 t) (hs0_0 t) (ms0_1 t) (hs0_1 t) (ms0_2 t) (hs0_2 t) (ms0_3 t) (hs0_3 t)
    (ms0_4 t) (hs0_4 t) scM0_0 (Memref.isWhole_whole _) scM0_1 (Memref.isWhole_whole _)
    (iblk m c 0 t) (iblk m c 1 t) (iblk m c 2 t) (iblk m c 3 t) (fun r k => ?_) (block_one m c t) r d
    (k₀ := 0) (Nat.zero_le _) ?_ s
    (U := Ref.logit (queries m c) (keys m c) (gates m c) (batch t) (head t) (row t r))
    (fun k hk' => logit_eq m c hq hk hg t r k hk' hs)).trans ?_
  · refine score_ne_top (fun r k => ?_) r k
    obtain ⟨p, hp⟩ := score_real m c hq hk hg t r k
    rw [hp]
    exact EReal.coe_ne_top p
  · unfold score
    rw [dif_pos ⟨hr, by norm_num⟩, if_pos (Nat.zero_le _)]
    obtain ⟨p, hp⟩ := score_real m c hq hk hg t r 0
    intro e
    exact EReal.coe_ne_bot p (hp.symm.trans e)
  · refine Finset.sum_congr rfl fun k hk' => congrArg₂ (fun a b : EReal => a * b) rfl ?_
    have hk'' := Finset.mem_range.mp hk'
    unfold value Ref.val
    rw [dif_pos hk'', dif_pos hk'']
    exact block_value m c t ⟨k, hk''⟩ d

/-- **The array the call leaves is the reference's result.** -/
theorem array_eq : (dats m 0 c).arrAt 4 cfg0.N
    = Cert.ReferenceIdeal.Read.val_main_v31 (F := Ideal) (queries m c) (keys m c) (values m c) (gates m c) := by
  refine (dats m 0 c).arrAt_eq_of_covers 4 _ (by decide +kernel) fun t hf y => ?_
  blk_simp
  rw [after0_4]
  simp only [outsAt0]
  obtain ⟨r, d, rfl⟩ : ∃ (r : Fin 4096) (d : Fin 128), y = (ix3 0 r d : S1x4096x128.Idx) := by
    refine ⟨y 1, y 2, funext fun a => ?_⟩
    match a with
    | ⟨0, _⟩ => exact Fin.ext (by have : (y 0).val < 1 := (y 0).isLt; show (y 0).val = 0; omega)
    | ⟨1, _⟩ => rfl
    | ⟨2, _⟩ => rfl
  refine Eq.trans ?_ ((point m c hq hk hg t r d).trans ?_)
  · rfl
  · refine congrArg (Cert.ReferenceIdeal.Read.val_main_v31 (F := Ideal) (queries m c) (keys m c) (values m c) (gates m c)) ?_
    funext a
    refine Fin.ext ?_
    blk_simp [index4 t]
    match a with
    | ⟨0, _⟩ => show _ = _ * 1 + 0; simp [batch]
    | ⟨1, _⟩ => show 4096 * _ + r.val = _ * 4096 + r.val; simp [mul_comm]
    | ⟨2, _⟩ => rfl

end Cert.Attn

end
-- ==== Proof.Norm.lean ====
/-
  The mathematics of a row of the layer: the root-mean-square norm, the squared-ReLU channel mixer, the per-layer input
  embedding, the gated merge.
-/
module

public import Idealize.ShloMosaic.PureOps.Ideal
@[expose] public section

noncomputable section

namespace Cert.Row

open Idealize.ShloMosaic

/-- One over the root of the mean square of the `n` numbers of a row, `w` the word of `n` as a float; the small number added
    to the mean is the one both programs write. -/
def inv {n : ℕ} (w : BitVec 32) (f : Fin n → EReal) : EReal :=
  Ideal.rsqrt (Ideal.div (∑ k, f k * f k) (Ideal.ofBits .f32 w) + Ideal.ofBits .f32 0x358637BD#32)

/-- Entry `j` of the normalised row: the entry times `inv`, times the gain. -/
def rms {n : ℕ} (w : BitVec 32) (f : Fin n → EReal) (g : Fin n → EReal) (j : Fin n) : EReal := f j * inv w f * g j

/-- Hidden unit `f` of the channel mixer for the normalised row `h`: the square of the positive part of its product. -/
def unit {n d : ℕ} (h : Fin n → EReal) (u : Fin n → Fin d → EReal) (f : Fin d) : EReal :=
  max (∑ k, h k * u k f) 0 * max (∑ k, h k * u k f) 0

/-- Entry `j` of what the channel mixer leaves of the row `x`, given its normalised row `h`. -/
def mix {n d : ℕ} (x h : Fin n → EReal) (u : Fin n → Fin d → EReal) (w : Fin d → Fin n → EReal) (j : Fin n) : EReal :=
  x j + ∑ f, unit h u f * w f j

/-- Entry `j` of the row `x` with the embedding `p @ e` added through the sigmoid gate of the normalised row `h`. -/
def embed {n d : ℕ} (x h : Fin n → EReal) (w : Fin n → Fin n → EReal) (p : Fin d → EReal) (e : Fin d → Fin n → EReal) (j : Fin n) : EReal :=
  x j + Ideal.logistic (∑ k, h k * w k j) * ∑ q, p q * e q j

/-- Entry `l` of the two branches `a` and `b`, projected and gated by `sa` and `sb`, -/
def gated {n d : ℕ} (a b : Fin d → EReal) (sa sb : Fin n → EReal) (wa wb : Fin d → Fin n → EReal) (l : Fin n) : EReal :=
  sa l * (∑ k, a k * wa k l) + sb l * ∑ k, b k * wb k l

/-- and entry `j` of the row `x` with their projection added. -/
def merge {n d : ℕ} (x : Fin n → EReal) (a b : Fin d → EReal) (sa sb : Fin n → EReal) (wa wb : Fin d → Fin n → EReal)
    (wo : Fin n → Fin n → EReal) (j : Fin n) : EReal :=
  x j + ∑ l, gated a b sa sb wa wb l * wo l j

end Cert.Row

end
-- ==== Proof.MixerBody.lean ====
/-
  What one grid point of the channel mixer computes, entry by entry.
-/
module

public import proofs.«01_k».proof.Proof.Norm
public import proofs.«01_k».proof.Proof.Gen.Kernel2Ideal.Value
public import Idealize.ShloMosaic.Lib.Pipeline.ValueKit
public import Idealize.ShloMosaic.Lib.Pointwise
@[expose] public section

set_option maxRecDepth 65536

noncomputable section

namespace Cert.Mixer

open Idealize.ShloMosaic Idealize.ShloMosaic.TcCoe
open Cert.Kernel2Ideal Cert.Kernel2Ideal.Gen

/-- The accumulator gains the products of 1024 hidden units. -/
theorem pay2_apply (h : Vec Ideal S512x2048 .bf16) (u : Vec Ideal S2048x1024 .bf16) (a : Vec Ideal S512x2048 .f32)
    (d : Vec Ideal S1024x2048 .bf16) (r : Fin 512) (j : Fin 2048) :
    k0_pay2 (F := Ideal) h u a d (ix2 r j)
      = (a (ix2 r j) : EReal) + ∑ f : Fin 1024, Row.unit (fun k => h (ix2 r k)) (fun k f => u (ix2 k f)) f * d (ix2 f j) := by
  unfold k0_pay2 Row.unit
  pointwise
  try rfl

/-- The normalised row. -/
theorem pay3_apply (v : Vec Ideal S512x2048 .f32) (g : Vec Ideal S1x2048 .f32) (r : Fin 512) (j : Fin 2048) :
    k0_pay3 (F := Ideal) v g (ix2 r j)
      = Row.rms 0x45000000#32 (fun k => v (ix2 r k)) (fun k => g (ix2 0 k)) j := by
  unfold k0_pay3 Row.rms Row.inv
  pointwise
  try rfl

theorem pay1_eq (v : Vec Ideal S512x2048 .f32) : k0_pay1 (F := Ideal) v = v := by
  unfold k0_pay1
  simp only [shapeCast_self]

variable (m : (ℓ : Loc nD τ sig) → Buf (Elt Ideal) ℓ) (c : Dev nD)

/-- What the accumulator holds after a point: at the first of a run of eight, the residual row and the first 1024 units. -/
theorem acc_first (t : Fin cfg0.N) (h : t.val % 8 = 0) :
    (outsAt0 m c t.val t.isLt).2.2 = k0_pay2 (F := Ideal) (iblk m c 0 t) (iblk m c 2 t) (iblk m c 1 t) (iblk m c 3 t) := by
  rw [outsAt0_A m c t h (by omega)]
  frame_out
  rw [pay1_eq]

/-- … and at the others what the point before left, and 1024 units more. -/
theorem acc_next (t : Fin cfg0.N) (h : ¬t.val % 8 = 0) :
    (outsAt0 m c t.val t.isLt).2.2 = k0_pay2 (F := Ideal) (iblk m c 0 t) (iblk m c 2 t)
      (outsAt0 m c (t.val - 1) (Nat.lt_of_le_of_lt (Nat.sub_le _ _) t.isLt)).2.2 (iblk m c 3 t) := by
  by_cases h1 : t.val % 8 = 7
  · rw [outsAt0_C m c t h h1]
    frame_out
    exact congrArg (fun a => k0_pay2 (F := Ideal) _ _ a _) (Memref.IsWhole.read_unread (Memref.isWhole_whole _) _)
  · rw [outsAt0_B m c t h h1]
    frame_out
    exact congrArg (fun a => k0_pay2 (F := Ideal) _ _ a _) (Memref.IsWhole.read_unread (Memref.isWhole_whole _) _)

/-- The last point of a run writes the accumulator back, -/
theorem out_sum (t : Fin cfg0.N) (h : t.val % 8 = 7) : (outsAt0 m c t.val t.isLt).1 = (outsAt0 m c t.val t.isLt).2.2 := by
  rw [outsAt0_C m c t (by omega) h]
  frame_out

/-- and its normalised rows. -/
theorem out_norm (t : Fin cfg0.N) (h : t.val % 8 = 7) :
    (outsAt0 m c t.val t.isLt).2.1 = k0_pay3 (F := Ideal) (outsAt0 m c t.val t.isLt).2.2 (iblk m c 4 t) := by
  rw [outsAt0_C m c t (by omega) h]
  frame_out

end Cert.Mixer

end
-- ==== Proof.MixerArray.lean ====
/-
  The arrays that the channel mixer's call leaves, from its arguments.
-/
module

public import proofs.«01_k».proof.Proof.MixerBody
@[expose] public section

set_option maxRecDepth 65536

noncomputable section

namespace Cert.Mixer

open Idealize.ShloMosaic Idealize.ShloMosaic.TcCoe
open Cert.Kernel2Ideal Cert.Kernel2Ideal.Gen

/-- Row `r` of the residual stream, or of another array of rows, the rows of both sequences one after the other. -/
def xrow {d : ℕ} (x : FVec Ideal ⟨3, ![2, 16384, d]⟩ .f32) (r : Fin 32768) (k : Fin d) : EReal :=
  x (ix3 ⟨r.val / 16384, by have := r.isLt; omega⟩ ⟨r.val % 16384, by omega⟩ k)

/-- Entry `(r, j)` of what the channel mixer leaves, from the residual stream, the gain of the norm and the two weights. -/
def mixed (x : FVec Ideal ⟨3, ![2, 16384, 2048]⟩ .f32) (g : FVec Ideal ⟨1, ![2048]⟩ .f32) (u : FVec Ideal ⟨2, ![2048, 8192]⟩ .f32)
    (w : FVec Ideal ⟨2, ![8192, 2048]⟩ .f32) (r : Fin 32768) (j : Fin 2048) : EReal :=
  Row.mix (xrow x r) (Row.rms 0x45000000#32 (xrow x r) fun k => g (ix1 k)) (fun k f => u (ix2 k f)) (fun f k => w (ix2 f k)) j

variable (m : (ℓ : Loc nD τ sig) → Buf (Elt Ideal) ℓ) (c : Dev nD)

/-- The arguments. -/
abbrev ax : FVec Ideal S2x16384x2048 .f32 := m ((c : Thread nD τ).loc main_arg0)
abbrev again : FVec Ideal S2048 .f32 := m ((c : Thread nD τ).loc main_arg1)
abbrev anext : FVec Ideal S2048 .f32 := m ((c : Thread nD τ).loc main_arg2)
abbrev aup : FVec Ideal S2048x8192 .f32 := m ((c : Thread nD τ).loc main_arg3)
abbrev adown : FVec Ideal S8192x2048 .f32 := m ((c : Thread nD τ).loc main_arg4)

/-- A row of the residual stream after the host's reshape. -/
theorem flat_apply {d : ℕ} (x : FVec Ideal ⟨3, ![2, 16384, d]⟩ .f32)
    (h : (⟨3, ![2, 16384, d]⟩ : Shape).ShapeCasts ⟨2, ![32768, d]⟩) (r : Fin 32768) (k : Fin d) :
    shapeCast ⟨2, ![32768, d]⟩ x h (ix2 r k) = xrow x r k :=
  shapeCast_apply x h (ix2 r k) (ix3 ⟨r.val / 16384, by have := r.isLt; omega⟩ ⟨r.val % 16384, by omega⟩ k) (by
    rewrite [Shape.rowMajor_val_three, Shape.rowMajor_val_two]
    show (r.val / 16384 * 16384 + r.val % 16384) * d + k.val = r.val * d + k.val
    rw [Nat.div_add_mod'])

theorem V_x (r : Fin 32768) (k : Fin 2048) : V m c main_v0 (ix2 r k : S32768x2048.Idx) = xrow (ax m c) r k := by
  have e : V m c main_v0 = shapeCast S32768x2048 (ax m c) shapeCasts_S2x16384x2048_S32768x2048 := by
    entry_read
    try rfl
  rw [e]
  exact flat_apply _ _ r k

theorem V_up (k : Fin 2048) (f : Fin 8192) : V m c main_v15 (ix2 k f : S2048x8192.Idx) = aup m c (ix2 k f) := by
  have e : V m c main_v15 = truncf .bf16 (aup m c) bitsLt_bf16_f32 := by
    entry_read
    try rfl
  rw [e]
  rfl

theorem V_down (f : Fin 8192) (k : Fin 2048) : V m c main_v16 (ix2 f k : S8192x2048.Idx) = adown m c (ix2 f k) := by
  have e : V m c main_v16 = truncf .bf16 (adown m c) bitsLt_bf16_f32 := by
    entry_read
    try rfl
  rw [e]
  rfl

theorem V_gain (k : Fin 2048) : V m c main_v17 (ix2 0 k : S1x2048.Idx) = anext m c (ix1 k) := by
  have e : V m c main_v17 = shapeCast S1x2048 (anext m c) shapeCasts_S2048_S1x2048 := by
    entry_read
    try rfl
  rw [e]
  pointwise

theorem V_norm (r : Fin 32768) (k : Fin 2048) : V m c main_v14 (ix2 r k : S32768x2048.Idx)
    = Row.rms 0x45000000#32 (xrow (ax m c) r) (fun k => again m c (ix1 k)) k := by
  have hx := flat_apply (ax m c) shapeCasts_S2x16384x2048_S32768x2048 r
  entry_read
  unfold Row.rms Row.inv
  simp only [← hx]
  generalize shapeCast S32768x2048 (ax m c) shapeCasts_S2x16384x2048_S32768x2048 = y
  pointwise
  try rfl

/-! ### The blocks of a grid point -/

theorem index0 : ∀ t : Fin cfg0.N, win0_0.index t = ![t.val / 8, 0] := (by decide +kernel : ∀ t : Fin grid0.N, _)
theorem index1 : ∀ t : Fin cfg0.N, win0_1.index t = ![t.val / 8, 0] := (by decide +kernel : ∀ t : Fin grid0.N, _)
theorem index2 : ∀ t : Fin cfg0.N, win0_2.index t = ![0, t.val % 8] := (by decide +kernel : ∀ t : Fin grid0.N, _)
theorem index3 : ∀ t : Fin cfg0.N, win0_3.index t = ![t.val % 8, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val / 8, 0] := (by decide +kernel : ∀ t : Fin grid0.N, _)
theorem index6 : ∀ t : Fin cfg0.N, win0_6.index t = ![t.val / 8, 0] := (by decide +kernel : ∀ t : Fin grid0.N, _)

/-- The array row of row `r` of the blocks of point `t`, and the hidden unit of unit `f` of its slices of the weights. -/
def row (t : Fin cfg0.N) (r : Fin 512) : Fin 32768 :=
  ⟨512 * (t.val / 8) + r.val, by have : t.val < 512 := t.isLt.trans_eq N_0; have := r.isLt; omega⟩
def hidden (t : Fin cfg0.N) (f : Fin 1024) : Fin 8192 := ⟨t.val % 8 * 1024 + f.val, by have := f.isLt; omega⟩

theorem block_h (t : Fin cfg0.N) (r : Fin 512) (k : Fin 2048) : iblk m c 0 t (ix2 r k : S512x2048.Idx)
    = Row.rms 0x45000000#32 (xrow (ax m c) (row t r)) (fun k => again m c (ix1 k)) k := by
  refine Eq.trans ?_ (V_norm m c (row t r) k)
  unfold iblk
  refine congrArg (V m c main_v14) ?_
  funext a
  refine Fin.ext ?_
  blk_simp [index0 t]
  match a with
  | ⟨0, _⟩ => show _ * 512 + r.val = 512 * _ + r.val; simp [mul_comm]
  | ⟨1, _⟩ => show 0 * 2048 + k.val = k.val; omega

theorem block_x (t : Fin cfg0.N) (r : Fin 512) (k : Fin 2048) :
    iblk m c 1 t (ix2 r k : S512x2048.Idx) = xrow (ax m c) (row t r) k := by
  refine Eq.trans ?_ (V_x m c (row t r) k)
  unfold iblk
  refine congrArg (V m c main_v0) ?_
  funext a
  refine Fin.ext ?_
  blk_simp [index1 t]
  match a with
  | ⟨0, _⟩ => show _ * 512 + r.val = 512 * _ + r.val; simp [mul_comm]
  | ⟨1, _⟩ => show 0 * 2048 + k.val = k.val; omega

theorem block_up (t : Fin cfg0.N) (k : Fin 2048) (f : Fin 1024) :
    iblk m c 2 t (ix2 k f : S2048x1024.Idx) = aup m c (ix2 k (hidden t f)) := by
  refine Eq.trans ?_ (V_up m c k (hidden t f))
  unfold iblk
  refine congrArg (V m c main_v15) ?_
  funext a
  refine Fin.ext ?_
  blk_simp [index2 t]
  match a with
  | ⟨0, _⟩ => show 0 * 2048 + k.val = k.val; omega
  | ⟨1, _⟩ => rfl

theorem block_down (t : Fin cfg0.N) (f : Fin 1024) (k : Fin 2048) :
    iblk m c 3 t (ix2 f k : S1024x2048.Idx) = adown m c (ix2 (hidden t f) k) := by
  refine Eq.trans ?_ (V_down m c (hidden t f) k)
  unfold iblk
  refine congrArg (V m c main_v16) ?_
  funext a
  refine Fin.ext ?_
  blk_simp [index3 t]
  match a with
  | ⟨0, _⟩ => rfl
  | ⟨1, _⟩ => show 0 * 2048 + k.val = k.val; omega

theorem block_gain (t : Fin cfg0.N) (k : Fin 2048) : iblk m c 4 t (ix2 0 k : S1x2048.Idx) = anext m c (ix1 k) := by
  refine Eq.trans ?_ (V_gain m c k)
  unfold iblk
  refine congrArg (V m c main_v17) ?_
  funext a
  refine Fin.ext ?_
  blk_simp [index4 t]
  match a with
  | ⟨0, _⟩ => rfl
  | ⟨1, _⟩ => show 0 * 2048 + k.val = k.val; omega

/-! ### The accumulator over a run of eight points -/

/-- The addend of hidden unit `f` to entry `(r, j)`. -/
def addend (r : Fin 32768) (j : Fin 2048) (f : Fin 8192) : EReal :=
  Row.unit (Row.rms 0x45000000#32 (xrow (ax m c) r) fun k => again m c (ix1 k)) (fun k f => aup m c (ix2 k f)) f * adown m c (ix2 f j)

/-- The blocks of normalised rows and of the first weight, as arrays. -/
abbrev blockH (t : Fin cfg0.N) : S512x2048.Idx → EReal := iblk m c 0 t
abbrev blockUp (t : Fin cfg0.N) : S2048x1024.Idx → EReal := iblk m c 2 t

/-- One point, whatever the accumulator `a` held before it: it adds the addends of its hidden units. -/
theorem point_apply (t : Fin cfg0.N) (a : Vec Ideal S512x2048 .f32) (r : Fin 512) (j : Fin 2048) :
    k0_pay2 (F := Ideal) (iblk m c 0 t) (iblk m c 2 t) a (iblk m c 3 t) (ix2 r j)
      = (a (ix2 r j) : EReal) + ∑ f : Fin 1024, addend m c (row t r) j (hidden t f) := by
  rw [pay2_apply]
  refine congrArg (fun z : EReal => (a (ix2 r j) : EReal) + z) (Finset.sum_congr rfl fun f _ => ?_)
  unfold addend
  refine congrArg₂ (fun a b : EReal => a * b) ?_ (block_down m c t f j)
  unfold Row.unit
  have e : (∑ k : Fin 2048, blockH m c t (ix2 r k) * blockUp m c t (ix2 k f))
      = ∑ k, Row.rms 0x45000000#32 (xrow (ax m c) (row t r)) (fun k => again m c (ix1 k)) k * aup m c (ix2 k (hidden t f)) :=
    Finset.sum_congr rfl fun k _ => congrArg₂ (fun a b : EReal => a * b) (block_h m c t r k) (block_up m c t k f)
  exact congrArg (fun z : EReal => max z 0 * max z 0) e

/-- The accumulator at the last point of a run. -/
theorem acc_last (t : Fin cfg0.N) (h : t.val % 8 = 7) (r : Fin 512) (j : Fin 2048) :
    ((outsAt0 m c t.val t.isLt).2.2 (ix2 r j : S512x2048.Idx) : EReal)
      = mixed (ax m c) (again m c) (aup m c) (adown m c) (row t r) j := by
  have key := Pipeline.eq_sum_fin_of_reset_step_apply_of_flush (N := cfg0.N)
    (fun n h (i : Fin 512 × Fin 2048) => ((outsAt0 m c n h).2.2 (ix2 i.1 i.2 : S512x2048.Idx) : EReal)) 8 (fun _ => 0)
    (fun t i => (if t.val % 8 = 0 then xrow (ax m c) (row t i.1) i.2 else 0)
      + ∑ f : Fin 1024, addend m c (row t i.1) i.2 (hidden t f)) ?_ ?_ t h (r, j)
  · refine key.trans ?_
    rw [zero_add, Finset.sum_add_distrib]
    unfold mixed Row.mix
    have hd : ∀ s : Fin 8, (8 * (t.val / 8) + s.val) / 8 = t.val / 8 := fun s => by have := s.isLt; omega
    have hm : ∀ s : Fin 8, (8 * (t.val / 8) + s.val) % 8 = s.val := fun s => by have := s.isLt; omega
    have hrow : ∀ (s : Fin 8) (hl : 8 * (t.val / 8) + s.val < cfg0.N), row ⟨8 * (t.val / 8) + s.val, hl⟩ r = row t r := fun s hl =>
      Fin.ext (by show 512 * ((8 * (t.val / 8) + s.val) / 8) + r.val = _; rw [hd]; rfl)
    refine congrArg₂ (fun a b : EReal => a + b) ?_ ?_
    · simp only [hm, hrow]
      rw [Fin.sum_univ_succ]
      simp
    · refine Fin.sum_mul_add_congr (S := 8) (n := 1024) (f := addend m c (row t r) j) (fun s k hl => ?_)
      dsimp only
      rw [hrow]
      exact congrArg (addend m c (row t r) j) (Fin.ext (by
        show (8 * (t.val / 8) + s.val) % 8 * 1024 + k.val = _; rw [hm]))
  · intro t h0 i
    rw [acc_first m c t h0, point_apply, if_pos h0, zero_add]
    exact congrArg (fun z : EReal => z + _) (block_x m c t i.1 i.2)
  · intro t h0 i
    rw [acc_next m c t h0, point_apply, if_neg h0, zero_add]

/-! ### The two arrays -/

/-- What the call leaves: the residual stream after the channel mixer, -/
def outSum : FVec Ideal S32768x2048 .f32 := fun i => mixed (ax m c) (again m c) (aup m c) (adown m c) (i 0) (i 1)

/-- and its rows normalised for the sublayer that follows. -/
def outNorm : FVec Ideal S32768x2048 .bf16 := fun i =>
  Row.rms 0x45000000#32 (mixed (ax m c) (again m c) (aup m c) (adown m c) (i 0)) (fun k => anext m c (ix1 k)) (i 1)

theorem split {a b : ℕ} (y : (⟨2, ![a, b]⟩ : Shape).Idx) : ∃ (r : Fin a) (j : Fin b), y = ix2 r j :=
  ⟨y 0, y 1, funext fun a => match a with | ⟨0, _⟩ => rfl | ⟨1, _⟩ => rfl⟩

theorem array_sum : (dats m 0 c).arrAt 5 cfg0.N = outSum m c := by
  refine (dats m 0 c).arrAt_eq_of_covers 5 _ (by decide +kernel) fun t hf y => ?_
  have h7 := (flush0_5 t).mp hf
  blk_simp
  rw [after0_5, out_sum m c t h7]
  obtain ⟨r, j, rfl⟩ := split y
  refine (acc_last m c t h7 r j).trans ?_
  refine congrArg (outSum m c) (?_ : (ix2 (row t r) j : S32768x2048.Idx) = _)
  funext a
  refine Fin.ext ?_
  blk_simp [index5 t]
  match a with
  | ⟨0, _⟩ => show 512 * _ + r.val = _ * 512 + r.val; simp [mul_comm]
  | ⟨1, _⟩ => show j.val = 0 * 2048 + j.val; omega

theorem array_norm : (dats m 0 c).arrAt 6 cfg0.N = outNorm m c := by
  refine (dats m 0 c).arrAt_eq_of_covers 6 _ (by decide +kernel) fun t hf y => ?_
  have h7 := (flush0_6 t).mp hf
  blk_simp
  rw [after0_6, out_norm m c t h7]
  obtain ⟨r, j, rfl⟩ := split y
  refine (pay3_apply _ _ r j).trans ?_
  refine Eq.trans ?_ (congrArg (outNorm m c) (?_ : (ix2 (row t r) j : S32768x2048.Idx) = _))
  · exact congrArg₂ (fun f g => Row.rms 0x45000000#32 f g j) (funext fun k => acc_last m c t h7 r k)
      (funext fun k => block_gain m c t k)
  · funext a
    refine Fin.ext ?_
    blk_simp [index6 t]
    match a with
    | ⟨0, _⟩ => show 512 * _ + r.val = _ * 512 + r.val; simp [mul_comm]
    | ⟨1, _⟩ => show j.val = 0 * 2048 + j.val; omega

end Cert.Mixer

end
-- ==== Proof.MixerReference.lean ====
/-
  The reference of the channel mixer, entry by entry.
-/
module

public import proofs.«01_k».proof.Proof.MixerArray
public import proofs.«01_k».proof.Proof.Gen.Reference2Ideal.Read
@[expose] public section

set_option maxRecDepth 65536

noncomputable section

namespace Cert.Mixer.Ref

open Idealize.ShloMosaic Idealize.ShloMosaic.TcCoe
open Cert.Reference2Ideal Cert.Reference2Ideal.Gen Cert.Reference2Ideal.Read

variable (x : FVec Ideal S2x16384x2048 .f32) (g gn : FVec Ideal S2048 .f32) (u : FVec Ideal S2048x8192 .f32)
  (w : FVec Ideal S8192x2048 .f32)

theorem idx3 {d : ℕ} {i : (⟨3, ![2, 16384, d]⟩ : Shape).Idx} {b : Fin 2} {n : Fin 16384} {k : Fin d} (h0 : i 0 = b) (h1 : i 1 = n)
    (h2 : i 2 = k) : i = ix3 b n k := by
  subst h0 h1 h2
  exact funext fun a => match a with | ⟨0, _⟩ => rfl | ⟨1, _⟩ => rfl | ⟨2, _⟩ => rfl

theorem zero_word : (FloatOps.ofBits (F := Ideal) .f32 0x00000000#32) = (0 : EReal) := Ideal.ofBits_zero_f32

/-- The normalised rows. -/
theorem norm_apply (b : Fin 2) (n : Fin 16384) (k : Fin 2048) : val_main_v12 (F := Ideal) x g (ix3 b n k)
    = Row.rms 0x45000000#32 (fun k => x (ix3 b n k)) (fun k => g (ix1 k)) k := by
  have e1 : ∀ q : Fin 2048, idx_main_v1 (idx_main_v2 (idx_main_v8 (ix3 b n k))) q = ix3 b n q := fun q => idx3 rfl rfl rfl
  have e2 : idx_main_v10 (idx_main_v11 (ix3 b n k)) = ix1 k := funext fun a => match a with | ⟨0, _⟩ => rfl
  rw [val_main_v12_apply, val_main_v9_apply, val_main_v8_apply, val_main_v7_apply, val_main_v6_apply, val_main_v4_apply,
    val_main_v2_apply, val_main_v1_apply, val_main_v3_apply, val_main_v5_apply, val_main_v11_apply, val_main_v10_apply,
    val_main_cst_apply, val_main_cst_0_apply, val_main_cst_1_apply, e2]
  simp only [val_main_v0_apply, e1]
  unfold Row.rms Row.inv
  rw [zero_word, zero_add]
  rfl

/-- The stream after the channel mixer. -/
theorem sum_apply (b : Fin 2) (n : Fin 16384) (j : Fin 2048) : val_main_v17 (F := Ideal) x g u w (ix3 b n j)
    = Row.mix (fun k => x (ix3 b n k)) (Row.rms 0x45000000#32 (fun k => x (ix3 b n k)) fun k => g (ix1 k))
      (fun k f => u (ix2 k f)) (fun f k => w (ix2 f k)) j := by
  have hu : ∀ f : Fin 8192, val_main_v13 (F := Ideal) x g u (ix3 b n f)
      = ∑ k, Row.rms 0x45000000#32 (fun k => x (ix3 b n k)) (fun k => g (ix1 k)) k * u (ix2 k f) := by
    intro f
    rw [val_main_v13_apply]
    refine Finset.sum_congr rfl fun k _ => ?_
    rw [← norm_apply]
    refine congrArg₂ (fun a b : EReal => a * b) (congrArg _ (idx3 rfl rfl rfl)) (congrArg u ?_)
    exact funext fun a => match a with | ⟨0, _⟩ => rfl | ⟨1, _⟩ => rfl
  rw [val_main_v17_apply, val_main_v16_apply]
  unfold Row.mix
  refine congrArg (fun z : EReal => (x (ix3 b n j) : EReal) + z) (Finset.sum_congr rfl fun f _ => ?_)
  have el : lidx_main_v16 (ix3 b n j) f = ix3 b n f :=
    funext fun a => match a with | ⟨0, _⟩ => rfl | ⟨1, _⟩ => rfl | ⟨2, _⟩ => rfl
  have er : ridx_main_v16 (ix3 b n j) f = ix2 f j := funext fun a => match a with | ⟨0, _⟩ => rfl | ⟨1, _⟩ => rfl
  rw [el, er, val_main_v15_apply, val_main_v14_apply, hu]
  refine congrArg (fun z : EReal => z * w (ix2 f j)) ?_
  unfold Row.unit
  have ez : val_main_call0_v0 (F := Ideal) (ix3 b n f) = (0 : EReal) := by
    first
    | (rw [val_main_call0_v0_apply]; exact Ideal.ofBits_zero_f32)
    | exact Ideal.ofBits_zero_f32
  rw [ez]
  rfl

/-- Its normalised rows. -/
theorem next_apply (b : Fin 2) (n : Fin 16384) (j : Fin 2048) : val_main_v31 (F := Ideal) x g gn u w (ix3 b n j)
    = Row.rms 0x45000000#32 (fun k => val_main_v17 (F := Ideal) x g u w (ix3 b n k)) (fun k => gn (ix1 k)) j := by
  have e1 : ∀ q : Fin 2048, idx_main_v20 (idx_main_v21 (idx_main_v27 (ix3 b n j))) q = ix3 b n q := fun q => idx3 rfl rfl rfl
  have e2 : idx_main_v29 (idx_main_v30 (ix3 b n j)) = ix1 j := funext fun a => match a with | ⟨0, _⟩ => rfl
  rw [val_main_v31_apply, val_main_v28_apply, val_main_v27_apply, val_main_v26_apply, val_main_v25_apply, val_main_v23_apply,
    val_main_v21_apply, val_main_v20_apply, val_main_v22_apply, val_main_v24_apply, val_main_v30_apply, val_main_v29_apply,
    val_main_cst_2_apply, val_main_cst_3_apply, val_main_cst_4_apply, e2]
  simp only [val_main_v19_apply, e1]
  unfold Row.rms Row.inv
  rw [zero_word, zero_add]
  rfl

/-- The two results, at row `r` of the flattened stream. -/
theorem flat_idx (r : Fin 32768) (j : Fin 2048) : idx_main_v18 (ix2 r j)
    = ix3 ⟨r.val / 16384, by have := r.isLt; omega⟩ ⟨r.val % 16384, by omega⟩ j := by
  have := r.isLt
  have := j.isLt
  refine idx3 (Fin.ext ?_) (Fin.ext ?_) (Fin.ext ?_)
  · show (r.val * 2048 + j.val) / 33554432 = r.val / 16384; omega
  · show (r.val * 2048 + j.val) / 2048 % 16384 = r.val % 16384; omega
  · show (r.val * 2048 + j.val) % 2048 = j.val; omega

theorem result_sum (r : Fin 32768) (j : Fin 2048) : val_main_v18 (F := Ideal) x g u w (ix2 r j) = mixed x g u w r j := by
  rw [val_main_v18_apply, flat_idx, sum_apply]
  rfl

theorem result_norm (r : Fin 32768) (j : Fin 2048) : val_main_v33 (F := Ideal) x g gn u w (ix2 r j)
    = Row.rms 0x45000000#32 (mixed x g u w r) (fun k => gn (ix1 k)) j := by
  have e : idx_main_v32 (ix2 r j) = ix3 ⟨r.val / 16384, by have := r.isLt; omega⟩ ⟨r.val % 16384, by omega⟩ j := flat_idx r j
  rw [val_main_v33_apply, val_main_v32_apply, e, next_apply]
  simp only [sum_apply]
  rfl

/-! ### The arrays of the call are the reference's results -/

theorem array_sum (m : (ℓ : Loc Cert.Kernel2Ideal.nD Cert.Kernel2Ideal.τ Cert.Kernel2Ideal.sig) → Buf (Elt Ideal) ℓ)
    (c : Dev Cert.Kernel2Ideal.nD) : (Cert.Kernel2Ideal.Gen.dats m 0 c).arrAt 5 Cert.Kernel2Ideal.cfg0.N
      = val_main_v18 (F := Ideal) (ax m c) (again m c) (aup m c) (adown m c) := by
  rw [Cert.Mixer.array_sum]
  funext i
  have e : i = ix2 (i 0) (i 1) := funext fun a => match a with | ⟨0, _⟩ => rfl | ⟨1, _⟩ => rfl
  exact (result_sum (ax m c) (again m c) (aup m c) (adown m c) (i 0) (i 1)).symm.trans (congrArg _ e.symm)

theorem array_norm (m : (ℓ : Loc Cert.Kernel2Ideal.nD Cert.Kernel2Ideal.τ Cert.Kernel2Ideal.sig) → Buf (Elt Ideal) ℓ)
    (c : Dev Cert.Kernel2Ideal.nD) : (Cert.Kernel2Ideal.Gen.dats m 0 c).arrAt 6 Cert.Kernel2Ideal.cfg0.N
      = val_main_v33 (F := Ideal) (ax m c) (again m c) (anext m c) (aup m c) (adown m c) := by
  rw [Cert.Mixer.array_norm]
  funext i
  have e : i = ix2 (i 0) (i 1) := funext fun a => match a with | ⟨0, _⟩ => rfl | ⟨1, _⟩ => rfl
  exact (result_norm (ax m c) (again m c) (anext m c) (aup m c) (adown m c) (i 0) (i 1)).symm.trans (congrArg _ e.symm)

end Cert.Mixer.Ref

end
-- ==== Proof.Embed.lean ====
/-
  The arrays that the per-layer embedding's call leaves, from its arguments.
-/
module

public import proofs.«01_k».proof.Proof.MixerArray
public import proofs.«01_k».proof.Proof.Gen.Kernel3Ideal.Value
@[expose] public section

set_option maxRecDepth 65536

noncomputable section

namespace Cert.Embed

open Idealize.ShloMosaic Idealize.ShloMosaic.TcCoe
open Cert.Kernel3Ideal Cert.Kernel3Ideal.Gen
open Cert.Mixer (xrow)

/-! ### One grid point -/

theorem pay1_apply (h : Vec Ideal S512x2048 .bf16) (w : Vec Ideal S2048x2048 .bf16) (x : Vec Ideal S512x2048 .f32)
    (p : Vec Ideal S1x512x256 .f32) (e : Vec Ideal S256x2048 .bf16) (r : Fin 512) (j : Fin 2048) :
    k0_pay1 (F := Ideal) h w x p e (ix2 r j)
      = Row.embed (fun k => x (ix2 r k)) (fun k => h (ix2 r k)) (fun k l => w (ix2 k l)) (fun q => p (ix3 0 r q))
        (fun q l => e (ix2 q l)) j := by
  unfold k0_pay1 Row.embed
  pointwise
  try rfl

theorem pay2_apply (h : Vec Ideal S512x2048 .bf16) (w : Vec Ideal S2048x2048 .bf16) (x : Vec Ideal S512x2048 .f32)
    (p : Vec Ideal S1x512x256 .f32) (e : Vec Ideal S256x2048 .bf16) (g : Vec Ideal S1x2048 .f32) (r : Fin 512) (j : Fin 2048) :
    k0_pay2 (F := Ideal) h w x p e g (ix2 r j)
      = Row.rms 0x45000000#32 (fun k => k0_pay1 (F := Ideal) h w x p e (ix2 r k)) (fun k => g (ix2 0 k)) j := by
  unfold k0_pay2
  generalize k0_pay1 (F := Ideal) h w x p e = v
  unfold Row.rms Row.inv
  pointwise
  try rfl

/-! ### What the call reads -/

/-- Row `r` of the embedding of layer `l`, the rows of both sequences one after the other. -/
def prow (p : FVec Ideal ⟨4, ![4, 2, 16384, 256]⟩ .f32) (l : Fin 4) (r : Fin 32768) (q : Fin 256) : EReal :=
  p (ix4 l ⟨r.val / 16384, by have := r.isLt; omega⟩ ⟨r.val % 16384, by omega⟩ q)

/-- Entry `(r, j)` of the stream after the embedding of the last layer. -/
def embedded (x : FVec Ideal ⟨3, ![2, 16384, 2048]⟩ .f32) (p : FVec Ideal ⟨4, ![4, 2, 16384, 256]⟩ .f32) (g : FVec Ideal ⟨1, ![2048]⟩ .f32)
    (w : FVec Ideal ⟨2, ![2048, 2048]⟩ .f32) (e : FVec Ideal ⟨2, ![256, 2048]⟩ .f32) (r : Fin 32768) (j : Fin 2048) : EReal :=
  Row.embed (xrow x r) (Row.rms 0x45000000#32 (xrow x r) fun k => g (ix1 k)) (fun k l => w (ix2 k l)) (prow p 3 r)
    (fun q l => e (ix2 q l)) j

variable (m : (ℓ : Loc nD τ sig) → Buf (Elt Ideal) ℓ) (c : Dev nD)

/-- The arguments. -/
abbrev ax : FVec Ideal S2x16384x2048 .f32 := m ((c : Thread nD τ).loc main_arg0)
abbrev ap : FVec Ideal S4x2x16384x256 .f32 := m ((c : Thread nD τ).loc main_arg1)
abbrev again : FVec Ideal S2048 .f32 := m ((c : Thread nD τ).loc main_arg2)
abbrev anext : FVec Ideal S2048 .f32 := m ((c : Thread nD τ).loc main_arg3)
abbrev agate : FVec Ideal S2048x2048 .f32 := m ((c : Thread nD τ).loc main_arg4)
abbrev aemb : FVec Ideal S256x2048 .f32 := m ((c : Thread nD τ).loc main_arg5)

theorem V_x (r : Fin 32768) (k : Fin 2048) : V m c main_v0 (ix2 r k : S32768x2048.Idx) = xrow (ax m c) r k := by
  have e : V m c main_v0 = shapeCast S32768x2048 (ax m c) shapeCasts_S2x16384x2048_S32768x2048 := by
    entry_read
    try rfl
  rw [e]
  exact Cert.Mixer.flat_apply _ _ r k

theorem V_norm (r : Fin 32768) (k : Fin 2048) : V m c main_v14 (ix2 r k : S32768x2048.Idx)
    = Row.rms 0x45000000#32 (xrow (ax m c) r) (fun k => again m c (ix1 k)) k := by
  have hx := Cert.Mixer.flat_apply (ax m c) shapeCasts_S2x16384x2048_S32768x2048 r
  entry_read
  unfold Row.rms Row.inv
  simp only [← hx]
  generalize shapeCast S32768x2048 (ax m c) shapeCasts_S2x16384x2048_S32768x2048 = y
  pointwise
  try rfl

theorem V_p (l : Fin 4) (r : Fin 32768) (q : Fin 256) : V m c main_v15 (ix3 l r q : S4x32768x256.Idx) = prow (ap m c) l r q := by
  have e : V m c main_v15 = shapeCast S4x32768x256 (ap m c) shapeCasts_S4x2x16384x256_S4x32768x256 := by
    entry_read
    try rfl
  rw [e]
  refine shapeCast_apply (ap m c) _ (ix3 l r q) (ix4 l ⟨r.val / 16384, by have := r.isLt; omega⟩ ⟨r.val % 16384, by omega⟩ q) ?_
  rewrite [Shape.rowMajor_val_four, Shape.rowMajor_val_three]
  show ((l.val * 2 + r.val / 16384) * 16384 + r.val % 16384) * 256 + q.val = (l.val * 32768 + r.val) * 256 + q.val
  omega

theorem V_gate (k l : Fin 2048) : V m c main_v16 (ix2 k l : S2048x2048.Idx) = agate m c (ix2 k l) := by
  have e : V m c main_v16 = truncf .bf16 (agate m c) bitsLt_bf16_f32 := by
    entry_read
    try rfl
  rw [e]
  rfl

theorem V_emb (q : Fin 256) (l : Fin 2048) : V m c main_v17 (ix2 q l : S256x2048.Idx) = aemb m c (ix2 q l) := by
  have e : V m c main_v17 = truncf .bf16 (aemb m c) bitsLt_bf16_f32 := by
    entry_read
    try rfl
  rw [e]
  rfl

theorem V_next (k : Fin 2048) : V m c main_v18 (ix2 0 k : S1x2048.Idx) = anext m c (ix1 k) := by
  have e : V m c main_v18 = shapeCast S1x2048 (anext m c) shapeCasts_S2048_S1x2048 := by
    entry_read
    try rfl
  rw [e]
  pointwise

/-! ### The blocks of a grid point -/

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![3, t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)

/-- The array row of row `r` of the blocks of point `t`. -/
def row (t : Fin cfg0.N) (r : Fin 512) : Fin 32768 :=
  ⟨t.val * 512 + r.val, by have : t.val < 64 := t.isLt.trans_eq N_0; have := r.isLt; omega⟩

theorem block_h (t : Fin cfg0.N) (r : Fin 512) (k : Fin 2048) : iblk m c 0 t (ix2 r k : S512x2048.Idx)
    = Row.rms 0x45000000#32 (xrow (ax m c) (row t r)) (fun k => again m c (ix1 k)) k := by
  refine Eq.trans ?_ (V_norm m c (row t r) k)
  unfold iblk
  refine congrArg (V m c main_v14) (funext fun a => Fin.ext ?_)
  blk_simp [index0 t]
  match a with
  | ⟨0, _⟩ => rfl
  | ⟨1, _⟩ => show 0 * 2048 + k.val = k.val; omega

theorem block_x (t : Fin cfg0.N) (r : Fin 512) (k : Fin 2048) :
    iblk m c 1 t (ix2 r k : S512x2048.Idx) = xrow (ax m c) (row t r) k := by
  refine Eq.trans ?_ (V_x m c (row t r) k)
  unfold iblk
  refine congrArg (V m c main_v0) (funext fun a => Fin.ext ?_)
  blk_simp [index1 t]
  match a with
  | ⟨0, _⟩ => rfl
  | ⟨1, _⟩ => show 0 * 2048 + k.val = k.val; omega

theorem block_p (t : Fin cfg0.N) (r : Fin 512) (q : Fin 256) :
    iblk m c 2 t (ix3 0 r q : S1x512x256.Idx) = prow (ap m c) 3 (row t r) q := by
  refine Eq.trans ?_ (V_p m c 3 (row t r) q)
  unfold iblk
  refine congrArg (V m c main_v15) (funext fun a => Fin.ext ?_)
  blk_simp [index2 t]
  match a with
  | ⟨0, _⟩ => rfl
  | ⟨1, _⟩ => rfl
  | ⟨2, _⟩ => show 0 * 256 + q.val = q.val; omega

theorem block_gate (t : Fin cfg0.N) (k l : Fin 2048) : iblk m c 3 t (ix2 k l : S2048x2048.Idx) = agate m c (ix2 k l) := by
  refine Eq.trans ?_ (V_gate m c k l)
  unfold iblk
  refine congrArg (V m c main_v16) (funext fun a => Fin.ext ?_)
  blk_simp [index3 t]
  match a with
  | ⟨0, _⟩ => show 0 * 2048 + k.val = k.val; omega
  | ⟨1, _⟩ => show 0 * 2048 + l.val = l.val; omega

theorem block_emb (t : Fin cfg0.N) (q : Fin 256) (l : Fin 2048) : iblk m c 4 t (ix2 q l : S256x2048.Idx) = aemb m c (ix2 q l) := by
  refine Eq.trans ?_ (V_emb m c q l)
  unfold iblk
  refine congrArg (V m c main_v17) (funext fun a => Fin.ext ?_)
  blk_simp [index4 t]
  match a with
  | ⟨0, _⟩ => show 0 * 256 + q.val = q.val; omega
  | ⟨1, _⟩ => show 0 * 2048 + l.val = l.val; omega

theorem block_next (t : Fin cfg0.N) (k : Fin 2048) : iblk m c 5 t (ix2 0 k : S1x2048.Idx) = anext m c (ix1 k) := by
  refine Eq.trans ?_ (V_next m c k)
  unfold iblk
  refine congrArg (V m c main_v18) (funext fun a => Fin.ext ?_)
  blk_simp [index5 t]
  match a with
  | ⟨0, _⟩ => rfl
  | ⟨1, _⟩ => show 0 * 2048 + k.val = k.val; omega

/-! ### The two arrays -/

/-- A grid point leaves the embedded rows of its block. -/
theorem point (t : Fin cfg0.N) (r : Fin 512) (j : Fin 2048) :
    k0_pay1 (F := Ideal) (iblk m c 0 t) (iblk m c 3 t) (iblk m c 1 t) (iblk m c 2 t) (iblk m c 4 t) (ix2 r j)
      = embedded (ax m c) (ap m c) (again m c) (agate m c) (aemb m c) (row t r) j := by
  rw [pay1_apply]
  unfold embedded
  have h0 : (fun k : Fin 2048 => (iblk m c 1 t (ix2 r k : S512x2048.Idx) : EReal)) = xrow (ax m c) (row t r) :=
    funext fun k => block_x m c t r k
  have h1 : (fun k : Fin 2048 => (iblk m c 0 t (ix2 r k : S512x2048.Idx) : EReal))
      = Row.rms 0x45000000#32 (xrow (ax m c) (row t r)) (fun k => again m c (ix1 k)) := funext fun k => block_h m c t r k
  have h2 : (fun q : Fin 256 => (iblk m c 2 t (ix3 0 r q : S1x512x256.Idx) : EReal)) = prow (ap m c) 3 (row t r) :=
    funext fun q => block_p m c t r q
  have h3 : (fun k l : Fin 2048 => (iblk m c 3 t (ix2 k l : S2048x2048.Idx) : EReal)) = fun k l => agate m c (ix2 k l) :=
    funext fun k => funext fun l => block_gate m c t k l
  have h4 : (fun (q : Fin 256) (l : Fin 2048) => (iblk m c 4 t (ix2 q l : S256x2048.Idx) : EReal)) = fun q l => aemb m c (ix2 q l) :=
    funext fun q => funext fun l => block_emb m c t q l
  rw [h0, h1, h2, h3, h4]

/-- What the call leaves: the stream after the embedding, -/
def outSum : FVec Ideal S32768x2048 .f32 := fun i =>
  embedded (ax m c) (ap m c) (again m c) (agate m c) (aemb m c) (i 0) (i 1)

/-- and its rows normalised. -/
def outNorm : FVec Ideal S32768x2048 .bf16 := fun i =>
  Row.rms 0x45000000#32 (embedded (ax m c) (ap m c) (again m c) (agate m c) (aemb m c) (i 0)) (fun k => anext m c (ix1 k)) (i 1)

theorem array_sum : (dats m 0 c).arrAt 6 cfg0.N = outSum m c := by
  refine (dats m 0 c).arrAt_eq_of_covers 6 _ (by decide +kernel) fun t hf y => ?_
  blk_simp
  rw [after0_6]
  frame_out
  obtain ⟨r, j, rfl⟩ := Cert.Mixer.split y
  refine (point m c t r j).trans ?_
  refine congrArg (outSum m c) (?_ : (ix2 (row t r) j : S32768x2048.Idx) = _)
  funext a
  refine Fin.ext ?_
  blk_simp [index6 t]
  match a with
  | ⟨0, _⟩ => rfl
  | ⟨1, _⟩ => show j.val = 0 * 2048 + j.val; omega

theorem array_norm : (dats m 0 c).arrAt 7 cfg0.N = outNorm m c := by
  refine (dats m 0 c).arrAt_eq_of_covers 7 _ (by decide +kernel) fun t hf y => ?_
  blk_simp
  rw [after0_7]
  frame_out
  obtain ⟨r, j, rfl⟩ := Cert.Mixer.split y
  refine (pay2_apply _ _ _ _ _ _ r j).trans ?_
  refine Eq.trans ?_ (congrArg (outNorm m c) (?_ : (ix2 (row t r) j : S32768x2048.Idx) = _))
  · exact congrArg₂ (fun f g => Row.rms 0x45000000#32 f g j) (funext fun k => point m c t r k)
      (funext fun k => block_next m c t k)
  · funext a
    refine Fin.ext ?_
    blk_simp [index7 t]
    match a with
    | ⟨0, _⟩ => rfl
    | ⟨1, _⟩ => show j.val = 0 * 2048 + j.val; omega

end Cert.Embed

end
-- ==== Proof.EmbedReference.lean ====
/-
  The reference of the per-layer embedding, entry by entry.
-/
module

public import proofs.«01_k».proof.Proof.Embed
public import proofs.«01_k».proof.Proof.MixerReference
public import proofs.«01_k».proof.Proof.Gen.Reference3Ideal.Read
@[expose] public section

set_option maxRecDepth 65536

noncomputable section

namespace Cert.Embed.Ref

open Idealize.ShloMosaic Idealize.ShloMosaic.TcCoe
open Cert.Reference3Ideal Cert.Reference3Ideal.Gen Cert.Reference3Ideal.Read
open Cert.Mixer.Ref (idx3)

variable (x : FVec Ideal S2x16384x2048 .f32) (p : FVec Ideal S4x2x16384x256 .f32) (g gn : FVec Ideal S2048 .f32)
  (w : FVec Ideal S2048x2048 .f32) (e : FVec Ideal S256x2048 .f32)

/-- The normalised rows: the norm is the one that the channel mixer's reference begins with. -/
theorem norm_apply (b : Fin 2) (n : Fin 16384) (k : Fin 2048) : val_main_v12 (F := Ideal) x g (ix3 b n k)
    = Row.rms 0x45000000#32 (fun k => x (ix3 b n k)) (fun k => g (ix1 k)) k :=
  Cert.Mixer.Ref.norm_apply x g b n k

/-- The gate. -/
theorem gate_apply (b : Fin 2) (n : Fin 16384) (j : Fin 2048) : val_main_v19 (F := Ideal) x g w (ix3 b n j)
    = Ideal.logistic (∑ k, Row.rms 0x45000000#32 (fun k => x (ix3 b n k)) (fun k => g (ix1 k)) k * w (ix2 k j)) := by
  have hd : val_main_v13 (F := Ideal) x g w (ix3 b n j)
      = ∑ k, Row.rms 0x45000000#32 (fun k => x (ix3 b n k)) (fun k => g (ix1 k)) k * w (ix2 k j) := by
    rw [val_main_v13_apply]
    refine Finset.sum_congr rfl fun k _ => ?_
    rw [← norm_apply]
    refine congrArg₂ (fun a b : EReal => a * b) (congrArg _ (idx3 rfl rfl rfl)) (congrArg w ?_)
    exact funext fun a => match a with | ⟨0, _⟩ => rfl | ⟨1, _⟩ => rfl
  have h16 : val_main_v16 (F := Ideal) (ix3 b n j) = (1 : EReal) := (val_main_v16_apply _).trans Ideal.ofBits_one_f32
  have h18 : val_main_v18 (F := Ideal) (ix3 b n j) = (1 : EReal) := (val_main_v18_apply _).trans Ideal.ofBits_one_f32
  rw [val_main_v19_apply, val_main_v17_apply, val_main_v15_apply, val_main_v14_apply, h16, h18, hd]
  rfl

/-- The embedding of a row. -/
theorem emb_apply (b : Fin 2) (n : Fin 16384) (j : Fin 2048) : val_main_v22 (F := Ideal) p e (ix3 b n j)
    = ∑ q : Fin 256, p (ix4 3 b n q) * e (ix2 q j) := by
  rw [val_main_v22_apply]
  refine Finset.sum_congr rfl fun q _ => ?_
  refine congrArg₂ (fun a b : EReal => a * b) ?_ (congrArg e ?_)
  · rw [val_main_v21_apply, val_main_v20_apply]
    refine congrArg p (funext fun a => Fin.ext ?_)
    have := b.isLt
    have := n.isLt
    have := q.isLt
    match a with
    | ⟨0, _⟩ => rfl
    | ⟨1, _⟩ => show ((b.val * 16384 + n.val) * 256 + q.val) / 4194304 % 2 = b.val; omega
    | ⟨2, _⟩ => show ((b.val * 16384 + n.val) * 256 + q.val) / 256 % 16384 = n.val; omega
    | ⟨3, _⟩ => show ((b.val * 16384 + n.val) * 256 + q.val) % 256 = q.val; omega
  · exact funext fun a => match a with | ⟨0, _⟩ => rfl | ⟨1, _⟩ => rfl

/-- The stream after the embedding. -/
theorem sum_apply (b : Fin 2) (n : Fin 16384) (j : Fin 2048) : val_main_v24 (F := Ideal) x p g w e (ix3 b n j)
    = Row.embed (fun k => x (ix3 b n k)) (Row.rms 0x45000000#32 (fun k => x (ix3 b n k)) fun k => g (ix1 k))
      (fun k l => w (ix2 k l)) (fun q => p (ix4 3 b n q)) (fun q l => e (ix2 q l)) j := by
  rw [val_main_v24_apply, val_main_v23_apply, gate_apply, emb_apply]
  rfl

/-- Its normalised rows. -/
theorem next_apply (b : Fin 2) (n : Fin 16384) (j : Fin 2048) : val_main_v38 (F := Ideal) x p g gn w e (ix3 b n j)
    = Row.rms 0x45000000#32 (fun k => val_main_v24 (F := Ideal) x p g w e (ix3 b n k)) (fun k => gn (ix1 k)) j :=
  Cert.Mixer.Ref.norm_apply (val_main_v24 (F := Ideal) x p g w e) gn b n j

/-- The two results, at row `r` of the flattened stream. -/
theorem result_sum (r : Fin 32768) (j : Fin 2048) : val_main_v25 (F := Ideal) x p g w e (ix2 r j) = embedded x p g w e r j := by
  have h : idx_main_v25 (ix2 r j) = ix3 ⟨r.val / 16384, by have := r.isLt; omega⟩ ⟨r.val % 16384, by omega⟩ j :=
    Cert.Mixer.Ref.flat_idx r j
  rw [val_main_v25_apply, h, sum_apply]
  rfl

theorem result_norm (r : Fin 32768) (j : Fin 2048) : val_main_v40 (F := Ideal) x p g gn w e (ix2 r j)
    = Row.rms 0x45000000#32 (embedded x p g w e r) (fun k => gn (ix1 k)) j := by
  have h : idx_main_v39 (ix2 r j) = ix3 ⟨r.val / 16384, by have := r.isLt; omega⟩ ⟨r.val % 16384, by omega⟩ j :=
    Cert.Mixer.Ref.flat_idx r j
  rw [val_main_v40_apply, val_main_v39_apply, h, next_apply]
  simp only [sum_apply]
  rfl

/-! ### The arrays of the call are the reference's results -/

theorem array_sum (m : (ℓ : Loc Cert.Kernel3Ideal.nD Cert.Kernel3Ideal.τ Cert.Kernel3Ideal.sig) → Buf (Elt Ideal) ℓ)
    (c : Dev Cert.Kernel3Ideal.nD) : (Cert.Kernel3Ideal.Gen.dats m 0 c).arrAt 6 Cert.Kernel3Ideal.cfg0.N
      = val_main_v25 (F := Ideal) (ax m c) (ap m c) (again m c) (agate m c) (aemb m c) := by
  rw [Cert.Embed.array_sum]
  funext i
  obtain ⟨r, j, rfl⟩ := Cert.Mixer.split i
  exact (result_sum _ _ _ _ _ r j).symm

theorem array_norm (m : (ℓ : Loc Cert.Kernel3Ideal.nD Cert.Kernel3Ideal.τ Cert.Kernel3Ideal.sig) → Buf (Elt Ideal) ℓ)
    (c : Dev Cert.Kernel3Ideal.nD) : (Cert.Kernel3Ideal.Gen.dats m 0 c).arrAt 7 Cert.Kernel3Ideal.cfg0.N
      = val_main_v40 (F := Ideal) (ax m c) (ap m c) (again m c) (anext m c) (agate m c) (aemb m c) := by
  rw [Cert.Embed.array_norm]
  funext i
  obtain ⟨r, j, rfl⟩ := Cert.Mixer.split i
  exact (result_norm _ _ _ _ _ _ r j).symm

end Cert.Embed.Ref

end
-- ==== Proof.Merge.lean ====
/-
  The arrays that the call merging the two branches leaves, from its arguments.
-/
module

public import proofs.«01_k».proof.Proof.MixerArray
public import proofs.«01_k».proof.Proof.Gen.Kernel4Ideal.Value
@[expose] public section

set_option maxRecDepth 65536

noncomputable section

namespace Cert.Merge

open Idealize.ShloMosaic Idealize.ShloMosaic.TcCoe
open Cert.Kernel4Ideal Cert.Kernel4Ideal.Gen
open Cert.Mixer (xrow)

/-! ### One grid point -/

theorem pay2_apply (sa : Vec Ideal S256x2048 .bf16) (a : Vec Ideal S256x1024 .bf16) (wa : Vec Ideal S1024x2048 .bf16)
    (sb : Vec Ideal S256x2048 .bf16) (b : Vec Ideal S256x1024 .bf16) (wb : Vec Ideal S1024x2048 .bf16)
    (x : Vec Ideal S256x2048 .f32) (wo : Vec Ideal S2048x2048 .bf16) (r : Fin 256) (j : Fin 2048) :
    k0_pay2 (F := Ideal) sa a wa sb b wb x wo (ix2 r j)
      = Row.merge (fun k => x (ix2 r k)) (fun k => a (ix2 r k)) (fun k => b (ix2 r k)) (fun k => sa (ix2 r k))
        (fun k => sb (ix2 r k)) (fun k l => wa (ix2 k l)) (fun k l => wb (ix2 k l)) (fun k l => wo (ix2 k l)) j := by
  unfold k0_pay2 Row.merge Row.gated
  pointwise
  try rfl

theorem pay1_apply (sa : Vec Ideal S256x2048 .bf16) (a : Vec Ideal S256x1024 .bf16) (wa : Vec Ideal S1024x2048 .bf16)
    (sb : Vec Ideal S256x2048 .bf16) (b : Vec Ideal S256x1024 .bf16) (wb : Vec Ideal S1024x2048 .bf16)
    (x : Vec Ideal S256x2048 .f32) (wo : Vec Ideal S2048x2048 .bf16) (g : Vec Ideal S1x2048 .f32) (r : Fin 256) (j : Fin 2048) :
    k0_pay1 (F := Ideal) (k0_pay2 sa a wa sb b wb x wo) (k0_pay3 g) (k0_pay4 sa a wa sb b wb x wo) k0_pay5 (ix2 r j)
      = Row.rms 0x45000000#32 (fun k => k0_pay2 (F := Ideal) sa a wa sb b wb x wo (ix2 r k)) (fun k => g (ix2 0 k)) j := by
  unfold k0_pay1 k0_pay3 k0_pay4 k0_pay5
  generalize k0_pay2 (F := Ideal) sa a wa sb b wb x wo = v
  unfold Row.rms Row.inv
  pointwise
  try rfl

/-! ### What the call reads -/

/-- Entry `(r, j)` of the stream after the merge. -/
def merged (x : FVec Ideal ⟨3, ![2, 16384, 2048]⟩ .f32) (a b : FVec Ideal ⟨3, ![2, 16384, 1024]⟩ .f32)
    (ga gb : FVec Ideal ⟨3, ![2, 16384, 2048]⟩ .f32) (wa wb : FVec Ideal ⟨2, ![1024, 2048]⟩ .f32)
    (wo : FVec Ideal ⟨2, ![2048, 2048]⟩ .f32) (r : Fin 32768) (j : Fin 2048) : EReal :=
  Row.merge (xrow x r) (xrow a r) (xrow b r) (fun k => Ideal.logistic (xrow ga r k)) (fun k => Ideal.logistic (xrow gb r k))
    (fun k l => wa (ix2 k l)) (fun k l => wb (ix2 k l)) (fun k l => wo (ix2 k l)) j

variable (m : (ℓ : Loc nD τ sig) → Buf (Elt Ideal) ℓ) (c : Dev nD)

/-- The arguments. -/
abbrev ax : FVec Ideal S2x16384x2048 .f32 := m ((c : Thread nD τ).loc main_arg0)
abbrev aya : FVec Ideal S2x16384x1024 .f32 := m ((c : Thread nD τ).loc main_arg1)
abbrev ayb : FVec Ideal S2x16384x1024 .f32 := m ((c : Thread nD τ).loc main_arg2)
abbrev aga : FVec Ideal S2x16384x2048 .f32 := m ((c : Thread nD τ).loc main_arg3)
abbrev agb : FVec Ideal S2x16384x2048 .f32 := m ((c : Thread nD τ).loc main_arg4)
abbrev awa : FVec Ideal S1024x2048 .f32 := m ((c : Thread nD τ).loc main_arg5)
abbrev awb : FVec Ideal S1024x2048 .f32 := m ((c : Thread nD τ).loc main_arg6)
abbrev awo : FVec Ideal S2048x2048 .f32 := m ((c : Thread nD τ).loc main_arg7)
abbrev anext : FVec Ideal S2048 .f32 := m ((c : Thread nD τ).loc main_arg8)

theorem V_x (r : Fin 32768) (k : Fin 2048) : V m c main_v13 (ix2 r k : S32768x2048.Idx) = xrow (ax m c) r k := by
  have e : V m c main_v13 = shapeCast S32768x2048 (ax m c) shapeCasts_S2x16384x2048_S32768x2048 := by
    entry_read
    try rfl
  rw [e]
  exact Cert.Mixer.flat_apply _ _ r k

theorem V_ya (r : Fin 32768) (k : Fin 1024) : V m c main_v15 (ix2 r k : S32768x1024.Idx) = xrow (aya m c) r k := by
  have e : V m c main_v15 = truncf .bf16 (shapeCast S32768x1024 (aya m c) shapeCasts_S2x16384x1024_S32768x1024) bitsLt_bf16_f32 := by
    entry_read
    try rfl
  rw [e]
  exact Cert.Mixer.flat_apply (aya m c) _ r k

theorem V_yb (r : Fin 32768) (k : Fin 1024) : V m c main_v17 (ix2 r k : S32768x1024.Idx) = xrow (ayb m c) r k := by
  have e : V m c main_v17 = truncf .bf16 (shapeCast S32768x1024 (ayb m c) shapeCasts_S2x16384x1024_S32768x1024) bitsLt_bf16_f32 := by
    entry_read
    try rfl
  rw [e]
  exact Cert.Mixer.flat_apply (ayb m c) _ r k

/-- The two gates' arguments side by side. -/
abbrev both : FVec Ideal S2x16384x4096 .f32 :=
  concatenate S2x16384x4096 2 [⟨S2x16384x2048, aga m c⟩, ⟨S2x16384x2048, agb m c⟩] concatenates_S2x16384x2048_S2x16384x2048_S2x16384x4096_d2

theorem V_gates (r : Fin 32768) (q : Fin 4096) :
    V m c main_v8 (ix2 r q : S32768x4096.Idx) = Ideal.logistic (xrow (both m c) r q) := by
  rw [← Cert.Mixer.flat_apply (both m c) shapeCasts_S2x16384x4096_S32768x4096 r q]
  entry_read
  change _ = Ideal.logistic (shapeCast S32768x4096 (both m c) shapeCasts_S2x16384x4096_S32768x4096 (ix2 r q))
  generalize shapeCast S32768x4096 (both m c) shapeCasts_S2x16384x4096_S32768x4096 = y
  pointwise
  try rfl

theorem V_ga (r : Fin 32768) (l : Fin 2048) : V m c main_v8 (ix2 r ⟨l.val, by have := l.isLt; omega⟩ : S32768x4096.Idx)
    = Ideal.logistic (xrow (aga m c) r l) := by
  rw [V_gates]
  unfold xrow
  refine congrArg Ideal.logistic (concatenate_pair_apply_left (t := S2x16384x4096) (s₁ := S2x16384x2048) (s₂ := S2x16384x2048)
    (2 : Fin 3) (aga m c) (agb m c) _ _ rfl (ix3 _ _ l : S2x16384x2048.Idx) fun b => ?_)
  match b with
  | ⟨0, _⟩ => rfl
  | ⟨1, _⟩ => rfl
  | ⟨2, _⟩ => rfl

theorem V_gb (r : Fin 32768) (l : Fin 2048) : V m c main_v8 (ix2 r ⟨2048 + l.val, by have := l.isLt; omega⟩ : S32768x4096.Idx)
    = Ideal.logistic (xrow (agb m c) r l) := by
  rw [V_gates]
  unfold xrow
  refine congrArg Ideal.logistic (concatenate_pair_apply_right (t := S2x16384x4096) (s₁ := S2x16384x2048) (s₂ := S2x16384x2048)
    (2 : Fin 3) (aga m c) (agb m c) _ _ rfl rfl (ix3 _ _ l : S2x16384x2048.Idx) (fun b hb => ?_) ?_)
  · match b with
    | ⟨0, _⟩ => rfl
    | ⟨1, _⟩ => rfl
    | ⟨2, _⟩ => exact absurd rfl hb
  · exact Nat.add_comm _ _

theorem V_wa (k : Fin 1024) (l : Fin 2048) : V m c main_v9 (ix2 k l : S1024x2048.Idx) = awa m c (ix2 k l) := by
  have e : V m c main_v9 = truncf .bf16 (awa m c) bitsLt_bf16_f32 := by
    entry_read
    try rfl
  rw [e]
  rfl

theorem V_wb (k : Fin 1024) (l : Fin 2048) : V m c main_v10 (ix2 k l : S1024x2048.Idx) = awb m c (ix2 k l) := by
  have e : V m c main_v10 = truncf .bf16 (awb m c) bitsLt_bf16_f32 := by
    entry_read
    try rfl
  rw [e]
  rfl

theorem V_wo (k : Fin 2048) (l : Fin 2048) : V m c main_v11 (ix2 k l : S2048x2048.Idx) = awo m c (ix2 k l) := by
  have e : V m c main_v11 = truncf .bf16 (awo m c) bitsLt_bf16_f32 := by
    entry_read
    try rfl
  rw [e]
  rfl

theorem V_next (k : Fin 2048) : V m c main_v12 (ix2 0 k : S1x2048.Idx) = anext m c (ix1 k) := by
  have e : V m c main_v12 = shapeCast S1x2048 (anext m c) shapeCasts_S2048_S1x2048 := by
    entry_read
    try rfl
  rw [e]
  pointwise

/-! ### The blocks of a grid point -/

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 1] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![t.val, 0] := (by decide +kernel : ∀ t : Fin grid0.N, _)
theorem index10 : ∀ t : Fin cfg0.N, win0_10.index t = ![t.val, 0] := (by decide +kernel : ∀ t : Fin grid0.N, _)

/-- The array row of row `r` of the blocks of point `t`. -/
def row (t : Fin cfg0.N) (r : Fin 256) : Fin 32768 :=
  ⟨t.val * 256 + r.val, by have : t.val < 128 := t.isLt.trans_eq N_0; have := r.isLt; omega⟩

theorem block_x (t : Fin cfg0.N) (r : Fin 256) (k : Fin 2048) : iblk m c 0 t (ix2 r k : S256x2048.Idx) = xrow (ax m c) (row t r) k := by
  refine Eq.trans ?_ (V_x m c (row t r) k)
  unfold iblk
  refine congrArg (V m c main_v13) (funext fun a => Fin.ext ?_)
  blk_simp [index0 t]
  match a with
  | ⟨0, _⟩ => rfl
  | ⟨1, _⟩ => show 0 * 2048 + k.val = k.val; omega

theorem block_ya (t : Fin cfg0.N) (r : Fin 256) (k : Fin 1024) : iblk m c 1 t (ix2 r k : S256x1024.Idx) = xrow (aya m c) (row t r) k := by
  refine Eq.trans ?_ (V_ya m c (row t r) k)
  unfold iblk
  refine congrArg (V m c main_v15) (funext fun a => Fin.ext ?_)
  blk_simp [index1 t]
  match a with
  | ⟨0, _⟩ => rfl
  | ⟨1, _⟩ => show 0 * 1024 + k.val = k.val; omega

theorem block_yb (t : Fin cfg0.N) (r : Fin 256) (k : Fin 1024) : iblk m c 2 t (ix2 r k : S256x1024.Idx) = xrow (ayb m c) (row t r) k := by
  refine Eq.trans ?_ (V_yb m c (row t r) k)
  unfold iblk
  refine congrArg (V m c main_v17) (funext fun a => Fin.ext ?_)
  blk_simp [index2 t]
  match a with
  | ⟨0, _⟩ => rfl
  | ⟨1, _⟩ => show 0 * 1024 + k.val = k.val; omega

theorem block_ga (t : Fin cfg0.N) (r : Fin 256) (k : Fin 2048) : iblk m c 3 t (ix2 r k : S256x2048.Idx) = Ideal.logistic (xrow (aga m c) (row t r) k) := by
  refine Eq.trans ?_ (V_ga m c (row t r) k)
  unfold iblk
  refine congrArg (V m c main_v8) (funext fun a => Fin.ext ?_)
  blk_simp [index3 t]
  match a with
  | ⟨0, _⟩ => rfl
  | ⟨1, _⟩ => show 0 * 2048 + k.val = k.val; omega

theorem block_gb (t : Fin cfg0.N) (r : Fin 256) (k : Fin 2048) : iblk m c 4 t (ix2 r k : S256x2048.Idx) = Ideal.logistic (xrow (agb m c) (row t r) k) := by
  refine Eq.trans ?_ (V_gb m c (row t r) k)
  unfold iblk
  refine congrArg (V m c main_v8) (funext fun a => Fin.ext ?_)
  blk_simp [index4 t]
  match a with
  | ⟨0, _⟩ => rfl
  | ⟨1, _⟩ => show 1 * 2048 + k.val = 2048 + k.val; omega

theorem block_wa (t : Fin cfg0.N) (k : Fin 1024) (l : Fin 2048) : iblk m c 5 t (ix2 k l : S1024x2048.Idx) = awa m c (ix2 k l) := by
  refine Eq.trans ?_ (V_wa m c k l)
  unfold iblk
  refine congrArg (V m c main_v9) (funext fun a => Fin.ext ?_)
  blk_simp [index5 t]
  match a with
  | ⟨0, _⟩ => show 0 * 1024 + k.val = k.val; omega
  | ⟨1, _⟩ => show 0 * 2048 + l.val = l.val; omega

theorem block_wb (t : Fin cfg0.N) (k : Fin 1024) (l : Fin 2048) : iblk m c 6 t (ix2 k l : S1024x2048.Idx) = awb m c (ix2 k l) := by
  refine Eq.trans ?_ (V_wb m c k l)
  unfold iblk
  refine congrArg (V m c main_v10) (funext fun a => Fin.ext ?_)
  blk_simp [index6 t]
  match a with
  | ⟨0, _⟩ => show 0 * 1024 + k.val = k.val; omega
  | ⟨1, _⟩ => show 0 * 2048 + l.val = l.val; omega

theorem block_wo (t : Fin cfg0.N) (k : Fin 2048) (l : Fin 2048) : iblk m c 7 t (ix2 k l : S2048x2048.Idx) = awo m c (ix2 k l) := by
  refine Eq.trans ?_ (V_wo m c k l)
  unfold iblk
  refine congrArg (V m c main_v11) (funext fun a => Fin.ext ?_)
  blk_simp [index7 t]
  match a with
  | ⟨0, _⟩ => show 0 * 2048 + k.val = k.val; omega
  | ⟨1, _⟩ => show 0 * 2048 + l.val = l.val; omega

theorem block_next (t : Fin cfg0.N) (k : Fin 2048) : iblk m c 8 t (ix2 0 k : S1x2048.Idx) = anext m c (ix1 k) := by
  refine Eq.trans ?_ (V_next m c k)
  unfold iblk
  refine congrArg (V m c main_v12) (funext fun a => Fin.ext ?_)
  blk_simp [index8 t]
  match a with
  | ⟨0, _⟩ => rfl
  | ⟨1, _⟩ => show 0 * 2048 + k.val = k.val; omega

/-! ### The two arrays -/

/-- A grid point leaves the merged rows of its block. -/
theorem point (t : Fin cfg0.N) (r : Fin 256) (j : Fin 2048) :
    k0_pay2 (F := Ideal) (iblk m c 3 t) (iblk m c 1 t) (iblk m c 5 t) (iblk m c 4 t) (iblk m c 2 t) (iblk m c 6 t) (iblk m c 0 t)
        (iblk m c 7 t) (ix2 r j)
      = merged (ax m c) (aya m c) (ayb m c) (aga m c) (agb m c) (awa m c) (awb m c) (awo m c) (row t r) j := by
  rw [pay2_apply]
  unfold merged
  have h0 : (fun k : Fin 2048 => (iblk m c 0 t (ix2 r k : S256x2048.Idx) : EReal)) = xrow (ax m c) (row t r) :=
    funext fun k => block_x m c t r k
  have h1 : (fun k : Fin 1024 => (iblk m c 1 t (ix2 r k : S256x1024.Idx) : EReal)) = xrow (aya m c) (row t r) :=
    funext fun k => block_ya m c t r k
  have h2 : (fun k : Fin 1024 => (iblk m c 2 t (ix2 r k : S256x1024.Idx) : EReal)) = xrow (ayb m c) (row t r) :=
    funext fun k => block_yb m c t r k
  have h3 : (fun k : Fin 2048 => (iblk m c 3 t (ix2 r k : S256x2048.Idx) : EReal))
      = fun k => Ideal.logistic (xrow (aga m c) (row t r) k) := funext fun k => block_ga m c t r k
  have h4 : (fun k : Fin 2048 => (iblk m c 4 t (ix2 r k : S256x2048.Idx) : EReal))
      = fun k => Ideal.logistic (xrow (agb m c) (row t r) k) := funext fun k => block_gb m c t r k
  have h5 : (fun (k : Fin 1024) (l : Fin 2048) => (iblk m c 5 t (ix2 k l : S1024x2048.Idx) : EReal)) = fun k l => awa m c (ix2 k l) :=
    funext fun k => funext fun l => block_wa m c t k l
  have h6 : (fun (k : Fin 1024) (l : Fin 2048) => (iblk m c 6 t (ix2 k l : S1024x2048.Idx) : EReal)) = fun k l => awb m c (ix2 k l) :=
    funext fun k => funext fun l => block_wb m c t k l
  have h7 : (fun k l : Fin 2048 => (iblk m c 7 t (ix2 k l : S2048x2048.Idx) : EReal)) = fun k l => awo m c (ix2 k l) :=
    funext fun k => funext fun l => block_wo m c t k l
  rw [h0, h1, h2, h3, h4, h5, h6, h7]

/-- What the call leaves: the stream after the merge, -/
def outSum : FVec Ideal S32768x2048 .f32 := fun i =>
  merged (ax m c) (aya m c) (ayb m c) (aga m c) (agb m c) (awa m c) (awb m c) (awo m c) (i 0) (i 1)

/-- and its rows normalised. -/
def outNorm : FVec Ideal S32768x2048 .bf16 := fun i =>
  Row.rms 0x45000000#32 (merged (ax m c) (aya m c) (ayb m c) (aga m c) (agb m c) (awa m c) (awb m c) (awo m c) (i 0))
    (fun k => anext m c (ix1 k)) (i 1)

theorem array_sum : (dats m 0 c).arrAt 9 cfg0.N = outSum m c := by
  refine (dats m 0 c).arrAt_eq_of_covers 9 _ (by decide +kernel) fun t hf y => ?_
  blk_simp
  rw [after0_9]
  frame_out
  obtain ⟨r, j, rfl⟩ := Cert.Mixer.split y
  refine (point m c t r j).trans ?_
  refine congrArg (outSum m c) (?_ : (ix2 (row t r) j : S32768x2048.Idx) = _)
  funext a
  refine Fin.ext ?_
  blk_simp [index9 t]
  match a with
  | ⟨0, _⟩ => rfl
  | ⟨1, _⟩ => show j.val = 0 * 2048 + j.val; omega

theorem array_norm : (dats m 0 c).arrAt 10 cfg0.N = outNorm m c := by
  refine (dats m 0 c).arrAt_eq_of_covers 10 _ (by decide +kernel) fun t hf y => ?_
  blk_simp
  rw [after0_10]
  frame_out
  obtain ⟨r, j, rfl⟩ := Cert.Mixer.split y
  refine (pay1_apply _ _ _ _ _ _ _ _ _ r j).trans ?_
  refine Eq.trans ?_ (congrArg (outNorm m c) (?_ : (ix2 (row t r) j : S32768x2048.Idx) = _))
  · exact congrArg₂ (fun f g => Row.rms 0x45000000#32 f g j) (funext fun k => point m c t r k)
      (funext fun k => block_next m c t k)
  · funext a
    refine Fin.ext ?_
    blk_simp [index10 t]
    match a with
    | ⟨0, _⟩ => rfl
    | ⟨1, _⟩ => show j.val = 0 * 2048 + j.val; omega

end Cert.Merge

end
-- ==== Proof.MergeReference.lean ====
/-
  The reference of the merge, entry by entry.
-/
module

public import proofs.«01_k».proof.Proof.Merge
public import proofs.«01_k».proof.Proof.MixerReference
public import proofs.«01_k».proof.Proof.Gen.Reference4Ideal.Read
@[expose] public section

set_option maxRecDepth 65536

noncomputable section

namespace Cert.Merge.Ref

open Idealize.ShloMosaic Idealize.ShloMosaic.TcCoe
open Cert.Reference4Ideal Cert.Reference4Ideal.Gen Cert.Reference4Ideal.Read
open Cert.Mixer.Ref (idx3)

variable (x : FVec Ideal S2x16384x2048 .f32) (a b : FVec Ideal S2x16384x1024 .f32) (ga gb : FVec Ideal S2x16384x2048 .f32)
  (wa wb : FVec Ideal S1024x2048 .f32) (wo : FVec Ideal S2048x2048 .f32) (gn : FVec Ideal S2048 .f32)

/-- The two gates. -/
theorem gate_a (i : S2x16384x2048.Idx) : val_main_v5 (F := Ideal) ga i = Ideal.logistic (ga i) := by
  have h2 : val_main_v2 (F := Ideal) i = (1 : EReal) := (val_main_v2_apply _).trans Ideal.ofBits_one_f32
  have h4 : val_main_v4 (F := Ideal) i = (1 : EReal) := (val_main_v4_apply _).trans Ideal.ofBits_one_f32
  rw [val_main_v5_apply, val_main_v3_apply, val_main_v1_apply, val_main_v0_apply, h2, h4]
  rfl

theorem gate_b (i : S2x16384x2048.Idx) : val_main_v13 (F := Ideal) gb i = Ideal.logistic (gb i) := gate_a gb i

/-- The projections of the two branches. -/
theorem proj_a (n : Fin 2) (s : Fin 16384) (l : Fin 2048) : val_main_v6 (F := Ideal) a wa (ix3 n s l)
    = ∑ k, a (ix3 n s k) * wa (ix2 k l) := by
  rw [val_main_v6_apply]
  refine Finset.sum_congr rfl fun k _ => congrArg₂ (fun u v : EReal => u * v) (congrArg a ?_) (congrArg wa ?_)
  · exact funext fun d => match d with | ⟨0, _⟩ => rfl | ⟨1, _⟩ => rfl | ⟨2, _⟩ => rfl
  · exact funext fun d => match d with | ⟨0, _⟩ => rfl | ⟨1, _⟩ => rfl

theorem proj_b (n : Fin 2) (s : Fin 16384) (l : Fin 2048) : val_main_v14 (F := Ideal) b wb (ix3 n s l)
    = ∑ k, b (ix3 n s k) * wb (ix2 k l) := proj_a b wb n s l

/-- The stream after the merge. -/
theorem sum_apply (n : Fin 2) (s : Fin 16384) (j : Fin 2048) : val_main_v18 (F := Ideal) x a b ga gb wa wb wo (ix3 n s j)
    = Row.merge (fun k => x (ix3 n s k)) (fun k => a (ix3 n s k)) (fun k => b (ix3 n s k))
      (fun k => Ideal.logistic (ga (ix3 n s k))) (fun k => Ideal.logistic (gb (ix3 n s k)))
      (fun k l => wa (ix2 k l)) (fun k l => wb (ix2 k l)) (fun k l => wo (ix2 k l)) j := by
  rw [val_main_v18_apply, val_main_v17_apply]
  unfold Row.merge
  refine congrArg (fun z : EReal => (x (ix3 n s j) : EReal) + z) (Finset.sum_congr rfl fun l _ => ?_)
  have el : lidx_main_v17 (ix3 n s j) l = ix3 n s l :=
    funext fun d => match d with | ⟨0, _⟩ => rfl | ⟨1, _⟩ => rfl | ⟨2, _⟩ => rfl
  have er : ridx_main_v17 (ix3 n s j) l = ix2 l j := funext fun d => match d with | ⟨0, _⟩ => rfl | ⟨1, _⟩ => rfl
  rw [el, er, val_main_v16_apply, val_main_v15_apply, val_main_v7_apply, gate_a, gate_b, proj_a, proj_b]
  rfl

/-- Its normalised rows: the norm is the one that the channel mixer's reference begins with. -/
theorem next_apply (n : Fin 2) (s : Fin 16384) (j : Fin 2048) : val_main_v32 (F := Ideal) x a b ga gb wa wb wo gn (ix3 n s j)
    = Row.rms 0x45000000#32 (fun k => val_main_v18 (F := Ideal) x a b ga gb wa wb wo (ix3 n s k)) (fun k => gn (ix1 k)) j :=
  Cert.Mixer.Ref.norm_apply (val_main_v18 (F := Ideal) x a b ga gb wa wb wo) gn n s j

/-- The two results, at row `r` of the flattened stream. -/
theorem result_sum (r : Fin 32768) (j : Fin 2048) : val_main_v19 (F := Ideal) x a b ga gb wa wb wo (ix2 r j)
    = merged x a b ga gb wa wb wo r j := by
  have h : idx_main_v19 (ix2 r j) = ix3 ⟨r.val / 16384, by have := r.isLt; omega⟩ ⟨r.val % 16384, by omega⟩ j :=
    Cert.Mixer.Ref.flat_idx r j
  rw [val_main_v19_apply, h, sum_apply]
  rfl

theorem result_norm (r : Fin 32768) (j : Fin 2048) : val_main_v34 (F := Ideal) x a b ga gb wa wb wo gn (ix2 r j)
    = Row.rms 0x45000000#32 (merged x a b ga gb wa wb wo r) (fun k => gn (ix1 k)) j := by
  have h : idx_main_v33 (ix2 r j) = ix3 ⟨r.val / 16384, by have := r.isLt; omega⟩ ⟨r.val % 16384, by omega⟩ j :=
    Cert.Mixer.Ref.flat_idx r j
  rw [val_main_v34_apply, val_main_v33_apply, h, next_apply]
  simp only [sum_apply]
  rfl

/-! ### The arrays of the call are the reference's results -/

theorem array_sum (m : (ℓ : Loc Cert.Kernel4Ideal.nD Cert.Kernel4Ideal.τ Cert.Kernel4Ideal.sig) → Buf (Elt Ideal) ℓ)
    (c : Dev Cert.Kernel4Ideal.nD) : (Cert.Kernel4Ideal.Gen.dats m 0 c).arrAt 9 Cert.Kernel4Ideal.cfg0.N
      = val_main_v19 (F := Ideal) (ax m c) (aya m c) (ayb m c) (aga m c) (agb m c) (awa m c) (awb m c) (awo m c) := by
  rw [Cert.Merge.array_sum]
  funext i
  obtain ⟨r, j, rfl⟩ := Cert.Mixer.split i
  exact (result_sum _ _ _ _ _ _ _ _ r j).symm

theorem array_norm (m : (ℓ : Loc Cert.Kernel4Ideal.nD Cert.Kernel4Ideal.τ Cert.Kernel4Ideal.sig) → Buf (Elt Ideal) ℓ)
    (c : Dev Cert.Kernel4Ideal.nD) : (Cert.Kernel4Ideal.Gen.dats m 0 c).arrAt 10 Cert.Kernel4Ideal.cfg0.N
      = val_main_v34 (F := Ideal) (ax m c) (aya m c) (ayb m c) (aga m c) (agb m c) (awa m c) (awb m c) (awo m c) (anext m c) := by
  rw [Cert.Merge.array_norm]
  funext i
  obtain ⟨r, j, rfl⟩ := Cert.Mixer.split i
  exact (result_norm _ _ _ _ _ _ _ _ _ r j).symm

end Cert.Merge.Ref

end
-- ==== Proof.Project.lean ====
/-
  An entry of the layer's input projection, and the one that the references compute.
-/
module

public import proofs.«01_k».proof.Proof.MixerReference
public import proofs.«01_k».proof.Proof.Gen.Reference5Ideal.Read
@[expose] public section

set_option maxRecDepth 65536

noncomputable section

namespace Cert.Project

open Idealize.ShloMosaic Idealize.ShloMosaic.TcCoe
open Cert.Mixer (xrow)
open Cert.Mixer.Ref (idx3)

/-- Row `r` of the residual stream, normalised. -/
def normed (x : FVec Ideal ⟨3, ![2, 16384, 2048]⟩ .f32) (g : FVec Ideal ⟨1, ![2048]⟩ .f32) (r : Fin 32768) (k : Fin 2048) : EReal :=
  Row.rms 0x45000000#32 (xrow x r) (fun k => g (ix1 k)) k

/-- Entry `(r, q)` of the input projection, from the residual stream, the gain of the norm and the weight. -/
def entry (x : FVec Ideal ⟨3, ![2, 16384, 2048]⟩ .f32) (g : FVec Ideal ⟨1, ![2048]⟩ .f32) (w : FVec Ideal ⟨2, ![2048, 9224]⟩ .f32)
    (r : Fin 32768) (q : Fin 9224) : EReal :=
  ∑ k, normed x g r k * w (ix2 k q)

/-- The row of position `n` of sequence `b`. -/
def flat (b : Fin 2) (n : Fin 16384) : Fin 32768 := ⟨b.val * 16384 + n.val, by have := b.isLt; have := n.isLt; omega⟩

theorem xrow_flat {d : ℕ} (x : FVec Ideal ⟨3, ![2, 16384, d]⟩ .f32) (b : Fin 2) (n : Fin 16384) :
    xrow x (flat b n) = fun k => x (ix3 b n k) := by
  have hb : (flat b n).val / 16384 = b.val := by
    have := b.isLt; have := n.isLt; show (b.val * 16384 + n.val) / 16384 = b.val; omega
  have hn : (flat b n).val % 16384 = n.val := by
    have := b.isLt; have := n.isLt; show (b.val * 16384 + n.val) % 16384 = n.val; omega
  funext k
  unfold xrow
  refine congrArg x (funext fun a => Fin.ext ?_)
  match a with
  | ⟨0, _⟩ => exact hb
  | ⟨1, _⟩ => exact hn
  | ⟨2, _⟩ => rfl

/-- The references' input projection. -/
theorem ref_entry (x : FVec Ideal ⟨3, ![2, 16384, 2048]⟩ .f32) (g : FVec Ideal ⟨1, ![2048]⟩ .f32) (w : FVec Ideal ⟨2, ![2048, 9224]⟩ .f32)
    (b : Fin 2) (n : Fin 16384) (q : Fin 9224) :
    Cert.Reference5Ideal.Read.val_main_v13 (F := Ideal) x g w (ix3 b n q) = entry x g w (flat b n) q := by
  rw [Cert.Reference5Ideal.Read.val_main_v13_apply]
  unfold entry normed
  refine Finset.sum_congr rfl fun k _ => congrArg₂ (fun u v : EReal => u * v) ?_ (congrArg w ?_)
  · rw [xrow_flat]
    refine Eq.trans (congrArg _ (idx3 (b := b) (n := n) (k := k) rfl rfl rfl)) (Cert.Mixer.Ref.norm_apply x g b n k)
  · exact funext fun d => match d with | ⟨0, _⟩ => rfl | ⟨1, _⟩ => rfl

end Cert.Project

end
-- ==== Proof.Gates.lean ====
/-
  The array that the projection to the merge gates leaves, from its arguments, and its reference.
-/
module

public import proofs.«01_k».proof.Proof.Project
public import proofs.«01_k».proof.Proof.Gen.Kernel5Ideal.Value
@[expose] public section

set_option maxRecDepth 65536

noncomputable section

namespace Cert.Gates

open Idealize.ShloMosaic Idealize.ShloMosaic.TcCoe
open Cert.Kernel5Ideal Cert.Kernel5Ideal.Gen
open Cert.Mixer (xrow)
open Cert.Project (normed entry)

/-! ### One grid point -/

theorem pay1_apply (h : Vec Ideal S1024x2048 .bf16) (w : Vec Ideal S2048x1024 .bf16) (r j : Fin 1024) :
    k0_pay1 (F := Ideal) h w (ix2 r j) = Ideal.logistic (∑ k : Fin 2048, h (ix2 r k) * w (ix2 k j)) := by
  unfold k0_pay1
  pointwise
  try rfl

/-! ### What the call reads -/

variable (m : (ℓ : Loc nD τ sig) → Buf (Elt Ideal) ℓ) (c : Dev nD)

/-- The arguments. -/
abbrev ax : FVec Ideal S2x16384x2048 .f32 := m ((c : Thread nD τ).loc main_arg0)
abbrev again : FVec Ideal S2048 .f32 := m ((c : Thread nD τ).loc main_arg1)
abbrev aw : FVec Ideal S2048x9224 .f32 := m ((c : Thread nD τ).loc main_arg2)

theorem V_norm (r : Fin 32768) (k : Fin 2048) : V m c main_v14 (ix2 r k : S32768x2048.Idx) = normed (ax m c) (again m c) r k := by
  have hx := Cert.Mixer.flat_apply (ax m c) shapeCasts_S2x16384x2048_S32768x2048 r
  entry_read
  unfold normed Row.rms Row.inv
  simp only [← hx]
  generalize shapeCast S32768x2048 (ax m c) shapeCasts_S2x16384x2048_S32768x2048 = y
  pointwise
  try rfl

/-- Column `q` of the weight's columns that the call reads. -/
def col (q : Fin 4096) : Fin 9224 := ⟨5128 + q.val, by have := q.isLt; omega⟩

theorem V_w (k : Fin 2048) (q : Fin 4096) : V m c main_v16 (ix2 k q : S2048x4096.Idx) = aw m c (ix2 k (col q)) := by
  entry_read
  unfold col
  pointwise
  try rfl

/-! ### The blocks of a grid point -/

theorem index0 : ∀ t : Fin cfg0.N, win0_0.index t = ![t.val % 32, 0] := (by decide +kernel : ∀ t : Fin grid0.N, _)
theorem index1 : ∀ t : Fin cfg0.N, win0_1.index t = ![0, t.val / 32] := (by decide +kernel : ∀ t : Fin grid0.N, _)
theorem index2 : ∀ t : Fin cfg0.N, win0_2.index t = ![t.val % 32, t.val / 32] := (by decide +kernel : ∀ t : Fin grid0.N, _)

/-- The array row and column of an entry of the block of point `t`. -/
def row (t : Fin cfg0.N) (r : Fin 1024) : Fin 32768 := ⟨t.val % 32 * 1024 + r.val, by have := r.isLt; omega⟩
def column (t : Fin cfg0.N) (j : Fin 1024) : Fin 4096 :=
  ⟨t.val / 32 * 1024 + j.val, by have : t.val < 128 := t.isLt.trans_eq N_0; have := j.isLt; omega⟩

theorem block_h (t : Fin cfg0.N) (r : Fin 1024) (k : Fin 2048) : iblk m c 0 t (ix2 r k : S1024x2048.Idx)
    = normed (ax m c) (again m c) (row t r) k := by
  refine Eq.trans ?_ (V_norm m c (row t r) k)
  unfold iblk
  refine congrArg (V m c main_v14) (funext fun a => Fin.ext ?_)
  blk_simp [index0 t]
  match a with
  | ⟨0, _⟩ => rfl
  | ⟨1, _⟩ => show 0 * 2048 + k.val = k.val; omega

theorem block_w (t : Fin cfg0.N) (k : Fin 2048) (j : Fin 1024) : iblk m c 1 t (ix2 k j : S2048x1024.Idx)
    = aw m c (ix2 k (col (column t j))) := by
  refine Eq.trans ?_ (V_w m c k (column t j))
  unfold iblk
  refine congrArg (V m c main_v16) (funext fun a => Fin.ext ?_)
  blk_simp [index1 t]
  match a with
  | ⟨0, _⟩ => show 0 * 2048 + k.val = k.val; omega
  | ⟨1, _⟩ => rfl

/-! ### The array -/

/-- What the call leaves. -/
def out : FVec Ideal S32768x4096 .bf16 := fun i => Ideal.logistic (entry (ax m c) (again m c) (aw m c) (i 0) (col (i 1)))

theorem array : (dats m 0 c).arrAt 2 cfg0.N = out m c := by
  refine (dats m 0 c).arrAt_eq_of_covers 2 _ (by decide +kernel) fun t hf y => ?_
  blk_simp
  rw [after0_2]
  frame_out
  obtain ⟨r, j, rfl⟩ := Cert.Mixer.split y
  refine (pay1_apply _ _ r j).trans ?_
  refine Eq.trans (b := out m c (ix2 (row t r) (column t j))) ?_ (congrArg (out m c) ?_)
  · unfold out entry
    refine congrArg Ideal.logistic (Finset.sum_congr rfl fun k _ => congrArg₂ (fun u v : EReal => u * v) (block_h m c t r k) (block_w m c t k j))
  · funext a
    refine Fin.ext ?_
    blk_simp [index2 t]
    match a with
    | ⟨0, _⟩ => rfl
    | ⟨1, _⟩ => rfl

/-! ### The reference -/

open Cert.Reference5Ideal.Read

theorem result (x : FVec Ideal S2x16384x2048 .f32) (g : FVec Ideal S2048 .f32) (w : FVec Ideal S2048x9224 .f32) (r : Fin 32768)
    (j : Fin 4096) : val_main_v22 (F := Ideal) x g w (ix2 r j) = Ideal.logistic (entry x g w r (col j)) := by
  have hr := r.isLt
  have hj := j.isLt
  have h : idx_main_v14 (idx_main_v21 (ix2 r j)) = ix3 (⟨r.val / 16384, by omega⟩ : Fin 2) (⟨r.val % 16384, by omega⟩ : Fin 16384) (col j) :=
    by
      refine Cert.Mixer.Ref.idx3 (Fin.ext ?_) (Fin.ext ?_) (Fin.ext ?_)
      · show (r.val * 4096 + j.val) / 67108864 = r.val / 16384; omega
      · show (r.val * 4096 + j.val) / 4096 % 16384 = r.val % 16384; omega
      · show 5128 + (r.val * 4096 + j.val) % 4096 = 5128 + j.val; omega
  have hf : Cert.Project.flat (⟨r.val / 16384, by omega⟩ : Fin 2) (⟨r.val % 16384, by omega⟩ : Fin 16384) = r :=
    Fin.ext (by show r.val / 16384 * 16384 + r.val % 16384 = r.val; omega)
  have hz : val_main_v14 (F := Ideal) x g w (idx_main_v21 (ix2 r j)) = entry x g w r (col j) := by
    rw [val_main_v14_apply, h]
    exact (Cert.Project.ref_entry x g w _ _ _).trans (by rw [hf])
  have h17 : ∀ i, val_main_v17 (F := Ideal) i = (1 : EReal) := fun i => (val_main_v17_apply i).trans Ideal.ofBits_one_f32
  have h19 : ∀ i, val_main_v19 (F := Ideal) i = (1 : EReal) := fun i => (val_main_v19_apply i).trans Ideal.ofBits_one_f32
  rw [val_main_v22_apply, val_main_v21_apply, val_main_v20_apply, val_main_v18_apply, val_main_v16_apply, val_main_v15_apply,
    h17, h19, hz]
  rfl

theorem array_result : (dats m 0 c).arrAt 2 cfg0.N = val_main_v22 (F := Ideal) (ax m c) (again m c) (aw m c) := by
  rw [array]
  funext i
  obtain ⟨r, j, rfl⟩ := Cert.Mixer.split i
  exact (result _ _ _ r j).symm

end Cert.Gates

end
-- ==== Proof.Rglru.lean ====
/-
  The array that the projection to the input and the gate of the RG-LRU leaves, from its arguments, and its reference.
-/
module

public import proofs.«01_k».proof.Proof.Project
public import proofs.«01_k».proof.Proof.Gen.Kernel6Ideal.Value
public import proofs.«01_k».proof.Proof.Gen.Reference6Ideal.Read
@[expose] public section

set_option maxRecDepth 65536

noncomputable section

namespace Cert.Rglru

open Idealize.ShloMosaic Idealize.ShloMosaic.TcCoe
open Cert.Kernel6Ideal Cert.Kernel6Ideal.Gen
open Cert.Mixer (xrow)
open Cert.Project (normed entry)

/-! ### One grid point -/

theorem pay1_apply (h : Vec Ideal S1024x2048 .bf16) (w : Vec Ideal S2048x1024 .bf16) (r j : Fin 1024) :
    k0_pay1 (F := Ideal) h w (ix2 r j) = (∑ k : Fin 2048, h (ix2 r k) * w (ix2 k j)) := by
  unfold k0_pay1
  pointwise
  try rfl

/-! ### What the call reads -/

variable (m : (ℓ : Loc nD τ sig) → Buf (Elt Ideal) ℓ) (c : Dev nD)

/-- The arguments. -/
abbrev ax : FVec Ideal S2x16384x2048 .f32 := m ((c : Thread nD τ).loc main_arg0)
abbrev again : FVec Ideal S2048 .f32 := m ((c : Thread nD τ).loc main_arg1)
abbrev aw : FVec Ideal S2048x9224 .f32 := m ((c : Thread nD τ).loc main_arg2)

theorem V_norm (r : Fin 32768) (k : Fin 2048) : V m c main_v14 (ix2 r k : S32768x2048.Idx) = normed (ax m c) (again m c) r k := by
  have hx := Cert.Mixer.flat_apply (ax m c) shapeCasts_S2x16384x2048_S32768x2048 r
  entry_read
  unfold normed Row.rms Row.inv
  simp only [← hx]
  generalize shapeCast S32768x2048 (ax m c) shapeCasts_S2x16384x2048_S32768x2048 = y
  pointwise
  try rfl

/-- Column `q` of the weight's columns that the call reads. -/
def col (q : Fin 2048) : Fin 9224 := ⟨q.val, by have := q.isLt; omega⟩

theorem V_w (k : Fin 2048) (q : Fin 2048) : V m c main_v16 (ix2 k q : S2048x2048.Idx) = aw m c (ix2 k (col q)) := by
  entry_read
  unfold col
  pointwise
  try rfl

/-! ### The blocks of a grid point -/

theorem index0 : ∀ t : Fin cfg0.N, win0_0.index t = ![t.val % 32, 0] := (by decide +kernel : ∀ t : Fin grid0.N, _)
theorem index1 : ∀ t : Fin cfg0.N, win0_1.index t = ![0, t.val / 32] := (by decide +kernel : ∀ t : Fin grid0.N, _)
theorem index2 : ∀ t : Fin cfg0.N, win0_2.index t = ![t.val % 32, t.val / 32] := (by decide +kernel : ∀ t : Fin grid0.N, _)

/-- The array row and column of an entry of the block of point `t`. -/
def row (t : Fin cfg0.N) (r : Fin 1024) : Fin 32768 := ⟨t.val % 32 * 1024 + r.val, by have := r.isLt; omega⟩
def column (t : Fin cfg0.N) (j : Fin 1024) : Fin 2048 :=
  ⟨t.val / 32 * 1024 + j.val, by have : t.val < 64 := t.isLt.trans_eq N_0; have := j.isLt; omega⟩

theorem block_h (t : Fin cfg0.N) (r : Fin 1024) (k : Fin 2048) : iblk m c 0 t (ix2 r k : S1024x2048.Idx)
    = normed (ax m c) (again m c) (row t r) k := by
  refine Eq.trans ?_ (V_norm m c (row t r) k)
  unfold iblk
  refine congrArg (V m c main_v14) (funext fun a => Fin.ext ?_)
  blk_simp [index0 t]
  match a with
  | ⟨0, _⟩ => rfl
  | ⟨1, _⟩ => show 0 * 2048 + k.val = k.val; omega

theorem block_w (t : Fin cfg0.N) (k : Fin 2048) (j : Fin 1024) : iblk m c 1 t (ix2 k j : S2048x1024.Idx)
    = aw m c (ix2 k (col (column t j))) := by
  refine Eq.trans ?_ (V_w m c k (column t j))
  unfold iblk
  refine congrArg (V m c main_v16) (funext fun a => Fin.ext ?_)
  blk_simp [index1 t]
  match a with
  | ⟨0, _⟩ => show 0 * 2048 + k.val = k.val; omega
  | ⟨1, _⟩ => rfl

/-! ### The array -/

/-- What the call leaves. -/
def out : FVec Ideal S32768x2048 .f32 := fun i => (entry (ax m c) (again m c) (aw m c) (i 0) (col (i 1)))

theorem array : (dats m 0 c).arrAt 2 cfg0.N = out m c := by
  refine (dats m 0 c).arrAt_eq_of_covers 2 _ (by decide +kernel) fun t hf y => ?_
  blk_simp
  rw [after0_2]
  frame_out
  obtain ⟨r, j, rfl⟩ := Cert.Mixer.split y
  refine (pay1_apply _ _ r j).trans ?_
  refine Eq.trans (b := out m c (ix2 (row t r) (column t j))) ?_ (congrArg (out m c) ?_)
  · unfold out entry
    refine Finset.sum_congr rfl fun k _ => congrArg₂ (fun u v : EReal => u * v) (block_h m c t r k) (block_w m c t k j)
  · funext a
    refine Fin.ext ?_
    blk_simp [index2 t]
    match a with
    | ⟨0, _⟩ => rfl
    | ⟨1, _⟩ => rfl

/-! ### The reference -/

open Cert.Reference6Ideal.Read

theorem result (x : FVec Ideal S2x16384x2048 .f32) (g : FVec Ideal S2048 .f32) (w : FVec Ideal S2048x9224 .f32) (r : Fin 32768)
    (j : Fin 2048) : val_main_v15 (F := Ideal) x g w (ix2 r j) = entry x g w r (col j) := by
  have hr := r.isLt
  have hj := j.isLt
  have h : idx_main_v14 (idx_main_v15 (ix2 r j)) = ix3 (⟨r.val / 16384, by omega⟩ : Fin 2) (⟨r.val % 16384, by omega⟩ : Fin 16384) (col j) :=
    by
      refine Cert.Mixer.Ref.idx3 (Fin.ext ?_) (Fin.ext ?_) (Fin.ext ?_)
      · show (r.val * 2048 + j.val) / 33554432 = r.val / 16384; omega
      · show (r.val * 2048 + j.val) / 2048 % 16384 = r.val % 16384; omega
      · show (r.val * 2048 + j.val) % 2048 = j.val; omega
  have hf : Cert.Project.flat (⟨r.val / 16384, by omega⟩ : Fin 2) (⟨r.val % 16384, by omega⟩ : Fin 16384) = r :=
    Fin.ext (by show r.val / 16384 * 16384 + r.val % 16384 = r.val; omega)
  rw [val_main_v15_apply, val_main_v14_apply, h]
  exact (Cert.Project.ref_entry x g w _ _ _).trans (by rw [hf])

theorem array_result : (dats m 0 c).arrAt 2 cfg0.N = val_main_v15 (F := Ideal) (ax m c) (again m c) (aw m c) := by
  rw [array]
  funext i
  obtain ⟨r, j, rfl⟩ := Cert.Mixer.split i
  exact (result _ _ _ r j).symm

end Cert.Rglru

end
-- ==== Proof.Head.lean ====
/-
  A head of the input projection, and its norm.
-/
module

public import proofs.«01_k».proof.Proof.Project
@[expose] public section

set_option maxRecDepth 65536

noncomputable section

namespace Cert.Head

open Idealize.ShloMosaic Idealize.ShloMosaic.TcCoe
open Cert.Project (entry flat)

/-- Column `d` of head `s`, among the 1024 columns of the heads, -/
def col (s : Fin 8) (d : Fin 128) : Fin 1024 := ⟨s.val * 128 + d.val, by have := s.isLt; have := d.isLt; omega⟩

/-- and among those of the input projection, where the heads begin at column `o`. -/
def at' (o : ℕ) (ho : o ≤ 8200) (j : Fin 1024) : Fin 9224 := ⟨o + j.val, by have := j.isLt; omega⟩

/-- Entry `d` of head `s` of row `r`, normalised over the head, from the 1024 columns `a` of the row. -/
def normed (a : Fin 1024 → EReal) (g : Fin 128 → EReal) (s : Fin 8) (d : Fin 128) : EReal :=
  Row.rms 0x43000000#32 (fun k => a (col s k)) g d

/-- Entry `d` of head `s` at position `n` of sequence `b`, from the residual stream, the gains and the weight. -/
def entryOf (o : ℕ) (ho : o ≤ 8200) (x : FVec Ideal ⟨3, ![2, 16384, 2048]⟩ .f32) (g : FVec Ideal ⟨1, ![2048]⟩ .f32)
    (w : FVec Ideal ⟨2, ![2048, 9224]⟩ .f32) (gh : FVec Ideal ⟨1, ![128]⟩ .f32) (b : Fin 2) (s : Fin 8) (n : Fin 16384) (d : Fin 128) :
    EReal :=
  normed (fun j => entry x g w (flat b n) (at' o ho j)) (fun k => gh (ix1 k)) s d

theorem split4 {p q r s : ℕ} (i : (⟨4, ![p, q, r, s]⟩ : Shape).Idx) :
    ∃ (a : Fin p) (b : Fin q) (c : Fin r) (d : Fin s), i = ix4 a b c d :=
  ⟨i 0, i 1, i 2, i 3, funext fun a => match a with | ⟨0, _⟩ => rfl | ⟨1, _⟩ => rfl | ⟨2, _⟩ => rfl | ⟨3, _⟩ => rfl⟩

theorem idx4 {p q r s : ℕ} {i : (⟨4, ![p, q, r, s]⟩ : Shape).Idx} {a : Fin p} {b : Fin q} {c : Fin r} {d : Fin s} (h0 : i 0 = a)
    (h1 : i 1 = b) (h2 : i 2 = c) (h3 : i 3 = d) : i = ix4 a b c d := by
  subst h0 h1 h2 h3
  exact funext fun a => match a with | ⟨0, _⟩ => rfl | ⟨1, _⟩ => rfl | ⟨2, _⟩ => rfl | ⟨3, _⟩ => rfl

theorem split5 {p q r s u : ℕ} (i : (⟨5, ![p, q, r, s, u]⟩ : Shape).Idx) :
    ∃ (a : Fin p) (b : Fin q) (c : Fin r) (d : Fin s) (e : Fin u), i = ix5 a b c d e :=
  ⟨i 0, i 1, i 2, i 3, i 4, funext fun a => match a with
    | ⟨0, _⟩ => rfl | ⟨1, _⟩ => rfl | ⟨2, _⟩ => rfl | ⟨3, _⟩ => rfl | ⟨4, _⟩ => rfl⟩

/-- A cache of four layers with its last layer replaced. -/
def stack {B N : ℕ} (old : FVec Ideal ⟨5, ![4, B, 8, N, 128]⟩ .f32) (new : Fin B → Fin 8 → Fin N → Fin 128 → EReal) :
    FVec Ideal ⟨5, ![4, B, 8, N, 128]⟩ .f32 :=
  fun i => if (i 0).val = 3 then new (i 1) (i 2) (i 3) (i 4) else old i

theorem stack_apply {B N : ℕ} (y : FVec Ideal ⟨5, ![3, B, 8, N, 128]⟩ .f32) (z : FVec Ideal ⟨5, ![1, B, 8, N, 128]⟩ .f32)
    (h : Shape.Concatenates [⟨5, ![3, B, 8, N, 128]⟩, ⟨5, ![1, B, 8, N, 128]⟩] ⟨5, ![4, B, 8, N, 128]⟩ (0 : Fin 5))
    (old : FVec Ideal ⟨5, ![4, B, 8, N, 128]⟩ .f32) (new : Fin B → Fin 8 → Fin N → Fin 128 → EReal)
    (hy : ∀ (l : Fin 3) b s n d, y (ix5 l b s n d) = old (ix5 ⟨l.val, by have := l.isLt; omega⟩ b s n d))
    (hz : ∀ b s n d, z (ix5 0 b s n d) = new b s n d) :
    concatenate ⟨5, ![4, B, 8, N, 128]⟩ (0 : Fin 5) [⟨⟨5, ![3, B, 8, N, 128]⟩, y⟩, ⟨⟨5, ![1, B, 8, N, 128]⟩, z⟩] h
      = stack old new := by
  funext i
  obtain ⟨l, b, s, n, d, rfl⟩ := split5 i
  have hl := l.isLt
  unfold stack
  by_cases e : l.val = 3
  · refine (concatenate_pair_apply_right (t := ⟨5, ![4, B, 8, N, 128]⟩) (0 : Fin 5) y z h _ rfl rfl (ix5 0 b s n d) (fun a ha => ?_) ?_).trans
      ((hz b s n d).trans (if_pos e).symm)
    · match a with
      | ⟨0, _⟩ => exact absurd rfl ha
      | ⟨1, _⟩ => rfl
      | ⟨2, _⟩ => rfl
      | ⟨3, _⟩ => rfl
      | ⟨4, _⟩ => rfl
    · show 0 + 3 = l.val; omega
  · refine (concatenate_pair_apply_left (t := ⟨5, ![4, B, 8, N, 128]⟩) (0 : Fin 5) y z h _ rfl (ix5 ⟨l.val, by omega⟩ b s n d) (fun a => ?_)).trans
      ((hy ⟨l.val, by omega⟩ b s n d).trans (if_neg e).symm)
    match a with
    | ⟨0, _⟩ => rfl
    | ⟨1, _⟩ => rfl
    | ⟨2, _⟩ => rfl
    | ⟨3, _⟩ => rfl
    | ⟨4, _⟩ => rfl

end Cert.Head

end
-- ==== Proof.Queries.lean ====
/-
  The array that the projection to the queries leaves, from its arguments, and its reference.
-/
module

public import proofs.«01_k».proof.Proof.Head
public import proofs.«01_k».proof.Proof.Gen.Kernel7Ideal.Value
public import proofs.«01_k».proof.Proof.Gen.Reference7Ideal.Read
@[expose] public section

set_option maxRecDepth 65536

noncomputable section

namespace Cert.Queries

open Idealize.ShloMosaic Idealize.ShloMosaic.TcCoe
open Cert.Kernel7Ideal Cert.Kernel7Ideal.Gen
open Cert.Mixer (xrow)
open Cert.Project (normed entry)

/-! ### One grid point -/

theorem acc_apply (h : Vec Ideal S1024x2048 .bf16) (w : Vec Ideal S2048x1024 .bf16) (r j : Fin 1024) :
    k0_pay2 (F := Ideal) h w (ix2 r j) = ∑ k : Fin 2048, h (ix2 r k) * w (ix2 k j) := by
  unfold k0_pay2
  pointwise
  try rfl

/-- Entry `(s, r, d)` of the block of a grid point, from the product `a` of the rows with the weight. -/
def scaled (a : Vec Ideal S1024x1024 .f32) (g : Vec Ideal S1x128 .f32) (s : Fin 8) (r : Fin 1024) (d : Fin 128) : EReal :=
  Head.normed (fun j => a (ix2 r j)) (fun k => g (ix2 0 k)) s d * FloatOps.ofBits (F := Ideal) .f32 0x3DB504F3#32

theorem out_apply (h : Vec Ideal S1024x2048 .bf16) (w : Vec Ideal S2048x1024 .bf16) (g : Vec Ideal S1x128 .f32)
    (s : Fin 8) (r : Fin 1024) (d : Fin 128) :
    out0_3 (F := Ideal) h w g (ix4 0 s r d : S1x8x1024x128.Idx) = scaled (k0_pay2 (F := Ideal) h w) g s r d := by
  unfold out0_3 k0_pay21
  canon_tiles x h
  all_goals rw [View.ld_unit_lit _ h (by decide), View.ld_unit_lit _ w (by decide), View.ld_unit_lit _ g (by decide)]
  all_goals open_payloads
  all_goals generalize k0_pay2 (F := Ideal) h w = a
  all_goals
    have e0 : (x 0).val = 0 := by omega
    have e1 : (x 1).val = 0 := by omega
    rw [e1] at h1
    obtain ⟨n, hn⟩ := s
    obtain rfl : n = _ := h1
    obtain rfl : x = (ix4 0 0 r d : S1x1x1024x128.Idx) := funext fun a => Fin.ext (match a with
      | ⟨0, _⟩ => e0
      | ⟨1, _⟩ => e1
      | ⟨2, _⟩ => h2.symm
      | ⟨3, _⟩ => h3.symm)
    unfold scaled Head.normed Row.rms Row.inv
    pointwise
    try rfl
  case piece7 =>
    have hc : ∀ k : Fin 128, Head.col 0 k = ⟨k.val, by have := k.isLt; omega⟩ := fun k => Fin.ext (by show 0 * 128 + k.val = k.val; omega)
    simp only [hc]

/-! ### What the call reads -/

variable (m : (ℓ : Loc nD τ sig) → Buf (Elt Ideal) ℓ) (c : Dev nD)

/-- The arguments. -/
abbrev ax : FVec Ideal S2x16384x2048 .f32 := m ((c : Thread nD τ).loc main_arg0)
abbrev again : FVec Ideal S2048 .f32 := m ((c : Thread nD τ).loc main_arg1)
abbrev aw : FVec Ideal S2048x9224 .f32 := m ((c : Thread nD τ).loc main_arg2)
abbrev ahead : FVec Ideal S128 .f32 := m ((c : Thread nD τ).loc main_arg3)

theorem V_norm (r : Fin 32768) (k : Fin 2048) : V m c main_v14 (ix2 r k : S32768x2048.Idx) = normed (ax m c) (again m c) r k := by
  have hx := Cert.Mixer.flat_apply (ax m c) shapeCasts_S2x16384x2048_S32768x2048 r
  entry_read
  unfold normed Row.rms Row.inv
  simp only [← hx]
  generalize shapeCast S32768x2048 (ax m c) shapeCasts_S2x16384x2048_S32768x2048 = y
  pointwise
  try rfl

/-- The columns of the queries. -/
abbrev col (j : Fin 1024) : Fin 9224 := Head.at' 2048 (by decide) j

theorem V_w (k : Fin 2048) (j : Fin 1024) : V m c main_v16 (ix2 k j : S2048x1024.Idx) = aw m c (ix2 k (col j)) := by
  entry_read
  unfold col Head.at'
  pointwise
  try rfl

theorem V_head (k : Fin 128) : V m c main_v17 (ix2 0 k : S1x128.Idx) = ahead m c (ix1 k) := by
  entry_read
  pointwise
  try rfl

/-! ### The blocks of a grid point -/

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![t.val / 16, 0, t.val % 16, 0] :=
  (by decide +kernel : ∀ t : Fin grid0.N, _)

/-- The sequence and the position of row `r` of the block of point `t`. -/
def seq (t : Fin cfg0.N) : Fin 2 := ⟨t.val / 16, by have : t.val < 32 := t.isLt.trans_eq N_0; omega⟩
def pos (t : Fin cfg0.N) (r : Fin 1024) : Fin 16384 := ⟨t.val % 16 * 1024 + r.val, by have := r.isLt; omega⟩

theorem block_h (t : Fin cfg0.N) (r : Fin 1024) (k : Fin 2048) : iblk m c 0 t (ix2 r k : S1024x2048.Idx)
    = normed (ax m c) (again m c) (Cert.Project.flat (seq t) (pos t r)) k := by
  refine Eq.trans ?_ (V_norm m c (Cert.Project.flat (seq t) (pos t r)) k)
  unfold iblk
  refine congrArg (V m c main_v14) (funext fun a => Fin.ext ?_)
  blk_simp [index0 t]
  match a with
  | ⟨0, _⟩ => show t.val * 1024 + r.val = t.val / 16 * 16384 + (t.val % 16 * 1024 + r.val); omega
  | ⟨1, _⟩ => show 0 * 2048 + k.val = k.val; omega

theorem block_w (t : Fin cfg0.N) (k : Fin 2048) (j : Fin 1024) : iblk m c 1 t (ix2 k j : S2048x1024.Idx)
    = aw m c (ix2 k (col j)) := by
  refine Eq.trans ?_ (V_w m c k j)
  unfold iblk
  refine congrArg (V m c main_v16) (funext fun a => Fin.ext ?_)
  blk_simp [index1 t]
  match a with
  | ⟨0, _⟩ => show 0 * 2048 + k.val = k.val; omega
  | ⟨1, _⟩ => show 0 * 1024 + j.val = j.val; omega

theorem block_head (t : Fin cfg0.N) (k : Fin 128) : iblk m c 2 t (ix2 0 k : S1x128.Idx) = ahead m c (ix1 k) := by
  refine Eq.trans ?_ (V_head m c k)
  unfold iblk
  refine congrArg (V m c main_v17) (funext fun a => Fin.ext ?_)
  blk_simp [index2 t]
  match a with
  | ⟨0, _⟩ => rfl
  | ⟨1, _⟩ => show 0 * 128 + k.val = k.val; omega

/-! ### The array -/

/-- What the call leaves. -/
def out : FVec Ideal S2x8x16384x128 .bf16 := fun i =>
  Head.entryOf 2048 (by decide) (ax m c) (again m c) (aw m c) (ahead m c) (i 0) (i 1) (i 2) (i 3)
    * FloatOps.ofBits (F := Ideal) .f32 0x3DB504F3#32

theorem acc_block (t : Fin cfg0.N) (r j : Fin 1024) : k0_pay2 (F := Ideal) (iblk m c 0 t) (iblk m c 1 t) (ix2 r j)
    = entry (ax m c) (again m c) (aw m c) (Cert.Project.flat (seq t) (pos t r)) (col j) := by
  rw [acc_apply]
  exact Finset.sum_congr rfl fun k _ => congrArg₂ (fun u v : EReal => u * v) (block_h m c t r k) (block_w m c t k j)

theorem array : (dats m 0 c).arrAt 3 cfg0.N = out m c := by
  refine (dats m 0 c).arrAt_eq_of_covers 3 _ (by decide +kernel) fun t hf y => ?_
  blk_simp
  rw [after0_3]
  obtain ⟨z, s, r, d, rfl⟩ := Head.split4 (p := 1) (q := 8) (r := 1024) (s := 128) y
  obtain rfl : z = 0 := Fin.ext (by have := z.isLt; show z.val = 0; omega)
  refine (out_apply _ _ _ s r d).trans ?_
  refine Eq.trans (b := out m c (ix4 (seq t) s (pos t r) d)) ?_ (congrArg (out m c) ?_)
  · unfold out scaled Head.entryOf
    refine congrArg (fun u : EReal => u * FloatOps.ofBits (F := Ideal) .f32 0x3DB504F3#32) ?_
    exact congrArg₂ (fun (a : Fin 1024 → EReal) (g : Fin 128 → EReal) => Head.normed a g s d)
      (funext fun j => acc_block m c t r j) (funext fun k => block_head m c t k)
  · funext a
    refine Fin.ext ?_
    blk_simp [index3 t]
    match a with
    | ⟨0, _⟩ => show t.val / 16 = t.val / 16 * 1 + 0; omega
    | ⟨1, _⟩ => show s.val = 0 * 8 + s.val; omega
    | ⟨2, _⟩ => rfl
    | ⟨3, _⟩ => show d.val = 0 * 128 + d.val; omega

/-! ### The reference -/

open Cert.Reference7Ideal.Read

variable (x : FVec Ideal S2x16384x2048 .f32) (g : FVec Ideal S2048 .f32) (w : FVec Ideal S2048x9224 .f32) (gh : FVec Ideal S128 .f32)

theorem ref_head (b : Fin 2) (s : Fin 8) (n : Fin 16384) (d : Fin 128) : val_main_v16 (F := Ideal) x g w (ix4 b s n d)
    = entry x g w (Cert.Project.flat b n) (col (Head.col s d)) := by
  have hb := b.isLt
  have hs := s.isLt
  have hn := n.isLt
  have hd := d.isLt
  have h : idx_main_v14 (idx_main_v15 (idx_main_v16 (ix4 b s n d))) = ix3 b n (col (Head.col s d)) := by
    refine Cert.Mixer.Ref.idx3 (Fin.ext ?_) (Fin.ext ?_) (Fin.ext ?_)
    · show (((b.val * 16384 + n.val) * 8 + s.val) * 128 + d.val) / 16777216 = b.val; omega
    · show (((b.val * 16384 + n.val) * 8 + s.val) * 128 + d.val) / 1024 % 16384 = n.val; omega
    · show 2048 + (((b.val * 16384 + n.val) * 8 + s.val) * 128 + d.val) % 1024 = 2048 + (s.val * 128 + d.val); omega
  rw [val_main_v16_apply, val_main_v15_apply, val_main_v14_apply, h]
  exact Cert.Project.ref_entry x g w b n _

theorem ref_norm (b : Fin 2) (s : Fin 8) (n : Fin 16384) (d : Fin 128) : val_main_v29 (F := Ideal) x g w gh (ix4 b s n d)
    = Head.entryOf 2048 (by decide) x g w gh b s n d := by
  have e1 : ∀ q : Fin 128, idx_main_v18 (idx_main_v19 (idx_main_v25 (ix4 b s n d))) q = ix4 b s n q :=
    fun q => Head.idx4 rfl rfl rfl rfl
  have e2 : idx_main_v27 (idx_main_v28 (ix4 b s n d)) = ix1 d := funext fun a => match a with | ⟨0, _⟩ => rfl
  rw [val_main_v29_apply, val_main_v26_apply, val_main_v25_apply, val_main_v24_apply, val_main_v23_apply, val_main_v21_apply,
    val_main_v19_apply, val_main_v18_apply, val_main_v20_apply, val_main_v22_apply, val_main_v28_apply, val_main_v27_apply,
    val_main_cst_2_apply, val_main_cst_3_apply, val_main_cst_4_apply, e2]
  simp only [val_main_v17_apply, e1, ref_head]
  unfold Head.entryOf Head.normed Row.rms Row.inv
  rw [Cert.Mixer.Ref.zero_word, zero_add]
  rfl

theorem array_result : (dats m 0 c).arrAt 3 cfg0.N = val_main_v32 (F := Ideal) (ax m c) (again m c) (aw m c) (ahead m c) := by
  rw [array]
  funext i
  obtain ⟨b, s, n, d, rfl⟩ := Head.split4 (p := 2) (q := 8) (r := 16384) (s := 128) i
  refine Eq.symm ?_
  rw [val_main_v32_apply, val_main_v31_apply, val_main_v30_apply, ref_norm]
  rfl

end Cert.Queries

end
-- ==== Proof.Keys.lean ====
/-
  The arrays that the projection to the keys leaves, from its arguments, and its reference.
-/
module

public import proofs.«01_k».proof.Proof.Head
public import proofs.«01_k».proof.Proof.Gen.Kernel8Ideal.Value
public import proofs.«01_k».proof.Proof.Gen.Reference8Ideal.Read
@[expose] public section

set_option maxRecDepth 65536

noncomputable section

namespace Cert.Keys

open Idealize.ShloMosaic Idealize.ShloMosaic.TcCoe
open Cert.Kernel8Ideal Cert.Kernel8Ideal.Gen
open Cert.Mixer (xrow)
open Cert.Project (normed entry)

/-! ### One grid point -/

theorem acc_apply (h : Vec Ideal S1024x2048 .bf16) (w : Vec Ideal S2048x1024 .bf16) (r j : Fin 1024) :
    k0_pay3 (F := Ideal) h w (ix2 r j) = ∑ k : Fin 2048, h (ix2 r k) * w (ix2 k j) := by
  unfold k0_pay3
  pointwise
  try rfl

variable (m : (ℓ : Loc nD τ sig) → Buf (Elt Ideal) ℓ) (c : Dev nD)

/-- Entry `(s, r, d)` of the block of a grid point, from the product `a` of the rows with the weight. -/
def unit (a : Vec Ideal S1024x1024 .f32) (g : Vec Ideal S1x128 .f32) (s : Fin 8) (r : Fin 1024) (d : Fin 128) : EReal :=
  Head.normed (fun j => a (ix2 r j)) (fun k => g (ix2 0 k)) s d

theorem out3 (t : Fin cfg0.N) (s : Fin 8) (r : Fin 1024) (d : Fin 128) : (outsAt0 m c t).1 (ix5 0 0 s r d : S1x1x8x1024x128.Idx)
    = unit (k0_pay3 (F := Ideal) (iblk m c 0 t) (iblk m c 1 t)) (iblk m c 2 t) s r d := by
  unfold outsAt0
  frame_out
  generalize (iblk m c 0 t : Vec Ideal S1024x2048 .bf16) = h
  generalize (iblk m c 1 t : Vec Ideal S2048x1024 .bf16) = w
  generalize (iblk m c 2 t : Vec Ideal S1x128 .f32) = g
  canon_tiles x h
  all_goals
    have e0 : (x 0).val = 0 := by omega
    have e1 : (x 1).val = 0 := by omega
    have e2 : (x 2).val = 0 := by omega
    rw [e2] at h2
    obtain ⟨n, hn⟩ := s
    obtain rfl : n = _ := h2
    obtain rfl : x = (ix5 0 0 0 r d : S1x1x1x1024x128.Idx) := funext fun a => Fin.ext (match a with
      | ⟨0, _⟩ => e0
      | ⟨1, _⟩ => e1
      | ⟨2, _⟩ => e2
      | ⟨3, _⟩ => h3.symm
      | ⟨4, _⟩ => h4.symm)
    open_payloads
    generalize k0_pay3 (F := Ideal) h w = a
    unfold unit Head.normed Row.rms Row.inv
    pointwise
    try rfl
  case piece7 =>
    have hc : ∀ k : Fin 128, Head.col 0 k = ⟨k.val, by have := k.isLt; omega⟩ := fun k => Fin.ext (by show 0 * 128 + k.val = k.val; omega)
    simp only [hc]

theorem out4 (t : Fin cfg0.N) (s : Fin 8) (r : Fin 1024) (d : Fin 128) : (outsAt0 m c t).2 (ix4 0 s r d : S1x8x1024x128.Idx)
    = unit (k0_pay3 (F := Ideal) (iblk m c 0 t) (iblk m c 1 t)) (iblk m c 2 t) s r d := by
  unfold outsAt0
  frame_out
  generalize (iblk m c 0 t : Vec Ideal S1024x2048 .bf16) = h
  generalize (iblk m c 1 t : Vec Ideal S2048x1024 .bf16) = w
  generalize (iblk m c 2 t : Vec Ideal S1x128 .f32) = g
  canon_tiles x h
  all_goals
    have e0 : (x 0).val = 0 := by omega
    have e1 : (x 1).val = 0 := by omega
    rw [e1] at h1
    obtain ⟨n, hn⟩ := s
    obtain rfl : n = _ := h1
    obtain rfl : x = (ix4 0 0 r d : S1x1x1024x128.Idx) := funext fun a => Fin.ext (match a with
      | ⟨0, _⟩ => e0
      | ⟨1, _⟩ => e1
      | ⟨2, _⟩ => h2.symm
      | ⟨3, _⟩ => h3.symm)
    open_payloads
    generalize k0_pay3 (F := Ideal) h w = a
    unfold unit Head.normed Row.rms Row.inv
    pointwise
    try rfl
  case piece7 =>
    have hc : ∀ k : Fin 128, Head.col 0 k = ⟨k.val, by have := k.isLt; omega⟩ := fun k => Fin.ext (by show 0 * 128 + k.val = k.val; omega)
    simp only [hc]

/-! ### What the call reads -/

/-- The arguments. -/
abbrev ax : FVec Ideal S2x16384x2048 .f32 := m ((c : Thread nD τ).loc main_arg0)
abbrev again : FVec Ideal S2048 .f32 := m ((c : Thread nD τ).loc main_arg1)
abbrev aw : FVec Ideal S2048x9224 .f32 := m ((c : Thread nD τ).loc main_arg2)
abbrev ahead : FVec Ideal S128 .f32 := m ((c : Thread nD τ).loc main_arg3)
abbrev astack : FVec Ideal S4x2x8x16384x128 .f32 := m ((c : Thread nD τ).loc main_arg4)

theorem V_norm (r : Fin 32768) (k : Fin 2048) : V m c main_v14 (ix2 r k : S32768x2048.Idx) = normed (ax m c) (again m c) r k := by
  have hx := Cert.Mixer.flat_apply (ax m c) shapeCasts_S2x16384x2048_S32768x2048 r
  entry_read
  unfold normed Row.rms Row.inv
  simp only [← hx]
  generalize shapeCast S32768x2048 (ax m c) shapeCasts_S2x16384x2048_S32768x2048 = y
  pointwise
  try rfl

/-- The columns of the keys. -/
abbrev col (j : Fin 1024) : Fin 9224 := Head.at' 3072 (by decide) j

theorem V_w (k : Fin 2048) (j : Fin 1024) : V m c main_v16 (ix2 k j : S2048x1024.Idx) = aw m c (ix2 k (col j)) := by
  entry_read
  unfold col Head.at'
  pointwise
  try rfl

theorem V_head (k : Fin 128) : V m c main_v17 (ix2 0 k : S1x128.Idx) = ahead m c (ix1 k) := by
  entry_read
  pointwise
  try rfl

theorem V_stack : V m c main_v18_0 = astack m c := by
  entry_read
  try rfl

/-! ### The blocks of a grid point -/

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![3, t.val / 16, 0, t.val % 16, 0] :=
  (by decide +kernel : ∀ t : Fin grid0.N, _)
theorem index4 : ∀ t : Fin cfg0.N, win0_4.index t = ![t.val / 16, 0, t.val % 16, 0] :=
  (by decide +kernel : ∀ t : Fin grid0.N, _)

/-- The sequence and the position of row `r` of the block of point `t`. -/
def seq (t : Fin cfg0.N) : Fin 2 := ⟨t.val / 16, by have : t.val < 32 := t.isLt.trans_eq N_0; omega⟩
def pos (t : Fin cfg0.N) (r : Fin 1024) : Fin 16384 := ⟨t.val % 16 * 1024 + r.val, by have := r.isLt; omega⟩

theorem block_h (t : Fin cfg0.N) (r : Fin 1024) (k : Fin 2048) : iblk m c 0 t (ix2 r k : S1024x2048.Idx)
    = normed (ax m c) (again m c) (Cert.Project.flat (seq t) (pos t r)) k := by
  refine Eq.trans ?_ (V_norm m c (Cert.Project.flat (seq t) (pos t r)) k)
  unfold iblk
  refine congrArg (V m c main_v14) (funext fun a => Fin.ext ?_)
  blk_simp [index0 t]
  match a with
  | ⟨0, _⟩ => show t.val * 1024 + r.val = t.val / 16 * 16384 + (t.val % 16 * 1024 + r.val); omega
  | ⟨1, _⟩ => show 0 * 2048 + k.val = k.val; omega

theorem block_w (t : Fin cfg0.N) (k : Fin 2048) (j : Fin 1024) : iblk m c 1 t (ix2 k j : S2048x1024.Idx)
    = aw m c (ix2 k (col j)) := by
  refine Eq.trans ?_ (V_w m c k j)
  unfold iblk
  refine congrArg (V m c main_v16) (funext fun a => Fin.ext ?_)
  blk_simp [index1 t]
  match a with
  | ⟨0, _⟩ => show 0 * 2048 + k.val = k.val; omega
  | ⟨1, _⟩ => show 0 * 1024 + j.val = j.val; omega

theorem block_head (t : Fin cfg0.N) (k : Fin 128) : iblk m c 2 t (ix2 0 k : S1x128.Idx) = ahead m c (ix1 k) := by
  refine Eq.trans ?_ (V_head m c k)
  unfold iblk
  refine congrArg (V m c main_v17) (funext fun a => Fin.ext ?_)
  blk_simp [index2 t]
  match a with
  | ⟨0, _⟩ => rfl
  | ⟨1, _⟩ => show 0 * 128 + k.val = k.val; omega

/-! ### The arrays -/

/-- The keys that the call computes. -/
def keys (b : Fin 2) (s : Fin 8) (n : Fin 16384) (d : Fin 128) : EReal :=
  Head.entryOf 3072 (by decide) (ax m c) (again m c) (aw m c) (ahead m c) b s n d

theorem acc_block (t : Fin cfg0.N) (r j : Fin 1024) : k0_pay3 (F := Ideal) (iblk m c 0 t) (iblk m c 1 t) (ix2 r j)
    = entry (ax m c) (again m c) (aw m c) (Cert.Project.flat (seq t) (pos t r)) (col j) := by
  rw [acc_apply]
  exact Finset.sum_congr rfl fun k _ => congrArg₂ (fun u v : EReal => u * v) (block_h m c t r k) (block_w m c t k j)

theorem unit_block (t : Fin cfg0.N) (s : Fin 8) (r : Fin 1024) (d : Fin 128) :
    unit (k0_pay3 (F := Ideal) (iblk m c 0 t) (iblk m c 1 t)) (iblk m c 2 t) s r d = keys m c (seq t) s (pos t r) d :=
  congrArg₂ (fun (a : Fin 1024 → EReal) (g : Fin 128 → EReal) => Head.normed a g s d)
    (funext fun j => acc_block m c t r j) (funext fun k => block_head m c t k)

theorem array_keys : (dats m 0 c).arrAt 4 cfg0.N = fun i : S2x8x16384x128.Idx => keys m c (i 0) (i 1) (i 2) (i 3) := by
  refine (dats m 0 c).arrAt_eq_of_covers 4 _ (by decide +kernel) fun t hf y => ?_
  blk_simp
  rw [after0_4]
  obtain ⟨z, s, r, d, rfl⟩ := Head.split4 (p := 1) (q := 8) (r := 1024) (s := 128) y
  obtain rfl : z = 0 := Fin.ext (by have := z.isLt; show z.val = 0; omega)
  refine (out4 m c t s r d).trans ((unit_block m c t s r d).trans ?_)
  refine congrArg (fun i : S2x8x16384x128.Idx => keys m c (i 0) (i 1) (i 2) (i 3))
    (a₁ := (ix4 (seq t) s (pos t r) d : S2x8x16384x128.Idx)) ?_
  funext a
  refine Fin.ext ?_
  blk_simp [index4 t]
  match a with
  | ⟨0, _⟩ => show t.val / 16 = t.val / 16 * 1 + 0; omega
  | ⟨1, _⟩ => show s.val = 0 * 8 + s.val; omega
  | ⟨2, _⟩ => rfl
  | ⟨3, _⟩ => show d.val = 0 * 128 + d.val; omega

/-- The cache: the call writes its last layer. -/
theorem array_stack : (dats m 0 c).arrAt 3 cfg0.N = Head.stack (astack m c) (keys m c) := by
  refine ((dats m 0 c).arrAt_eq_of_coversWhere 3 (fun i : S4x2x8x16384x128.Idx => keys m c (i 1) (i 2) (i 3) (i 4))
    (P := fun i : S4x2x8x16384x128.Idx => (i 0).val = 3) (fun β => β (0 : Fin 5) = 3) (by decide +kernel) (fun t hf y => ?_)
    (fun j => ?_)).trans ?_
  · blk_simp
    rw [after0_3]
    obtain ⟨z, z', s, r, d, rfl⟩ := Head.split5 (p := 1) (q := 1) (r := 8) (s := 1024) (u := 128) y
    obtain rfl : z = 0 := Fin.ext (by have := z.isLt; show z.val = 0; omega)
    obtain rfl : z' = 0 := Fin.ext (by have := z'.isLt; show z'.val = 0; omega)
    refine (out3 m c t s r d).trans ((unit_block m c t s r d).trans ?_)
    refine congrArg (fun i : S4x2x8x16384x128.Idx => keys m c (i 1) (i 2) (i 3) (i 4))
      (a₁ := (ix5 3 (seq t) s (pos t r) d : S4x2x8x16384x128.Idx)) ?_
    funext a
    refine Fin.ext ?_
    blk_simp [index3 t]
    match a with
    | ⟨0, _⟩ => rfl
    | ⟨1, _⟩ => show t.val / 16 = t.val / 16 * 1 + 0; omega
    | ⟨2, _⟩ => show s.val = 0 * 8 + s.val; omega
    | ⟨3, _⟩ => rfl
    | ⟨4, _⟩ => show d.val = 0 * 128 + d.val; omega
  · blk_simp [Pipeline.Window.cell_apply]
    try omega
  · funext i
    show (if (i 0).val = 3 then _ else V m c main_v18_0 i) = _
    rw [V_stack]
    rfl

/-! ### The reference -/

open Cert.Reference8Ideal.Read

variable (x : FVec Ideal S2x16384x2048 .f32) (g : FVec Ideal S2048 .f32) (w : FVec Ideal S2048x9224 .f32) (gh : FVec Ideal S128 .f32)

theorem ref_head (b : Fin 2) (s : Fin 8) (n : Fin 16384) (d : Fin 128) : val_main_v16 (F := Ideal) x g w (ix4 b s n d)
    = entry x g w (Cert.Project.flat b n) (col (Head.col s d)) := by
  have hb := b.isLt
  have hs := s.isLt
  have hn := n.isLt
  have hd := d.isLt
  have h : idx_main_v14 (idx_main_v15 (idx_main_v16 (ix4 b s n d))) = ix3 b n (col (Head.col s d)) := by
    refine Cert.Mixer.Ref.idx3 (Fin.ext ?_) (Fin.ext ?_) (Fin.ext ?_)
    · show (((b.val * 16384 + n.val) * 8 + s.val) * 128 + d.val) / 16777216 = b.val; omega
    · show (((b.val * 16384 + n.val) * 8 + s.val) * 128 + d.val) / 1024 % 16384 = n.val; omega
    · show 3072 + (((b.val * 16384 + n.val) * 8 + s.val) * 128 + d.val) % 1024 = 3072 + (s.val * 128 + d.val); omega
  rw [val_main_v16_apply, val_main_v15_apply, val_main_v14_apply, h]
  exact Cert.Project.ref_entry x g w b n _

theorem ref_norm (b : Fin 2) (s : Fin 8) (n : Fin 16384) (d : Fin 128) : val_main_v29 (F := Ideal) x g w gh (ix4 b s n d)
    = Head.entryOf 3072 (by decide) x g w gh b s n d := by
  have e1 : ∀ q : Fin 128, idx_main_v18 (idx_main_v19 (idx_main_v25 (ix4 b s n d))) q = ix4 b s n q :=
    fun q => Head.idx4 rfl rfl rfl rfl
  have e2 : idx_main_v27 (idx_main_v28 (ix4 b s n d)) = ix1 d := funext fun a => match a with | ⟨0, _⟩ => rfl
  rw [val_main_v29_apply, val_main_v26_apply, val_main_v25_apply, val_main_v24_apply, val_main_v23_apply, val_main_v21_apply,
    val_main_v19_apply, val_main_v18_apply, val_main_v20_apply, val_main_v22_apply, val_main_v28_apply, val_main_v27_apply,
    val_main_cst_2_apply, val_main_cst_3_apply, val_main_cst_4_apply, e2]
  simp only [val_main_v17_apply, e1, ref_head]
  unfold Head.entryOf Head.normed Row.rms Row.inv
  rw [Cert.Mixer.Ref.zero_word, zero_add]
  rfl

theorem keys_result : (dats m 0 c).arrAt 4 cfg0.N = val_main_v33 (F := Ideal) (ax m c) (again m c) (aw m c) (ahead m c) := by
  rw [array_keys]
  funext i
  obtain ⟨b, s, n, d, rfl⟩ := Head.split4 (p := 2) (q := 8) (r := 16384) (s := 128) i
  refine Eq.symm ?_
  rw [val_main_v33_apply, ref_norm]
  rfl

theorem stack_result : (dats m 0 c).arrAt 3 cfg0.N
    = val_main_v32 (F := Ideal) (ax m c) (again m c) (aw m c) (ahead m c) (astack m c) := by
  rw [array_stack]
  refine (Head.stack_apply _ _ _ (astack m c) (keys m c) (fun l b s n d => ?_) (fun b s n d => ?_)).symm
  · rw [val_main_v30_apply]
    refine congrArg (astack m c) (funext fun a => Fin.ext ?_)
    match a with
    | ⟨0, _⟩ => rfl
    | ⟨1, _⟩ => rfl
    | ⟨2, _⟩ => rfl
    | ⟨3, _⟩ => rfl
    | ⟨4, _⟩ => rfl
  · rw [val_main_v31_apply]
    exact (congrArg _ (Head.idx4 (a := b) (b := s) (c := n) (d := d) rfl rfl rfl rfl)).trans (ref_norm _ _ _ _ b s n d)

end Cert.Keys

end
-- ==== Proof.Values.lean ====
/-
  The arrays that the projection to the values and the log-forget gates leaves, from its arguments, and its reference.
-/
module

public import proofs.«01_k».proof.Proof.Head
public import proofs.«01_k».proof.Proof.Gen.Kernel9Ideal.Value
public import proofs.«01_k».proof.Proof.Gen.Reference9Ideal.Read
public import Idealize.ShloMosaic.Lib.KernelVsHost
@[expose] public section

set_option maxRecDepth 65536

noncomputable section

namespace Cert.Values

open Idealize.ShloMosaic Idealize.ShloMosaic.TcCoe
open Cert.Kernel9Ideal Cert.Kernel9Ideal.Gen
open Cert.Mixer (xrow)
open Cert.Project (normed entry)

/-! ### One grid point -/

theorem acc_apply (h : Vec Ideal S1024x2048 .bf16) (w : Vec Ideal S2048x1024 .bf16) (r j : Fin 1024) :
    k0_pay3 (F := Ideal) h w (ix2 r j) = ∑ k : Fin 2048, h (ix2 r k) * w (ix2 k j) := by
  unfold k0_pay3 k0_pay2
  pointwise
  try rfl

variable (m : (ℓ : Loc nD τ sig) → Buf (Elt Ideal) ℓ) (c : Dev nD)

/-- Entry `(s, r, d)` of the block of a grid point, from the product `a` of the rows with the weight. -/
def unit (a : Vec Ideal S1024x1024 .f32) (s : Fin 8) (r : Fin 1024) (d : Fin 128) : EReal :=
  a (ix2 r (Head.col s d))

theorem out3 (t : Fin cfg0.N) (s : Fin 8) (r : Fin 1024) (d : Fin 128) : (outsAt0 m c t).1 (ix5 0 0 s r d : S1x1x8x1024x128.Idx)
    = unit (k0_pay3 (F := Ideal) (iblk m c 0 t) (iblk m c 1 t)) s r d := by
  unfold outsAt0
  frame_out
  generalize (iblk m c 0 t : Vec Ideal S1024x2048 .bf16) = h
  generalize (iblk m c 1 t : Vec Ideal S2048x1024 .bf16) = w
  canon_tiles x h
  all_goals
    have e0 : (x 0).val = 0 := by omega
    have e1 : (x 1).val = 0 := by omega
    have e2 : (x 2).val = 0 := by omega
    rw [e2] at h2
    obtain ⟨n, hn⟩ := s
    obtain rfl : n = _ := h2
    obtain rfl : x = (ix5 0 0 0 r d : S1x1x1x1024x128.Idx) := funext fun a => Fin.ext (match a with
      | ⟨0, _⟩ => e0
      | ⟨1, _⟩ => e1
      | ⟨2, _⟩ => e2
      | ⟨3, _⟩ => h3.symm
      | ⟨4, _⟩ => h4.symm)
    open_payloads
    generalize k0_pay3 (F := Ideal) h w = a
    unfold unit
    pointwise
    try rfl
  case piece7 =>
    have hc : Head.col 0 d = ⟨d.val, by have := d.isLt; omega⟩ := Fin.ext (by show 0 * 128 + d.val = d.val; omega)
    rw [hc]

/-- The log-forget gate of the entry `z`: the logarithm of its logistic value. -/
def gate (z : EReal) : EReal := -(max (-z) 0 + Ideal.log1p (Ideal.exp (-(FloatOps.absf (F := Ideal) (φ := .f32) (-z) : EReal))))

/-- The product of the rows of `w` with the rows of `h`. -/
def dot (w : Vec Ideal S16x2048 .bf16) (h : Vec Ideal S1024x2048 .bf16) (q : Fin 16) (r : Fin 1024) : EReal :=
  ∑ k : Fin 2048, w (ix2 q k) * h (ix2 r k)

/-- The argument of a gate of a grid point. -/
def arg (w : Vec Ideal S16x2048 .bf16) (h : Vec Ideal S1024x2048 .bf16) (b : Vec Ideal S16x1 .f32) (q : Fin 16) (r : Fin 1024) : EReal :=
  dot w h q r + b (ix2 q 0)

theorem out6 (t : Fin cfg0.N) (q : Fin 16) (r : Fin 1024) : (outsAt0 m c t).2.2 (ix2 q r : S16x1024.Idx)
    = gate (arg (iblk m c 2 t) (iblk m c 0 t) (iblk m c 3 t) q r) := by
  unfold outsAt0
  frame_out
  generalize (iblk m c 0 t : Vec Ideal S1024x2048 .bf16) = h
  generalize (iblk m c 2 t : Vec Ideal S16x2048 .bf16) = w
  generalize (iblk m c 3 t : Vec Ideal S16x1 .f32) = b
  open_payloads
  pointwise
  unfold gate arg dot
  simp only [zero_sub]
  try rfl

/-! ### What the call reads -/

/-- The arguments. -/
abbrev ax : FVec Ideal S2x16384x2048 .f32 := m ((c : Thread nD τ).loc main_arg0)
abbrev again : FVec Ideal S2048 .f32 := m ((c : Thread nD τ).loc main_arg1)
abbrev aw : FVec Ideal S2048x9224 .f32 := m ((c : Thread nD τ).loc main_arg2)
abbrev abias : FVec Ideal S8 .f32 := m ((c : Thread nD τ).loc main_arg3)
abbrev astack : FVec Ideal S4x2x8x16384x128 .f32 := m ((c : Thread nD τ).loc main_arg4)

theorem V_norm (r : Fin 32768) (k : Fin 2048) : V m c main_v14 (ix2 r k : S32768x2048.Idx) = normed (ax m c) (again m c) r k := by
  have hx := Cert.Mixer.flat_apply (ax m c) shapeCasts_S2x16384x2048_S32768x2048 r
  have e : V m c main_v14 = truncf .bf16 (mulf (mulf (shapeCast S32768x2048 (ax m c) shapeCasts_S2x16384x2048_S32768x2048)
      (broadcastInDim S32768x2048 ![0, 1] bcast_S32768x1_S32768x2048_0_1 (Host.rsqrt (addf (Host.divf (broadcastInDim S32768x1 ![0]
        bcast_S32768_S32768x1_0 (Host.reduceAdd (mulf (shapeCast S32768x2048 (ax m c) shapeCasts_S2x16384x2048_S32768x2048)
          (shapeCast S32768x2048 (ax m c) shapeCasts_S2x16384x2048_S32768x2048)) (constant (F := Ideal) S_ .f32 0x00000000#32)
          reducesTo_S32768x2048_S32768_d1 h_S_)) (broadcastInDim S32768x1 ![] bcast_S_S32768x1 (constant (F := Ideal) S_ .f32 0x45000000#32)))
        (broadcastInDim S32768x1 ![] bcast_S_S32768x1 (constant (F := Ideal) S_ .f32 0x358637BD#32))))))
      (broadcastInDim S32768x2048 ![0, 1] bcast_S1x2048_S32768x2048_0_1 (shapeCast S1x2048 (again m c) shapeCasts_S2048_S1x2048)))
      bitsLt_bf16_f32 := by
    entry_read
    try rfl
  rw [e]
  unfold normed Row.rms Row.inv
  simp only [← hx]
  generalize shapeCast S32768x2048 (ax m c) shapeCasts_S2x16384x2048_S32768x2048 = y
  pointwise
  try rfl

/-- The columns of the values. -/
abbrev col (j : Fin 1024) : Fin 9224 := Head.at' 4096 (by decide) j

theorem V_w (k : Fin 2048) (j : Fin 1024) : V m c main_v22 (ix2 k j : S2048x1024.Idx) = aw m c (ix2 k (col j)) := by
  have e : V m c main_v22 = truncf .bf16 (extractStridedSlice S2048x1024 ![0, 4096] (aw m c) slices_S2048x9224_S2048x1024_0_4096)
      bitsLt_bf16_f32 := by
    entry_read
    try rfl
  rw [e]
  unfold col Head.at'
  pointwise
  try rfl

/-- Column `q` of the log-forget gates. -/
def gcol (q : Fin 8) : Fin 9224 := ⟨5120 + q.val, by have := q.isLt; omega⟩

/-- The word that fills the rows that no head has. -/
abbrev fill : FVec Ideal S_ .f32 := sitofp .f32 (constantI S_ 32 0#32)

theorem fill_apply (i : S_.Idx) : fill i = (0 : EReal) := by
  show ((((0#32 : BitVec 32).toInt : ℝ)) : EReal) = 0
  norm_num

theorem V_wf (q : Fin 16) (k : Fin 2048) : V m c main_v18 (ix2 q k : S16x2048.Idx)
    = if h : q.val < 8 then aw m c (ix2 k (gcol ⟨q.val, h⟩)) else 0 := by
  have e : V m c main_v18 = truncf .bf16 (pad S16x2048 ![0, 0] ![8, 0] ![0, 0] (transpose S8x2048 [1, 0]
      (extractStridedSlice S2048x8 ![0, 5120] (aw m c) slices_S2048x9224_S2048x8_0_5120) transposes_S2048x8_S8x2048_1_0)
      fill pads_S8x2048_S16x2048_080_000 h_S_) bitsLt_bf16_f32 := by
    entry_read
    try rfl
  rw [e]
  refine Eq.trans (b := pad S16x2048 ![0, 0] ![8, 0] ![0, 0] (transpose S8x2048 [1, 0]
      (extractStridedSlice S2048x8 ![0, 5120] (aw m c) slices_S2048x9224_S2048x8_0_5120) transposes_S2048x8_S8x2048_1_0)
      fill pads_S8x2048_S16x2048_080_000 h_S_ (ix2 q k)) rfl ?_
  by_cases h : q.val < 8
  · rw [dif_pos h]
    refine (pad_apply_of_inside _ _ _ _ _ _ _ _ (ix2 ⟨q.val, h⟩ k : S8x2048.Idx) (fun a => ?_)).trans ?_
    · match a with
      | ⟨0, _⟩ => show q.val = 0 + q.val * (0 + 1); omega
      | ⟨1, _⟩ => show k.val = 0 + k.val * (0 + 1); omega
    · unfold gcol
      pointwise
      try rfl
  · rw [dif_neg h]
    refine (pad_apply_of_not_inside _ _ _ _ _ _ _ _ 0 (fun ha => h ?_)).trans (fill_apply _)
    have h3 : (q.val - 0) / (0 + 1) < 8 := ha.2.2
    omega

theorem V_bf (q : Fin 16) : V m c main_v20 (ix2 q 0 : S16x1.Idx)
    = if h : q.val < 8 then abias m c (ix1 ⟨q.val, h⟩) else 0 := by
  have e : V m c main_v20 = shapeCast S16x1 (pad S16 ![0] ![8] ![0] (abias m c) fill pads_S8_S16_080 h_S_) shapeCasts_S16_S16x1 := by
    entry_read
    try rfl
  rw [e]
  refine Eq.trans (b := pad S16 ![0] ![8] ![0] (abias m c) fill pads_S8_S16_080 h_S_ (ix1 q)) ?_ ?_
  · generalize pad S16 ![0] ![8] ![0] (abias m c) fill pads_S8_S16_080 h_S_ = y
    pointwise
    try rfl
  by_cases h : q.val < 8
  · rw [dif_pos h]
    exact pad_apply_of_inside _ _ _ _ _ _ _ _ (ix1 ⟨q.val, h⟩ : S8.Idx) (fun a => match a with
      | ⟨0, _⟩ => (by show q.val = 0 + q.val * (0 + 1); omega))
  · rw [dif_neg h]
    refine (pad_apply_of_not_inside _ _ _ _ _ _ _ _ 0 (fun ha => h ?_)).trans (fill_apply _)
    have h3 : (q.val - 0) / (0 + 1) < 8 := ha.2.2
    omega

theorem V_stack : V m c main_v23_0 = astack m c := by
  entry_read
  try rfl

/-! ### The blocks of a grid point -/

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![3, t.val / 16, 0, t.val % 16, 0] :=
  (by decide +kernel : ∀ t : Fin grid0.N, _)
theorem index6 : ∀ t : Fin cfg0.N, win0_6.index t = ![0, t.val] := (by decide +kernel : ∀ t : Fin grid0.N, _)

/-- The sequence and the position of row `r` of the block of point `t`. -/
def seq (t : Fin cfg0.N) : Fin 2 := ⟨t.val / 16, by have : t.val < 32 := t.isLt.trans_eq N_0; omega⟩
def pos (t : Fin cfg0.N) (r : Fin 1024) : Fin 16384 := ⟨t.val % 16 * 1024 + r.val, by have := r.isLt; omega⟩

theorem block_h (t : Fin cfg0.N) (r : Fin 1024) (k : Fin 2048) : iblk m c 0 t (ix2 r k : S1024x2048.Idx)
    = normed (ax m c) (again m c) (Cert.Project.flat (seq t) (pos t r)) k := by
  refine Eq.trans ?_ (V_norm m c (Cert.Project.flat (seq t) (pos t r)) k)
  unfold iblk
  refine congrArg (V m c main_v14) (funext fun a => Fin.ext ?_)
  blk_simp [index0 t]
  match a with
  | ⟨0, _⟩ => show t.val * 1024 + r.val = t.val / 16 * 16384 + (t.val % 16 * 1024 + r.val); omega
  | ⟨1, _⟩ => show 0 * 2048 + k.val = k.val; omega

theorem block_w (t : Fin cfg0.N) (k : Fin 2048) (j : Fin 1024) : iblk m c 1 t (ix2 k j : S2048x1024.Idx)
    = aw m c (ix2 k (col j)) := by
  refine Eq.trans ?_ (V_w m c k j)
  unfold iblk
  refine congrArg (V m c main_v22) (funext fun a => Fin.ext ?_)
  blk_simp [index1 t]
  match a with
  | ⟨0, _⟩ => show 0 * 2048 + k.val = k.val; omega
  | ⟨1, _⟩ => show 0 * 1024 + j.val = j.val; omega

theorem block_wf (t : Fin cfg0.N) (q : Fin 16) (k : Fin 2048) : iblk m c 2 t (ix2 q k : S16x2048.Idx)
    = V m c main_v18 (ix2 q k : S16x2048.Idx) := by
  unfold iblk
  refine congrArg (V m c main_v18) (funext fun a => Fin.ext ?_)
  blk_simp [index2 t]
  match a with
  | ⟨0, _⟩ => show 0 * 16 + q.val = q.val; omega
  | ⟨1, _⟩ => show 0 * 2048 + k.val = k.val; omega

theorem block_bf (t : Fin cfg0.N) (q : Fin 16) : iblk m c 3 t (ix2 q 0 : S16x1.Idx) = V m c main_v20 (ix2 q 0 : S16x1.Idx) := by
  unfold iblk
  refine congrArg (V m c main_v20) (funext fun a => Fin.ext ?_)
  blk_simp [index3 t]
  match a with
  | ⟨0, _⟩ => show 0 * 16 + q.val = q.val; omega
  | ⟨1, _⟩ => rfl

/-! ### The arrays -/

/-- The values that the call computes. -/
def values (b : Fin 2) (s : Fin 8) (n : Fin 16384) (d : Fin 128) : EReal :=
  entry (ax m c) (again m c) (aw m c) (Cert.Project.flat b n) (col (Head.col s d))

theorem acc_block (t : Fin cfg0.N) (r j : Fin 1024) : k0_pay3 (F := Ideal) (iblk m c 0 t) (iblk m c 1 t) (ix2 r j)
    = entry (ax m c) (again m c) (aw m c) (Cert.Project.flat (seq t) (pos t r)) (col j) := by
  rw [acc_apply]
  exact Finset.sum_congr rfl fun k _ => congrArg₂ (fun u v : EReal => u * v) (block_h m c t r k) (block_w m c t k j)

theorem unit_block (t : Fin cfg0.N) (s : Fin 8) (r : Fin 1024) (d : Fin 128) :
    unit (k0_pay3 (F := Ideal) (iblk m c 0 t) (iblk m c 1 t)) s r d = values m c (seq t) s (pos t r) d :=
  acc_block m c t r (Head.col s d)

/-- The cache: the call writes its last layer. -/
theorem array_stack : (dats m 0 c).arrAt 4 cfg0.N = Head.stack (astack m c) (values m c) := by
  refine ((dats m 0 c).arrAt_eq_of_coversWhere 4 (fun i : S4x2x8x16384x128.Idx => values m c (i 1) (i 2) (i 3) (i 4))
    (P := fun i : S4x2x8x16384x128.Idx => (i 0).val = 3) (fun β => β (0 : Fin 5) = 3) (by decide +kernel) (fun t hf y => ?_)
    (fun j => ?_)).trans ?_
  · blk_simp
    rw [after0_4]
    obtain ⟨z, z', s, r, d, rfl⟩ := Head.split5 (p := 1) (q := 1) (r := 8) (s := 1024) (u := 128) y
    obtain rfl : z = 0 := Fin.ext (by have := z.isLt; show z.val = 0; omega)
    obtain rfl : z' = 0 := Fin.ext (by have := z'.isLt; show z'.val = 0; omega)
    refine (out3 m c t s r d).trans ((unit_block m c t s r d).trans ?_)
    refine congrArg (fun i : S4x2x8x16384x128.Idx => values m c (i 1) (i 2) (i 3) (i 4))
      (a₁ := (ix5 3 (seq t) s (pos t r) d : S4x2x8x16384x128.Idx)) ?_
    funext a
    refine Fin.ext ?_
    blk_simp [index4 t]
    match a with
    | ⟨0, _⟩ => rfl
    | ⟨1, _⟩ => show t.val / 16 = t.val / 16 * 1 + 0; omega
    | ⟨2, _⟩ => show s.val = 0 * 8 + s.val; omega
    | ⟨3, _⟩ => rfl
    | ⟨4, _⟩ => show d.val = 0 * 128 + d.val; omega
  · blk_simp [Pipeline.Window.cell_apply]
    try omega
  · funext i
    show (if (i 0).val = 3 then _ else V m c main_v23_0 i) = _
    rw [V_stack]
    rfl

/-- The log-forget gates: a row for each head, and eight rows of the gate of zero. -/
def gates : FVec Ideal S16x32768 .f32 := fun i =>
  gate (if h : (i 0).val < 8 then entry (ax m c) (again m c) (aw m c) (i 1) (gcol ⟨(i 0).val, h⟩) + abias m c (ix1 ⟨(i 0).val, h⟩) else 0)

/-- The row of row `r` of the block of point `t`. -/
def row (t : Fin cfg0.N) (r : Fin 1024) : Fin 32768 :=
  ⟨t.val * 1024 + r.val, by have : t.val < 32 := t.isLt.trans_eq N_0; have := r.isLt; omega⟩

theorem row_eq (t : Fin cfg0.N) (r : Fin 1024) : Cert.Project.flat (seq t) (pos t r) = row t r :=
  Fin.ext (by show t.val / 16 * 16384 + (t.val % 16 * 1024 + r.val) = t.val * 1024 + r.val; omega)

theorem gate_block (t : Fin cfg0.N) (q : Fin 16) (r : Fin 1024) : (outsAt0 m c t).2.2 (ix2 q r : S16x1024.Idx)
    = gates m c (ix2 q (row t r)) := by
  rw [out6]
  unfold gates
  refine congrArg gate ?_
  unfold arg dot
  rw [block_bf, V_bf]
  simp only [block_wf, block_h, row_eq]
  by_cases h : q.val < 8
  · refine Eq.trans ?_ (dif_pos h).symm
    rw [dif_pos h]
    refine congrArg (fun u : EReal => u + abias m c (ix1 ⟨q.val, h⟩)) (Finset.sum_congr rfl fun k _ => ?_)
    refine (congrArg (fun u : EReal => u * normed (ax m c) (again m c) (row t r) k) ((V_wf m c q k).trans (dif_pos h))).trans ?_
    exact mul_comm _ _
  · refine Eq.trans ?_ (dif_neg h).symm
    rw [dif_neg h, add_zero]
    refine Finset.sum_eq_zero fun k _ => ?_
    refine (congrArg (fun u : EReal => u * normed (ax m c) (again m c) (row t r) k) ((V_wf m c q k).trans (dif_neg h))).trans ?_
    exact zero_mul _

theorem array_gates : (dats m 0 c).arrAt 6 cfg0.N = gates m c := by
  refine (dats m 0 c).arrAt_eq_of_covers 6 _ (by decide +kernel) fun t hf y => ?_
  blk_simp
  rw [after0_6]
  obtain ⟨q, r, rfl⟩ := Cert.Mixer.split (a := 16) (b := 1024) y
  refine (gate_block m c t q r).trans (congrArg (gates m c) ?_)
  funext a
  refine Fin.ext ?_
  blk_simp [index6 t]
  match a with
  | ⟨0, _⟩ => show q.val = 0 * 16 + q.val; omega
  | ⟨1, _⟩ => rfl

/-! ### The reference -/

open Cert.Reference9Ideal.Read

variable (x : FVec Ideal S2x16384x2048 .f32) (g : FVec Ideal S2048 .f32) (w : FVec Ideal S2048x9224 .f32) (bias : FVec Ideal S8 .f32)

theorem ref_head (b : Fin 2) (s : Fin 8) (n : Fin 16384) (d : Fin 128) : val_main_v16 (F := Ideal) x g w (ix4 b s n d)
    = entry x g w (Cert.Project.flat b n) (col (Head.col s d)) := by
  have hb := b.isLt
  have hs := s.isLt
  have hn := n.isLt
  have hd := d.isLt
  have h : idx_main_v14 (idx_main_v15 (idx_main_v16 (ix4 b s n d))) = ix3 b n (col (Head.col s d)) := by
    refine Cert.Mixer.Ref.idx3 (Fin.ext ?_) (Fin.ext ?_) (Fin.ext ?_)
    · show (((b.val * 16384 + n.val) * 8 + s.val) * 128 + d.val) / 16777216 = b.val; omega
    · show (((b.val * 16384 + n.val) * 8 + s.val) * 128 + d.val) / 1024 % 16384 = n.val; omega
    · show 4096 + (((b.val * 16384 + n.val) * 8 + s.val) * 128 + d.val) % 1024 = 4096 + (s.val * 128 + d.val); omega
  rw [val_main_v16_apply, val_main_v15_apply, val_main_v14_apply, h]
  exact Cert.Project.ref_entry x g w b n _

theorem stack_result : (dats m 0 c).arrAt 4 cfg0.N
    = val_main_v25 (F := Ideal) (ax m c) (again m c) (aw m c) (astack m c) := by
  rw [array_stack]
  refine (Head.stack_apply _ _ _ (astack m c) (values m c) (fun l b s n d => ?_) (fun b s n d => ?_)).symm
  · rw [val_main_v23_apply]
    refine congrArg (astack m c) (funext fun a => Fin.ext ?_)
    match a with
    | ⟨0, _⟩ => rfl
    | ⟨1, _⟩ => rfl
    | ⟨2, _⟩ => rfl
    | ⟨3, _⟩ => rfl
    | ⟨4, _⟩ => rfl
  · rw [val_main_v24_apply]
    exact (congrArg _ (Head.idx4 (a := b) (b := s) (c := n) (d := d) rfl rfl rfl rfl)).trans (ref_head _ _ _ b s n d)

/-- The argument of a gate. -/
theorem ref_arg (q : Fin 8) (r : Fin 32768) : val_main_v22 (F := Ideal) x g w bias (ix2 q r)
    = entry x g w r (gcol q) + bias (ix1 q) := by
  have hr := r.isLt
  have hq := q.isLt
  have h : idx_main_v21 (idx_main_v22 (ix2 q r))
      = ix3 (⟨r.val / 16384, by omega⟩ : Fin 2) (⟨r.val % 16384, by omega⟩ : Fin 16384) q := by
    refine Cert.Mixer.Ref.idx3 (Fin.ext ?_) (Fin.ext ?_) (Fin.ext ?_)
    · show (q.val * 32768 + r.val) / 16384 % 2 = r.val / 16384; omega
    · show (q.val * 32768 + r.val) % 16384 = r.val % 16384; omega
    · show (q.val * 32768 + r.val) / 32768 = q.val; omega
  have hf : Cert.Project.flat (⟨r.val / 16384, by omega⟩ : Fin 2) (⟨r.val % 16384, by omega⟩ : Fin 16384) = r :=
    Fin.ext (by show r.val / 16384 * 16384 + r.val % 16384 = r.val; omega)
  rw [val_main_v22_apply, val_main_v21_apply, h, val_main_v20_apply, val_main_v17_apply, val_main_v19_apply, val_main_v18_apply]
  refine congrArg₂ (fun u v : EReal => u + v) ?_ (congrArg bias ?_)
  · refine (congrArg _ (Cert.Mixer.Ref.idx3 (b := (⟨r.val / 16384, by omega⟩ : Fin 2)) (n := (⟨r.val % 16384, by omega⟩ : Fin 16384))
      (k := gcol q) rfl rfl rfl)).trans ((Cert.Project.ref_entry x g w _ _ _).trans (by rw [hf]))
  · exact funext fun a => match a with | ⟨0, _⟩ => rfl

theorem ref_pad (q : Fin 16) (r : Fin 32768) : val_main_v26 (F := Ideal) x g w bias (ix2 q r)
    = if h : q.val < 8 then entry x g w r (gcol ⟨q.val, h⟩) + bias (ix1 ⟨q.val, h⟩) else 0 := by
  unfold val_main_v26
  by_cases h : q.val < 8
  · rw [dif_pos h, ← ref_arg]
    generalize val_main_v22 (F := Ideal) x g w bias = y
    exact pad_apply_of_inside _ _ _ _ _ _ _ _ (ix2 ⟨q.val, h⟩ r : Cert.Reference9Ideal.S8x32768.Idx) (fun a => match a with
      | ⟨0, _⟩ => (by show q.val = 0 + q.val * (0 + 1); omega)
      | ⟨1, _⟩ => (by show r.val = 0 + r.val * (0 + 1); omega))
  · rw [dif_neg h]
    refine (pad_apply_of_not_inside _ _ _ _ _ _ _ _ 0 (fun ha => h ?_)).trans (fill_apply _)
    have h3 : (q.val - 0) / (0 + 1) < 8 := ha.2.2
    omega

/-- The reference's gate of an entry: a real number is itself, so the sum is the one that is read. -/
theorem ref_gate (z : EReal) : FloatOps.hostNegf (F := Ideal) (φ := .f32) (Scalar.select (FloatOps.cmpf (F := Ideal) (φ := .f32) .une
      (FloatOps.subf (F := Ideal) (φ := .f32) (FloatOps.hostNegf (F := Ideal) (φ := .f32) z) (FloatOps.ofBits (F := Ideal) .f32 0x00000000#32))
      (FloatOps.subf (F := Ideal) (φ := .f32) (FloatOps.hostNegf (F := Ideal) (φ := .f32) z) (FloatOps.ofBits (F := Ideal) .f32 0x00000000#32)))
      (FloatOps.addf (F := Ideal) (φ := .f32) (FloatOps.hostNegf (F := Ideal) (φ := .f32) z) (FloatOps.ofBits (F := Ideal) .f32 0x00000000#32))
      (FloatOps.addf (F := Ideal) (φ := .f32)
        (FloatOps.maximumf (F := Ideal) (φ := .f32) (FloatOps.hostNegf (F := Ideal) (φ := .f32) z) (FloatOps.ofBits (F := Ideal) .f32 0x00000000#32))
        (FloatOps.hostUnary (F := Ideal) (φ := .f32) .log1p (FloatOps.hostUnary (F := Ideal) (φ := .f32) .exp (FloatOps.hostNegf (F := Ideal) (φ := .f32)
          (FloatOps.hostAbsf (F := Ideal) (φ := .f32) (FloatOps.subf (F := Ideal) (φ := .f32) (FloatOps.hostNegf (F := Ideal) (φ := .f32) z)
            (FloatOps.ofBits (F := Ideal) .f32 0x00000000#32)))))))) = gate z := by
  have h0 : (FloatOps.ofBits (F := Ideal) .f32 0x00000000#32 : EReal) = 0 := Cert.Mixer.Ref.zero_word
  have hs : (FloatOps.subf (F := Ideal) (φ := .f32) (FloatOps.hostNegf (F := Ideal) (φ := .f32) z)
      (FloatOps.ofBits (F := Ideal) .f32 0x00000000#32) : EReal) = -z := by
    rw [h0]
    exact sub_zero _
  have hc : FloatOps.cmpf (F := Ideal) (φ := .f32) .une (-z : EReal) (-z : EReal) = 0#1 := by
    show BitVec.ofBool (decide ((-z : EReal) ≠ -z)) = 0#1
    rw [decide_eq_false (fun h => h rfl)]
    rfl
  rw [hs, hc, h0]
  rfl

theorem gates_result : (dats m 0 c).arrAt 6 cfg0.N = val_main_v27 (F := Ideal) (ax m c) (again m c) (aw m c) (abias m c) := by
  rw [array_gates]
  funext i
  obtain ⟨q, r, rfl⟩ := Cert.Mixer.split (a := 16) (b := 32768) i
  refine Eq.symm ?_
  rw [val_main_v27_apply, val_main_call1_v1_apply, val_main_call1_call0_v4_apply, val_main_call1_call0_v6_apply,
    val_main_call1_call0_v11_apply, val_main_call1_call0_v1_apply, val_main_call1_call0_v10_apply, val_main_call1_call0_v9_apply,
    val_main_call1_call0_v8_apply, val_main_call1_call0_v7_apply, val_main_call1_call0_v3_apply, val_main_call1_call0_v0_apply,
    val_main_call1_call0_v2_apply, val_main_call1_call0_v5_apply, val_main_call1_v0_apply, ref_pad]
  simp only [val_main_call1_call0_cst_apply]
  exact ref_gate _

end Cert.Values

end
-- ==== Proof.Sample.lean ====
/-
  The rows of the sample, their norm and an entry of the input projection.
-/
module

public import proofs.«01_k».proof.Proof.MixerReference
public import proofs.«01_k».proof.Proof.Gen.Reference10Ideal.Read
@[expose] public section

set_option maxRecDepth 65536

noncomputable section

namespace Cert.Sample

open Idealize.ShloMosaic Idealize.ShloMosaic.TcCoe
open Cert.Reference10Ideal Cert.Reference10Ideal.Gen Cert.Reference10Ideal.Read
open Cert.Mixer.Ref (zero_word)

/-- Row `r` of the residual stream, or of another array of rows, the rows of the sequences one after the other. -/
def xrow {d : ℕ} (x : FVec Ideal ⟨3, ![32, 16, d]⟩ .f32) (r : Fin 512) (k : Fin d) : EReal :=
  x (ix3 ⟨r.val / 16, by have := r.isLt; omega⟩ ⟨r.val % 16, by omega⟩ k)

theorem flat_apply {d : ℕ} (x : FVec Ideal ⟨3, ![32, 16, d]⟩ .f32)
    (h : (⟨3, ![32, 16, d]⟩ : Shape).ShapeCasts ⟨2, ![512, d]⟩) (r : Fin 512) (k : Fin d) :
    shapeCast ⟨2, ![512, d]⟩ x h (ix2 r k) = xrow x r k :=
  shapeCast_apply x h (ix2 r k) (ix3 ⟨r.val / 16, by have := r.isLt; omega⟩ ⟨r.val % 16, by omega⟩ k) (by
    rewrite [Shape.rowMajor_val_three, Shape.rowMajor_val_two]
    show (r.val / 16 * 16 + r.val % 16) * d + k.val = r.val * d + k.val
    rw [Nat.div_add_mod'])

theorem idx3 {d : ℕ} {i : (⟨3, ![32, 16, d]⟩ : Shape).Idx} {b : Fin 32} {n : Fin 16} {k : Fin d} (h0 : i 0 = b) (h1 : i 1 = n)
    (h2 : i 2 = k) : i = ix3 b n k := by
  subst h0 h1 h2
  exact funext fun a => match a with | ⟨0, _⟩ => rfl | ⟨1, _⟩ => rfl | ⟨2, _⟩ => rfl

variable (x : FVec Ideal S32x16x2048 .f32) (g : FVec Ideal S2048 .f32)

/-- The normalised rows. -/
theorem norm_apply (b : Fin 32) (n : Fin 16) (k : Fin 2048) : val_main_v12 (F := Ideal) x g (ix3 b n k)
    = Row.rms 0x45000000#32 (fun k => x (ix3 b n k)) (fun k => g (ix1 k)) k := by
  have e1 : ∀ q : Fin 2048, idx_main_v1 (idx_main_v2 (idx_main_v8 (ix3 b n k))) q = ix3 b n q := fun q => idx3 rfl rfl rfl
  have e2 : idx_main_v10 (idx_main_v11 (ix3 b n k)) = ix1 k := funext fun a => match a with | ⟨0, _⟩ => rfl
  rw [val_main_v12_apply, val_main_v9_apply, val_main_v8_apply, val_main_v7_apply, val_main_v6_apply, val_main_v4_apply,
    val_main_v2_apply, val_main_v1_apply, val_main_v3_apply, val_main_v5_apply, val_main_v11_apply, val_main_v10_apply,
    val_main_cst_apply, val_main_cst_0_apply, val_main_cst_1_apply, e2]
  simp only [val_main_v0_apply, e1]
  unfold Row.rms Row.inv
  rw [zero_word, zero_add]
  rfl

theorem flat_idx (r : Fin 512) (j : Fin 2048) : idx_main_v25 (ix2 r j)
    = ix3 ⟨r.val / 16, by have := r.isLt; omega⟩ ⟨r.val % 16, by omega⟩ j := by
  have := r.isLt
  have := j.isLt
  refine idx3 (Fin.ext ?_) (Fin.ext ?_) (Fin.ext ?_)
  · show (r.val * 2048 + j.val) / 32768 = r.val / 16; omega
  · show (r.val * 2048 + j.val) / 2048 % 16 = r.val % 16; omega
  · show (r.val * 2048 + j.val) % 2048 = j.val; omega

/-- Row `r` of the residual stream, normalised. -/
def normed (x : FVec Ideal ⟨3, ![32, 16, 2048]⟩ .f32) (g : FVec Ideal ⟨1, ![2048]⟩ .f32) (r : Fin 512) (k : Fin 2048) : EReal :=
  Row.rms 0x45000000#32 (xrow x r) (fun k => g (ix1 k)) k

/-- Entry `(r, q)` of the input projection, from the residual stream, the gain of the norm and the weight. -/
def entry (x : FVec Ideal ⟨3, ![32, 16, 2048]⟩ .f32) (g : FVec Ideal ⟨1, ![2048]⟩ .f32) (w : FVec Ideal ⟨2, ![2048, 9224]⟩ .f32)
    (r : Fin 512) (q : Fin 9224) : EReal :=
  ∑ k, normed x g r k * w (ix2 k q)

/-- The row of position `n` of sequence `b`. -/
def flat (b : Fin 32) (n : Fin 16) : Fin 512 := ⟨b.val * 16 + n.val, by have := b.isLt; have := n.isLt; omega⟩

theorem xrow_flat {d : ℕ} (x : FVec Ideal ⟨3, ![32, 16, d]⟩ .f32) (b : Fin 32) (n : Fin 16) :
    xrow x (flat b n) = fun k => x (ix3 b n k) := by
  have hb : (flat b n).val / 16 = b.val := by
    have := b.isLt; have := n.isLt; show (b.val * 16 + n.val) / 16 = b.val; omega
  have hn : (flat b n).val % 16 = n.val := by
    have := b.isLt; have := n.isLt; show (b.val * 16 + n.val) % 16 = n.val; omega
  funext k
  unfold xrow
  refine congrArg x (funext fun a => Fin.ext ?_)
  match a with
  | ⟨0, _⟩ => exact hb
  | ⟨1, _⟩ => exact hn
  | ⟨2, _⟩ => rfl

end Cert.Sample

end
-- ==== Proof.EmbedSample.lean ====
/-
  The arrays that the per-layer embedding's call for the sample leaves, from its arguments.
-/
module

public import proofs.«01_k».proof.Proof.Sample
public import proofs.«01_k».proof.Proof.Gen.Kernel10Ideal.Value
@[expose] public section

set_option maxRecDepth 65536

noncomputable section

namespace Cert.EmbedSample

open Idealize.ShloMosaic Idealize.ShloMosaic.TcCoe
open Cert.Kernel10Ideal Cert.Kernel10Ideal.Gen
open Cert.Sample (xrow)

/-! ### One grid point -/

theorem pay1_apply (h : Vec Ideal S512x2048 .bf16) (w : Vec Ideal S2048x2048 .bf16) (x : Vec Ideal S512x2048 .f32)
    (p : Vec Ideal S1x512x256 .f32) (e : Vec Ideal S256x2048 .bf16) (r : Fin 512) (j : Fin 2048) :
    k0_pay1 (F := Ideal) h w x p e (ix2 r j)
      = Row.embed (fun k => x (ix2 r k)) (fun k => h (ix2 r k)) (fun k l => w (ix2 k l)) (fun q => p (ix3 0 r q))
        (fun q l => e (ix2 q l)) j := by
  unfold k0_pay1 Row.embed
  pointwise
  try rfl

theorem pay2_apply (h : Vec Ideal S512x2048 .bf16) (w : Vec Ideal S2048x2048 .bf16) (x : Vec Ideal S512x2048 .f32)
    (p : Vec Ideal S1x512x256 .f32) (e : Vec Ideal S256x2048 .bf16) (g : Vec Ideal S1x2048 .f32) (r : Fin 512) (j : Fin 2048) :
    k0_pay2 (F := Ideal) h w x p e g (ix2 r j)
      = Row.rms 0x45000000#32 (fun k => k0_pay1 (F := Ideal) h w x p e (ix2 r k)) (fun k => g (ix2 0 k)) j := by
  unfold k0_pay2
  generalize k0_pay1 (F := Ideal) h w x p e = v
  unfold Row.rms Row.inv
  pointwise
  try rfl

/-! ### What the call reads -/

/-- Row `r` of the embedding of layer `l`, the rows of the sequences one after the other. -/
def prow (p : FVec Ideal ⟨4, ![4, 32, 16, 256]⟩ .f32) (l : Fin 4) (r : Fin 512) (q : Fin 256) : EReal :=
  p (ix4 l ⟨r.val / 16, by have := r.isLt; omega⟩ ⟨r.val % 16, by omega⟩ q)

/-- Entry `(r, j)` of the stream after the embedding of the last layer. -/
def embedded (x : FVec Ideal ⟨3, ![32, 16, 2048]⟩ .f32) (p : FVec Ideal ⟨4, ![4, 32, 16, 256]⟩ .f32) (g : FVec Ideal ⟨1, ![2048]⟩ .f32)
    (w : FVec Ideal ⟨2, ![2048, 2048]⟩ .f32) (e : FVec Ideal ⟨2, ![256, 2048]⟩ .f32) (r : Fin 512) (j : Fin 2048) : EReal :=
  Row.embed (xrow x r) (Row.rms 0x45000000#32 (xrow x r) fun k => g (ix1 k)) (fun k l => w (ix2 k l)) (prow p 3 r)
    (fun q l => e (ix2 q l)) j

variable (m : (ℓ : Loc nD τ sig) → Buf (Elt Ideal) ℓ) (c : Dev nD)

/-- The arguments. -/
abbrev ax : FVec Ideal S32x16x2048 .f32 := m ((c : Thread nD τ).loc main_arg0)
abbrev ap : FVec Ideal S4x32x16x256 .f32 := m ((c : Thread nD τ).loc main_arg1)
abbrev again : FVec Ideal S2048 .f32 := m ((c : Thread nD τ).loc main_arg2)
abbrev anext : FVec Ideal S2048 .f32 := m ((c : Thread nD τ).loc main_arg3)
abbrev agate : FVec Ideal S2048x2048 .f32 := m ((c : Thread nD τ).loc main_arg4)
abbrev aemb : FVec Ideal S256x2048 .f32 := m ((c : Thread nD τ).loc main_arg5)

theorem V_x (r : Fin 512) (k : Fin 2048) : V m c main_v0 (ix2 r k : S512x2048.Idx) = xrow (ax m c) r k := by
  have e : V m c main_v0 = shapeCast S512x2048 (ax m c) shapeCasts_S32x16x2048_S512x2048 := by
    entry_read
    try rfl
  rw [e]
  exact Cert.Sample.flat_apply _ _ r k

theorem V_norm (r : Fin 512) (k : Fin 2048) : V m c main_v14 (ix2 r k : S512x2048.Idx)
    = Row.rms 0x45000000#32 (xrow (ax m c) r) (fun k => again m c (ix1 k)) k := by
  have hx := Cert.Sample.flat_apply (ax m c) shapeCasts_S32x16x2048_S512x2048 r
  entry_read
  unfold Row.rms Row.inv
  simp only [← hx]
  generalize shapeCast S512x2048 (ax m c) shapeCasts_S32x16x2048_S512x2048 = y
  pointwise
  try rfl

theorem V_p (l : Fin 4) (r : Fin 512) (q : Fin 256) : V m c main_v15 (ix3 l r q : S4x512x256.Idx) = prow (ap m c) l r q := by
  have e : V m c main_v15 = shapeCast S4x512x256 (ap m c) shapeCasts_S4x32x16x256_S4x512x256 := by
    entry_read
    try rfl
  rw [e]
  refine shapeCast_apply (ap m c) _ (ix3 l r q) (ix4 l ⟨r.val / 16, by have := r.isLt; omega⟩ ⟨r.val % 16, by omega⟩ q) ?_
  rewrite [Shape.rowMajor_val_four, Shape.rowMajor_val_three]
  show ((l.val * 32 + r.val / 16) * 16 + r.val % 16) * 256 + q.val = (l.val * 512 + r.val) * 256 + q.val
  omega

theorem V_gate (k l : Fin 2048) : V m c main_v16 (ix2 k l : S2048x2048.Idx) = agate m c (ix2 k l) := by
  have e : V m c main_v16 = truncf .bf16 (agate m c) bitsLt_bf16_f32 := by
    entry_read
    try rfl
  rw [e]
  rfl

theorem V_emb (q : Fin 256) (l : Fin 2048) : V m c main_v17 (ix2 q l : S256x2048.Idx) = aemb m c (ix2 q l) := by
  have e : V m c main_v17 = truncf .bf16 (aemb m c) bitsLt_bf16_f32 := by
    entry_read
    try rfl
  rw [e]
  rfl

theorem V_next (k : Fin 2048) : V m c main_v18 (ix2 0 k : S1x2048.Idx) = anext m c (ix1 k) := by
  have e : V m c main_v18 = shapeCast S1x2048 (anext m c) shapeCasts_S2048_S1x2048 := by
    entry_read
    try rfl
  rw [e]
  pointwise

/-! ### The blocks of a grid point -/

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![3, 0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)

/-- The array row of row `r` of the blocks of the one point. -/
def row (t : Fin cfg0.N) (r : Fin 512) : Fin 512 := r

theorem block_h (t : Fin cfg0.N) (r : Fin 512) (k : Fin 2048) : iblk m c 0 t (ix2 r k : S512x2048.Idx)
    = Row.rms 0x45000000#32 (xrow (ax m c) (row t r)) (fun k => again m c (ix1 k)) k := by
  refine Eq.trans ?_ (V_norm m c (row t r) k)
  unfold iblk
  refine congrArg (V m c main_v14) (funext fun a => Fin.ext ?_)
  blk_simp [index0 t]
  match a with
  | ⟨0, _⟩ => show 0 * 512 + r.val = r.val; omega
  | ⟨1, _⟩ => show 0 * 2048 + k.val = k.val; omega

theorem block_x (t : Fin cfg0.N) (r : Fin 512) (k : Fin 2048) :
    iblk m c 1 t (ix2 r k : S512x2048.Idx) = xrow (ax m c) (row t r) k := by
  refine Eq.trans ?_ (V_x m c (row t r) k)
  unfold iblk
  refine congrArg (V m c main_v0) (funext fun a => Fin.ext ?_)
  blk_simp [index1 t]
  match a with
  | ⟨0, _⟩ => show 0 * 512 + r.val = r.val; omega
  | ⟨1, _⟩ => show 0 * 2048 + k.val = k.val; omega

theorem block_p (t : Fin cfg0.N) (r : Fin 512) (q : Fin 256) :
    iblk m c 2 t (ix3 0 r q : S1x512x256.Idx) = prow (ap m c) 3 (row t r) q := by
  refine Eq.trans ?_ (V_p m c 3 (row t r) q)
  unfold iblk
  refine congrArg (V m c main_v15) (funext fun a => Fin.ext ?_)
  blk_simp [index2 t]
  match a with
  | ⟨0, _⟩ => rfl
  | ⟨1, _⟩ => show 0 * 512 + r.val = r.val; omega
  | ⟨2, _⟩ => show 0 * 256 + q.val = q.val; omega

theorem block_gate (t : Fin cfg0.N) (k l : Fin 2048) : iblk m c 3 t (ix2 k l : S2048x2048.Idx) = agate m c (ix2 k l) := by
  refine Eq.trans ?_ (V_gate m c k l)
  unfold iblk
  refine congrArg (V m c main_v16) (funext fun a => Fin.ext ?_)
  blk_simp [index3 t]
  match a with
  | ⟨0, _⟩ => show 0 * 2048 + k.val = k.val; omega
  | ⟨1, _⟩ => show 0 * 2048 + l.val = l.val; omega

theorem block_emb (t : Fin cfg0.N) (q : Fin 256) (l : Fin 2048) : iblk m c 4 t (ix2 q l : S256x2048.Idx) = aemb m c (ix2 q l) := by
  refine Eq.trans ?_ (V_emb m c q l)
  unfold iblk
  refine congrArg (V m c main_v17) (funext fun a => Fin.ext ?_)
  blk_simp [index4 t]
  match a with
  | ⟨0, _⟩ => show 0 * 256 + q.val = q.val; omega
  | ⟨1, _⟩ => show 0 * 2048 + l.val = l.val; omega

theorem block_next (t : Fin cfg0.N) (k : Fin 2048) : iblk m c 5 t (ix2 0 k : S1x2048.Idx) = anext m c (ix1 k) := by
  refine Eq.trans ?_ (V_next m c k)
  unfold iblk
  refine congrArg (V m c main_v18) (funext fun a => Fin.ext ?_)
  blk_simp [index5 t]
  match a with
  | ⟨0, _⟩ => rfl
  | ⟨1, _⟩ => show 0 * 2048 + k.val = k.val; omega

/-! ### The two arrays -/

/-- A grid point leaves the embedded rows of its block. -/
theorem point (t : Fin cfg0.N) (r : Fin 512) (j : Fin 2048) :
    k0_pay1 (F := Ideal) (iblk m c 0 t) (iblk m c 3 t) (iblk m c 1 t) (iblk m c 2 t) (iblk m c 4 t) (ix2 r j)
      = embedded (ax m c) (ap m c) (again m c) (agate m c) (aemb m c) (row t r) j := by
  rw [pay1_apply]
  unfold embedded
  have h0 : (fun k : Fin 2048 => (iblk m c 1 t (ix2 r k : S512x2048.Idx) : EReal)) = xrow (ax m c) (row t r) :=
    funext fun k => block_x m c t r k
  have h1 : (fun k : Fin 2048 => (iblk m c 0 t (ix2 r k : S512x2048.Idx) : EReal))
      = Row.rms 0x45000000#32 (xrow (ax m c) (row t r)) (fun k => again m c (ix1 k)) := funext fun k => block_h m c t r k
  have h2 : (fun q : Fin 256 => (iblk m c 2 t (ix3 0 r q : S1x512x256.Idx) : EReal)) = prow (ap m c) 3 (row t r) :=
    funext fun q => block_p m c t r q
  have h3 : (fun k l : Fin 2048 => (iblk m c 3 t (ix2 k l : S2048x2048.Idx) : EReal)) = fun k l => agate m c (ix2 k l) :=
    funext fun k => funext fun l => block_gate m c t k l
  have h4 : (fun (q : Fin 256) (l : Fin 2048) => (iblk m c 4 t (ix2 q l : S256x2048.Idx) : EReal)) = fun q l => aemb m c (ix2 q l) :=
    funext fun q => funext fun l => block_emb m c t q l
  rw [h0, h1, h2, h3, h4]

/-- What the call leaves: the stream after the embedding, -/
def outSum : FVec Ideal S512x2048 .f32 := fun i =>
  embedded (ax m c) (ap m c) (again m c) (agate m c) (aemb m c) (i 0) (i 1)

/-- and its rows normalised. -/
def outNorm : FVec Ideal S512x2048 .bf16 := fun i =>
  Row.rms 0x45000000#32 (embedded (ax m c) (ap m c) (again m c) (agate m c) (aemb m c) (i 0)) (fun k => anext m c (ix1 k)) (i 1)

theorem array_sum : (dats m 0 c).arrAt 6 cfg0.N = outSum m c := by
  refine (dats m 0 c).arrAt_eq_of_covers 6 _ (by decide +kernel) fun t hf y => ?_
  blk_simp
  rw [after0_6]
  frame_out
  obtain ⟨r, j, rfl⟩ := Cert.Mixer.split y
  refine (point m c t r j).trans ?_
  refine congrArg (outSum m c) (?_ : (ix2 (row t r) j : S512x2048.Idx) = _)
  funext a
  refine Fin.ext ?_
  blk_simp [index6 t]
  match a with
  | ⟨0, _⟩ => show r.val = 0 * 512 + r.val; omega
  | ⟨1, _⟩ => show j.val = 0 * 2048 + j.val; omega

theorem array_norm : (dats m 0 c).arrAt 7 cfg0.N = outNorm m c := by
  refine (dats m 0 c).arrAt_eq_of_covers 7 _ (by decide +kernel) fun t hf y => ?_
  blk_simp
  rw [after0_7]
  frame_out
  obtain ⟨r, j, rfl⟩ := Cert.Mixer.split y
  refine (pay2_apply _ _ _ _ _ _ r j).trans ?_
  refine Eq.trans ?_ (congrArg (outNorm m c) (?_ : (ix2 (row t r) j : S512x2048.Idx) = _))
  · exact congrArg₂ (fun f g => Row.rms 0x45000000#32 f g j) (funext fun k => point m c t r k)
      (funext fun k => block_next m c t k)
  · funext a
    refine Fin.ext ?_
    blk_simp [index7 t]
    match a with
    | ⟨0, _⟩ => show r.val = 0 * 512 + r.val; omega
    | ⟨1, _⟩ => show j.val = 0 * 2048 + j.val; omega

end Cert.EmbedSample

end
-- ==== Proof.EmbedSampleReference.lean ====
/-
  The reference of the per-layer embedding of the sample, entry by entry.
-/
module

public import proofs.«01_k».proof.Proof.EmbedSample
public import proofs.«01_k».proof.Proof.Gen.Reference10Ideal.Read
@[expose] public section

set_option maxRecDepth 65536

noncomputable section

namespace Cert.EmbedSample.Ref

open Idealize.ShloMosaic Idealize.ShloMosaic.TcCoe
open Cert.Reference10Ideal Cert.Reference10Ideal.Gen Cert.Reference10Ideal.Read
open Cert.Sample (idx3)

variable (x : FVec Ideal S32x16x2048 .f32) (p : FVec Ideal S4x32x16x256 .f32) (g gn : FVec Ideal S2048 .f32)
  (w : FVec Ideal S2048x2048 .f32) (e : FVec Ideal S256x2048 .f32)

/-- The normalised rows: -/
theorem norm_apply (b : Fin 32) (n : Fin 16) (k : Fin 2048) : val_main_v12 (F := Ideal) x g (ix3 b n k)
    = Row.rms 0x45000000#32 (fun k => x (ix3 b n k)) (fun k => g (ix1 k)) k :=
  Cert.Sample.norm_apply x g b n k

/-- The gate. -/
theorem gate_apply (b : Fin 32) (n : Fin 16) (j : Fin 2048) : val_main_v19 (F := Ideal) x g w (ix3 b n j)
    = Ideal.logistic (∑ k, Row.rms 0x45000000#32 (fun k => x (ix3 b n k)) (fun k => g (ix1 k)) k * w (ix2 k j)) := by
  have hd : val_main_v13 (F := Ideal) x g w (ix3 b n j)
      = ∑ k, Row.rms 0x45000000#32 (fun k => x (ix3 b n k)) (fun k => g (ix1 k)) k * w (ix2 k j) := by
    rw [val_main_v13_apply]
    refine Finset.sum_congr rfl fun k _ => ?_
    rw [← norm_apply]
    refine congrArg₂ (fun a b : EReal => a * b) (congrArg _ (idx3 rfl rfl rfl)) (congrArg w ?_)
    exact funext fun a => match a with | ⟨0, _⟩ => rfl | ⟨1, _⟩ => rfl
  have h16 : val_main_v16 (F := Ideal) (ix3 b n j) = (1 : EReal) := (val_main_v16_apply _).trans Ideal.ofBits_one_f32
  have h18 : val_main_v18 (F := Ideal) (ix3 b n j) = (1 : EReal) := (val_main_v18_apply _).trans Ideal.ofBits_one_f32
  rw [val_main_v19_apply, val_main_v17_apply, val_main_v15_apply, val_main_v14_apply, h16, h18, hd]
  rfl

/-- The embedding of a row. -/
theorem emb_apply (b : Fin 32) (n : Fin 16) (j : Fin 2048) : val_main_v22 (F := Ideal) p e (ix3 b n j)
    = ∑ q : Fin 256, p (ix4 3 b n q) * e (ix2 q j) := by
  rw [val_main_v22_apply]
  refine Finset.sum_congr rfl fun q _ => ?_
  refine congrArg₂ (fun a b : EReal => a * b) ?_ (congrArg e ?_)
  · rw [val_main_v21_apply, val_main_v20_apply]
    refine congrArg p (funext fun a => Fin.ext ?_)
    have := b.isLt
    have := n.isLt
    have := q.isLt
    match a with
    | ⟨0, _⟩ => rfl
    | ⟨1, _⟩ => show ((b.val * 16 + n.val) * 256 + q.val) / 4096 % 32 = b.val; omega
    | ⟨2, _⟩ => show ((b.val * 16 + n.val) * 256 + q.val) / 256 % 16 = n.val; omega
    | ⟨3, _⟩ => show ((b.val * 16 + n.val) * 256 + q.val) % 256 = q.val; omega
  · exact funext fun a => match a with | ⟨0, _⟩ => rfl | ⟨1, _⟩ => rfl

/-- The stream after the embedding. -/
theorem sum_apply (b : Fin 32) (n : Fin 16) (j : Fin 2048) : val_main_v24 (F := Ideal) x p g w e (ix3 b n j)
    = Row.embed (fun k => x (ix3 b n k)) (Row.rms 0x45000000#32 (fun k => x (ix3 b n k)) fun k => g (ix1 k))
      (fun k l => w (ix2 k l)) (fun q => p (ix4 3 b n q)) (fun q l => e (ix2 q l)) j := by
  rw [val_main_v24_apply, val_main_v23_apply, gate_apply, emb_apply]
  rfl

/-- Its normalised rows. -/
theorem next_apply (b : Fin 32) (n : Fin 16) (j : Fin 2048) : val_main_v38 (F := Ideal) x p g gn w e (ix3 b n j)
    = Row.rms 0x45000000#32 (fun k => val_main_v24 (F := Ideal) x p g w e (ix3 b n k)) (fun k => gn (ix1 k)) j :=
  Cert.Sample.norm_apply (val_main_v24 (F := Ideal) x p g w e) gn b n j

/-- The two results, at row `r` of the flattened stream. -/
theorem result_sum (r : Fin 512) (j : Fin 2048) : val_main_v25 (F := Ideal) x p g w e (ix2 r j) = embedded x p g w e r j := by
  have h : idx_main_v25 (ix2 r j) = ix3 ⟨r.val / 16, by have := r.isLt; omega⟩ ⟨r.val % 16, by omega⟩ j :=
    Cert.Sample.flat_idx r j
  rw [val_main_v25_apply, h, sum_apply]
  rfl

theorem result_norm (r : Fin 512) (j : Fin 2048) : val_main_v40 (F := Ideal) x p g gn w e (ix2 r j)
    = Row.rms 0x45000000#32 (embedded x p g w e r) (fun k => gn (ix1 k)) j := by
  have h : idx_main_v39 (ix2 r j) = ix3 ⟨r.val / 16, by have := r.isLt; omega⟩ ⟨r.val % 16, by omega⟩ j :=
    Cert.Sample.flat_idx r j
  rw [val_main_v40_apply, val_main_v39_apply, h, next_apply]
  simp only [sum_apply]
  rfl

/-! ### The arrays of the call are the reference's results -/

theorem array_sum (m : (ℓ : Loc Cert.Kernel10Ideal.nD Cert.Kernel10Ideal.τ Cert.Kernel10Ideal.sig) → Buf (Elt Ideal) ℓ)
    (c : Dev Cert.Kernel10Ideal.nD) : (Cert.Kernel10Ideal.Gen.dats m 0 c).arrAt 6 Cert.Kernel10Ideal.cfg0.N
      = val_main_v25 (F := Ideal) (ax m c) (ap m c) (again m c) (agate m c) (aemb m c) := by
  rw [Cert.EmbedSample.array_sum]
  funext i
  obtain ⟨r, j, rfl⟩ := Cert.Mixer.split i
  exact (result_sum _ _ _ _ _ r j).symm

theorem array_norm (m : (ℓ : Loc Cert.Kernel10Ideal.nD Cert.Kernel10Ideal.τ Cert.Kernel10Ideal.sig) → Buf (Elt Ideal) ℓ)
    (c : Dev Cert.Kernel10Ideal.nD) : (Cert.Kernel10Ideal.Gen.dats m 0 c).arrAt 7 Cert.Kernel10Ideal.cfg0.N
      = val_main_v40 (F := Ideal) (ax m c) (ap m c) (again m c) (anext m c) (agate m c) (aemb m c) := by
  rw [Cert.EmbedSample.array_norm]
  funext i
  obtain ⟨r, j, rfl⟩ := Cert.Mixer.split i
  exact (result_norm _ _ _ _ _ _ r j).symm

end Cert.EmbedSample.Ref

end
-- ==== Proof.KeysSampleBody.lean ====
/-
  What the one grid point of the projection to the keys of the sample leaves.
-/
module

public import proofs.«01_k».proof.Proof.Head
public import proofs.«01_k».proof.Proof.Sample
public import proofs.«01_k».proof.Proof.Gen.Kernel11Ideal.Value
@[expose] public section

set_option maxRecDepth 65536

noncomputable section

namespace Cert.KeysSample

open Idealize.ShloMosaic Idealize.ShloMosaic.TcCoe
open Cert.Kernel11Ideal Cert.Kernel11Ideal.Gen
open Cert.Sample (xrow normed entry flat)

/-! ### One grid point -/

theorem acc_apply (h : Vec Ideal S512x2048 .bf16) (w : Vec Ideal S2048x1024 .bf16) (r : Fin 512) (j : Fin 1024) :
    k0_pay2 (F := Ideal) h w (ix2 r j) = ∑ k : Fin 2048, h (ix2 r k) * w (ix2 k j) := by
  unfold k0_pay2
  pointwise
  try rfl

variable (m : (ℓ : Loc nD τ sig) → Buf (Elt Ideal) ℓ) (c : Dev nD)

/-- Entry `(r, d)` of head `s`, from the product `a` of the rows with the weight. -/
def unit (a : Vec Ideal S512x1024 .f32) (g : Vec Ideal S1x128 .f32) (s : Fin 8) (r : Fin 512) (d : Fin 128) : EReal :=
  Head.normed (fun j => a (ix2 r j)) (fun k => g (ix2 0 k)) s d

section Heads

variable (a : Vec Ideal S512x1024 .f32) (g : Vec Ideal S1x128 .f32) (r : Fin 512) (d : Fin 128)

theorem head0 (h : Vec Ideal S512x2048 .bf16) (w : Vec Ideal S2048x1024 .bf16) :
    k0_pay3 (F := Ideal) h w g (ix2 r d) = unit (k0_pay2 (F := Ideal) h w) g 0 r d := by
  have hc : ∀ k : Fin 128, Head.col 0 k = ⟨k.val, by have := k.isLt; omega⟩ := fun k => Fin.ext (by show 0 * 128 + k.val = k.val; omega)
  unfold k0_pay3
  generalize k0_pay2 (F := Ideal) h w = a
  unfold unit Head.normed Row.rms Row.inv
  simp only [hc]
  pointwise
  try rfl

theorem head1 : k0_pay68 (F := Ideal) a g (ix2 r d) = unit a g 1 r d := by
  unfold k0_pay68 unit Head.normed Row.rms Row.inv
  pointwise
  try rfl

theorem head2 : k0_pay133 (F := Ideal) a g (ix2 r d) = unit a g 2 r d := by
  unfold k0_pay133 unit Head.normed Row.rms Row.inv
  pointwise
  try rfl

theorem head3 : k0_pay198 (F := Ideal) a g (ix2 r d) = unit a g 3 r d := by
  unfold k0_pay198 unit Head.normed Row.rms Row.inv
  pointwise
  try rfl

theorem head4 : k0_pay263 (F := Ideal) a g (ix2 r d) = unit a g 4 r d := by
  unfold k0_pay263 unit Head.normed Row.rms Row.inv
  pointwise
  try rfl

theorem head5 : k0_pay328 (F := Ideal) a g (ix2 r d) = unit a g 5 r d := by
  unfold k0_pay328 unit Head.normed Row.rms Row.inv
  pointwise
  try rfl

theorem head6 : k0_pay393 (F := Ideal) a g (ix2 r d) = unit a g 6 r d := by
  unfold k0_pay393 unit Head.normed Row.rms Row.inv
  pointwise
  try rfl

theorem head7 : k0_pay458 (F := Ideal) a g (ix2 r d) = unit a g 7 r d := by
  unfold k0_pay458 unit Head.normed Row.rms Row.inv
  pointwise
  try rfl

end Heads

/-- A tile of the stack's block holds the rows of one head of one sequence. -/
theorem tile5 (a : Vec Ideal S512x1024 .f32) (g : Vec Ideal S1x128 .f32) (y : FVec Ideal S512x128 .f32) {n p : ℕ} {hp : p < 8}
    (b : Fin 32) (s : Fin 8) (r : Fin 16) (d : Fin 128) (x : S1x1x1x16x128.Idx) {hs : S512x128.Slices ![n, 0] S16x128}
    {hc : S16x128.ShapeCasts S1x1x1x16x128} (h1 : b.val * 16 = n) (h2 : s.val = p) (h3 : r.val = (x 3).val) (h4 : d.val = (x 4).val)
    (hy : ∀ (r : Fin 512) (d : Fin 128), y (ix2 r d) = unit a g ⟨p, hp⟩ r d) :
    shapeCast S1x1x1x16x128 (extractStridedSlice S16x128 ![n, 0] y hs) hc x = unit a g s (flat b r) d := by
  subst h1 h2
  obtain rfl : x = (ix5 0 0 0 r d : S1x1x1x16x128.Idx) := funext fun e => Fin.ext (match e with
    | ⟨0, _⟩ => Nat.lt_one_iff.mp (x 0).isLt
    | ⟨1, _⟩ => Nat.lt_one_iff.mp (x 1).isLt
    | ⟨2, _⟩ => Nat.lt_one_iff.mp (x 2).isLt
    | ⟨3, _⟩ => h3.symm
    | ⟨4, _⟩ => h4.symm)
  refine Eq.trans ?_ (hy (flat b r) d)
  unfold flat
  pointwise
  try rfl

/-- And so does a tile of the other block. -/
theorem tile4 (a : Vec Ideal S512x1024 .f32) (g : Vec Ideal S1x128 .f32) (y : FVec Ideal S512x128 .f32) {n p : ℕ} {hp : p < 8}
    (b : Fin 32) (s : Fin 8) (r : Fin 16) (d : Fin 128) (x : S1x1x16x128.Idx) {hs : S512x128.Slices ![n, 0] S16x128}
    {hc : S16x128.ShapeCasts S1x1x16x128} (h1 : b.val * 16 = n) (h2 : s.val = p) (h3 : r.val = (x 2).val) (h4 : d.val = (x 3).val)
    (hy : ∀ (r : Fin 512) (d : Fin 128), y (ix2 r d) = unit a g ⟨p, hp⟩ r d) :
    shapeCast S1x1x16x128 (truncf .bf16 (extractStridedSlice S16x128 ![n, 0] y hs) bitsLt_bf16_f32) hc x = unit a g s (flat b r) d := by
  subst h1 h2
  obtain rfl : x = (ix4 0 0 r d : S1x1x16x128.Idx) := funext fun e => Fin.ext (match e with
    | ⟨0, _⟩ => Nat.lt_one_iff.mp (x 0).isLt
    | ⟨1, _⟩ => Nat.lt_one_iff.mp (x 1).isLt
    | ⟨2, _⟩ => h3.symm
    | ⟨3, _⟩ => h4.symm)
  refine Eq.trans ?_ (hy (flat b r) d)
  unfold flat
  pointwise
  try rfl

set_option maxHeartbeats 8000000 in
theorem out3 (t : Fin cfg0.N) (b : Fin 32) (s : Fin 8) (r : Fin 16) (d : Fin 128) :
    (outsAt0 m c t).1 (ix5 0 b s r d : S1x32x8x16x128.Idx)
      = unit (k0_pay2 (F := Ideal) (iblk m c 0 t) (iblk m c 1 t)) (iblk m c 2 t) s (flat b r) d := by
  unfold outsAt0
  frame_out
  generalize (iblk m c 0 t : Vec Ideal S512x2048 .bf16) = h
  generalize (iblk m c 1 t : Vec Ideal S2048x1024 .bf16) = w
  generalize (iblk m c 2 t : Vec Ideal S1x128 .f32) = g
  canon_tiles x h
  case piece0 | piece1 | piece2 | piece3 | piece4 | piece5 | piece6 | piece7
      | piece8 | piece9 | piece10 | piece11 | piece12 | piece13 | piece14 | piece15
      | piece16 | piece17 | piece18 | piece19 | piece20 | piece21 | piece22 | piece23
      | piece24 | piece25 | piece26 | piece27 | piece28 | piece29 | piece30 | piece31 =>
    have h1' : b.val = _ := h1
    have h2' : s.val = _ := h2
    exact tile5 _ _ _ (p := 7) _ _ _ _ _ (by omega) (by omega) h3 h4 (fun _ _ => head7 _ _ _ _)
  case piece32 | piece33 | piece34 | piece35 | piece36 | piece37 | piece38 | piece39
      | piece40 | piece41 | piece42 | piece43 | piece44 | piece45 | piece46 | piece47
      | piece48 | piece49 | piece50 | piece51 | piece52 | piece53 | piece54 | piece55
      | piece56 | piece57 | piece58 | piece59 | piece60 | piece61 | piece62 | piece63 =>
    have h1' : b.val = _ := h1
    have h2' : s.val = _ := h2
    exact tile5 _ _ _ (p := 6) _ _ _ _ _ (by omega) (by omega) h3 h4 (fun _ _ => head6 _ _ _ _)
  case piece64 | piece65 | piece66 | piece67 | piece68 | piece69 | piece70 | piece71
      | piece72 | piece73 | piece74 | piece75 | piece76 | piece77 | piece78 | piece79
      | piece80 | piece81 | piece82 | piece83 | piece84 | piece85 | piece86 | piece87
      | piece88 | piece89 | piece90 | piece91 | piece92 | piece93 | piece94 | piece95 =>
    have h1' : b.val = _ := h1
    have h2' : s.val = _ := h2
    exact tile5 _ _ _ (p := 5) _ _ _ _ _ (by omega) (by omega) h3 h4 (fun _ _ => head5 _ _ _ _)
  case piece96 | piece97 | piece98 | piece99 | piece100 | piece101 | piece102 | piece103
      | piece104 | piece105 | piece106 | piece107 | piece108 | piece109 | piece110 | piece111
      | piece112 | piece113 | piece114 | piece115 | piece116 | piece117 | piece118 | piece119
      | piece120 | piece121 | piece122 | piece123 | piece124 | piece125 | piece126 | piece127 =>
    have h1' : b.val = _ := h1
    have h2' : s.val = _ := h2
    exact tile5 _ _ _ (p := 4) _ _ _ _ _ (by omega) (by omega) h3 h4 (fun _ _ => head4 _ _ _ _)
  case piece128 | piece129 | piece130 | piece131 | piece132 | piece133 | piece134 | piece135
      | piece136 | piece137 | piece138 | piece139 | piece140 | piece141 | piece142 | piece143
      | piece144 | piece145 | piece146 | piece147 | piece148 | piece149 | piece150 | piece151
      | piece152 | piece153 | piece154 | piece155 | piece156 | piece157 | piece158 | piece159 =>
    have h1' : b.val = _ := h1
    have h2' : s.val = _ := h2
    exact tile5 _ _ _ (p := 3) _ _ _ _ _ (by omega) (by omega) h3 h4 (fun _ _ => head3 _ _ _ _)
  case piece160 | piece161 | piece162 | piece163 | piece164 | piece165 | piece166 | piece167
      | piece168 | piece169 | piece170 | piece171 | piece172 | piece173 | piece174 | piece175
      | piece176 | piece177 | piece178 | piece179 | piece180 | piece181 | piece182 | piece183
      | piece184 | piece185 | piece186 | piece187 | piece188 | piece189 | piece190 | piece191 =>
    have h1' : b.val = _ := h1
    have h2' : s.val = _ := h2
    exact tile5 _ _ _ (p := 2) _ _ _ _ _ (by omega) (by omega) h3 h4 (fun _ _ => head2 _ _ _ _)
  case piece192 | piece193 | piece194 | piece195 | piece196 | piece197 | piece198 | piece199
      | piece200 | piece201 | piece202 | piece203 | piece204 | piece205 | piece206 | piece207
      | piece208 | piece209 | piece210 | piece211 | piece212 | piece213 | piece214 | piece215
      | piece216 | piece217 | piece218 | piece219 | piece220 | piece221 | piece222 | piece223 =>
    have h1' : b.val = _ := h1
    have h2' : s.val = _ := h2
    exact tile5 _ _ _ (p := 1) _ _ _ _ _ (by omega) (by omega) h3 h4 (fun _ _ => head1 _ _ _ _)
  case piece224 | piece225 | piece226 | piece227 | piece228 | piece229 | piece230 | piece231
      | piece232 | piece233 | piece234 | piece235 | piece236 | piece237 | piece238 | piece239
      | piece240 | piece241 | piece242 | piece243 | piece244 | piece245 | piece246 | piece247
      | piece248 | piece249 | piece250 | piece251 | piece252 | piece253 | piece254 | piece255 =>
    have h1' : b.val = _ := h1
    have h2' : s.val = _ := h2
    exact tile5 _ _ _ (p := 0) _ _ _ _ _ (by omega) (by omega) h3 h4 (fun _ _ => head0 _ _ _ _ _)

set_option maxHeartbeats 8000000 in
theorem out4 (t : Fin cfg0.N) (b : Fin 32) (s : Fin 8) (r : Fin 16) (d : Fin 128) :
    (outsAt0 m c t).2 (ix4 b s r d : S32x8x16x128.Idx)
      = unit (k0_pay2 (F := Ideal) (iblk m c 0 t) (iblk m c 1 t)) (iblk m c 2 t) s (flat b r) d := by
  unfold outsAt0
  frame_out
  generalize (iblk m c 0 t : Vec Ideal S512x2048 .bf16) = h
  generalize (iblk m c 1 t : Vec Ideal S2048x1024 .bf16) = w
  generalize (iblk m c 2 t : Vec Ideal S1x128 .f32) = g
  canon_tiles x h
  case piece0 | piece1 | piece2 | piece3 | piece4 | piece5 | piece6 | piece7
      | piece8 | piece9 | piece10 | piece11 | piece12 | piece13 | piece14 | piece15
      | piece16 | piece17 | piece18 | piece19 | piece20 | piece21 | piece22 | piece23
      | piece24 | piece25 | piece26 | piece27 | piece28 | piece29 | piece30 | piece31 =>
    have h1' : b.val = _ := h0
    have h2' : s.val = _ := h1
    exact tile4 _ _ _ (p := 7) _ _ _ _ _ (by omega) (by omega) h2 h3 (fun _ _ => head7 _ _ _ _)
  case piece32 | piece33 | piece34 | piece35 | piece36 | piece37 | piece38 | piece39
      | piece40 | piece41 | piece42 | piece43 | piece44 | piece45 | piece46 | piece47
      | piece48 | piece49 | piece50 | piece51 | piece52 | piece53 | piece54 | piece55
      | piece56 | piece57 | piece58 | piece59 | piece60 | piece61 | piece62 | piece63 =>
    have h1' : b.val = _ := h0
    have h2' : s.val = _ := h1
    exact tile4 _ _ _ (p := 6) _ _ _ _ _ (by omega) (by omega) h2 h3 (fun _ _ => head6 _ _ _ _)
  case piece64 | piece65 | piece66 | piece67 | piece68 | piece69 | piece70 | piece71
      | piece72 | piece73 | piece74 | piece75 | piece76 | piece77 | piece78 | piece79
      | piece80 | piece81 | piece82 | piece83 | piece84 | piece85 | piece86 | piece87
      | piece88 | piece89 | piece90 | piece91 | piece92 | piece93 | piece94 | piece95 =>
    have h1' : b.val = _ := h0
    have h2' : s.val = _ := h1
    exact tile4 _ _ _ (p := 5) _ _ _ _ _ (by omega) (by omega) h2 h3 (fun _ _ => head5 _ _ _ _)
  case piece96 | piece97 | piece98 | piece99 | piece100 | piece101 | piece102 | piece103
      | piece104 | piece105 | piece106 | piece107 | piece108 | piece109 | piece110 | piece111
      | piece112 | piece113 | piece114 | piece115 | piece116 | piece117 | piece118 | piece119
      | piece120 | piece121 | piece122 | piece123 | piece124 | piece125 | piece126 | piece127 =>
    have h1' : b.val = _ := h0
    have h2' : s.val = _ := h1
    exact tile4 _ _ _ (p := 4) _ _ _ _ _ (by omega) (by omega) h2 h3 (fun _ _ => head4 _ _ _ _)
  case piece128 | piece129 | piece130 | piece131 | piece132 | piece133 | piece134 | piece135
      | piece136 | piece137 | piece138 | piece139 | piece140 | piece141 | piece142 | piece143
      | piece144 | piece145 | piece146 | piece147 | piece148 | piece149 | piece150 | piece151
      | piece152 | piece153 | piece154 | piece155 | piece156 | piece157 | piece158 | piece159 =>
    have h1' : b.val = _ := h0
    have h2' : s.val = _ := h1
    exact tile4 _ _ _ (p := 3) _ _ _ _ _ (by omega) (by omega) h2 h3 (fun _ _ => head3 _ _ _ _)
  case piece160 | piece161 | piece162 | piece163 | piece164 | piece165 | piece166 | piece167
      | piece168 | piece169 | piece170 | piece171 | piece172 | piece173 | piece174 | piece175
      | piece176 | piece177 | piece178 | piece179 | piece180 | piece181 | piece182 | piece183
      | piece184 | piece185 | piece186 | piece187 | piece188 | piece189 | piece190 | piece191 =>
    have h1' : b.val = _ := h0
    have h2' : s.val = _ := h1
    exact tile4 _ _ _ (p := 2) _ _ _ _ _ (by omega) (by omega) h2 h3 (fun _ _ => head2 _ _ _ _)
  case piece192 | piece193 | piece194 | piece195 | piece196 | piece197 | piece198 | piece199
      | piece200 | piece201 | piece202 | piece203 | piece204 | piece205 | piece206 | piece207
      | piece208 | piece209 | piece210 | piece211 | piece212 | piece213 | piece214 | piece215
      | piece216 | piece217 | piece218 | piece219 | piece220 | piece221 | piece222 | piece223 =>
    have h1' : b.val = _ := h0
    have h2' : s.val = _ := h1
    exact tile4 _ _ _ (p := 1) _ _ _ _ _ (by omega) (by omega) h2 h3 (fun _ _ => head1 _ _ _ _)
  case piece224 | piece225 | piece226 | piece227 | piece228 | piece229 | piece230 | piece231
      | piece232 | piece233 | piece234 | piece235 | piece236 | piece237 | piece238 | piece239
      | piece240 | piece241 | piece242 | piece243 | piece244 | piece245 | piece246 | piece247
      | piece248 | piece249 | piece250 | piece251 | piece252 | piece253 | piece254 | piece255 =>
    have h1' : b.val = _ := h0
    have h2' : s.val = _ := h1
    exact tile4 _ _ _ (p := 0) _ _ _ _ _ (by omega) (by omega) h2 h3 (fun _ _ => head0 _ _ _ _ _)

end Cert.KeysSample

end
-- ==== Proof.ProjectSample.lean ====
/-
  The entry of the sample's input projection that the references compute.
-/
module

public import proofs.«01_k».proof.Proof.Sample
public import proofs.«01_k».proof.Proof.Gen.Reference11Ideal.Read
@[expose] public section

set_option maxRecDepth 65536

noncomputable section

namespace Cert.Sample

open Idealize.ShloMosaic Idealize.ShloMosaic.TcCoe

/-- The references' input projection. -/
theorem ref_entry (x : FVec Ideal ⟨3, ![32, 16, 2048]⟩ .f32) (g : FVec Ideal ⟨1, ![2048]⟩ .f32) (w : FVec Ideal ⟨2, ![2048, 9224]⟩ .f32)
    (b : Fin 32) (n : Fin 16) (q : Fin 9224) :
    Cert.Reference11Ideal.Read.val_main_v13 (F := Ideal) x g w (ix3 b n q) = entry x g w (flat b n) q := by
  rw [Cert.Reference11Ideal.Read.val_main_v13_apply]
  unfold entry normed
  refine Finset.sum_congr rfl fun k _ => congrArg₂ (fun u v : EReal => u * v) ?_ (congrArg w ?_)
  · rw [xrow_flat]
    refine Eq.trans (congrArg _ (idx3 (b := b) (n := n) (k := k) rfl rfl rfl)) (Cert.Sample.norm_apply x g b n k)
  · exact funext fun d => match d with | ⟨0, _⟩ => rfl | ⟨1, _⟩ => rfl

end Cert.Sample

end
-- ==== Proof.KeysSample.lean ====
/-
  The arrays that the projection to the keys of the sample leaves, from its arguments, and its reference.
-/
module

public import proofs.«01_k».proof.Proof.KeysSampleBody
public import proofs.«01_k».proof.Proof.ProjectSample
@[expose] public section

set_option maxRecDepth 65536

noncomputable section

namespace Cert.KeysSample

open Idealize.ShloMosaic Idealize.ShloMosaic.TcCoe
open Cert.Kernel11Ideal Cert.Kernel11Ideal.Gen
open Cert.Sample (xrow normed entry flat)

variable (m : (ℓ : Loc nD τ sig) → Buf (Elt Ideal) ℓ) (c : Dev nD)

/-! ### What the call reads -/

/-- The arguments. -/
abbrev ax : FVec Ideal S32x16x2048 .f32 := m ((c : Thread nD τ).loc main_arg0)
abbrev again : FVec Ideal S2048 .f32 := m ((c : Thread nD τ).loc main_arg1)
abbrev aw : FVec Ideal S2048x9224 .f32 := m ((c : Thread nD τ).loc main_arg2)
abbrev ahead : FVec Ideal S128 .f32 := m ((c : Thread nD τ).loc main_arg3)
abbrev astack : FVec Ideal S4x32x8x16x128 .f32 := m ((c : Thread nD τ).loc main_arg4)

theorem V_norm (r : Fin 512) (k : Fin 2048) : V m c main_v14 (ix2 r k : S512x2048.Idx) = normed (ax m c) (again m c) r k := by
  have hx := Cert.Sample.flat_apply (ax m c) shapeCasts_S32x16x2048_S512x2048 r
  entry_read
  unfold normed Row.rms Row.inv
  simp only [← hx]
  generalize shapeCast S512x2048 (ax m c) shapeCasts_S32x16x2048_S512x2048 = y
  pointwise
  try rfl

/-- The columns of the keys. -/
abbrev col (j : Fin 1024) : Fin 9224 := Head.at' 3072 (by decide) j

theorem V_w (k : Fin 2048) (j : Fin 1024) : V m c main_v16 (ix2 k j : S2048x1024.Idx) = aw m c (ix2 k (col j)) := by
  entry_read
  unfold col Head.at'
  pointwise
  try rfl

theorem V_head (k : Fin 128) : V m c main_v17 (ix2 0 k : S1x128.Idx) = ahead m c (ix1 k) := by
  entry_read
  pointwise
  try rfl

theorem V_stack : V m c main_v18_0 = astack m c := by
  entry_read
  try rfl

/-! ### The blocks of a grid point -/

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![3, 0, 0, 0, 0] := (by decide +kernel : ∀ t : Fin grid0.N, _)
theorem index4 : ∀ t : Fin cfg0.N, win0_4.index t = ![0, 0, 0, 0] := (by decide +kernel : ∀ t : Fin grid0.N, _)

theorem block_h (t : Fin cfg0.N) (r : Fin 512) (k : Fin 2048) : iblk m c 0 t (ix2 r k : S512x2048.Idx)
    = normed (ax m c) (again m c) r k := by
  refine Eq.trans ?_ (V_norm m c r k)
  unfold iblk
  refine congrArg (V m c main_v14) (funext fun a => Fin.ext ?_)
  blk_simp [index0 t]
  match a with
  | ⟨0, _⟩ => show 0 * 512 + r.val = r.val; omega
  | ⟨1, _⟩ => show 0 * 2048 + k.val = k.val; omega

theorem block_w (t : Fin cfg0.N) (k : Fin 2048) (j : Fin 1024) : iblk m c 1 t (ix2 k j : S2048x1024.Idx)
    = aw m c (ix2 k (col j)) := by
  refine Eq.trans ?_ (V_w m c k j)
  unfold iblk
  refine congrArg (V m c main_v16) (funext fun a => Fin.ext ?_)
  blk_simp [index1 t]
  match a with
  | ⟨0, _⟩ => show 0 * 2048 + k.val = k.val; omega
  | ⟨1, _⟩ => show 0 * 1024 + j.val = j.val; omega

theorem block_head (t : Fin cfg0.N) (k : Fin 128) : iblk m c 2 t (ix2 0 k : S1x128.Idx) = ahead m c (ix1 k) := by
  refine Eq.trans ?_ (V_head m c k)
  unfold iblk
  refine congrArg (V m c main_v17) (funext fun a => Fin.ext ?_)
  blk_simp [index2 t]
  match a with
  | ⟨0, _⟩ => rfl
  | ⟨1, _⟩ => show 0 * 128 + k.val = k.val; omega

/-! ### The arrays -/

/-- Entry `d` of head `s` at position `n` of sequence `b`, from the residual stream, the gains and the weight. -/
def entryOf (x : FVec Ideal S32x16x2048 .f32) (g : FVec Ideal S2048 .f32) (w : FVec Ideal S2048x9224 .f32) (gh : FVec Ideal S128 .f32)
    (b : Fin 32) (s : Fin 8) (n : Fin 16) (d : Fin 128) : EReal :=
  Head.normed (fun j => entry x g w (flat b n) (col j)) (fun k => gh (ix1 k)) s d

/-- The keys that the call computes. -/
def keys (b : Fin 32) (s : Fin 8) (n : Fin 16) (d : Fin 128) : EReal :=
  entryOf (ax m c) (again m c) (aw m c) (ahead m c) b s n d

theorem acc_block (t : Fin cfg0.N) (r : Fin 512) (j : Fin 1024) : k0_pay2 (F := Ideal) (iblk m c 0 t) (iblk m c 1 t) (ix2 r j)
    = entry (ax m c) (again m c) (aw m c) r (col j) := by
  rw [acc_apply]
  exact Finset.sum_congr rfl fun k _ => congrArg₂ (fun u v : EReal => u * v) (block_h m c t r k) (block_w m c t k j)

theorem unit_block (t : Fin cfg0.N) (b : Fin 32) (s : Fin 8) (r : Fin 16) (d : Fin 128) :
    unit (k0_pay2 (F := Ideal) (iblk m c 0 t) (iblk m c 1 t)) (iblk m c 2 t) s (flat b r) d = keys m c b s r d :=
  congrArg₂ (fun (a : Fin 1024 → EReal) (g : Fin 128 → EReal) => Head.normed a g s d)
    (funext fun j => acc_block m c t (flat b r) j) (funext fun k => block_head m c t k)

theorem array_keys : (dats m 0 c).arrAt 4 cfg0.N = fun i : S32x8x16x128.Idx => keys m c (i 0) (i 1) (i 2) (i 3) := by
  refine (dats m 0 c).arrAt_eq_of_covers 4 _ (by decide +kernel) fun t hf y => ?_
  blk_simp
  rw [after0_4]
  obtain ⟨b, s, r, d, rfl⟩ := Head.split4 (p := 32) (q := 8) (r := 16) (s := 128) y
  refine (out4 m c t b s r d).trans ((unit_block m c t b s r d).trans ?_)
  refine congrArg (fun i : S32x8x16x128.Idx => keys m c (i 0) (i 1) (i 2) (i 3)) (a₁ := (ix4 b s r d : S32x8x16x128.Idx)) ?_
  funext a
  refine Fin.ext ?_
  blk_simp [index4 t]
  match a with
  | ⟨0, _⟩ => show b.val = 0 * 32 + b.val; omega
  | ⟨1, _⟩ => show s.val = 0 * 8 + s.val; omega
  | ⟨2, _⟩ => show r.val = 0 * 16 + r.val; omega
  | ⟨3, _⟩ => show d.val = 0 * 128 + d.val; omega

/-- The cache: the call writes its last layer. -/
theorem array_stack : (dats m 0 c).arrAt 3 cfg0.N = Head.stack (astack m c) (keys m c) := by
  refine ((dats m 0 c).arrAt_eq_of_coversWhere 3 (fun i : S4x32x8x16x128.Idx => keys m c (i 1) (i 2) (i 3) (i 4))
    (P := fun i : S4x32x8x16x128.Idx => (i 0).val = 3) (fun β => β (0 : Fin 5) = 3) (by decide +kernel) (fun t hf y => ?_)
    (fun j => ?_)).trans ?_
  · blk_simp
    rw [after0_3]
    obtain ⟨z, b, s, r, d, rfl⟩ := Head.split5 (p := 1) (q := 32) (r := 8) (s := 16) (u := 128) y
    obtain rfl : z = 0 := Fin.ext (by have := z.isLt; show z.val = 0; omega)
    refine (out3 m c t b s r d).trans ((unit_block m c t b s r d).trans ?_)
    refine congrArg (fun i : S4x32x8x16x128.Idx => keys m c (i 1) (i 2) (i 3) (i 4))
      (a₁ := (ix5 3 b s r d : S4x32x8x16x128.Idx)) ?_
    funext a
    refine Fin.ext ?_
    blk_simp [index3 t]
    match a with
    | ⟨0, _⟩ => rfl
    | ⟨1, _⟩ => show b.val = 0 * 32 + b.val; omega
    | ⟨2, _⟩ => show s.val = 0 * 8 + s.val; omega
    | ⟨3, _⟩ => show r.val = 0 * 16 + r.val; omega
    | ⟨4, _⟩ => show d.val = 0 * 128 + d.val; omega
  · blk_simp [Pipeline.Window.cell_apply]
    try omega
  · funext i
    show (if (i 0).val = 3 then _ else V m c main_v18_0 i) = _
    rw [V_stack]
    rfl

/-! ### The reference -/

open Cert.Reference11Ideal.Read

variable (x : FVec Ideal S32x16x2048 .f32) (g : FVec Ideal S2048 .f32) (w : FVec Ideal S2048x9224 .f32) (gh : FVec Ideal S128 .f32)

theorem ref_head (b : Fin 32) (s : Fin 8) (n : Fin 16) (d : Fin 128) : val_main_v16 (F := Ideal) x g w (ix4 b s n d)
    = entry x g w (Cert.Sample.flat b n) (col (Head.col s d)) := by
  have hb := b.isLt
  have hs := s.isLt
  have hn := n.isLt
  have hd := d.isLt
  have h : idx_main_v14 (idx_main_v15 (idx_main_v16 (ix4 b s n d))) = ix3 b n (col (Head.col s d)) := by
    refine Cert.Sample.idx3 (Fin.ext ?_) (Fin.ext ?_) (Fin.ext ?_)
    · show (((b.val * 16 + n.val) * 8 + s.val) * 128 + d.val) / 16384 = b.val; omega
    · show (((b.val * 16 + n.val) * 8 + s.val) * 128 + d.val) / 1024 % 16 = n.val; omega
    · show 3072 + (((b.val * 16 + n.val) * 8 + s.val) * 128 + d.val) % 1024 = 3072 + (s.val * 128 + d.val); omega
  rw [val_main_v16_apply, val_main_v15_apply, val_main_v14_apply, h]
  exact Cert.Sample.ref_entry x g w b n _

theorem ref_norm (b : Fin 32) (s : Fin 8) (n : Fin 16) (d : Fin 128) : val_main_v29 (F := Ideal) x g w gh (ix4 b s n d)
    = entryOf x g w gh b s n d := by
  have e1 : ∀ q : Fin 128, idx_main_v18 (idx_main_v19 (idx_main_v25 (ix4 b s n d))) q = ix4 b s n q :=
    fun q => Head.idx4 rfl rfl rfl rfl
  have e2 : idx_main_v27 (idx_main_v28 (ix4 b s n d)) = ix1 d := funext fun a => match a with | ⟨0, _⟩ => rfl
  rw [val_main_v29_apply, val_main_v26_apply, val_main_v25_apply, val_main_v24_apply, val_main_v23_apply, val_main_v21_apply,
    val_main_v19_apply, val_main_v18_apply, val_main_v20_apply, val_main_v22_apply, val_main_v28_apply, val_main_v27_apply,
    val_main_cst_2_apply, val_main_cst_3_apply, val_main_cst_4_apply, e2]
  simp only [val_main_v17_apply, e1, ref_head]
  unfold entryOf Head.normed Row.rms Row.inv
  rw [Cert.Mixer.Ref.zero_word, zero_add]
  rfl

theorem keys_result : (dats m 0 c).arrAt 4 cfg0.N = val_main_v33 (F := Ideal) (ax m c) (again m c) (aw m c) (ahead m c) := by
  rw [array_keys]
  funext i
  obtain ⟨b, s, n, d, rfl⟩ := Head.split4 (p := 32) (q := 8) (r := 16) (s := 128) i
  refine Eq.symm ?_
  rw [val_main_v33_apply, ref_norm]
  rfl

theorem stack_result : (dats m 0 c).arrAt 3 cfg0.N
    = val_main_v32 (F := Ideal) (ax m c) (again m c) (aw m c) (ahead m c) (astack m c) := by
  rw [array_stack]
  refine (Head.stack_apply _ _ _ (astack m c) (keys m c) (fun l b s n d => ?_) (fun b s n d => ?_)).symm
  · rw [val_main_v30_apply]
    refine congrArg (astack m c) (funext fun a => Fin.ext ?_)
    match a with
    | ⟨0, _⟩ => rfl
    | ⟨1, _⟩ => rfl
    | ⟨2, _⟩ => rfl
    | ⟨3, _⟩ => rfl
    | ⟨4, _⟩ => rfl
  · rw [val_main_v31_apply]
    exact (congrArg _ (Head.idx4 (a := b) (b := s) (c := n) (d := d) rfl rfl rfl rfl)).trans (ref_norm _ _ _ _ b s n d)

end Cert.KeysSample

end
-- ==== Proof.ValuesSampleBody.lean ====
/-
  What the one grid point of the projection to the values and the log-forget gates of the sample leaves.
-/
module

public import proofs.«01_k».proof.Proof.Values
public import proofs.«01_k».proof.Proof.Sample
public import proofs.«01_k».proof.Proof.Gen.Kernel12Ideal.Value
@[expose] public section

set_option maxRecDepth 65536

noncomputable section

namespace Cert.ValuesSample

open Idealize.ShloMosaic Idealize.ShloMosaic.TcCoe
open Cert.Kernel12Ideal Cert.Kernel12Ideal.Gen
open Cert.Sample (xrow normed entry flat)
open Cert.Values (gate fill fill_apply gcol col ref_gate)

/-! ### One grid point -/

theorem acc_apply (h : Vec Ideal S512x2048 .bf16) (w : Vec Ideal S2048x1024 .bf16) (r : Fin 512) (j : Fin 1024) :
    k0_pay3 (F := Ideal) h w (ix2 r j) = ∑ k : Fin 2048, h (ix2 r k) * w (ix2 k j) := by
  unfold k0_pay3 k0_pay2
  pointwise
  try rfl

variable (m : (ℓ : Loc nD τ sig) → Buf (Elt Ideal) ℓ) (c : Dev nD)

/-- Entry `(r, d)` of head `s`, from the product `a` of the rows with the weight. -/
def unit (a : Vec Ideal S512x1024 .f32) (s : Fin 8) (r : Fin 512) (d : Fin 128) : EReal :=
  a (ix2 r (Head.col s d))

section Heads

variable (a : Vec Ideal S512x1024 .f32) (r : Fin 512) (d : Fin 128)

theorem head0 (h : Vec Ideal S512x2048 .bf16) (w : Vec Ideal S2048x1024 .bf16) :
    k0_pay5 (F := Ideal) h w (ix2 r d) = unit (k0_pay3 (F := Ideal) h w) 0 r d := by
  have hc : Head.col 0 d = ⟨d.val, by have := d.isLt; omega⟩ := Fin.ext (by show 0 * 128 + d.val = d.val; omega)
  unfold k0_pay5
  generalize k0_pay3 (F := Ideal) h w = a
  unfold unit
  rw [hc]
  pointwise
  try rfl

theorem head1 : k0_pay114 (F := Ideal) a (ix2 r d) = unit a 1 r d := by
  unfold k0_pay114 unit
  pointwise
  try rfl

theorem head2 : k0_pay214 (F := Ideal) a (ix2 r d) = unit a 2 r d := by
  unfold k0_pay214 unit
  pointwise
  try rfl

theorem head3 : k0_pay322 (F := Ideal) a (ix2 r d) = unit a 3 r d := by
  unfold k0_pay322 unit
  pointwise
  try rfl

theorem head4 : k0_pay427 (F := Ideal) a (ix2 r d) = unit a 4 r d := by
  unfold k0_pay427 unit
  pointwise
  try rfl

theorem head5 : k0_pay535 (F := Ideal) a (ix2 r d) = unit a 5 r d := by
  unfold k0_pay535 unit
  pointwise
  try rfl

theorem head6 : k0_pay641 (F := Ideal) a (ix2 r d) = unit a 6 r d := by
  unfold k0_pay641 unit
  pointwise
  try rfl

theorem head7 : k0_pay750 (F := Ideal) a (ix2 r d) = unit a 7 r d := by
  unfold k0_pay750 unit
  pointwise
  try rfl

end Heads

/-- Sixteen of the rows. -/
theorem rows {n : ℕ} (h : n + 16 ≤ 512) : S512x128.Slices ![n, 0] S16x128 :=
  ⟨rfl, fun a => match a with
    | ⟨0, _⟩ => h
    | ⟨1, _⟩ => Nat.le_refl 128⟩

/-- A tile of the stack's block holds the rows of one head of one sequence. -/
theorem tile (a : Vec Ideal S512x1024 .f32) (y : FVec Ideal S512x128 .f32) {n p : ℕ} {hp : p < 8}
    (b : Fin 32) (s : Fin 8) (r : Fin 16) (d : Fin 128) (x : S1x1x1x16x128.Idx)
    {hc : S16x128.ShapeCasts S1x1x1x16x128} (h1 : b.val * 16 = n) (h2 : s.val = p) (h3 : r.val = (x 3).val) (h4 : d.val = (x 4).val)
    (hy : ∀ (r : Fin 512) (d : Fin 128), y (ix2 r d) = unit a ⟨p, hp⟩ r d) :
    shapeCast S1x1x1x16x128 (extractStridedSlice S16x128 ![n, 0] y (rows (by have := b.isLt; omega))) hc x = unit a s (flat b r) d := by
  subst h1 h2
  obtain rfl : x = (ix5 0 0 0 r d : S1x1x1x16x128.Idx) := funext fun e => Fin.ext (match e with
    | ⟨0, _⟩ => Nat.lt_one_iff.mp (x 0).isLt
    | ⟨1, _⟩ => Nat.lt_one_iff.mp (x 1).isLt
    | ⟨2, _⟩ => Nat.lt_one_iff.mp (x 2).isLt
    | ⟨3, _⟩ => h3.symm
    | ⟨4, _⟩ => h4.symm)
  refine Eq.trans ?_ (hy (flat b r) d)
  unfold flat
  pointwise
  try rfl

set_option maxHeartbeats 8000000 in
theorem out3 (t : Fin cfg0.N) (b : Fin 32) (s : Fin 8) (r : Fin 16) (d : Fin 128) :
    (outsAt0 m c t).1 (ix5 0 b s r d : S1x32x8x16x128.Idx) = unit (k0_pay3 (F := Ideal) (iblk m c 0 t) (iblk m c 1 t)) s (flat b r) d := by
  unfold outsAt0
  frame_out
  generalize (iblk m c 0 t : Vec Ideal S512x2048 .bf16) = h
  generalize (iblk m c 1 t : Vec Ideal S2048x1024 .bf16) = w
  canon_tiles x h
  case piece0 | piece1 | piece2 | piece3 | piece4 | piece5 | piece6 | piece7
      | piece8 | piece9 | piece10 | piece11 | piece12 | piece13 | piece14 | piece15
      | piece16 | piece17 | piece18 | piece19 | piece20 | piece21 | piece22 | piece23
      | piece24 | piece25 | piece26 | piece27 | piece28 | piece29 | piece30 | piece31 =>
    have h1' : b.val = _ := h1
    have h2' : s.val = _ := h2
    exact tile (k0_pay3 (F := Ideal) h w) (k0_pay750 (F := Ideal) (k0_pay3 (F := Ideal) h w)) (p := 7) b s r d x (by omega) (by omega) h3 h4 (fun r d => head7 _ r d)
  case piece32 | piece33 | piece34 | piece35 | piece36 | piece37 | piece38 | piece39
      | piece40 | piece41 | piece42 | piece43 | piece44 | piece45 | piece46 | piece47
      | piece48 | piece49 | piece50 | piece51 | piece52 | piece53 | piece54 | piece55
      | piece56 | piece57 | piece58 | piece59 | piece60 | piece61 | piece62 | piece63 =>
    have h1' : b.val = _ := h1
    have h2' : s.val = _ := h2
    exact tile (k0_pay3 (F := Ideal) h w) (k0_pay641 (F := Ideal) (k0_pay3 (F := Ideal) h w)) (p := 6) b s r d x (by omega) (by omega) h3 h4 (fun r d => head6 _ r d)
  case piece64 | piece65 | piece66 | piece67 | piece68 | piece69 | piece70 | piece71
      | piece72 | piece73 | piece74 | piece75 | piece76 | piece77 | piece78 | piece79
      | piece80 | piece81 | piece82 | piece83 | piece84 | piece85 | piece86 | piece87
      | piece88 | piece89 | piece90 | piece91 | piece92 | piece93 | piece94 | piece95 =>
    have h1' : b.val = _ := h1
    have h2' : s.val = _ := h2
    exact tile (k0_pay3 (F := Ideal) h w) (k0_pay535 (F := Ideal) (k0_pay3 (F := Ideal) h w)) (p := 5) b s r d x (by omega) (by omega) h3 h4 (fun r d => head5 _ r d)
  case piece96 | piece97 | piece98 | piece99 | piece100 | piece101 | piece102 | piece103
      | piece104 | piece105 | piece106 | piece107 | piece108 | piece109 | piece110 | piece111
      | piece112 | piece113 | piece114 | piece115 | piece116 | piece117 | piece118 | piece119
      | piece120 | piece121 | piece122 | piece123 | piece124 | piece125 | piece126 | piece127 =>
    have h1' : b.val = _ := h1
    have h2' : s.val = _ := h2
    exact tile (k0_pay3 (F := Ideal) h w) (k0_pay427 (F := Ideal) (k0_pay3 (F := Ideal) h w)) (p := 4) b s r d x (by omega) (by omega) h3 h4 (fun r d => head4 _ r d)
  case piece128 | piece129 | piece130 | piece131 | piece132 | piece133 | piece134 | piece135
      | piece136 | piece137 | piece138 | piece139 | piece140 | piece141 | piece142 | piece143
      | piece144 | piece145 | piece146 | piece147 | piece148 | piece149 | piece150 | piece151
      | piece152 | piece153 | piece154 | piece155 | piece156 | piece157 | piece158 | piece159 =>
    have h1' : b.val = _ := h1
    have h2' : s.val = _ := h2
    exact tile (k0_pay3 (F := Ideal) h w) (k0_pay322 (F := Ideal) (k0_pay3 (F := Ideal) h w)) (p := 3) b s r d x (by omega) (by omega) h3 h4 (fun r d => head3 _ r d)
  case piece160 | piece161 | piece162 | piece163 | piece164 | piece165 | piece166 | piece167
      | piece168 | piece169 | piece170 | piece171 | piece172 | piece173 | piece174 | piece175
      | piece176 | piece177 | piece178 | piece179 | piece180 | piece181 | piece182 | piece183
      | piece184 | piece185 | piece186 | piece187 | piece188 | piece189 | piece190 | piece191 =>
    have h1' : b.val = _ := h1
    have h2' : s.val = _ := h2
    exact tile (k0_pay3 (F := Ideal) h w) (k0_pay214 (F := Ideal) (k0_pay3 (F := Ideal) h w)) (p := 2) b s r d x (by omega) (by omega) h3 h4 (fun r d => head2 _ r d)
  case piece192 | piece193 | piece194 | piece195 | piece196 | piece197 | piece198 | piece199
      | piece200 | piece201 | piece202 | piece203 | piece204 | piece205 | piece206 | piece207
      | piece208 | piece209 | piece210 | piece211 | piece212 | piece213 | piece214 | piece215
      | piece216 | piece217 | piece218 | piece219 | piece220 | piece221 | piece222 | piece223 =>
    have h1' : b.val = _ := h1
    have h2' : s.val = _ := h2
    exact tile (k0_pay3 (F := Ideal) h w) (k0_pay114 (F := Ideal) (k0_pay3 (F := Ideal) h w)) (p := 1) b s r d x (by omega) (by omega) h3 h4 (fun r d => head1 _ r d)
  case piece224 | piece225 | piece226 | piece227 | piece228 | piece229 | piece230 | piece231
      | piece232 | piece233 | piece234 | piece235 | piece236 | piece237 | piece238 | piece239
      | piece240 | piece241 | piece242 | piece243 | piece244 | piece245 | piece246 | piece247
      | piece248 | piece249 | piece250 | piece251 | piece252 | piece253 | piece254 | piece255 =>
    have h1' : b.val = _ := h1
    have h2' : s.val = _ := h2
    exact tile (k0_pay3 (F := Ideal) h w) (k0_pay5 (F := Ideal) h w) (p := 0) b s r d x (by omega) (by omega) h3 h4 (fun r d => head0 r d h w)

/-- The product of the rows of `w` with the rows of `h`. -/
def dot (w : Vec Ideal S16x2048 .bf16) (h : Vec Ideal S512x2048 .bf16) (q : Fin 16) (r : Fin 512) : EReal :=
  ∑ k : Fin 2048, w (ix2 q k) * h (ix2 r k)

/-- The argument of a gate. -/
def arg (w : Vec Ideal S16x2048 .bf16) (h : Vec Ideal S512x2048 .bf16) (b : Vec Ideal S16x1 .f32) (q : Fin 16) (r : Fin 512) : EReal :=
  dot w h q r + b (ix2 q 0)

theorem out6 (t : Fin cfg0.N) (q : Fin 16) (r : Fin 512) : (outsAt0 m c t).2.2 (ix2 q r : S16x512.Idx)
    = gate (arg (iblk m c 2 t) (iblk m c 0 t) (iblk m c 3 t) q r) := by
  unfold outsAt0
  frame_out
  generalize (iblk m c 0 t : Vec Ideal S512x2048 .bf16) = h
  generalize (iblk m c 2 t : Vec Ideal S16x2048 .bf16) = w
  generalize (iblk m c 3 t : Vec Ideal S16x1 .f32) = b
  open_payloads
  pointwise
  unfold gate arg dot
  simp only [zero_sub]
  try rfl

end Cert.ValuesSample

end
-- ==== Proof.ValuesSample.lean ====
/-
  The arrays that the projection to the values and the log-forget gates of the sample leaves, from its arguments, and its reference.
-/
module

public import proofs.«01_k».proof.Proof.ValuesSampleBody
public import proofs.«01_k».proof.Proof.ProjectSample
public import proofs.«01_k».proof.Proof.Gen.Reference12Ideal.Read
@[expose] public section

set_option maxRecDepth 65536

noncomputable section

namespace Cert.ValuesSample

open Idealize.ShloMosaic Idealize.ShloMosaic.TcCoe
open Cert.Kernel12Ideal Cert.Kernel12Ideal.Gen
open Cert.Sample (xrow normed entry flat)
open Cert.Values (gate fill fill_apply gcol col ref_gate)

variable (m : (ℓ : Loc nD τ sig) → Buf (Elt Ideal) ℓ) (c : Dev nD)

/-! ### What the call reads -/

/-- The arguments. -/
abbrev ax : FVec Ideal S32x16x2048 .f32 := m ((c : Thread nD τ).loc main_arg0)
abbrev again : FVec Ideal S2048 .f32 := m ((c : Thread nD τ).loc main_arg1)
abbrev aw : FVec Ideal S2048x9224 .f32 := m ((c : Thread nD τ).loc main_arg2)
abbrev abias : FVec Ideal S8 .f32 := m ((c : Thread nD τ).loc main_arg3)
abbrev astack : FVec Ideal S4x32x8x16x128 .f32 := m ((c : Thread nD τ).loc main_arg4)

theorem V_norm (r : Fin 512) (k : Fin 2048) : V m c main_v14 (ix2 r k : S512x2048.Idx) = normed (ax m c) (again m c) r k := by
  have hx := Cert.Sample.flat_apply (ax m c) shapeCasts_S32x16x2048_S512x2048 r
  have e : V m c main_v14 = truncf .bf16 (mulf (mulf (shapeCast S512x2048 (ax m c) shapeCasts_S32x16x2048_S512x2048)
      (broadcastInDim S512x2048 ![0, 1] bcast_S512x1_S512x2048_0_1 (Host.rsqrt (addf (Host.divf (broadcastInDim S512x1 ![0]
        bcast_S512_S512x1_0 (Host.reduceAdd (mulf (shapeCast S512x2048 (ax m c) shapeCasts_S32x16x2048_S512x2048)
          (shapeCast S512x2048 (ax m c) shapeCasts_S32x16x2048_S512x2048)) (constant (F := Ideal) S_ .f32 0x00000000#32)
          reducesTo_S512x2048_S512_d1 h_S_)) (broadcastInDim S512x1 ![] bcast_S_S512x1 (constant (F := Ideal) S_ .f32 0x45000000#32)))
        (broadcastInDim S512x1 ![] bcast_S_S512x1 (constant (F := Ideal) S_ .f32 0x358637BD#32))))))
      (broadcastInDim S512x2048 ![0, 1] bcast_S1x2048_S512x2048_0_1 (shapeCast S1x2048 (again m c) shapeCasts_S2048_S1x2048)))
      bitsLt_bf16_f32 := by
    entry_read
    try rfl
  rw [e]
  unfold normed Row.rms Row.inv
  simp only [← hx]
  generalize shapeCast S512x2048 (ax m c) shapeCasts_S32x16x2048_S512x2048 = y
  pointwise
  try rfl

theorem V_w (k : Fin 2048) (j : Fin 1024) : V m c main_v22 (ix2 k j : S2048x1024.Idx) = aw m c (ix2 k (col j)) := by
  have e : V m c main_v22 = truncf .bf16 (extractStridedSlice S2048x1024 ![0, 4096] (aw m c) slices_S2048x9224_S2048x1024_0_4096)
      bitsLt_bf16_f32 := by
    entry_read
    try rfl
  rw [e]
  unfold col Head.at'
  pointwise
  try rfl

theorem V_wf (q : Fin 16) (k : Fin 2048) : V m c main_v18 (ix2 q k : S16x2048.Idx)
    = if h : q.val < 8 then aw m c (ix2 k (gcol ⟨q.val, h⟩)) else 0 := by
  have e : V m c main_v18 = truncf .bf16 (pad S16x2048 ![0, 0] ![8, 0] ![0, 0] (transpose S8x2048 [1, 0]
      (extractStridedSlice S2048x8 ![0, 5120] (aw m c) slices_S2048x9224_S2048x8_0_5120) transposes_S2048x8_S8x2048_1_0)
      fill pads_S8x2048_S16x2048_080_000 h_S_) bitsLt_bf16_f32 := by
    entry_read
    try rfl
  rw [e]
  refine Eq.trans (b := pad S16x2048 ![0, 0] ![8, 0] ![0, 0] (transpose S8x2048 [1, 0]
      (extractStridedSlice S2048x8 ![0, 5120] (aw m c) slices_S2048x9224_S2048x8_0_5120) transposes_S2048x8_S8x2048_1_0)
      fill pads_S8x2048_S16x2048_080_000 h_S_ (ix2 q k)) rfl ?_
  by_cases h : q.val < 8
  · rw [dif_pos h]
    refine (pad_apply_of_inside _ _ _ _ _ _ _ _ (ix2 ⟨q.val, h⟩ k : S8x2048.Idx) (fun a => ?_)).trans ?_
    · match a with
      | ⟨0, _⟩ => show q.val = 0 + q.val * (0 + 1); omega
      | ⟨1, _⟩ => show k.val = 0 + k.val * (0 + 1); omega
    · unfold gcol
      pointwise
      try rfl
  · rw [dif_neg h]
    refine (pad_apply_of_not_inside _ _ _ _ _ _ _ _ 0 (fun ha => h ?_)).trans (fill_apply _)
    have h3 : (q.val - 0) / (0 + 1) < 8 := ha.2.2
    omega

theorem V_bf (q : Fin 16) : V m c main_v20 (ix2 q 0 : S16x1.Idx)
    = if h : q.val < 8 then abias m c (ix1 ⟨q.val, h⟩) else 0 := by
  have e : V m c main_v20 = shapeCast S16x1 (pad S16 ![0] ![8] ![0] (abias m c) fill pads_S8_S16_080 h_S_) shapeCasts_S16_S16x1 := by
    entry_read
    try rfl
  rw [e]
  refine Eq.trans (b := pad S16 ![0] ![8] ![0] (abias m c) fill pads_S8_S16_080 h_S_ (ix1 q)) ?_ ?_
  · generalize pad S16 ![0] ![8] ![0] (abias m c) fill pads_S8_S16_080 h_S_ = y
    pointwise
    try rfl
  by_cases h : q.val < 8
  · rw [dif_pos h]
    exact pad_apply_of_inside _ _ _ _ _ _ _ _ (ix1 ⟨q.val, h⟩ : S8.Idx) (fun a => match a with
      | ⟨0, _⟩ => (by show q.val = 0 + q.val * (0 + 1); omega))
  · rw [dif_neg h]
    refine (pad_apply_of_not_inside _ _ _ _ _ _ _ _ 0 (fun ha => h ?_)).trans (fill_apply _)
    have h3 : (q.val - 0) / (0 + 1) < 8 := ha.2.2
    omega

theorem V_stack : V m c main_v23_0 = astack m c := by
  entry_read
  try rfl

/-! ### The blocks of a grid point -/

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![3, 0, 0, 0, 0] := (by decide +kernel : ∀ t : Fin grid0.N, _)
theorem index6 : ∀ t : Fin cfg0.N, win0_6.index t = ![0, 0] := (by decide +kernel : ∀ t : Fin grid0.N, _)

theorem block_h (t : Fin cfg0.N) (r : Fin 512) (k : Fin 2048) : iblk m c 0 t (ix2 r k : S512x2048.Idx)
    = normed (ax m c) (again m c) r k := by
  refine Eq.trans ?_ (V_norm m c r k)
  unfold iblk
  refine congrArg (V m c main_v14) (funext fun a => Fin.ext ?_)
  blk_simp [index0 t]
  match a with
  | ⟨0, _⟩ => show 0 * 512 + r.val = r.val; omega
  | ⟨1, _⟩ => show 0 * 2048 + k.val = k.val; omega

theorem block_w (t : Fin cfg0.N) (k : Fin 2048) (j : Fin 1024) : iblk m c 1 t (ix2 k j : S2048x1024.Idx)
    = aw m c (ix2 k (col j)) := by
  refine Eq.trans ?_ (V_w m c k j)
  unfold iblk
  refine congrArg (V m c main_v22) (funext fun a => Fin.ext ?_)
  blk_simp [index1 t]
  match a with
  | ⟨0, _⟩ => show 0 * 2048 + k.val = k.val; omega
  | ⟨1, _⟩ => show 0 * 1024 + j.val = j.val; omega

theorem block_wf (t : Fin cfg0.N) (q : Fin 16) (k : Fin 2048) : iblk m c 2 t (ix2 q k : S16x2048.Idx)
    = V m c main_v18 (ix2 q k : S16x2048.Idx) := by
  unfold iblk
  refine congrArg (V m c main_v18) (funext fun a => Fin.ext ?_)
  blk_simp [index2 t]
  match a with
  | ⟨0, _⟩ => show 0 * 16 + q.val = q.val; omega
  | ⟨1, _⟩ => show 0 * 2048 + k.val = k.val; omega

theorem block_bf (t : Fin cfg0.N) (q : Fin 16) : iblk m c 3 t (ix2 q 0 : S16x1.Idx) = V m c main_v20 (ix2 q 0 : S16x1.Idx) := by
  unfold iblk
  refine congrArg (V m c main_v20) (funext fun a => Fin.ext ?_)
  blk_simp [index3 t]
  match a with
  | ⟨0, _⟩ => show 0 * 16 + q.val = q.val; omega
  | ⟨1, _⟩ => rfl

/-! ### The arrays -/

/-- The values that the call computes. -/
def values (b : Fin 32) (s : Fin 8) (n : Fin 16) (d : Fin 128) : EReal :=
  entry (ax m c) (again m c) (aw m c) (Cert.Sample.flat b n) (col (Head.col s d))

theorem acc_block (t : Fin cfg0.N) (r : Fin 512) (j : Fin 1024) : k0_pay3 (F := Ideal) (iblk m c 0 t) (iblk m c 1 t) (ix2 r j)
    = entry (ax m c) (again m c) (aw m c) r (col j) := by
  rw [acc_apply]
  exact Finset.sum_congr rfl fun k _ => congrArg₂ (fun u v : EReal => u * v) (block_h m c t r k) (block_w m c t k j)

/-- The cache: the call writes its last layer. -/
theorem array_stack : (dats m 0 c).arrAt 4 cfg0.N = Head.stack (astack m c) (values m c) := by
  refine ((dats m 0 c).arrAt_eq_of_coversWhere 4 (fun i : S4x32x8x16x128.Idx => values m c (i 1) (i 2) (i 3) (i 4))
    (P := fun i : S4x32x8x16x128.Idx => (i 0).val = 3) (fun β => β (0 : Fin 5) = 3) (by decide +kernel) (fun t hf y => ?_)
    (fun j => ?_)).trans ?_
  · blk_simp
    rw [after0_4]
    obtain ⟨z, b, s, r, d, rfl⟩ := Head.split5 (p := 1) (q := 32) (r := 8) (s := 16) (u := 128) y
    obtain rfl : z = 0 := Fin.ext (by have := z.isLt; show z.val = 0; omega)
    refine (out3 m c t b s r d).trans ((acc_block m c t (flat b r) (Head.col s d)).trans ?_)
    refine congrArg (fun i : S4x32x8x16x128.Idx => values m c (i 1) (i 2) (i 3) (i 4))
      (a₁ := (ix5 3 b s r d : S4x32x8x16x128.Idx)) ?_
    funext a
    refine Fin.ext ?_
    blk_simp [index4 t]
    match a with
    | ⟨0, _⟩ => rfl
    | ⟨1, _⟩ => show b.val = 0 * 32 + b.val; omega
    | ⟨2, _⟩ => show s.val = 0 * 8 + s.val; omega
    | ⟨3, _⟩ => show r.val = 0 * 16 + r.val; omega
    | ⟨4, _⟩ => show d.val = 0 * 128 + d.val; omega
  · blk_simp [Pipeline.Window.cell_apply]
    try omega
  · funext i
    show (if (i 0).val = 3 then _ else V m c main_v23_0 i) = _
    rw [V_stack]
    rfl

/-- The log-forget gates: a row for each head, and eight rows of the gate of zero. -/
def gates : FVec Ideal S16x512 .f32 := fun i =>
  gate (if h : (i 0).val < 8 then entry (ax m c) (again m c) (aw m c) (i 1) (gcol ⟨(i 0).val, h⟩) + abias m c (ix1 ⟨(i 0).val, h⟩) else 0)

theorem gate_block (t : Fin cfg0.N) (q : Fin 16) (r : Fin 512) : (outsAt0 m c t).2.2 (ix2 q r : S16x512.Idx)
    = gates m c (ix2 q r) := by
  rw [out6]
  unfold gates
  refine congrArg gate ?_
  unfold arg dot
  rw [block_bf, V_bf]
  simp only [block_wf, block_h]
  by_cases h : q.val < 8
  · refine Eq.trans ?_ (dif_pos h).symm
    rw [dif_pos h]
    refine congrArg (fun u : EReal => u + abias m c (ix1 ⟨q.val, h⟩)) (Finset.sum_congr rfl fun k _ => ?_)
    refine (congrArg (fun u : EReal => u * normed (ax m c) (again m c) r k) ((V_wf m c q k).trans (dif_pos h))).trans ?_
    exact mul_comm _ _
  · refine Eq.trans ?_ (dif_neg h).symm
    rw [dif_neg h, add_zero]
    refine Finset.sum_eq_zero fun k _ => ?_
    refine (congrArg (fun u : EReal => u * normed (ax m c) (again m c) r k) ((V_wf m c q k).trans (dif_neg h))).trans ?_
    exact zero_mul _

theorem array_gates : (dats m 0 c).arrAt 6 cfg0.N = gates m c := by
  refine (dats m 0 c).arrAt_eq_of_covers 6 _ (by decide +kernel) fun t hf y => ?_
  blk_simp
  rw [after0_6]
  obtain ⟨q, r, rfl⟩ := Cert.Mixer.split (a := 16) (b := 512) y
  refine (gate_block m c t q r).trans (congrArg (gates m c) ?_)
  funext a
  refine Fin.ext ?_
  blk_simp [index6 t]
  match a with
  | ⟨0, _⟩ => show q.val = 0 * 16 + q.val; omega
  | ⟨1, _⟩ => show r.val = 0 * 512 + r.val; omega

/-! ### The reference -/

open Cert.Reference12Ideal.Read

variable (x : FVec Ideal S32x16x2048 .f32) (g : FVec Ideal S2048 .f32) (w : FVec Ideal S2048x9224 .f32) (bias : FVec Ideal S8 .f32)

theorem ref_head (b : Fin 32) (s : Fin 8) (n : Fin 16) (d : Fin 128) : val_main_v16 (F := Ideal) x g w (ix4 b s n d)
    = entry x g w (Cert.Sample.flat b n) (col (Head.col s d)) := by
  have hb := b.isLt
  have hs := s.isLt
  have hn := n.isLt
  have hd := d.isLt
  have h : idx_main_v14 (idx_main_v15 (idx_main_v16 (ix4 b s n d))) = ix3 b n (col (Head.col s d)) := by
    refine Cert.Sample.idx3 (Fin.ext ?_) (Fin.ext ?_) (Fin.ext ?_)
    · show (((b.val * 16 + n.val) * 8 + s.val) * 128 + d.val) / 16384 = b.val; omega
    · show (((b.val * 16 + n.val) * 8 + s.val) * 128 + d.val) / 1024 % 16 = n.val; omega
    · show 4096 + (((b.val * 16 + n.val) * 8 + s.val) * 128 + d.val) % 1024 = 4096 + (s.val * 128 + d.val); omega
  rw [val_main_v16_apply, val_main_v15_apply, val_main_v14_apply, h]
  exact Cert.Sample.ref_entry x g w b n _

theorem stack_result : (dats m 0 c).arrAt 4 cfg0.N
    = val_main_v25 (F := Ideal) (ax m c) (again m c) (aw m c) (astack m c) := by
  rw [array_stack]
  refine (Head.stack_apply _ _ _ (astack m c) (values m c) (fun l b s n d => ?_) (fun b s n d => ?_)).symm
  · rw [val_main_v23_apply]
    refine congrArg (astack m c) (funext fun a => Fin.ext ?_)
    match a with
    | ⟨0, _⟩ => rfl
    | ⟨1, _⟩ => rfl
    | ⟨2, _⟩ => rfl
    | ⟨3, _⟩ => rfl
    | ⟨4, _⟩ => rfl
  · rw [val_main_v24_apply]
    exact (congrArg _ (Head.idx4 (a := b) (b := s) (c := n) (d := d) rfl rfl rfl rfl)).trans (ref_head _ _ _ b s n d)

/-- The argument of a gate. -/
theorem ref_arg (q : Fin 8) (r : Fin 512) : val_main_v22 (F := Ideal) x g w bias (ix2 q r)
    = entry x g w r (gcol q) + bias (ix1 q) := by
  have hr := r.isLt
  have hq := q.isLt
  have h : idx_main_v21 (idx_main_v22 (ix2 q r))
      = ix3 (⟨r.val / 16, by omega⟩ : Fin 32) (⟨r.val % 16, by omega⟩ : Fin 16) q := by
    refine Cert.Sample.idx3 (Fin.ext ?_) (Fin.ext ?_) (Fin.ext ?_)
    · show (q.val * 512 + r.val) / 16 % 32 = r.val / 16; omega
    · show (q.val * 512 + r.val) % 16 = r.val % 16; omega
    · show (q.val * 512 + r.val) / 512 = q.val; omega
  have hf : Cert.Sample.flat (⟨r.val / 16, by omega⟩ : Fin 32) (⟨r.val % 16, by omega⟩ : Fin 16) = r :=
    Fin.ext (by show r.val / 16 * 16 + r.val % 16 = r.val; omega)
  rw [val_main_v22_apply, val_main_v21_apply, h, val_main_v20_apply, val_main_v17_apply, val_main_v19_apply, val_main_v18_apply]
  refine congrArg₂ (fun u v : EReal => u + v) ?_ (congrArg bias ?_)
  · refine (congrArg _ (Cert.Sample.idx3 (b := (⟨r.val / 16, by omega⟩ : Fin 32)) (n := (⟨r.val % 16, by omega⟩ : Fin 16))
      (k := gcol q) rfl rfl rfl)).trans ((Cert.Sample.ref_entry x g w _ _ _).trans (by rw [hf]))
  · exact funext fun a => match a with | ⟨0, _⟩ => rfl

theorem ref_pad (q : Fin 16) (r : Fin 512) : val_main_v26 (F := Ideal) x g w bias (ix2 q r)
    = if h : q.val < 8 then entry x g w r (gcol ⟨q.val, h⟩) + bias (ix1 ⟨q.val, h⟩) else 0 := by
  unfold val_main_v26
  by_cases h : q.val < 8
  · rw [dif_pos h, ← ref_arg]
    generalize val_main_v22 (F := Ideal) x g w bias = y
    exact pad_apply_of_inside _ _ _ _ _ _ _ _ (ix2 ⟨q.val, h⟩ r : Cert.Reference12Ideal.S8x512.Idx) (fun a => match a with
      | ⟨0, _⟩ => (by show q.val = 0 + q.val * (0 + 1); omega)
      | ⟨1, _⟩ => (by show r.val = 0 + r.val * (0 + 1); omega))
  · rw [dif_neg h]
    refine (pad_apply_of_not_inside _ _ _ _ _ _ _ _ 0 (fun ha => h ?_)).trans (fill_apply _)
    have h3 : (q.val - 0) / (0 + 1) < 8 := ha.2.2
    omega

theorem gates_result : (dats m 0 c).arrAt 6 cfg0.N = val_main_v27 (F := Ideal) (ax m c) (again m c) (aw m c) (abias m c) := by
  rw [array_gates]
  funext i
  obtain ⟨q, r, rfl⟩ := Cert.Mixer.split (a := 16) (b := 512) i
  refine Eq.symm ?_
  rw [val_main_v27_apply, val_main_call1_v1_apply, val_main_call1_call0_v4_apply, val_main_call1_call0_v6_apply,
    val_main_call1_call0_v11_apply, val_main_call1_call0_v1_apply, val_main_call1_call0_v10_apply, val_main_call1_call0_v9_apply,
    val_main_call1_call0_v8_apply, val_main_call1_call0_v7_apply, val_main_call1_call0_v3_apply, val_main_call1_call0_v0_apply,
    val_main_call1_call0_v2_apply, val_main_call1_call0_v5_apply, val_main_call1_v0_apply, ref_pad]
  simp only [val_main_call1_call0_cst_apply]
  exact ref_gate _

end Cert.ValuesSample

end
-- ==== Proof.Precondition.lean ====
/-
  What the precondition says: every query, key and gate is a real number.
-/
module

public import proofs.«01_k».proof.Pre_finite
public import proofs.«01_k».proof.Proof.Chunk
public import Idealize.ShloMosaic.Lib.ReduceAll
public import Idealize.ShloMosaic.Lib.Affine
@[expose] public section

set_option maxRecDepth 65536

noncomputable section

namespace Cert.Attn.Pre

open Idealize.ShloMosaic hiding ix1 ix2 ix3 ix4
open Idealize.ShloMosaic.ValueIdx Cert.Pre_finite

/-- The side conditions of the precondition's operations. -/
theorem facts : Cert.Pre_finite.Facts where
  bcast_S_S2x8x16384x128 := by decide
  reducesTo_S2x8x16384x128_S_d0_1_2_3 := by decide
  h_S_ := by decide
  bcast_S_S2x8x16384 := by decide
  reducesTo_S2x8x16384_S_d0_1_2 := by decide

/-- The word `0x7F800000` is `⊤`. -/
theorem inf_word : Ideal.ofBits .f32 0x7F800000#32 = ⊤ := by
  simp [Ideal.ofBits, Ideal.ieee]

/-- A number strictly between the infinities is real. -/
theorem real_of_between (x : EReal)
    (h : IntOp.andi (Ideal.cmp .ogt x (Ideal.ofBits .f32 0xFF800000#32)) (Ideal.cmp .olt x (Ideal.ofBits .f32 0x7F800000#32)) = 1#1) :
    ∃ r : ℝ, x = (r : EReal) := by
  rw [neg_inf_word, inf_word] at h
  obtain ⟨h1, h2⟩ := IntOp.andi_eq_one.mp h
  have h1' : ⊥ < x := by
    by_contra hn
    simp [Ideal.cmp, hn] at h1
  have h2' : x < ⊤ := by
    by_contra hn
    simp [Ideal.cmp, hn] at h2
  exact ⟨x.toReal, (EReal.coe_toReal h2'.ne h1'.ne').symm⟩

instance : Subsingleton S_.Idx := ⟨fun _ _ => funext fun a => a.elim0⟩

attribute [local instance] facts

/-- The precondition, read: queries, keys and gates are real at every index. -/
theorem real_of_pre (q k v : FVec Ideal S2x8x16384x128 .f32) (g : FVec Ideal S2x8x16384 .f32)
    (h : Cert.Pre_finite.fn (F := Ideal) q k v g = fun _ => 1#1) :
    (∀ i, ∃ r : ℝ, q i = (r : EReal)) ∧ (∀ i, ∃ r : ℝ, k i = (r : EReal)) ∧ ∀ i, ∃ r : ℝ, g i = (r : EReal) := by
  have e := congrFun h (fun a => a.elim0)
  dsimp only [Cert.Pre_finite.fn, Cert.Pre_finite.fn_part1] at e
  obtain ⟨e1, eg⟩ := IntOp.andi_eq_one.mp e
  obtain ⟨eq, ek⟩ := IntOp.andi_eq_one.mp e1
  exact ⟨fun i => real_of_between _ (Host.reduce_andi_all _ _ _ _ _ eq i),
    fun i => real_of_between _ (Host.reduce_andi_all _ _ _ _ _ ek i),
    fun i => real_of_between _ (Host.reduce_andi_all _ _ _ _ _ eg i)⟩

end Cert.Attn.Pre

end
-- ==== Proof.lean ====
/-
  The claims, from the modules that prove them.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Array
public import proofs.«01_k».proof.Proof.MixerReference
public import proofs.«01_k».proof.Proof.EmbedReference
public import proofs.«01_k».proof.Proof.MergeReference
public import proofs.«01_k».proof.Proof.Gates
public import proofs.«01_k».proof.Proof.Rglru
public import proofs.«01_k».proof.Proof.Queries
public import proofs.«01_k».proof.Proof.Keys
public import proofs.«01_k».proof.Proof.Values
public import proofs.«01_k».proof.Proof.EmbedSampleReference
public import proofs.«01_k».proof.Proof.KeysSample
public import proofs.«01_k».proof.Proof.ValuesSample
public import proofs.«01_k».proof.Proof.Precondition
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel terminates without fault, leaves its arguments unchanged and every semaphore counter at zero. -/
theorem frame_kernel : Cert.quiescent_Kernel := fun m ρ _ => Cert.Kernel.Gen.frame m ρ

/-- So does the kernel over the extended reals, -/
theorem frame_ideal : Cert.quiescent_KernelIdeal := fun m ρ _ => Cert.KernelIdeal.Gen.frame m ρ

/-- and the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- **The kernel and the reference compute the same attention** when queries, keys and log-forget gates are real numbers:
    the values may be anything. -/
theorem attention : Cert.algebraic_KernelIdeal_ReferenceIdeal_pre_finite (hPre_finite := Cert.Attn.Pre.facts) := by
  intro m ρ m' ρ' hpre hagree
  refine ⟨fun c => (Cert.KernelIdeal.Gen.dats m 0 c).arrAt 4 Cert.KernelIdeal.cfg0.N, ?_, ?_⟩
  · exact Cert.KernelIdeal.Value.run_blocks m ρ
  · refine (θ_run Cert.ReferenceIdeal.defs _ _).mono (fun r h c => ⟨(h c).1.trans ?_, (h c).2⟩) (Cert.ReferenceIdeal.Value.run m' ρ')
    obtain ⟨hq, hk, hg⟩ := Cert.Attn.Pre.real_of_pre _ _ _ _ (hpre c)
    obtain ⟨a0, a1, a2, a3⟩ := hagree c
    rw [Cert.ReferenceIdeal.Read.val_main_v31_eq, a0, a1, a2, a3]
    exact (Cert.Attn.array_eq m c hq hk hg).symm

/-- The channel mixer's frames: the call, the call over the extended reals, the reference. -/
theorem frame_kernel2 : Cert.quiescent_Kernel2 := fun m ρ _ => Cert.Kernel2.Gen.frame m ρ

theorem frame_ideal2 : Cert.quiescent_Kernel2Ideal := fun m ρ _ => Cert.Kernel2Ideal.Gen.frame m ρ

theorem frame_reference2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run m ρ)

/-- **The kernel and the reference compute the same channel mixer**, both results, whatever the arguments hold. -/
theorem mixer : Cert.algebraic_Kernel2Ideal_Reference2Ideal := by
  intro m ρ m' ρ' hpre hagree
  refine ⟨fun c => (Cert.Kernel2Ideal.Gen.dats m 0 c).arrAt 5 Cert.Kernel2Ideal.cfg0.N,
    fun c => (Cert.Kernel2Ideal.Gen.dats m 0 c).arrAt 6 Cert.Kernel2Ideal.cfg0.N, ?_, ?_⟩
  · exact Cert.Kernel2Ideal.Value.run_blocks m ρ
  · refine (θ_run Cert.Reference2Ideal.defs _ _).mono
      (fun r h c => ⟨(h c).1.trans ?_, (h c).2.1.trans ?_, (h c).2.2⟩) (Cert.Reference2Ideal.Value.run m' ρ')
    · obtain ⟨a0, a1, a2, a3, a4⟩ := hagree c
      rw [Cert.Reference2Ideal.Read.val_main_v18_eq, a0, a1, a3, a4]
      exact (Cert.Mixer.Ref.array_sum m c).symm
    · obtain ⟨a0, a1, a2, a3, a4⟩ := hagree c
      rw [Cert.Reference2Ideal.Read.val_main_v33_eq, a0, a1, a2, a3, a4]
      exact (Cert.Mixer.Ref.array_norm m c).symm

/-- The frames of the per-layer embedding. -/
theorem frame_kernel3 : Cert.quiescent_Kernel3 := fun m ρ _ => Cert.Kernel3.Gen.frame m ρ

theorem frame_ideal3 : Cert.quiescent_Kernel3Ideal := fun m ρ _ => Cert.Kernel3Ideal.Gen.frame m ρ

theorem frame_reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run m ρ)

/-- **The kernel and the reference compute the same per-layer embedding**, whatever the arguments hold. -/
theorem embedding : Cert.algebraic_Kernel3Ideal_Reference3Ideal := by
  intro m ρ m' ρ' hpre hagree
  refine ⟨fun c => (Cert.Kernel3Ideal.Gen.dats m 0 c).arrAt 6 Cert.Kernel3Ideal.cfg0.N,
    fun c => (Cert.Kernel3Ideal.Gen.dats m 0 c).arrAt 7 Cert.Kernel3Ideal.cfg0.N, ?_, ?_⟩
  · exact Cert.Kernel3Ideal.Value.run_blocks m ρ
  · refine (θ_run Cert.Reference3Ideal.defs _ _).mono
      (fun r h c => ⟨(h c).1.trans ?_, (h c).2.1.trans ?_, (h c).2.2⟩) (Cert.Reference3Ideal.Value.run m' ρ')
    · obtain ⟨a0, a1, a2, a3, a4, a5⟩ := hagree c
      rw [Cert.Reference3Ideal.Read.val_main_v25_eq, a0, a1, a2, a4, a5]
      exact (Cert.Embed.Ref.array_sum m c).symm
    · obtain ⟨a0, a1, a2, a3, a4, a5⟩ := hagree c
      rw [Cert.Reference3Ideal.Read.val_main_v40_eq, a0, a1, a2, a3, a4, a5]
      exact (Cert.Embed.Ref.array_norm m c).symm

/-- The frames of the merge of the two branches. -/
theorem frame_kernel4 : Cert.quiescent_Kernel4 := fun m ρ _ => Cert.Kernel4.Gen.frame m ρ

theorem frame_ideal4 : Cert.quiescent_Kernel4Ideal := fun m ρ _ => Cert.Kernel4Ideal.Gen.frame m ρ

theorem frame_reference4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run m ρ)

/-- **The kernel and the reference compute the same merge of the two branches**, whatever the arguments hold. -/
theorem merge : Cert.algebraic_Kernel4Ideal_Reference4Ideal := by
  intro m ρ m' ρ' hpre hagree
  refine ⟨fun c => (Cert.Kernel4Ideal.Gen.dats m 0 c).arrAt 9 Cert.Kernel4Ideal.cfg0.N,
    fun c => (Cert.Kernel4Ideal.Gen.dats m 0 c).arrAt 10 Cert.Kernel4Ideal.cfg0.N, ?_, ?_⟩
  · exact Cert.Kernel4Ideal.Value.run_blocks m ρ
  · refine (θ_run Cert.Reference4Ideal.defs _ _).mono
      (fun r h c => ⟨(h c).1.trans ?_, (h c).2.1.trans ?_, (h c).2.2⟩) (Cert.Reference4Ideal.Value.run m' ρ')
    · obtain ⟨a0, a1, a2, a3, a4, a5, a6, a7, a8⟩ := hagree c
      rw [Cert.Reference4Ideal.Read.val_main_v19_eq, a0, a1, a2, a3, a4, a5, a6, a7]
      exact (Cert.Merge.Ref.array_sum m c).symm
    · obtain ⟨a0, a1, a2, a3, a4, a5, a6, a7, a8⟩ := hagree c
      rw [Cert.Reference4Ideal.Read.val_main_v34_eq, a0, a1, a2, a3, a4, a5, a6, a7, a8]
      exact (Cert.Merge.Ref.array_norm m c).symm

/-- The frames of the projection to the merge gates. -/
theorem frame_kernel5 : Cert.quiescent_Kernel5 := fun m ρ _ => Cert.Kernel5.Gen.frame m ρ

theorem frame_ideal5 : Cert.quiescent_Kernel5Ideal := fun m ρ _ => Cert.Kernel5Ideal.Gen.frame m ρ

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

/-- **The kernel and the reference compute the same projection to the merge gates**, whatever the arguments hold. -/
theorem gates : Cert.algebraic_Kernel5Ideal_Reference5Ideal := by
  intro m ρ m' ρ' hpre hagree
  refine ⟨fun c => (Cert.Kernel5Ideal.Gen.dats m 0 c).arrAt 2 Cert.Kernel5Ideal.cfg0.N, ?_, ?_⟩
  · exact Cert.Kernel5Ideal.Value.run_blocks m ρ
  · refine (θ_run Cert.Reference5Ideal.defs _ _).mono
      (fun r h c => ⟨(h c).1.trans ?_, (h c).2⟩) (Cert.Reference5Ideal.Value.run m' ρ')
    · obtain ⟨a0, a1, a2⟩ := hagree c
      rw [Cert.Reference5Ideal.Read.val_main_v22_eq, a0, a1, a2]
      exact (Cert.Gates.array_result m c).symm

/-- The frames of the projection to the input and the gate of the RG-LRU. -/
theorem frame_kernel6 : Cert.quiescent_Kernel6 := fun m ρ _ => Cert.Kernel6.Gen.frame m ρ

theorem frame_ideal6 : Cert.quiescent_Kernel6Ideal := fun m ρ _ => Cert.Kernel6Ideal.Gen.frame m ρ

theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

/-- **The kernel and the reference compute the same projection to the input and the gate of the RG-LRU**, whatever the arguments hold. -/
theorem rglru : Cert.algebraic_Kernel6Ideal_Reference6Ideal := by
  intro m ρ m' ρ' hpre hagree
  refine ⟨fun c => (Cert.Kernel6Ideal.Gen.dats m 0 c).arrAt 2 Cert.Kernel6Ideal.cfg0.N, ?_, ?_⟩
  · exact Cert.Kernel6Ideal.Value.run_blocks m ρ
  · refine (θ_run Cert.Reference6Ideal.defs _ _).mono
      (fun r h c => ⟨(h c).1.trans ?_, (h c).2⟩) (Cert.Reference6Ideal.Value.run m' ρ')
    · obtain ⟨a0, a1, a2⟩ := hagree c
      rw [Cert.Reference6Ideal.Read.val_main_v15_eq, a0, a1, a2]
      exact (Cert.Rglru.array_result m c).symm

/-- The frames of the projection to the queries. -/
theorem frame_kernel7 : Cert.quiescent_Kernel7 := fun m ρ _ => Cert.Kernel7.Gen.frame m ρ

theorem frame_ideal7 : Cert.quiescent_Kernel7Ideal := fun m ρ _ => Cert.Kernel7Ideal.Gen.frame m ρ

theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run m ρ)

/-- **The kernel and the reference compute the same projection to the queries**, whatever the arguments hold. -/
theorem queries : Cert.algebraic_Kernel7Ideal_Reference7Ideal := by
  intro m ρ m' ρ' hpre hagree
  refine ⟨fun c => (Cert.Kernel7Ideal.Gen.dats m 0 c).arrAt 3 Cert.Kernel7Ideal.cfg0.N, ?_, ?_⟩
  · exact Cert.Kernel7Ideal.Value.run_blocks m ρ
  · refine (θ_run Cert.Reference7Ideal.defs _ _).mono
      (fun r h c => ⟨(h c).1.trans ?_, (h c).2⟩) (Cert.Reference7Ideal.Value.run m' ρ')
    · obtain ⟨a0, a1, a2, a3⟩ := hagree c
      rw [Cert.Reference7Ideal.Read.val_main_v32_eq, a0, a1, a2, a3]
      exact (Cert.Queries.array_result m c).symm

/-- The frames of the projection to the keys. -/
theorem frame_kernel8 : Cert.quiescent_Kernel8 := fun m ρ _ => Cert.Kernel8.Gen.frame m ρ

theorem frame_ideal8 : Cert.quiescent_Kernel8Ideal := fun m ρ _ => Cert.Kernel8Ideal.Gen.frame m ρ

theorem frame_reference8 : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run m ρ)

/-- **The kernel and the reference compute the same projection to the keys**, whatever the arguments hold. -/
theorem keys : Cert.algebraic_Kernel8Ideal_Reference8Ideal := by
  intro m ρ m' ρ' hpre hagree
  refine ⟨fun c => (Cert.Kernel8Ideal.Gen.dats m 0 c).arrAt 3 Cert.Kernel8Ideal.cfg0.N,
    fun c => (Cert.Kernel8Ideal.Gen.dats m 0 c).arrAt 4 Cert.Kernel8Ideal.cfg0.N, ?_, ?_⟩
  · exact Cert.Kernel8Ideal.Value.run_blocks m ρ
  · refine (θ_run Cert.Reference8Ideal.defs _ _).mono
      (fun r h c => ⟨(h c).1.trans ?_, (h c).2.1.trans ?_, (h c).2.2⟩) (Cert.Reference8Ideal.Value.run m' ρ')
    · obtain ⟨a0, a1, a2, a3, a4⟩ := hagree c
      rw [Cert.Reference8Ideal.Read.val_main_v32_eq, a0, a1, a2, a3, a4]
      exact (Cert.Keys.stack_result m c).symm
    · obtain ⟨a0, a1, a2, a3, a4⟩ := hagree c
      rw [Cert.Reference8Ideal.Read.val_main_v33_eq, a0, a1, a2, a3]
      exact (Cert.Keys.keys_result m c).symm

/-- The frames of the projection to the values and the log-forget gates. -/
theorem frame_kernel9 : Cert.quiescent_Kernel9 := fun m ρ _ => Cert.Kernel9.Gen.frame m ρ

theorem frame_ideal9 : Cert.quiescent_Kernel9Ideal := fun m ρ _ => Cert.Kernel9Ideal.Gen.frame m ρ

theorem frame_reference9 : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run m ρ)

/-- **The kernel and the reference compute the same projection to the values and the log-forget gates**, whatever the arguments hold. -/
theorem values : Cert.algebraic_Kernel9Ideal_Reference9Ideal := by
  intro m ρ m' ρ' hpre hagree
  refine ⟨fun c => (Cert.Kernel9Ideal.Gen.dats m 0 c).arrAt 4 Cert.Kernel9Ideal.cfg0.N,
    fun c => (Cert.Kernel9Ideal.Gen.dats m 0 c).arrAt 6 Cert.Kernel9Ideal.cfg0.N, ?_, ?_⟩
  · exact (θ_run Cert.Kernel9Ideal.defs _ _).mono (fun r h c => ⟨(h c).1, (h c).2.2⟩) (Cert.Kernel9Ideal.Value.run_blocks m ρ)
  · refine (θ_run Cert.Reference9Ideal.defs _ _).mono
      (fun r h c => ⟨(h c).1.trans ?_, (h c).2.1.trans ?_, (h c).2.2⟩) (Cert.Reference9Ideal.Value.run m' ρ')
    · obtain ⟨a0, a1, a2, a3, a4⟩ := hagree c
      rw [Cert.Reference9Ideal.Read.val_main_v25_eq, a0, a1, a2, a4]
      exact (Cert.Values.stack_result m c).symm
    · obtain ⟨a0, a1, a2, a3, a4⟩ := hagree c
      rw [Cert.Reference9Ideal.Read.val_main_v27_eq, a0, a1, a2, a3]
      exact (Cert.Values.gates_result m c).symm

/-- The frames of the per-layer embedding of the sample. -/
theorem frame_kernel10 : Cert.quiescent_Kernel10 := fun m ρ _ => Cert.Kernel10.Gen.frame m ρ

theorem frame_ideal10 : Cert.quiescent_Kernel10Ideal := fun m ρ _ => Cert.Kernel10Ideal.Gen.frame m ρ

theorem frame_reference10 : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run m ρ)

/-- **The kernel and the reference compute the same per-layer embedding of the sample**, whatever the arguments hold. -/
theorem embedding_sample : Cert.algebraic_Kernel10Ideal_Reference10Ideal := by
  intro m ρ m' ρ' hpre hagree
  refine ⟨fun c => (Cert.Kernel10Ideal.Gen.dats m 0 c).arrAt 6 Cert.Kernel10Ideal.cfg0.N,
    fun c => (Cert.Kernel10Ideal.Gen.dats m 0 c).arrAt 7 Cert.Kernel10Ideal.cfg0.N, ?_, ?_⟩
  · exact Cert.Kernel10Ideal.Value.run_blocks m ρ
  · refine (θ_run Cert.Reference10Ideal.defs _ _).mono
      (fun r h c => ⟨(h c).1.trans ?_, (h c).2.1.trans ?_, (h c).2.2⟩) (Cert.Reference10Ideal.Value.run m' ρ')
    · obtain ⟨a0, a1, a2, a3, a4, a5⟩ := hagree c
      rw [Cert.Reference10Ideal.Read.val_main_v25_eq, a0, a1, a2, a4, a5]
      exact (Cert.EmbedSample.Ref.array_sum m c).symm
    · obtain ⟨a0, a1, a2, a3, a4, a5⟩ := hagree c
      rw [Cert.Reference10Ideal.Read.val_main_v40_eq, a0, a1, a2, a3, a4, a5]
      exact (Cert.EmbedSample.Ref.array_norm m c).symm

/-- The frames of the projection to the keys of the sample. -/
theorem frame_kernel11 : Cert.quiescent_Kernel11 := fun m ρ _ => Cert.Kernel11.Gen.frame m ρ

theorem frame_ideal11 : Cert.quiescent_Kernel11Ideal := fun m ρ _ => Cert.Kernel11Ideal.Gen.frame m ρ

theorem frame_reference11 : Cert.quiescent_Reference11Ideal := fun m ρ _ =>
  (θ_run Cert.Reference11Ideal.defs _ _).mono (fun r h => ⟨fun c => (h c).2.2, sem_eq_zero_of_no_sems (by decide) r.2⟩)
    (Cert.Reference11Ideal.Value.run m ρ)

/-- **The kernel and the reference compute the same projection to the keys of the sample**, whatever the arguments hold. -/
theorem keys_sample : Cert.algebraic_Kernel11Ideal_Reference11Ideal := by
  intro m ρ m' ρ' hpre hagree
  refine ⟨fun c => (Cert.Kernel11Ideal.Gen.dats m 0 c).arrAt 3 Cert.Kernel11Ideal.cfg0.N,
    fun c => (Cert.Kernel11Ideal.Gen.dats m 0 c).arrAt 4 Cert.Kernel11Ideal.cfg0.N, ?_, ?_⟩
  · exact Cert.Kernel11Ideal.Value.run_blocks m ρ
  · refine (θ_run Cert.Reference11Ideal.defs _ _).mono
      (fun r h c => ⟨(h c).1.trans ?_, (h c).2.1.trans ?_, (h c).2.2⟩) (Cert.Reference11Ideal.Value.run m' ρ')
    · obtain ⟨a0, a1, a2, a3, a4⟩ := hagree c
      rw [Cert.Reference11Ideal.Read.val_main_v32_eq, a0, a1, a2, a3, a4]
      exact (Cert.KeysSample.stack_result m c).symm
    · obtain ⟨a0, a1, a2, a3, a4⟩ := hagree c
      rw [Cert.Reference11Ideal.Read.val_main_v33_eq, a0, a1, a2, a3]
      exact (Cert.KeysSample.keys_result m c).symm

/-- The frames of the projection to the values and the log-forget gates of the sample. -/
theorem frame_kernel12 : Cert.quiescent_Kernel12 := fun m ρ _ => Cert.Kernel12.Gen.frame m ρ

theorem frame_ideal12 : Cert.quiescent_Kernel12Ideal := fun m ρ _ => Cert.Kernel12Ideal.Gen.frame m ρ

theorem frame_reference12 : Cert.quiescent_Reference12Ideal := fun m ρ _ =>
  (θ_run Cert.Reference12Ideal.defs _ _).mono (fun r h => ⟨fun c => (h c).2.2, sem_eq_zero_of_no_sems (by decide) r.2⟩)
    (Cert.Reference12Ideal.Value.run m ρ)

/-- **The kernel and the reference compute the same projection to the values and the log-forget gates of the sample**, whatever the arguments hold. -/
theorem values_sample : Cert.algebraic_Kernel12Ideal_Reference12Ideal := by
  intro m ρ m' ρ' hpre hagree
  refine ⟨fun c => (Cert.Kernel12Ideal.Gen.dats m 0 c).arrAt 4 Cert.Kernel12Ideal.cfg0.N,
    fun c => (Cert.Kernel12Ideal.Gen.dats m 0 c).arrAt 6 Cert.Kernel12Ideal.cfg0.N, ?_, ?_⟩
  · exact (θ_run Cert.Kernel12Ideal.defs _ _).mono (fun r h c => ⟨(h c).1, (h c).2.2⟩) (Cert.Kernel12Ideal.Value.run_blocks m ρ)
  · refine (θ_run Cert.Reference12Ideal.defs _ _).mono
      (fun r h c => ⟨(h c).1.trans ?_, (h c).2.1.trans ?_, (h c).2.2⟩) (Cert.Reference12Ideal.Value.run m' ρ')
    · obtain ⟨a0, a1, a2, a3, a4⟩ := hagree c
      rw [Cert.Reference12Ideal.Read.val_main_v25_eq, a0, a1, a2, a4]
      exact (Cert.ValuesSample.stack_result m c).symm
    · obtain ⟨a0, a1, a2, a3, a4⟩ := hagree c
      rw [Cert.Reference12Ideal.Read.val_main_v27_eq, a0, a1, a2, a3]
      exact (Cert.ValuesSample.gates_result m c).symm

/-- Every claim. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts, Cert.Attn.Pre.facts,
    frame_kernel, frame_ideal, fun m ρ _ => frame_ideal m ρ trivial, frame_reference, fun m ρ _ => frame_reference m ρ trivial,
    frame_kernel2, frame_ideal2, frame_reference2,
    frame_kernel3, frame_ideal3, frame_reference3,
    frame_kernel4, frame_ideal4, frame_reference4,
    frame_kernel5, frame_ideal5, frame_reference5,
    frame_kernel6, frame_ideal6, frame_reference6,
    frame_kernel7, frame_ideal7, frame_reference7,
    frame_kernel8, frame_ideal8, frame_reference8,
    frame_kernel9, frame_ideal9, frame_reference9,
    frame_kernel10, frame_ideal10, frame_reference10,
    frame_kernel11, frame_ideal11, frame_reference11,
    frame_kernel12, frame_ideal12, frame_reference12,
    trivial, attention, trivial, mixer, trivial, embedding, trivial, merge, trivial, gates, trivial, rglru, trivial, queries, trivial, keys, trivial, values, trivial, embedding_sample, trivial, keys_sample, trivial, values_sample⟩

end Cert.Proof

end
